-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_table_and_scale [hPre_table_and_scale : Cert.Pre_table_and_scale.Facts] (m : (ℓ : Loc Cert.KernelIdeal.nD Cert.KernelIdeal.τ Cert.KernelIdeal.sig) → Buf (Elt Ideal) ℓ) : Prop :=
  ∀ c : Dev Cert.KernelIdeal.nD,
    (Cert.Pre_table_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_and_scale [hPre_table_and_scale : Cert.Pre_table_and_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_and_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_table_and_scale [hKernelIdeal : Cert.KernelIdeal.Facts] [hPre_table_and_scale : Cert.Pre_table_and_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_and_scale m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_table_and_scale [hReferenceIdeal : Cert.ReferenceIdeal.Facts] [hPre_table_and_scale : Cert.Pre_table_and_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_and_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_table_and_scale [hKernelIdeal : Cert.KernelIdeal.Facts] [hReferenceIdeal : Cert.ReferenceIdeal.Facts] [hPre_table_and_scale : Cert.Pre_table_and_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_and_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v24_0)) (v5 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v24_0) = v4 c
          ∧ r.2.mem ((c.tc : Thread Cert.KernelIdeal.nD Cert.KernelIdeal.τ).loc Cert.KernelIdeal.main_v24_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_table_and_scale : Cert.Pre_table_and_scale.Facts),
    quiescent_Kernel (hKernel := hKernel) (hPre_ids_in_table := hPre_ids_in_table)
    ∧ quiescent_KernelIdeal (hKernelIdeal := hKernelIdeal) (hPre_ids_in_table := hPre_ids_in_table)
    ∧ quiescent_KernelIdeal_pre_table_and_scale (hKernelIdeal := hKernelIdeal) (hPre_table_and_scale := hPre_table_and_scale)
    ∧ quiescent_ReferenceIdeal (hReferenceIdeal := hReferenceIdeal)
    ∧ quiescent_ReferenceIdeal_pre_table_and_scale (hReferenceIdeal := hReferenceIdeal) (hPre_table_and_scale := hPre_table_and_scale)
    ∧ preserves_Kernel_KernelIdeal
    ∧ algebraic_KernelIdeal_ReferenceIdeal_pre_table_and_scale (hKernelIdeal := hKernelIdeal) (hReferenceIdeal := hReferenceIdeal) (hPre_table_and_scale := hPre_table_and_scale)
-- ==== Pre_ids_in_table.lean ====
abbrev S4096x128 : Shape := ⟨2, ![4096, 128]⟩
abbrev S4096 : Shape := ⟨1, ![4096]⟩
abbrev S4096x200x2 : Shape := ⟨3, ![4096, 200, 2]⟩
abbrev S1000x128 : Shape := ⟨2, ![1000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_

variable [Facts]

def fn_part1 {F : FTy → Type} [FloatOps F] (main_arg4 : IVec S4096x200x2 32) (main_v12 : IVec S_ 1) (main_v14 : IVec S4096x200x2 1) (main_v15 : IVec S4096x200x2 32) : IVec S_ 1 :=
  let main_v16 : IVec S4096x200x2 1 := cmpi .slt main_arg4 main_v15
  let main_v17 : IVec S4096x200x2 1 := andi main_v14 main_v16
  let main_c_7 : IVec S_ 1 := constantI S_ 1 1#1
  let main_v18 : IVec S_ 1 := (fun x v => Host.reduce IntOp.andi x v reducesTo_S4096x200x2_S_d0_1_2 h_S_) main_v17 main_c_7
  let main_v19 : IVec S_ 1 := andi main_v12 main_v18
  main_v19

def fn {F : FTy → Type} [FloatOps F] (main_arg0 : FVec F S4096x128 .f32) (main_arg1 : FVec F S4096x128 .f32) (main_arg2 : IVec S4096 32) (main_arg3 : IVec S4096 32) (main_arg4 : IVec S4096x200x2 32) (main_arg5 : FVec F S1000x128 .f32) (main_arg6 : FVec F S512x128 .f32) (main_arg7 : FVec F S512x128 .f32) (main_arg8 : FVec F S512 .f32) (main_arg9 : FVec F S512 .f32) (main_arg10 : FVec F S256x256 .f32) (main_arg11 : FVec F S256 .f32) (main_arg12 : FVec F S128x256 .f32) (main_arg13 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 1000#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg3 main_v6
  let main_c_3 : IVec S_ 32 := constantI S_ 32 1000#32
  let main_v8 : IVec S4096 32 := broadcastInDim S4096 ![] bcast_S_S4096 main_c_3
  let main_v9 : IVec S4096 1 := cmpi .slt main_arg3 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096x200x2 32 := broadcastInDim S4096x200x2 ![] bcast_S_S4096x200x2 main_c_5
  let main_v14 : IVec S4096x200x2 1 := cmpi .sge main_arg4 main_v13
  let main_c_6 : IVec S_ 32 := constantI S_ 32 1000#32
  let main_v15 : IVec S4096x200x2 32 := broadcastInDim S4096x200x2 ![] bcast_S_S4096x200x2 main_c_6
  fn_part1 (F := F) main_arg4 main_v12 main_v14 main_v15
-- ==== Pre_table_and_scale.lean ====
abbrev S4096x128 : Shape := ⟨2, ![4096, 128]⟩
abbrev S4096 : Shape := ⟨1, ![4096]⟩
abbrev S4096x200x2 : Shape := ⟨3, ![4096, 200, 2]⟩
abbrev S1000x128 : Shape := ⟨2, ![1000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_
  bcast_S_S1000x128 : S_.BroadcastsInDim S1000x128 (![] : Fin 0 → Fin S1000x128.rank)
  reducesTo_S1000x128_S_d0_1 : S1000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg12 : FVec F S128x256 .f32) (main_arg13 : FVec F S128 .f32) (main_v29 : IVec S_ 1) (main_v32 : IVec S256 1) (main_c_12 : IVec S_ 1) : IVec S_ 1 :=
  let main_v33 : IVec S_ 1 := (fun x v => Host.reduce IntOp.andi x v reducesTo_S256_S_d0 h_S_) main_v32 main_c_12
  let main_v34 : IVec S_ 1 := andi main_v29 main_v33
  let main_v35 : FVec F S128x256 .f32 := Host.absf main_arg12
  let main_cst_13 : FVec F S_ .f32 := constant S_ .f32 0x461C4000#32
  let main_v36 : FVec F S128x256 .f32 := broadcastInDim S128x256 ![] bcast_S_S128x256 main_cst_13
  let main_v37 : IVec S128x256 1 := cmpf .ole main_v35 main_v36
  let main_c_14 : IVec S_ 1 := constantI S_ 1 1#1
  let main_v38 : IVec S_ 1 := (fun x v => Host.reduce IntOp.andi x v reducesTo_S128x256_S_d0_1 h_S_) main_v37 main_c_14
  let main_v39 : IVec S_ 1 := andi main_v34 main_v38
  let main_v40 : FVec F S128 .f32 := Host.absf main_arg13
  let main_cst_15 : FVec F S_ .f32 := constant S_ .f32 0x461C4000#32
  let main_v41 : FVec F S128 .f32 := broadcastInDim S128 ![] bcast_S_S128 main_cst_15
  let main_v42 : IVec S128 1 := cmpf .ole main_v40 main_v41
  let main_c_16 : IVec S_ 1 := constantI S_ 1 1#1
  let main_v43 : IVec S_ 1 := (fun x v => Host.reduce IntOp.andi x v reducesTo_S128_S_d0 h_S_) main_v42 main_c_16
  let main_v44 : IVec S_ 1 := andi main_v39 main_v43
  main_v44

def fn_part1 {F : FTy → Type} [FloatOps F] (main_arg4 : IVec S4096x200x2 32) (main_arg5 : FVec F S1000x128 .f32) (main_arg10 : FVec F S256x256 .f32) (main_arg11 : FVec F S256 .f32) (main_arg12 : FVec F S128x256 .f32) (main_arg13 : FVec F S128 .f32) (main_v12 : IVec S_ 1) (main_v14 : IVec S4096x200x2 1) (main_v15 : IVec S4096x200x2 32) : IVec S_ 1 :=
  let main_v16 : IVec S4096x200x2 1 := cmpi .slt main_arg4 main_v15
  let main_v17 : IVec S4096x200x2 1 := andi main_v14 main_v16
  let main_c_7 : IVec S_ 1 := constantI S_ 1 1#1
  let main_v18 : IVec S_ 1 := (fun x v => Host.reduce IntOp.andi x v reducesTo_S4096x200x2_S_d0_1_2 h_S_) main_v17 main_c_7
  let main_v19 : IVec S_ 1 := andi main_v12 main_v18
  let main_v20 : FVec F S1000x128 .f32 := Host.absf main_arg5
  let main_cst : FVec F S_ .f32 := constant S_ .f32 0x461C4000#32
  let main_v21 : FVec F S1000x128 .f32 := broadcastInDim S1000x128 ![] bcast_S_S1000x128 main_cst
  let main_v22 : IVec S1000x128 1 := cmpf .ole main_v20 main_v21
  let main_c_8 : IVec S_ 1 := constantI S_ 1 1#1
  let main_v23 : IVec S_ 1 := (fun x v => Host.reduce IntOp.andi x v reducesTo_S1000x128_S_d0_1 h_S_) main_v22 main_c_8
  let main_v24 : IVec S_ 1 := andi main_v19 main_v23
  let main_v25 : FVec F S256x256 .f32 := Host.absf main_arg10
  let main_cst_9 : FVec F S_ .f32 := constant S_ .f32 0x461C4000#32
  let main_v26 : FVec F S256x256 .f32 := broadcastInDim S256x256 ![] bcast_S_S256x256 main_cst_9
  let main_v27 : IVec S256x256 1 := cmpf .ole main_v25 main_v26
  let main_c_10 : IVec S_ 1 := constantI S_ 1 1#1
  let main_v28 : IVec S_ 1 := (fun x v => Host.reduce IntOp.andi x v reducesTo_S256x256_S_d0_1 h_S_) main_v27 main_c_10
  let main_v29 : IVec S_ 1 := andi main_v24 main_v28
  let main_v30 : FVec F S256 .f32 := Host.absf main_arg11
  let main_cst_11 : FVec F S_ .f32 := constant S_ .f32 0x461C4000#32
  let main_v31 : FVec F S256 .f32 := broadcastInDim S256 ![] bcast_S_S256 main_cst_11
  let main_v32 : IVec S256 1 := cmpf .ole main_v30 main_v31
  let main_c_12 : IVec S_ 1 := constantI S_ 1 1#1
  fn_part2 (F := F) main_arg12 main_arg13 main_v29 main_v32 main_c_12

def fn {F : FTy → Type} [FloatOps F] (main_arg0 : FVec F S4096x128 .f32) (main_arg1 : FVec F S4096x128 .f32) (main_arg2 : IVec S4096 32) (main_arg3 : IVec S4096 32) (main_arg4 : IVec S4096x200x2 32) (main_arg5 : FVec F S1000x128 .f32) (main_arg6 : FVec F S512x128 .f32) (main_arg7 : FVec F S512x128 .f32) (main_arg8 : FVec F S512 .f32) (main_arg9 : FVec F S512 .f32) (main_arg10 : FVec F S256x256 .f32) (main_arg11 : FVec F S256 .f32) (main_arg12 : FVec F S128x256 .f32) (main_arg13 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 1000#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg3 main_v6
  let main_c_3 : IVec S_ 32 := constantI S_ 32 1000#32
  let main_v8 : IVec S4096 32 := broadcastInDim S4096 ![] bcast_S_S4096 main_c_3
  let main_v9 : IVec S4096 1 := cmpi .slt main_arg3 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096x200x2 32 := broadcastInDim S4096x200x2 ![] bcast_S_S4096x200x2 main_c_5
  let main_v14 : IVec S4096x200x2 1 := cmpi .sge main_arg4 main_v13
  let main_c_6 : IVec S_ 32 := constantI S_ 32 1000#32
  let main_v15 : IVec S4096x200x2 32 := broadcastInDim S4096x200x2 ![] bcast_S_S4096x200x2 main_c_6
  fn_part1 (F := F) main_arg4 main_arg5 main_arg10 main_arg11 main_arg12 main_arg13 main_v12 main_v14 main_v15
-- ==== Kernel.lean ====
abbrev S4096x128 : Shape := ⟨2, ![4096, 128]⟩
abbrev S4096 : Shape := ⟨1, ![4096]⟩
abbrev S4096x200x2 : Shape := ⟨3, ![4096, 200, 2]⟩
abbrev S1000x128 : Shape := ⟨2, ![1000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S4096x200x1 : Shape := ⟨3, ![4096, 200, 1]⟩
abbrev S4096x200 : Shape := ⟨2, ![4096, 200]⟩
abbrev S_ : Shape := ⟨0, ![]⟩
abbrev S4096x208 : Shape := ⟨2, ![4096, 208]⟩
abbrev S1024x128 : Shape := ⟨2, ![1024, 128]⟩
abbrev S1 : Shape := ⟨1, ![1]⟩
abbrev S2 : Shape := ⟨1, ![2]⟩
abbrev S1x1 : Shape := ⟨2, ![1, 1]⟩
abbrev S4096x1 : Shape := ⟨2, ![4096, 1]⟩
abbrev S128x1024 : Shape := ⟨2, ![128, 1024]⟩
abbrev S128x512 : Shape := ⟨2, ![128, 512]⟩
abbrev S1x512 : Shape := ⟨2, ![1, 512]⟩
abbrev S1x256 : Shape := ⟨2, ![1, 256]⟩
abbrev S256x128 : Shape := ⟨2, ![256, 128]⟩
abbrev S1x128 : Shape := ⟨2, ![1, 128]⟩
abbrev S4096x1024 : Shape := ⟨2, ![4096, 1024]⟩
abbrev S512x1 : Shape := ⟨2, ![512, 1]⟩
abbrev S512x1024 : Shape := ⟨2, ![512, 1024]⟩
abbrev S512x512 : Shape := ⟨2, ![512, 512]⟩
abbrev S512x256 : Shape := ⟨2, ![512, 256]⟩
abbrev S4194304 : Shape := ⟨1, ![4194304]⟩
abbrev S851968 : Shape := ⟨1, ![851968]⟩
abbrev S65536 : Shape := ⟨1, ![65536]⟩
abbrev S13312 : Shape := ⟨1, ![13312]⟩
abbrev S16 : Shape := ⟨1, ![16]⟩
abbrev S512x208 : Shape := ⟨2, ![512, 208]⟩
abbrev S512x200 : Shape := ⟨2, ![512, 200]⟩

abbrev nBuf : Table → Nat
  | .hbm => 327
  | .local .tc .vmem => 38
  | .local .scVector .vmem => 3
  | _ => 0

abbrev hbmTy0_0 (i : Nat) : BufTy := match i % 128 with
  | 0 => ⟨S4096x128, .f32⟩
  | 1 => ⟨S4096x128, .f32⟩
  | 2 => ⟨S4096, .i32⟩
  | 3 => ⟨S4096, .i32⟩
  | 4 => ⟨S4096x200x2, .i32⟩
  | 5 => ⟨S1000x128, .f32⟩
  | 6 => ⟨S512x128, .f32⟩
  | 7 => ⟨S512x128, .f32⟩
  | 8 => ⟨S512, .f32⟩
  | 9 => ⟨S512, .f32⟩
  | 10 => ⟨S256x256, .f32⟩
  | 11 => ⟨S256, .f32⟩
  | 12 => ⟨S128x256, .f32⟩
  | 13 => ⟨S128, .f32⟩
  | 14 => ⟨S4096x200x1, .i32⟩
  | 15 => ⟨S4096x200, .i32⟩
  | 16 => ⟨S_, .i32⟩
  | 17 => ⟨S_, .i32⟩
  | 18 => ⟨S4096x208, .i32⟩
  | 19 => ⟨S_, .i32⟩
  | 20 => ⟨S_, .f32⟩
  | 21 => ⟨S1024x128, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S4096x200, .i64⟩
  | 42 => ⟨S4096x200, .i64⟩
  | 43 => ⟨S_, .i64⟩
  | 44 => ⟨S4096x200, .i64⟩
  | 45 => ⟨S4096x200, .i64⟩
  | 46 => ⟨S_, .i64⟩
  | 47 => ⟨S4096x200, .i64⟩
  | 48 => ⟨S4096x200, .i64⟩
  | 49 => ⟨S4096x200, .i64⟩
  | 50 => ⟨S_, .i64⟩
  | 51 => ⟨S4096x200, .i64⟩
  | 52 => ⟨S4096x200, .i64⟩
  | 53 => ⟨S4096x200, .i32⟩
  | 54 => ⟨S4096x200, .i32⟩
  | 55 => ⟨S_, .i32⟩
  | 56 => ⟨S_, .i32⟩
  | 57 => ⟨S_, .i32⟩
  | 58 => ⟨S4096x200, .i32⟩
  | 59 => ⟨S4096x200, .i32⟩
  | 60 => ⟨S4096x200, .i32⟩
  | 61 => ⟨S4096x200, .i32⟩
  | 62 => ⟨S4096x200, .i32⟩
  | 63 => ⟨S_, .i32⟩
  | 64 => ⟨S4096x200, .i32⟩
  | 65 => ⟨S4096x200, .i32⟩
  | 66 => ⟨S_, .i32⟩
  | 67 => ⟨S4096x200, .i32⟩
  | 68 => ⟨S4096x200, .i32⟩
  | 69 => ⟨S4096x200, .i32⟩
  | 70 => ⟨S4096x200, .i32⟩
  | 71 => ⟨S4096x200, .i32⟩
  | 72 => ⟨S_, .i32⟩
  | 73 => ⟨S4096x200, .i32⟩
  | 74 => ⟨S4096x200, .i32⟩
  | 75 => ⟨S_, .i32⟩
  | 76 => ⟨S4096x200, .i32⟩
  | 77 => ⟨S4096x200, .i32⟩
  | 78 => ⟨S4096x200, .i32⟩
  | 79 => ⟨S4096x200, .i32⟩
  | 80 => ⟨S4096x200, .i32⟩
  | 81 => ⟨S_, .i32⟩
  | 82 => ⟨S4096x200, .i32⟩
  | 83 => ⟨S4096x200, .i32⟩
  | 84 => ⟨S_, .i32⟩
  | 85 => ⟨S4096x200, .i32⟩
  | 86 => ⟨S4096x200, .i32⟩
  | 87 => ⟨S4096x200, .i32⟩
  | 88 => ⟨S4096x200, .i32⟩
  | 89 => ⟨S4096x200, .i32⟩
  | 90 => ⟨S_, .i32⟩
  | 91 => ⟨S4096x200, .i32⟩
  | 92 => ⟨S4096x200, .i32⟩
  | 93 => ⟨S_, .i32⟩
  | 94 => ⟨S4096x200, .i32⟩
  | 95 => ⟨S4096x200, .i32⟩
  | 96 => ⟨S4096x200, .i32⟩
  | 97 => ⟨S4096x200, .i32⟩
  | 98 => ⟨S4096x200, .i32⟩
  | 99 => ⟨S4096x200, .i32⟩
  | 100 => ⟨S4096x200, .i32⟩
  | 101 => ⟨S4096x200, .i32⟩
  | 102 => ⟨S_, .i32⟩
  | 103 => ⟨S4096x200, .i32⟩
  | 104 => ⟨S4096x200, .i32⟩
  | 105 => ⟨S4096x200, .i32⟩
  | 106 => ⟨S_, .i32⟩
  | 107 => ⟨S4096x200, .i32⟩
  | 108 => ⟨S4096x200, .i32⟩
  | 109 => ⟨S_, .i32⟩
  | 110 => ⟨S4096x200, .i32⟩
  | 111 => ⟨S4096x200, .i32⟩
  | 112 => ⟨S4096x200, .i32⟩
  | 113 => ⟨S4096x200, .i32⟩
  | 114 => ⟨S4096x200, .i32⟩
  | 115 => ⟨S_, .i32⟩
  | 116 => ⟨S4096x200, .i32⟩
  | 117 => ⟨S4096x200, .i32⟩
  | 118 => ⟨S_, .i32⟩
  | 119 => ⟨S4096x200, .i32⟩
  | 120 => ⟨S4096x200, .i32⟩
  | 121 => ⟨S4096x200, .i32⟩
  | 122 => ⟨S4096x200, .i32⟩
  | 123 => ⟨S4096x200, .i32⟩
  | 124 => ⟨S_, .i32⟩
  | 125 => ⟨S4096x200, .i32⟩
  | 126 => ⟨S4096x200, .i32⟩
  | 127 => ⟨S_, .i32⟩
  | _ => ⟨S4096x128, .f32⟩

abbrev hbmTy0_1 (i : Nat) : BufTy := match i % 128 with
  | 0 => ⟨S4096x200, .i32⟩
  | 1 => ⟨S4096x200, .i32⟩
  | 2 => ⟨S4096x200, .i32⟩
  | 3 => ⟨S4096x200, .i32⟩
  | 4 => ⟨S4096x200, .i32⟩
  | 5 => ⟨S_, .i32⟩
  | 6 => ⟨S4096x200, .i32⟩
  | 7 => ⟨S4096x200, .i32⟩
  | 8 => ⟨S_, .i32⟩
  | 9 => ⟨S4096x200, .i32⟩
  | 10 => ⟨S4096x200, .i32⟩
  | 11 => ⟨S4096x200, .i32⟩
  | 12 => ⟨S4096x200, .i32⟩
  | 13 => ⟨S4096x200, .i32⟩
  | 14 => ⟨S4096x200, .i32⟩
  | 15 => ⟨S4096x200, .i32⟩
  | 16 => ⟨S4096x200, .i32⟩
  | 17 => ⟨S_, .i32⟩
  | 18 => ⟨S4096x200, .i32⟩
  | 19 => ⟨S4096x200, .i32⟩
  | 20 => ⟨S4096x200, .i32⟩
  | 21 => ⟨S_, .i32⟩
  | 22 => ⟨S4096x200, .i32⟩
  | 23 => ⟨S4096x200, .i32⟩
  | 24 => ⟨S_, .i32⟩
  | 25 => ⟨S4096x200, .i32⟩
  | 26 => ⟨S4096x200, .i32⟩
  | 27 => ⟨S4096x200, .i32⟩
  | 28 => ⟨S4096x200, .i32⟩
  | 29 => ⟨S4096x200, .i32⟩
  | 30 => ⟨S_, .i32⟩
  | 31 => ⟨S4096x200, .i32⟩
  | 32 => ⟨S4096x200, .i32⟩
  | 33 => ⟨S_, .i32⟩
  | 34 => ⟨S4096x200, .i32⟩
  | 35 => ⟨S4096x200, .i32⟩
  | 36 => ⟨S4096x200, .i32⟩
  | 37 => ⟨S4096x200, .i32⟩
  | 38 => ⟨S4096x200, .i32⟩
  | 39 => ⟨S_, .i32⟩
  | 40 => ⟨S4096x200, .i32⟩
  | 41 => ⟨S4096x200, .i32⟩
  | 42 => ⟨S_, .i32⟩
  | 43 => ⟨S4096x200, .i32⟩
  | 44 => ⟨S4096x200, .i32⟩
  | 45 => ⟨S4096x200, .i32⟩
  | 46 => ⟨S4096x200, .i32⟩
  | 47 => ⟨S4096x200, .i32⟩
  | 48 => ⟨S_, .i32⟩
  | 49 => ⟨S4096x200, .i32⟩
  | 50 => ⟨S4096x200, .i32⟩
  | 51 => ⟨S_, .i32⟩
  | 52 => ⟨S4096x200, .i32⟩
  | 53 => ⟨S4096x200, .i32⟩
  | 54 => ⟨S4096x200, .i32⟩
  | 55 => ⟨S4096x200, .i32⟩
  | 56 => ⟨S4096x200, .i32⟩
  | 57 => ⟨S4096x200, .i32⟩
  | 58 => ⟨S4096x200, .i32⟩
  | 59 => ⟨S4096x200, .i32⟩
  | 60 => ⟨S_, .i32⟩
  | 61 => ⟨S4096x200, .i32⟩
  | 62 => ⟨S4096x200, .i32⟩
  | 63 => ⟨S4096x200, .i32⟩
  | 64 => ⟨S_, .i32⟩
  | 65 => ⟨S4096x200, .i32⟩
  | 66 => ⟨S4096x200, .i32⟩
  | 67 => ⟨S_, .i32⟩
  | 68 => ⟨S4096x200, .i32⟩
  | 69 => ⟨S4096x200, .i32⟩
  | 70 => ⟨S4096x200, .i32⟩
  | 71 => ⟨S4096x200, .i32⟩
  | 72 => ⟨S4096x200, .i32⟩
  | 73 => ⟨S_, .i32⟩
  | 74 => ⟨S4096x200, .i32⟩
  | 75 => ⟨S4096x200, .i32⟩
  | 76 => ⟨S_, .i32⟩
  | 77 => ⟨S4096x200, .i32⟩
  | 78 => ⟨S4096x200, .i32⟩
  | 79 => ⟨S4096x200, .i32⟩
  | 80 => ⟨S4096x200, .i32⟩
  | 81 => ⟨S4096x200, .i32⟩
  | 82 => ⟨S_, .i32⟩
  | 83 => ⟨S4096x200, .i32⟩
  | 84 => ⟨S4096x200, .i32⟩
  | 85 => ⟨S_, .i32⟩
  | 86 => ⟨S4096x200, .i32⟩
  | 87 => ⟨S4096x200, .i32⟩
  | 88 => ⟨S4096x200, .i32⟩
  | 89 => ⟨S4096x200, .i32⟩
  | 90 => ⟨S4096x200, .i32⟩
  | 91 => ⟨S_, .i32⟩
  | 92 => ⟨S4096x200, .i32⟩
  | 93 => ⟨S4096x200, .i32⟩
  | 94 => ⟨S_, .i32⟩
  | 95 => ⟨S4096x200, .i32⟩
  | 96 => ⟨S4096x200, .i32⟩
  | 97 => ⟨S4096x200, .i32⟩
  | 98 => ⟨S4096x200, .i32⟩
  | 99 => ⟨S4096x200, .i32⟩
  | 100 => ⟨S4096x200, .i32⟩
  | 101 => ⟨S4096x200, .i32⟩
  | 102 => ⟨S4096x200, .i32⟩
  | 103 => ⟨S_, .i32⟩
  | 104 => ⟨S4096x200, .i32⟩
  | 105 => ⟨S4096x200, .i32⟩
  | 106 => ⟨S4096x200, .i32⟩
  | 107 => ⟨S_, .i32⟩
  | 108 => ⟨S4096x200, .i32⟩
  | 109 => ⟨S4096x200, .i32⟩
  | 110 => ⟨S_, .i32⟩
  | 111 => ⟨S4096x200, .i32⟩
  | 112 => ⟨S4096x200, .i32⟩
  | 113 => ⟨S4096x200, .i32⟩
  | 114 => ⟨S4096x200, .i32⟩
  | 115 => ⟨S4096x200, .i32⟩
  | 116 => ⟨S_, .i32⟩
  | 117 => ⟨S4096x200, .i32⟩
  | 118 => ⟨S4096x200, .i32⟩
  | 119 => ⟨S_, .i32⟩
  | 120 => ⟨S4096x200, .i32⟩
  | 121 => ⟨S4096x200, .i32⟩
  | 122 => ⟨S4096x200, .i32⟩
  | 123 => ⟨S4096x200, .i32⟩
  | 124 => ⟨S4096x200, .i32⟩
  | 125 => ⟨S_, .i32⟩
  | 126 => ⟨S4096x200, .i32⟩
  | 127 => ⟨S4096x200, .i32⟩
  | _ => ⟨S4096x128, .f32⟩

abbrev hbmTy0_2 (i : Nat) : BufTy := match i % 128 with
  | 0 => ⟨S_, .i32⟩
  | 1 => ⟨S4096x200, .i32⟩
  | 2 => ⟨S4096x200, .i32⟩
  | 3 => ⟨S4096x200, .i32⟩
  | 4 => ⟨S4096x200, .i32⟩
  | 5 => ⟨S4096x200, .i32⟩
  | 6 => ⟨S_, .i32⟩
  | 7 => ⟨S4096x200, .i32⟩
  | 8 => ⟨S4096x200, .i32⟩
  | 9 => ⟨S_, .i32⟩
  | 10 => ⟨S4096x200, .i32⟩
  | 11 => ⟨S4096x200, .i32⟩
  | 12 => ⟨S4096x200, .i32⟩
  | 13 => ⟨S4096x200, .i32⟩
  | 14 => ⟨S4096x200, .i32⟩
  | 15 => ⟨S4096x200, .i32⟩
  | 16 => ⟨S4096x200, .i32⟩
  | 17 => ⟨S4096x200, .i32⟩
  | 18 => ⟨S_, .i32⟩
  | 19 => ⟨S4096x200, .i32⟩
  | 20 => ⟨S4096x200, .i32⟩
  | 21 => ⟨S4096x200, .i32⟩
  | 22 => ⟨S_, .i32⟩
  | 23 => ⟨S4096x200, .i32⟩
  | 24 => ⟨S4096x200, .i32⟩
  | 25 => ⟨S_, .i32⟩
  | 26 => ⟨S4096x200, .i32⟩
  | 27 => ⟨S4096x200, .i32⟩
  | 28 => ⟨S4096x200, .f32⟩
  | 29 => ⟨S_, .f32⟩
  | 30 => ⟨S4096x200, .f32⟩
  | 31 => ⟨S4096x200, .f32⟩
  | 32 => ⟨S1x1, .f32⟩
  | 33 => ⟨S4096x200, .f32⟩
  | 34 => ⟨S4096x200, .f32⟩
  | 35 => ⟨S4096x200, .f32⟩
  | 36 => ⟨S4096x200, .f32⟩
  | 37 => ⟨S4096x200, .f32⟩
  | 38 => ⟨S4096x200, .f32⟩
  | 39 => ⟨S4096x200, .f32⟩
  | 40 => ⟨S4096x200, .f32⟩
  | 41 => ⟨S4096x200, .f32⟩
  | 42 => ⟨S4096x200, .f32⟩
  | 43 => ⟨S_, .f32⟩
  | 44 => ⟨S_, .f32⟩
  | 45 => ⟨S4096x208, .f32⟩
  | 46 => ⟨S4096x1, .i32⟩
  | 47 => ⟨S4096x1, .i32⟩
  | 48 => ⟨S128x1024, .f32⟩
  | 49 => ⟨S128x512, .f32⟩
  | 50 => ⟨S128x512, .f32⟩
  | 51 => ⟨S1x512, .f32⟩
  | 52 => ⟨S1x512, .f32⟩
  | 53 => ⟨S256x256, .f32⟩
  | 54 => ⟨S1x256, .f32⟩
  | 55 => ⟨S256x128, .f32⟩
  | 56 => ⟨S1x128, .f32⟩
  | 57 => ⟨S4096x128, .f32⟩
  | 58 => ⟨S4096x128, .f32⟩
  | 59 => ⟨S4096x1024, .f32⟩
  | 60 => ⟨S4194304, .f32⟩
  | 61 => ⟨S851968, .i32⟩
  | 62 => ⟨S851968, .f32⟩
  | 63 => ⟨S4096x208, .f32⟩
  | 64 => ⟨S4096x1, .f32⟩
  | 65 => ⟨S4096x200, .f32⟩
  | 66 => ⟨S4096x1, .i32⟩
  | 67 => ⟨S4096x1, .i32⟩
  | 68 => ⟨S4096, .f32⟩
  | 69 => ⟨S4096, .i32⟩
  | 70 => ⟨S4096, .i32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (nBuf tb) → BufTy
  | .hbm, ⟨i, _⟩ => hbmTy i
  | .local .tc .vmem, ⟨0, _⟩ => ⟨S512x1, .i32⟩
  | .local .tc .vmem, ⟨1, _⟩ => ⟨S512x1, .i32⟩
  | .local .tc .vmem, ⟨2, _⟩ => ⟨S512x1, .i32⟩
  | .local .tc .vmem, ⟨3, _⟩ => ⟨S512x1, .i32⟩
  | .local .tc .vmem, ⟨4, _⟩ => ⟨S512x128, .f32⟩
  | .local .tc .vmem, ⟨5, _⟩ => ⟨S512x128, .f32⟩
  | .local .tc .vmem, ⟨6, _⟩ => ⟨S512x128, .f32⟩
  | .local .tc .vmem, ⟨7, _⟩ => ⟨S512x128, .f32⟩
  | .local .tc .vmem, ⟨8, _⟩ => ⟨S1024x128, .f32⟩
  | .local .tc .vmem, ⟨9, _⟩ => ⟨S128x1024, .f32⟩
  | .local .tc .vmem, ⟨10, _⟩ => ⟨S128x512, .f32⟩
  | .local .tc .vmem, ⟨11, _⟩ => ⟨S128x512, .f32⟩
  | .local .tc .vmem, ⟨12, _⟩ => ⟨S1x512, .f32⟩
  | .local .tc .vmem, ⟨13, _⟩ => ⟨S1x512, .f32⟩
  | .local .tc .vmem, ⟨14, _⟩ => ⟨S256x256, .f32⟩
  | .local .tc .vmem, ⟨15, _⟩ => ⟨S1x256, .f32⟩
  | .local .tc .vmem, ⟨16, _⟩ => ⟨S256x128, .f32⟩
  | .local .tc .vmem, ⟨17, _⟩ => ⟨S1x128, .f32⟩
  | .local .tc .vmem, ⟨18, _⟩ => ⟨S512x128, .f32⟩
  | .local .tc .vmem, ⟨19, _⟩ => ⟨S512x128, .f32⟩
  | .local .tc .vmem, ⟨20, _⟩ => ⟨S512x128, .f32⟩
  | .local .tc .vmem, ⟨21, _⟩ => ⟨S512x128, .f32⟩
  | .local .tc .vmem, ⟨22, _⟩ => ⟨S512x1024, .f32⟩
  | .local .tc .vmem, ⟨23, _⟩ => ⟨S512x1024, .f32⟩
  | .local .tc .vmem, ⟨24, _⟩ => ⟨S512x208, .f32⟩
  | .local .tc .vmem, ⟨25, _⟩ => ⟨S512x208, .f32⟩
  | .local .tc .vmem, ⟨26, _⟩ => ⟨S512x208, .i32⟩
  | .local .tc .vmem, ⟨27, _⟩ => ⟨S512x208, .i32⟩
  | .local .tc .vmem, ⟨28, _⟩ => ⟨S512x208, .f32⟩
  | .local .tc .vmem, ⟨29, _⟩ => ⟨S512x208, .f32⟩
  | .local .tc .vmem, ⟨30, _⟩ => ⟨S512x1, .f32⟩
  | .local .tc .vmem, ⟨31, _⟩ => ⟨S512x1, .f32⟩
  | .local .tc .vmem, ⟨32, _⟩ => ⟨S512x200, .f32⟩
  | .local .tc .vmem, ⟨33, _⟩ => ⟨S512x200, .f32⟩
  | .local .tc .vmem, ⟨34, _⟩ => ⟨S512x1, .i32⟩
  | .local .tc .vmem, ⟨35, _⟩ => ⟨S512x1, .i32⟩
  | .local .tc .vmem, ⟨36, _⟩ => ⟨S512x1, .i32⟩
  | .local .tc .vmem, ⟨37, _⟩ => ⟨S512x1, .i32⟩
  | .local .scVector .vmem, ⟨0, _⟩ => ⟨S65536, .f32⟩
  | .local .scVector .vmem, ⟨1, _⟩ => ⟨S13312, .i32⟩
  | .local .scVector .vmem, ⟨2, _⟩ => ⟨S13312, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_c_1 : Ref sig .tc := ⟨.hbm, 22, rfl⟩
abbrev main_c_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call2_cst : Ref sig .tc := ⟨.hbm, 32, rfl⟩
abbrev main_call2_cst_0 : Ref sig .tc := ⟨.hbm, 33, rfl⟩
abbrev main_call2_call0_v0 : Ref sig .tc := ⟨.hbm, 34, rfl⟩
abbrev main_call2_call0_v1 : Ref sig .tc := ⟨.hbm, 35, rfl⟩
abbrev main_call2_call0_v2 : Ref sig .tc := ⟨.hbm, 36, rfl⟩
abbrev main_call2_call0_v3 : Ref sig .tc := ⟨.hbm, 37, rfl⟩
abbrev main_call2_call0_v4 : Ref sig .tc := ⟨.hbm, 38, rfl⟩
abbrev main_call2_call0_v5 : Ref sig .tc := ⟨.hbm, 39, rfl⟩
abbrev main_call2_call0_v6 : Ref sig .tc := ⟨.hbm, 40, rfl⟩
abbrev main_call2_call0_v7 : Ref sig .tc := ⟨.hbm, 41, rfl⟩
abbrev main_call2_call0_v8 : Ref sig .tc := ⟨.hbm, 42, rfl⟩
abbrev main_call2_call0_c : Ref sig .tc := ⟨.hbm, 43, rfl⟩
abbrev main_call2_call0_v9 : Ref sig .tc := ⟨.hbm, 44, rfl⟩
abbrev main_call2_call0_v10 : Ref sig .tc := ⟨.hbm, 45, rfl⟩
abbrev main_call2_call0_c_0 : Ref sig .tc := ⟨.hbm, 46, rfl⟩
abbrev main_call2_call0_v11 : Ref sig .tc := ⟨.hbm, 47, rfl⟩
abbrev main_call2_call0_v12 : Ref sig .tc := ⟨.hbm, 48, rfl⟩
abbrev main_call2_call0_v13 : Ref sig .tc := ⟨.hbm, 49, rfl⟩
abbrev main_call2_call0_c_1 : Ref sig .tc := ⟨.hbm, 50, rfl⟩
abbrev main_call2_call0_v14 : Ref sig .tc := ⟨.hbm, 51, rfl⟩
abbrev main_call2_call0_v15 : Ref sig .tc := ⟨.hbm, 52, rfl⟩
abbrev main_call2_call0_v16 : Ref sig .tc := ⟨.hbm, 53, rfl⟩
abbrev main_call2_call0_v17 : Ref sig .tc := ⟨.hbm, 54, rfl⟩
abbrev main_call2_call0_call0_v0 : Ref sig .tc := ⟨.hbm, 55, rfl⟩
abbrev main_call2_call0_call0_c : Ref sig .tc := ⟨.hbm, 56, rfl⟩
abbrev main_call2_call0_call0_v1 : Ref sig .tc := ⟨.hbm, 57, rfl⟩
abbrev main_call2_call0_call0_v2 : Ref sig .tc := ⟨.hbm, 58, rfl⟩
abbrev main_call2_call0_call0_v3 : Ref sig .tc := ⟨.hbm, 59, rfl⟩
abbrev main_call2_call0_call0_v4 : Ref sig .tc := ⟨.hbm, 60, rfl⟩
abbrev main_call2_call0_call0_v5 : Ref sig .tc := ⟨.hbm, 61, rfl⟩
abbrev main_call2_call0_call0_v6 : Ref sig .tc := ⟨.hbm, 62, rfl⟩
abbrev main_call2_call0_call0_c_0 : Ref sig .tc := ⟨.hbm, 63, rfl⟩
abbrev main_call2_call0_call0_v7 : Ref sig .tc := ⟨.hbm, 64, rfl⟩
abbrev main_call2_call0_call0_v8 : Ref sig .tc := ⟨.hbm, 65, rfl⟩
abbrev main_call2_call0_call0_c_1 : Ref sig .tc := ⟨.hbm, 66, rfl⟩
abbrev main_call2_call0_call0_v9 : Ref sig .tc := ⟨.hbm, 67, rfl⟩
abbrev main_call2_call0_call0_v10 : Ref sig .tc := ⟨.hbm, 68, rfl⟩
abbrev main_call2_call0_call0_v11 : Ref sig .tc := ⟨.hbm, 69, rfl⟩
abbrev main_call2_call0_call0_v12 : Ref sig .tc := ⟨.hbm, 70, rfl⟩
abbrev main_call2_call0_call0_v13 : Ref sig .tc := ⟨.hbm, 71, rfl⟩
abbrev main_call2_call0_call0_c_2 : Ref sig .tc := ⟨.hbm, 72, rfl⟩
abbrev main_call2_call0_call0_v14 : Ref sig .tc := ⟨.hbm, 73, rfl⟩
abbrev main_call2_call0_call0_v15 : Ref sig .tc := ⟨.hbm, 74, rfl⟩
abbrev main_call2_call0_call0_c_3 : Ref sig .tc := ⟨.hbm, 75, rfl⟩
abbrev main_call2_call0_call0_v16 : Ref sig .tc := ⟨.hbm, 76, rfl⟩
abbrev main_call2_call0_call0_v17 : Ref sig .tc := ⟨.hbm, 77, rfl⟩
abbrev main_call2_call0_call0_v18 : Ref sig .tc := ⟨.hbm, 78, rfl⟩
abbrev main_call2_call0_call0_v19 : Ref sig .tc := ⟨.hbm, 79, rfl⟩
abbrev main_call2_call0_call0_v20 : Ref sig .tc := ⟨.hbm, 80, rfl⟩
abbrev main_call2_call0_call0_c_4 : Ref sig .tc := ⟨.hbm, 81, rfl⟩
abbrev main_call2_call0_call0_v21 : Ref sig .tc := ⟨.hbm, 82, rfl⟩
abbrev main_call2_call0_call0_v22 : Ref sig .tc := ⟨.hbm, 83, rfl⟩
abbrev main_call2_call0_call0_c_5 : Ref sig .tc := ⟨.hbm, 84, rfl⟩
abbrev main_call2_call0_call0_v23 : Ref sig .tc := ⟨.hbm, 85, rfl⟩
abbrev main_call2_call0_call0_v24 : Ref sig .tc := ⟨.hbm, 86, rfl⟩
abbrev main_call2_call0_call0_v25 : Ref sig .tc := ⟨.hbm, 87, rfl⟩
abbrev main_call2_call0_call0_v26 : Ref sig .tc := ⟨.hbm, 88, rfl⟩
abbrev main_call2_call0_call0_v27 : Ref sig .tc := ⟨.hbm, 89, rfl⟩
abbrev main_call2_call0_call0_c_6 : Ref sig .tc := ⟨.hbm, 90, rfl⟩
abbrev main_call2_call0_call0_v28 : Ref sig .tc := ⟨.hbm, 91, rfl⟩
abbrev main_call2_call0_call0_v29 : Ref sig .tc := ⟨.hbm, 92, rfl⟩
abbrev main_call2_call0_call0_c_7 : Ref sig .tc := ⟨.hbm, 93, rfl⟩
abbrev main_call2_call0_call0_v30 : Ref sig .tc := ⟨.hbm, 94, rfl⟩
abbrev main_call2_call0_call0_v31 : Ref sig .tc := ⟨.hbm, 95, rfl⟩
abbrev main_call2_call0_call0_v32 : Ref sig .tc := ⟨.hbm, 96, rfl⟩
abbrev main_call2_call0_call0_v33 : Ref sig .tc := ⟨.hbm, 97, rfl⟩
abbrev main_call2_call0_call0_v34 : Ref sig .tc := ⟨.hbm, 98, rfl⟩
abbrev main_call2_call0_call0_v35 : Ref sig .tc := ⟨.hbm, 99, rfl⟩
abbrev main_call2_call0_call0_v36 : Ref sig .tc := ⟨.hbm, 100, rfl⟩
abbrev main_call2_call0_call0_v37 : Ref sig .tc := ⟨.hbm, 101, rfl⟩
abbrev main_call2_call0_call0_c_8 : Ref sig .tc := ⟨.hbm, 102, rfl⟩
abbrev main_call2_call0_call0_v38 : Ref sig .tc := ⟨.hbm, 103, rfl⟩
abbrev main_call2_call0_call0_v39 : Ref sig .tc := ⟨.hbm, 104, rfl⟩
abbrev main_call2_call0_call0_v40 : Ref sig .tc := ⟨.hbm, 105, rfl⟩
abbrev main_call2_call0_call0_c_9 : Ref sig .tc := ⟨.hbm, 106, rfl⟩
abbrev main_call2_call0_call0_v41 : Ref sig .tc := ⟨.hbm, 107, rfl⟩
abbrev main_call2_call0_call0_v42 : Ref sig .tc := ⟨.hbm, 108, rfl⟩
abbrev main_call2_call0_call0_c_10 : Ref sig .tc := ⟨.hbm, 109, rfl⟩
abbrev main_call2_call0_call0_v43 : Ref sig .tc := ⟨.hbm, 110, rfl⟩
abbrev main_call2_call0_call0_v44 : Ref sig .tc := ⟨.hbm, 111, rfl⟩
abbrev main_call2_call0_call0_v45 : Ref sig .tc := ⟨.hbm, 112, rfl⟩
abbrev main_call2_call0_call0_v46 : Ref sig .tc := ⟨.hbm, 113, rfl⟩
abbrev main_call2_call0_call0_v47 : Ref sig .tc := ⟨.hbm, 114, rfl⟩
abbrev main_call2_call0_call0_c_11 : Ref sig .tc := ⟨.hbm, 115, rfl⟩
abbrev main_call2_call0_call0_v48 : Ref sig .tc := ⟨.hbm, 116, rfl⟩
abbrev main_call2_call0_call0_v49 : Ref sig .tc := ⟨.hbm, 117, rfl⟩
abbrev main_call2_call0_call0_c_12 : Ref sig .tc := ⟨.hbm, 118, rfl⟩
abbrev main_call2_call0_call0_v50 : Ref sig .tc := ⟨.hbm, 119, rfl⟩
abbrev main_call2_call0_call0_v51 : Ref sig .tc := ⟨.hbm, 120, rfl⟩
abbrev main_call2_call0_call0_v52 : Ref sig .tc := ⟨.hbm, 121, rfl⟩
abbrev main_call2_call0_call0_v53 : Ref sig .tc := ⟨.hbm, 122, rfl⟩
abbrev main_call2_call0_call0_v54 : Ref sig .tc := ⟨.hbm, 123, rfl⟩
abbrev main_call2_call0_call0_c_13 : Ref sig .tc := ⟨.hbm, 124, rfl⟩
abbrev main_call2_call0_call0_v55 : Ref sig .tc := ⟨.hbm, 125, rfl⟩
abbrev main_call2_call0_call0_v56 : Ref sig .tc := ⟨.hbm, 126, rfl⟩
abbrev main_call2_call0_call0_c_14 : Ref sig .tc := ⟨.hbm, 127, rfl⟩
abbrev main_call2_call0_call0_v57 : Ref sig .tc := ⟨.hbm, 128, rfl⟩
abbrev main_call2_call0_call0_v58 : Ref sig .tc := ⟨.hbm, 129, rfl⟩
abbrev main_call2_call0_call0_v59 : Ref sig .tc := ⟨.hbm, 130, rfl⟩
abbrev main_call2_call0_call0_v60 : Ref sig .tc := ⟨.hbm, 131, rfl⟩
abbrev main_call2_call0_call0_v61 : Ref sig .tc := ⟨.hbm, 132, rfl⟩
abbrev main_call2_call0_call0_c_15 : Ref sig .tc := ⟨.hbm, 133, rfl⟩
abbrev main_call2_call0_call0_v62 : Ref sig .tc := ⟨.hbm, 134, rfl⟩
abbrev main_call2_call0_call0_v63 : Ref sig .tc := ⟨.hbm, 135, rfl⟩
abbrev main_call2_call0_call0_c_16 : Ref sig .tc := ⟨.hbm, 136, rfl⟩
abbrev main_call2_call0_call0_v64 : Ref sig .tc := ⟨.hbm, 137, rfl⟩
abbrev main_call2_call0_call0_v65 : Ref sig .tc := ⟨.hbm, 138, rfl⟩
abbrev main_call2_call0_call0_v66 : Ref sig .tc := ⟨.hbm, 139, rfl⟩
abbrev main_call2_call0_call0_v67 : Ref sig .tc := ⟨.hbm, 140, rfl⟩
abbrev main_call2_call0_call0_v68 : Ref sig .tc := ⟨.hbm, 141, rfl⟩
abbrev main_call2_call0_call0_v69 : Ref sig .tc := ⟨.hbm, 142, rfl⟩
abbrev main_call2_call0_call0_v70 : Ref sig .tc := ⟨.hbm, 143, rfl⟩
abbrev main_call2_call0_call0_v71 : Ref sig .tc := ⟨.hbm, 144, rfl⟩
abbrev main_call2_call0_call0_c_17 : Ref sig .tc := ⟨.hbm, 145, rfl⟩
abbrev main_call2_call0_call0_v72 : Ref sig .tc := ⟨.hbm, 146, rfl⟩
abbrev main_call2_call0_call0_v73 : Ref sig .tc := ⟨.hbm, 147, rfl⟩
abbrev main_call2_call0_call0_v74 : Ref sig .tc := ⟨.hbm, 148, rfl⟩
abbrev main_call2_call0_call0_c_18 : Ref sig .tc := ⟨.hbm, 149, rfl⟩
abbrev main_call2_call0_call0_v75 : Ref sig .tc := ⟨.hbm, 150, rfl⟩
abbrev main_call2_call0_call0_v76 : Ref sig .tc := ⟨.hbm, 151, rfl⟩
abbrev main_call2_call0_call0_c_19 : Ref sig .tc := ⟨.hbm, 152, rfl⟩
abbrev main_call2_call0_call0_v77 : Ref sig .tc := ⟨.hbm, 153, rfl⟩
abbrev main_call2_call0_call0_v78 : Ref sig .tc := ⟨.hbm, 154, rfl⟩
abbrev main_call2_call0_call0_v79 : Ref sig .tc := ⟨.hbm, 155, rfl⟩
abbrev main_call2_call0_call0_v80 : Ref sig .tc := ⟨.hbm, 156, rfl⟩
abbrev main_call2_call0_call0_v81 : Ref sig .tc := ⟨.hbm, 157, rfl⟩
abbrev main_call2_call0_call0_c_20 : Ref sig .tc := ⟨.hbm, 158, rfl⟩
abbrev main_call2_call0_call0_v82 : Ref sig .tc := ⟨.hbm, 159, rfl⟩
abbrev main_call2_call0_call0_v83 : Ref sig .tc := ⟨.hbm, 160, rfl⟩
abbrev main_call2_call0_call0_c_21 : Ref sig .tc := ⟨.hbm, 161, rfl⟩
abbrev main_call2_call0_call0_v84 : Ref sig .tc := ⟨.hbm, 162, rfl⟩
abbrev main_call2_call0_call0_v85 : Ref sig .tc := ⟨.hbm, 163, rfl⟩
abbrev main_call2_call0_call0_v86 : Ref sig .tc := ⟨.hbm, 164, rfl⟩
abbrev main_call2_call0_call0_v87 : Ref sig .tc := ⟨.hbm, 165, rfl⟩
abbrev main_call2_call0_call0_v88 : Ref sig .tc := ⟨.hbm, 166, rfl⟩
abbrev main_call2_call0_call0_c_22 : Ref sig .tc := ⟨.hbm, 167, rfl⟩
abbrev main_call2_call0_call0_v89 : Ref sig .tc := ⟨.hbm, 168, rfl⟩
abbrev main_call2_call0_call0_v90 : Ref sig .tc := ⟨.hbm, 169, rfl⟩
abbrev main_call2_call0_call0_c_23 : Ref sig .tc := ⟨.hbm, 170, rfl⟩
abbrev main_call2_call0_call0_v91 : Ref sig .tc := ⟨.hbm, 171, rfl⟩
abbrev main_call2_call0_call0_v92 : Ref sig .tc := ⟨.hbm, 172, rfl⟩
abbrev main_call2_call0_call0_v93 : Ref sig .tc := ⟨.hbm, 173, rfl⟩
abbrev main_call2_call0_call0_v94 : Ref sig .tc := ⟨.hbm, 174, rfl⟩
abbrev main_call2_call0_call0_v95 : Ref sig .tc := ⟨.hbm, 175, rfl⟩
abbrev main_call2_call0_call0_c_24 : Ref sig .tc := ⟨.hbm, 176, rfl⟩
abbrev main_call2_call0_call0_v96 : Ref sig .tc := ⟨.hbm, 177, rfl⟩
abbrev main_call2_call0_call0_v97 : Ref sig .tc := ⟨.hbm, 178, rfl⟩
abbrev main_call2_call0_call0_c_25 : Ref sig .tc := ⟨.hbm, 179, rfl⟩
abbrev main_call2_call0_call0_v98 : Ref sig .tc := ⟨.hbm, 180, rfl⟩
abbrev main_call2_call0_call0_v99 : Ref sig .tc := ⟨.hbm, 181, rfl⟩
abbrev main_call2_call0_call0_v100 : Ref sig .tc := ⟨.hbm, 182, rfl⟩
abbrev main_call2_call0_call0_v101 : Ref sig .tc := ⟨.hbm, 183, rfl⟩
abbrev main_call2_call0_call0_v102 : Ref sig .tc := ⟨.hbm, 184, rfl⟩
abbrev main_call2_call0_call0_v103 : Ref sig .tc := ⟨.hbm, 185, rfl⟩
abbrev main_call2_call0_call0_v104 : Ref sig .tc := ⟨.hbm, 186, rfl⟩
abbrev main_call2_call0_call0_v105 : Ref sig .tc := ⟨.hbm, 187, rfl⟩
abbrev main_call2_call0_call0_c_26 : Ref sig .tc := ⟨.hbm, 188, rfl⟩
abbrev main_call2_call0_call0_v106 : Ref sig .tc := ⟨.hbm, 189, rfl⟩
abbrev main_call2_call0_call0_v107 : Ref sig .tc := ⟨.hbm, 190, rfl⟩
abbrev main_call2_call0_call0_v108 : Ref sig .tc := ⟨.hbm, 191, rfl⟩
abbrev main_call2_call0_call0_c_27 : Ref sig .tc := ⟨.hbm, 192, rfl⟩
abbrev main_call2_call0_call0_v109 : Ref sig .tc := ⟨.hbm, 193, rfl⟩
abbrev main_call2_call0_call0_v110 : Ref sig .tc := ⟨.hbm, 194, rfl⟩
abbrev main_call2_call0_call0_c_28 : Ref sig .tc := ⟨.hbm, 195, rfl⟩
abbrev main_call2_call0_call0_v111 : Ref sig .tc := ⟨.hbm, 196, rfl⟩
abbrev main_call2_call0_call0_v112 : Ref sig .tc := ⟨.hbm, 197, rfl⟩
abbrev main_call2_call0_call0_v113 : Ref sig .tc := ⟨.hbm, 198, rfl⟩
abbrev main_call2_call0_call0_v114 : Ref sig .tc := ⟨.hbm, 199, rfl⟩
abbrev main_call2_call0_call0_v115 : Ref sig .tc := ⟨.hbm, 200, rfl⟩
abbrev main_call2_call0_call0_c_29 : Ref sig .tc := ⟨.hbm, 201, rfl⟩
abbrev main_call2_call0_call0_v116 : Ref sig .tc := ⟨.hbm, 202, rfl⟩
abbrev main_call2_call0_call0_v117 : Ref sig .tc := ⟨.hbm, 203, rfl⟩
abbrev main_call2_call0_call0_c_30 : Ref sig .tc := ⟨.hbm, 204, rfl⟩
abbrev main_call2_call0_call0_v118 : Ref sig .tc := ⟨.hbm, 205, rfl⟩
abbrev main_call2_call0_call0_v119 : Ref sig .tc := ⟨.hbm, 206, rfl⟩
abbrev main_call2_call0_call0_v120 : Ref sig .tc := ⟨.hbm, 207, rfl⟩
abbrev main_call2_call0_call0_v121 : Ref sig .tc := ⟨.hbm, 208, rfl⟩
abbrev main_call2_call0_call0_v122 : Ref sig .tc := ⟨.hbm, 209, rfl⟩
abbrev main_call2_call0_call0_c_31 : Ref sig .tc := ⟨.hbm, 210, rfl⟩
abbrev main_call2_call0_call0_v123 : Ref sig .tc := ⟨.hbm, 211, rfl⟩
abbrev main_call2_call0_call0_v124 : Ref sig .tc := ⟨.hbm, 212, rfl⟩
abbrev main_call2_call0_call0_c_32 : Ref sig .tc := ⟨.hbm, 213, rfl⟩
abbrev main_call2_call0_call0_v125 : Ref sig .tc := ⟨.hbm, 214, rfl⟩
abbrev main_call2_call0_call0_v126 : Ref sig .tc := ⟨.hbm, 215, rfl⟩
abbrev main_call2_call0_call0_v127 : Ref sig .tc := ⟨.hbm, 216, rfl⟩
abbrev main_call2_call0_call0_v128 : Ref sig .tc := ⟨.hbm, 217, rfl⟩
abbrev main_call2_call0_call0_v129 : Ref sig .tc := ⟨.hbm, 218, rfl⟩
abbrev main_call2_call0_call0_c_33 : Ref sig .tc := ⟨.hbm, 219, rfl⟩
abbrev main_call2_call0_call0_v130 : Ref sig .tc := ⟨.hbm, 220, rfl⟩
abbrev main_call2_call0_call0_v131 : Ref sig .tc := ⟨.hbm, 221, rfl⟩
abbrev main_call2_call0_call0_c_34 : Ref sig .tc := ⟨.hbm, 222, rfl⟩
abbrev main_call2_call0_call0_v132 : Ref sig .tc := ⟨.hbm, 223, rfl⟩
abbrev main_call2_call0_call0_v133 : Ref sig .tc := ⟨.hbm, 224, rfl⟩
abbrev main_call2_call0_call0_v134 : Ref sig .tc := ⟨.hbm, 225, rfl⟩
abbrev main_call2_call0_call0_v135 : Ref sig .tc := ⟨.hbm, 226, rfl⟩
abbrev main_call2_call0_call0_v136 : Ref sig .tc := ⟨.hbm, 227, rfl⟩
abbrev main_call2_call0_call0_v137 : Ref sig .tc := ⟨.hbm, 228, rfl⟩
abbrev main_call2_call0_call0_v138 : Ref sig .tc := ⟨.hbm, 229, rfl⟩
abbrev main_call2_call0_call0_v139 : Ref sig .tc := ⟨.hbm, 230, rfl⟩
abbrev main_call2_call0_call0_c_35 : Ref sig .tc := ⟨.hbm, 231, rfl⟩
abbrev main_call2_call0_call0_v140 : Ref sig .tc := ⟨.hbm, 232, rfl⟩
abbrev main_call2_call0_call0_v141 : Ref sig .tc := ⟨.hbm, 233, rfl⟩
abbrev main_call2_call0_call0_v142 : Ref sig .tc := ⟨.hbm, 234, rfl⟩
abbrev main_call2_call0_call0_c_36 : Ref sig .tc := ⟨.hbm, 235, rfl⟩
abbrev main_call2_call0_call0_v143 : Ref sig .tc := ⟨.hbm, 236, rfl⟩
abbrev main_call2_call0_call0_v144 : Ref sig .tc := ⟨.hbm, 237, rfl⟩
abbrev main_call2_call0_call0_c_37 : Ref sig .tc := ⟨.hbm, 238, rfl⟩
abbrev main_call2_call0_call0_v145 : Ref sig .tc := ⟨.hbm, 239, rfl⟩
abbrev main_call2_call0_call0_v146 : Ref sig .tc := ⟨.hbm, 240, rfl⟩
abbrev main_call2_call0_call0_v147 : Ref sig .tc := ⟨.hbm, 241, rfl⟩
abbrev main_call2_call0_call0_v148 : Ref sig .tc := ⟨.hbm, 242, rfl⟩
abbrev main_call2_call0_call0_v149 : Ref sig .tc := ⟨.hbm, 243, rfl⟩
abbrev main_call2_call0_call0_c_38 : Ref sig .tc := ⟨.hbm, 244, rfl⟩
abbrev main_call2_call0_call0_v150 : Ref sig .tc := ⟨.hbm, 245, rfl⟩
abbrev main_call2_call0_call0_v151 : Ref sig .tc := ⟨.hbm, 246, rfl⟩
abbrev main_call2_call0_call0_c_39 : Ref sig .tc := ⟨.hbm, 247, rfl⟩
abbrev main_call2_call0_call0_v152 : Ref sig .tc := ⟨.hbm, 248, rfl⟩
abbrev main_call2_call0_call0_v153 : Ref sig .tc := ⟨.hbm, 249, rfl⟩
abbrev main_call2_call0_call0_v154 : Ref sig .tc := ⟨.hbm, 250, rfl⟩
abbrev main_call2_call0_call0_v155 : Ref sig .tc := ⟨.hbm, 251, rfl⟩
abbrev main_call2_call0_call0_v156 : Ref sig .tc := ⟨.hbm, 252, rfl⟩
abbrev main_call2_call0_call0_c_40 : Ref sig .tc := ⟨.hbm, 253, rfl⟩
abbrev main_call2_call0_call0_v157 : Ref sig .tc := ⟨.hbm, 254, rfl⟩
abbrev main_call2_call0_call0_v158 : Ref sig .tc := ⟨.hbm, 255, rfl⟩
abbrev main_call2_call0_call0_c_41 : Ref sig .tc := ⟨.hbm, 256, rfl⟩
abbrev main_call2_call0_call0_v159 : Ref sig .tc := ⟨.hbm, 257, rfl⟩
abbrev main_call2_call0_call0_v160 : Ref sig .tc := ⟨.hbm, 258, rfl⟩
abbrev main_call2_call0_call0_v161 : Ref sig .tc := ⟨.hbm, 259, rfl⟩
abbrev main_call2_call0_call0_v162 : Ref sig .tc := ⟨.hbm, 260, rfl⟩
abbrev main_call2_call0_call0_v163 : Ref sig .tc := ⟨.hbm, 261, rfl⟩
abbrev main_call2_call0_call0_c_42 : Ref sig .tc := ⟨.hbm, 262, rfl⟩
abbrev main_call2_call0_call0_v164 : Ref sig .tc := ⟨.hbm, 263, rfl⟩
abbrev main_call2_call0_call0_v165 : Ref sig .tc := ⟨.hbm, 264, rfl⟩
abbrev main_call2_call0_call0_c_43 : Ref sig .tc := ⟨.hbm, 265, rfl⟩
abbrev main_call2_call0_call0_v166 : Ref sig .tc := ⟨.hbm, 266, rfl⟩
abbrev main_call2_call0_call0_v167 : Ref sig .tc := ⟨.hbm, 267, rfl⟩
abbrev main_call2_call0_call0_v168 : Ref sig .tc := ⟨.hbm, 268, rfl⟩
abbrev main_call2_call0_call0_v169 : Ref sig .tc := ⟨.hbm, 269, rfl⟩
abbrev main_call2_call0_call0_v170 : Ref sig .tc := ⟨.hbm, 270, rfl⟩
abbrev main_call2_call0_v18_0 : Ref sig .tc := ⟨.hbm, 271, rfl⟩
abbrev main_call2_call0_call0_v172 : Ref sig .tc := ⟨.hbm, 272, rfl⟩
abbrev main_call2_call0_call0_v173 : Ref sig .tc := ⟨.hbm, 273, rfl⟩
abbrev main_call2_call0_call0_c_44 : Ref sig .tc := ⟨.hbm, 274, rfl⟩
abbrev main_call2_call0_call0_v174 : Ref sig .tc := ⟨.hbm, 275, rfl⟩
abbrev main_call2_call0_v18_1 : Ref sig .tc := ⟨.hbm, 276, rfl⟩
abbrev main_call2_call0_v19 : Ref sig .tc := ⟨.hbm, 277, rfl⟩
abbrev main_call2_call0_c_2 : Ref sig .tc := ⟨.hbm, 278, rfl⟩
abbrev main_call2_call0_v20 : Ref sig .tc := ⟨.hbm, 279, rfl⟩
abbrev main_call2_call0_v21 : Ref sig .tc := ⟨.hbm, 280, rfl⟩
abbrev main_call2_call0_c_3 : Ref sig .tc := ⟨.hbm, 281, rfl⟩
abbrev main_call2_call0_v22 : Ref sig .tc := ⟨.hbm, 282, rfl⟩
abbrev main_call2_call0_v23 : Ref sig .tc := ⟨.hbm, 283, rfl⟩
abbrev main_call2_call0_v24 : Ref sig .tc := ⟨.hbm, 284, rfl⟩
abbrev main_call2_call0_cst : Ref sig .tc := ⟨.hbm, 285, rfl⟩
abbrev main_call2_call0_v25 : Ref sig .tc := ⟨.hbm, 286, rfl⟩
abbrev main_call2_call0_v26 : Ref sig .tc := ⟨.hbm, 287, rfl⟩
abbrev main_call2_call0_v27 : Ref sig .tc := ⟨.hbm, 288, rfl⟩
abbrev main_call2_call0_v28 : Ref sig .tc := ⟨.hbm, 289, rfl⟩
abbrev main_call2_call0_v29 : Ref sig .tc := ⟨.hbm, 290, rfl⟩
abbrev main_call2_call0_v30 : Ref sig .tc := ⟨.hbm, 291, rfl⟩
abbrev main_call2_call0_v31 : Ref sig .tc := ⟨.hbm, 292, rfl⟩
abbrev main_call2_call0_v32 : Ref sig .tc := ⟨.hbm, 293, rfl⟩
abbrev main_call2_v0 : Ref sig .tc := ⟨.hbm, 294, rfl⟩
abbrev main_call2_v1 : Ref sig .tc := ⟨.hbm, 295, rfl⟩
abbrev main_call2_v2 : Ref sig .tc := ⟨.hbm, 296, rfl⟩
abbrev main_call2_v3 : Ref sig .tc := ⟨.hbm, 297, rfl⟩
abbrev main_v11 : Ref sig .tc := ⟨.hbm, 298, rfl⟩
abbrev main_cst : Ref sig .tc := ⟨.hbm, 299, rfl⟩
abbrev main_call3_v0 : Ref sig .tc := ⟨.hbm, 300, rfl⟩
abbrev main_v12 : Ref sig .tc := ⟨.hbm, 301, rfl⟩
abbrev main_v13 : Ref sig .tc := ⟨.hbm, 302, rfl⟩
abbrev main_v14 : Ref sig .tc := ⟨.hbm, 303, rfl⟩
abbrev main_v15 : Ref sig .tc := ⟨.hbm, 304, rfl⟩
abbrev main_v16 : Ref sig .tc := ⟨.hbm, 305, rfl⟩
abbrev main_v17 : Ref sig .tc := ⟨.hbm, 306, rfl⟩
abbrev main_v18 : Ref sig .tc := ⟨.hbm, 307, rfl⟩
abbrev main_v19 : Ref sig .tc := ⟨.hbm, 308, rfl⟩
abbrev main_v20 : Ref sig .tc := ⟨.hbm, 309, rfl⟩
abbrev main_v21 : Ref sig .tc := ⟨.hbm, 310, rfl⟩
abbrev main_v22 : Ref sig .tc := ⟨.hbm, 311, rfl⟩
abbrev main_v23 : Ref sig .tc := ⟨.hbm, 312, rfl⟩
abbrev main_v24_0 : Ref sig .tc := ⟨.hbm, 313, rfl⟩
abbrev main_v24_1 : Ref sig .tc := ⟨.hbm, 314, rfl⟩
abbrev main_v24_2 : Ref sig .tc := ⟨.hbm, 315, rfl⟩
abbrev main_v25 : Ref sig .tc := ⟨.hbm, 316, rfl⟩
abbrev main_v26 : Ref sig .tc := ⟨.hbm, 317, rfl⟩
abbrev main_v27 : Ref sig .tc := ⟨.hbm, 318, rfl⟩
abbrev main_v28 : Ref sig .tc := ⟨.hbm, 319, rfl⟩
abbrev main_v29_0 : Ref sig .tc := ⟨.hbm, 320, rfl⟩
abbrev main_v29_1 : Ref sig .tc := ⟨.hbm, 321, rfl⟩
abbrev main_v29_2 : Ref sig .tc := ⟨.hbm, 322, rfl⟩
abbrev main_v29_3 : Ref sig .tc := ⟨.hbm, 323, rfl⟩
abbrev main_v30 : Ref sig .tc := ⟨.hbm, 324, rfl⟩
abbrev main_v31 : Ref sig .tc := ⟨.hbm, 325, rfl⟩
abbrev main_v32 : Ref sig .tc := ⟨.hbm, 326, rfl⟩
abbrev main_v25_scv : Ref sig .scVector := ⟨.hbm, 316, rfl⟩
abbrev main_v26_scv : Ref sig .scVector := ⟨.hbm, 317, rfl⟩
abbrev main_v27_scv : Ref sig .scVector := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem5_1 : DmaSem sig := 38
abbrev cc2_sem6_0 : DmaSem sig := 39
abbrev cc2_sem6_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨2, ![2, 16], ![false, false]⟩

@[reducible] def k1_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg8 : BitVec 32 := Scf.iv c0_i32_0 c1_i32 k1_t1
  let c64_i32 : BitVec 32 := 64#32
  let v4 : BitVec 32 := Scalar.muli arg8 c64_i32
  let v5 : BitVec 32 := Scalar.addi v2 v4
  let c1024_i32 : BitVec 32 := 1024#32
  let v6 : BitVec 32 := Scalar.muli v5 c1024_i32
  ![v6.toNat]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg8 : BitVec 32 := Scf.iv c0_i32_0 c1_i32 k1_t1
  let c64_i32 : BitVec 32 := 64#32
  let v4 : BitVec 32 := Scalar.muli arg8 c64_i32
  let v5 : BitVec 32 := Scalar.addi v2 v4
  let c208_i32 : BitVec 32 := 208#32
  let v7 : BitVec 32 := Scalar.muli v5 c208_i32
  ![v7.toNat]
@[reducible] def k1_t2_loop : Scf.Loop 32 :=
  let c0_i32_4 : BitVec 32 := 0#32
  let c64_i32_5 : BitVec 32 := 64#32
  let v8 : BitVec 32 := Scalar.addi c0_i32_4 c64_i32_5
  let c1_i32_6 : BitVec 32 := 1#32
  ⟨c0_i32_4, v8, c1_i32_6⟩
def k1_off3 (k1_t2 : Fin k1_t2_loop.trips) : Fin 1 → Nat :=
  let c0_i32_4 : BitVec 32 := 0#32
  let c1_i32_6 : BitVec 32 := 1#32
  let arg9 : BitVec 32 := Scf.iv c0_i32_4 c1_i32_6 k1_t2
  let c208_i32_10 : BitVec 32 := 208#32
  let v12 : BitVec 32 := Scalar.muli arg9 c208_i32_10
  let c0_i32_11 : BitVec 32 := 0#32
  let v13 : BitVec 32 := Scalar.addi v12 c0_i32_11
  let v14 : Index := Scalar.indexCast v13
  ![v14.toNat]

def k1_chk1 (v16 : IVec S16 32) : Prop :=
  (∀ a x, ((![v16] : Fin 1 → IVec S16 32) a x).toNat < S65536.size a)
theorem k1_idx1_inb : ∀ (v16 : IVec S16 32) (k1_hw1 : k1_chk1 v16), ∀ a x, ((![v16] : Fin 1 → IVec S16 32) a x).toNat < S65536.size a := fun v16 k1_hw1 => k1_hw1
def k1_off4 (k1_t2 : Fin k1_t2_loop.trips) (c0_i32_13 : BitVec 32) : Fin 1 → Nat :=
  let c0_i32_4 : BitVec 32 := 0#32
  let c1_i32_6 : BitVec 32 := 1#32
  let arg9 : BitVec 32 := Scf.iv c0_i32_4 c1_i32_6 k1_t2
  let c208_i32_12 : BitVec 32 := 208#32
  let v18 : BitVec 32 := Scalar.muli arg9 c208_i32_12
  let v19 : BitVec 32 := Scalar.addi v18 c0_i32_13
  let v20 : Index := Scalar.indexCast v19
  ![v20.toNat]

def k1_chk2 (v26 : IVec S16 32) : Prop :=
  (∀ a x, ((![v26] : Fin 1 → IVec S16 32) a x).toNat < S65536.size a)
theorem k1_idx2_inb : ∀ (v26 : IVec S16 32) (k1_hw2 : k1_chk2 v26), ∀ a x, ((![v26] : Fin 1 → IVec S16 32) a x).toNat < S65536.size a := fun v26 k1_hw2 => k1_hw2
def k1_off5 (k1_t2 : Fin k1_t2_loop.trips) (c16_i32_16 : BitVec 32) : Fin 1 → Nat :=
  let c0_i32_4 : BitVec 32 := 0#32
  let c1_i32_6 : BitVec 32 := 1#32
  let arg9 : BitVec 32 := Scf.iv c0_i32_4 c1_i32_6 k1_t2
  let c208_i32_15 : BitVec 32 := 208#32
  let v28 : BitVec 32 := Scalar.muli arg9 c208_i32_15
  let v29 : BitVec 32 := Scalar.addi v28 c16_i32_16
  let v30 : Index := Scalar.indexCast v29
  ![v30.toNat]

def k1_chk3 (v36 : IVec S16 32) : Prop :=
  (∀ a x, ((![v36] : Fin 1 → IVec S16 32) a x).toNat < S65536.size a)
theorem k1_idx3_inb : ∀ (v36 : IVec S16 32) (k1_hw3 : k1_chk3 v36), ∀ a x, ((![v36] : Fin 1 → IVec S16 32) a x).toNat < S65536.size a := fun v36 k1_hw3 => k1_hw3
def k1_off6 (k1_t2 : Fin k1_t2_loop.trips) (c32_i32_19 : BitVec 32) : Fin 1 → Nat :=
  let c0_i32_4 : BitVec 32 := 0#32
  let c1_i32_6 : BitVec 32 := 1#32
  let arg9 : BitVec 32 := Scf.iv c0_i32_4 c1_i32_6 k1_t2
  let c208_i32_18 : BitVec 32 := 208#32
  let v38 : BitVec 32 := Scalar.muli arg9 c208_i32_18
  let v39 : BitVec 32 := Scalar.addi v38 c32_i32_19
  let v40 : Index := Scalar.indexCast v39
  ![v40.toNat]

def k1_chk4 (v46 : IVec S16 32) : Prop :=
  (∀ a x, ((![v46] : Fin 1 → IVec S16 32) a x).toNat < S65536.size a)
theorem k1_idx4_inb : ∀ (v46 : IVec S16 32) (k1_hw4 : k1_chk4 v46), ∀ a x, ((![v46] : Fin 1 → IVec S16 32) a x).toNat < S65536.size a := fun v46 k1_hw4 => k1_hw4
def k1_off7 (k1_t2 : Fin k1_t2_loop.trips) (c48_i32_22 : BitVec 32) : Fin 1 → Nat :=
  let c0_i32_4 : BitVec 32 := 0#32
  let c1_i32_6 : BitVec 32 := 1#32
  let arg9 : BitVec 32 := Scf.iv c0_i32_4 c1_i32_6 k1_t2
  let c208_i32_21 : BitVec 32 := 208#32
  let v48 : BitVec 32 := Scalar.muli arg9 c208_i32_21
  let v49 : BitVec 32 := Scalar.addi v48 c48_i32_22
  let v50 : Index := Scalar.indexCast v49
  ![v50.toNat]

def k1_chk5 (v56 : IVec S16 32) : Prop :=
  (∀ a x, ((![v56] : Fin 1 → IVec S16 32) a x).toNat < S65536.size a)
theorem k1_idx5_inb : ∀ (v56 : IVec S16 32) (k1_hw5 : k1_chk5 v56), ∀ a x, ((![v56] : Fin 1 → IVec S16 32) a x).toNat < S65536.size a := fun v56 k1_hw5 => k1_hw5
def k1_off8 (k1_t2 : Fin k1_t2_loop.trips) (c64_i32_26 : BitVec 32) : Fin 1 → Nat :=
  let c0_i32_4 : BitVec 32 := 0#32
  let c1_i32_6 : BitVec 32 := 1#32
  let arg9 : BitVec 32 := Scf.iv c0_i32_4 c1_i32_6 k1_t2
  let c208_i32_25 : BitVec 32 := 208#32
  let v58 : BitVec 32 := Scalar.muli arg9 c208_i32_25
  let v59 : BitVec 32 := Scalar.addi v58 c64_i32_26
  let v60 : Index := Scalar.indexCast v59
  ![v60.toNat]

def k1_chk6 (v66 : IVec S16 32) : Prop :=
  (∀ a x, ((![v66] : Fin 1 → IVec S16 32) a x).toNat < S65536.size a)
theorem k1_idx6_inb : ∀ (v66 : IVec S16 32) (k1_hw6 : k1_chk6 v66), ∀ a x, ((![v66] : Fin 1 → IVec S16 32) a x).toNat < S65536.size a := fun v66 k1_hw6 => k1_hw6
def k1_off9 (k1_t2 : Fin k1_t2_loop.trips) (c80_i32_29 : BitVec 32) : Fin 1 → Nat :=
  let c0_i32_4 : BitVec 32 := 0#32
  let c1_i32_6 : BitVec 32 := 1#32
  let arg9 : BitVec 32 := Scf.iv c0_i32_4 c1_i32_6 k1_t2
  let c208_i32_28 : BitVec 32 := 208#32
  let v68 : BitVec 32 := Scalar.muli arg9 c208_i32_28
  let v69 : BitVec 32 := Scalar.addi v68 c80_i32_29
  let v70 : Index := Scalar.indexCast v69
  ![v70.toNat]

def k1_chk7 (v76 : IVec S16 32) : Prop :=
  (∀ a x, ((![v76] : Fin 1 → IVec S16 32) a x).toNat < S65536.size a)
theorem k1_idx7_inb : ∀ (v76 : IVec S16 32) (k1_hw7 : k1_chk7 v76), ∀ a x, ((![v76] : Fin 1 → IVec S16 32) a x).toNat < S65536.size a := fun v76 k1_hw7 => k1_hw7
def k1_off10 (k1_t2 : Fin k1_t2_loop.trips) (c96_i32_32 : BitVec 32) : Fin 1 → Nat :=
  let c0_i32_4 : BitVec 32 := 0#32
  let c1_i32_6 : BitVec 32 := 1#32
  let arg9 : BitVec 32 := Scf.iv c0_i32_4 c1_i32_6 k1_t2
  let c208_i32_31 : BitVec 32 := 208#32
  let v78 : BitVec 32 := Scalar.muli arg9 c208_i32_31
  let v79 : BitVec 32 := Scalar.addi v78 c96_i32_32
  let v80 : Index := Scalar.indexCast v79
  ![v80.toNat]

def k1_chk8 (v86 : IVec S16 32) : Prop :=
  (∀ a x, ((![v86] : Fin 1 → IVec S16 32) a x).toNat < S65536.size a)
theorem k1_idx8_inb : ∀ (v86 : IVec S16 32) (k1_hw8 : k1_chk8 v86), ∀ a x, ((![v86] : Fin 1 → IVec S16 32) a x).toNat < S65536.size a := fun v86 k1_hw8 => k1_hw8
def k1_off11 (k1_t2 : Fin k1_t2_loop.trips) (c112_i32_35 : BitVec 32) : Fin 1 → Nat :=
  let c0_i32_4 : BitVec 32 := 0#32
  let c1_i32_6 : BitVec 32 := 1#32
  let arg9 : BitVec 32 := Scf.iv c0_i32_4 c1_i32_6 k1_t2
  let c208_i32_34 : BitVec 32 := 208#32
  let v88 : BitVec 32 := Scalar.muli arg9 c208_i32_34
  let v89 : BitVec 32 := Scalar.addi v88 c112_i32_35
  let v90 : Index := Scalar.indexCast v89
  ![v90.toNat]

def k1_chk9 (v96 : IVec S16 32) : Prop :=
  (∀ a x, ((![v96] : Fin 1 → IVec S16 32) a x).toNat < S65536.size a)
theorem k1_idx9_inb : ∀ (v96 : IVec S16 32) (k1_hw9 : k1_chk9 v96), ∀ a x, ((![v96] : Fin 1 → IVec S16 32) a x).toNat < S65536.size a := fun v96 k1_hw9 => k1_hw9
def k1_off12 (k1_t2 : Fin k1_t2_loop.trips) (c128_i32_39 : BitVec 32) : Fin 1 → Nat :=
  let c0_i32_4 : BitVec 32 := 0#32
  let c1_i32_6 : BitVec 32 := 1#32
  let arg9 : BitVec 32 := Scf.iv c0_i32_4 c1_i32_6 k1_t2
  let c208_i32_38 : BitVec 32 := 208#32
  let v98 : BitVec 32 := Scalar.muli arg9 c208_i32_38
  let v99 : BitVec 32 := Scalar.addi v98 c128_i32_39
  let v100 : Index := Scalar.indexCast v99
  ![v100.toNat]

def k1_chk10 (v106 : IVec S16 32) : Prop :=
  (∀ a x, ((![v106] : Fin 1 → IVec S16 32) a x).toNat < S65536.size a)
theorem k1_idx10_inb : ∀ (v106 : IVec S16 32) (k1_hw10 : k1_chk10 v106), ∀ a x, ((![v106] : Fin 1 → IVec S16 32) a x).toNat < S65536.size a := fun v106 k1_hw10 => k1_hw10
def k1_off13 (k1_t2 : Fin k1_t2_loop.trips) (c144_i32_42 : BitVec 32) : Fin 1 → Nat :=
  let c0_i32_4 : BitVec 32 := 0#32
  let c1_i32_6 : BitVec 32 := 1#32
  let arg9 : BitVec 32 := Scf.iv c0_i32_4 c1_i32_6 k1_t2
  let c208_i32_41 : BitVec 32 := 208#32
  let v108 : BitVec 32 := Scalar.muli arg9 c208_i32_41
  let v109 : BitVec 32 := Scalar.addi v108 c144_i32_42
  let v110 : Index := Scalar.indexCast v109
  ![v110.toNat]

def k1_chk11 (v116 : IVec S16 32) : Prop :=
  (∀ a x, ((![v116] : Fin 1 → IVec S16 32) a x).toNat < S65536.size a)
theorem k1_idx11_inb : ∀ (v116 : IVec S16 32) (k1_hw11 : k1_chk11 v116), ∀ a x, ((![v116] : Fin 1 → IVec S16 32) a x).toNat < S65536.size a := fun v116 k1_hw11 => k1_hw11
def k1_off14 (k1_t2 : Fin k1_t2_loop.trips) (c160_i32_45 : BitVec 32) : Fin 1 → Nat :=
  let c0_i32_4 : BitVec 32 := 0#32
  let c1_i32_6 : BitVec 32 := 1#32
  let arg9 : BitVec 32 := Scf.iv c0_i32_4 c1_i32_6 k1_t2
  let c208_i32_44 : BitVec 32 := 208#32
  let v118 : BitVec 32 := Scalar.muli arg9 c208_i32_44
  let v119 : BitVec 32 := Scalar.addi v118 c160_i32_45
  let v120 : Index := Scalar.indexCast v119
  ![v120.toNat]

def k1_chk12 (v126 : IVec S16 32) : Prop :=
  (∀ a x, ((![v126] : Fin 1 → IVec S16 32) a x).toNat < S65536.size a)
theorem k1_idx12_inb : ∀ (v126 : IVec S16 32) (k1_hw12 : k1_chk12 v126), ∀ a x, ((![v126] : Fin 1 → IVec S16 32) a x).toNat < S65536.size a := fun v126 k1_hw12 => k1_hw12
def k1_off15 (k1_t2 : Fin k1_t2_loop.trips) (c176_i32_48 : BitVec 32) : Fin 1 → Nat :=
  let c0_i32_4 : BitVec 32 := 0#32
  let c1_i32_6 : BitVec 32 := 1#32
  let arg9 : BitVec 32 := Scf.iv c0_i32_4 c1_i32_6 k1_t2
  let c208_i32_47 : BitVec 32 := 208#32
  let v128 : BitVec 32 := Scalar.muli arg9 c208_i32_47
  let v129 : BitVec 32 := Scalar.addi v128 c176_i32_48
  let v130 : Index := Scalar.indexCast v129
  ![v130.toNat]

def k1_chk13 (v136 : IVec S16 32) : Prop :=
  (∀ a x, ((![v136] : Fin 1 → IVec S16 32) a x).toNat < S65536.size a)
theorem k1_idx13_inb : ∀ (v136 : IVec S16 32) (k1_hw13 : k1_chk13 v136), ∀ a x, ((![v136] : Fin 1 → IVec S16 32) a x).toNat < S65536.size a := fun v136 k1_hw13 => k1_hw13
def k1_off16 (k1_t2 : Fin k1_t2_loop.trips) : Fin 1 → Nat :=
  let c0_i32_4 : BitVec 32 := 0#32
  let c1_i32_6 : BitVec 32 := 1#32
  let arg9 : BitVec 32 := Scf.iv c0_i32_4 c1_i32_6 k1_t2
  let c208_i32_50 : BitVec 32 := 208#32
  let v138 : BitVec 32 := Scalar.muli arg9 c208_i32_50
  let c192_i32_51 : BitVec 32 := 192#32
  let v139 : BitVec 32 := Scalar.addi v138 c192_i32_51
  let v140 : Index := Scalar.indexCast v139
  ![v140.toNat]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x208 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x208 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x208 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x128 : Shape := ⟨2, ![4096, 128]⟩
abbrev S4096 : Shape := ⟨1, ![4096]⟩
abbrev S4096x200x2 : Shape := ⟨3, ![4096, 200, 2]⟩
abbrev S1000x128 : Shape := ⟨2, ![1000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S128x512 : Shape := ⟨2, ![128, 512]⟩
abbrev S4096x512 : Shape := ⟨2, ![4096, 512]⟩
abbrev S1x512 : Shape := ⟨2, ![1, 512]⟩
abbrev S4096x200x1 : Shape := ⟨3, ![4096, 200, 1]⟩
abbrev S4096x200 : Shape := ⟨2, ![4096, 200]⟩
abbrev S1x1x1 : Shape := ⟨3, ![1, 1, 1]⟩
abbrev S4096x200x128 : Shape := ⟨3, ![4096, 200, 128]⟩
abbrev S4096x256 : Shape := ⟨2, ![4096, 256]⟩
abbrev S1x256 : Shape := ⟨2, ![1, 256]⟩
abbrev S256x128 : Shape := ⟨2, ![256, 128]⟩
abbrev S1x128 : Shape := ⟨2, ![1, 128]⟩
abbrev S4096x1x128 : Shape := ⟨3, ![4096, 1, 128]⟩
abbrev S2 : Shape := ⟨1, ![2]⟩
abbrev S4096x1x1 : Shape := ⟨3, ![4096, 1, 1]⟩
abbrev S1x200 : Shape := ⟨2, ![1, 200]⟩

abbrev nBuf : Space → Nat
  | .hbm => 490
  | .vmem => 0
  | .smem => 0
  | _ => 0

abbrev hbmTy0_0 (i : Nat) : BufTy := match i % 128 with
  | 0 => ⟨S4096x128, .f32⟩
  | 1 => ⟨S4096x128, .f32⟩
  | 2 => ⟨S4096, .i32⟩
  | 3 => ⟨S4096, .i32⟩
  | 4 => ⟨S4096x200x2, .i32⟩
  | 5 => ⟨S1000x128, .f32⟩
  | 6 => ⟨S512x128, .f32⟩
  | 7 => ⟨S512x128, .f32⟩
  | 8 => ⟨S512, .f32⟩
  | 9 => ⟨S512, .f32⟩
  | 10 => ⟨S256x256, .f32⟩
  | 11 => ⟨S256, .f32⟩
  | 12 => ⟨S128x256, .f32⟩
  | 13 => ⟨S128, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128, .f32⟩
  | 33 => ⟨S4096x128, .i1⟩
  | 34 => ⟨S_, .f32⟩
  | 35 => ⟨S4096x128, .f32⟩
  | 36 => ⟨S4096x128, .f32⟩
  | 37 => ⟨S128x512, .f32⟩
  | 38 => ⟨S4096x512, .f32⟩
  | 39 => ⟨S1x512, .f32⟩
  | 40 => ⟨S4096x512, .f32⟩
  | 41 => ⟨S4096x512, .f32⟩
  | 42 => ⟨S128x512, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S_, .f32⟩
  | 55 => ⟨S4096x128, .f32⟩
  | 56 => ⟨S4096x128, .f32⟩
  | 57 => ⟨S_, .f32⟩
  | 58 => ⟨S4096x128, .f32⟩
  | 59 => ⟨S4096x128, .f32⟩
  | 60 => ⟨S4096x128, .f32⟩
  | 61 => ⟨S4096x128, .f32⟩
  | 62 => ⟨S_, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x200x1, .i32⟩
  | 83 => ⟨S4096x200, .i32⟩
  | 84 => ⟨S_, .i32⟩
  | 85 => ⟨S4096x200, .i32⟩
  | 86 => ⟨S4096x200, .i1⟩
  | 87 => ⟨S_, .i32⟩
  | 88 => ⟨S4096x200, .i32⟩
  | 89 => ⟨S4096x200, .i32⟩
  | 90 => ⟨S4096x200, .i32⟩
  | 91 => ⟨S4096x200x1, .i32⟩
  | 92 => ⟨S1, .i32⟩
  | 93 => ⟨S_, .i32⟩
  | 94 => ⟨S4096x200x1, .i32⟩
  | 95 => ⟨S4096x200x1, .i1⟩
  | 96 => ⟨S1x1x1, .i32⟩
  | 97 => ⟨S4096x200x1, .i32⟩
  | 98 => ⟨S4096x200x1, .i1⟩
  | 99 => ⟨S4096x200x1, .i1⟩
  | 100 => ⟨S_, .i1⟩
  | 101 => ⟨S4096x200, .i1⟩
  | 102 => ⟨S4096x200x128, .f32⟩
  | 103 => ⟨S4096x200x128, .i1⟩
  | 104 => ⟨S_, .f32⟩
  | 105 => ⟨S4096x200x128, .f32⟩
  | 106 => ⟨S4096x200x128, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S1, .i32⟩
  | 116 => ⟨S_, .i32⟩
  | 117 => ⟨S4096x1, .i32⟩
  | 118 => ⟨S4096x1, .i1⟩
  | 119 => ⟨S1x1, .i32⟩
  | 120 => ⟨S4096x1, .i32⟩
  | 121 => ⟨S4096x1, .i1⟩
  | 122 => ⟨S4096x1, .i1⟩
  | 123 => ⟨S_, .i1⟩
  | 124 => ⟨S4096, .i1⟩
  | 125 => ⟨S4096x128, .f32⟩
  | 126 => ⟨S4096x128, .i1⟩
  | 127 => ⟨S_, .f32⟩
  | _ => ⟨S4096x128, .f32⟩

abbrev hbmTy0_1 (i : Nat) : BufTy := match i % 128 with
  | 0 => ⟨S4096x128, .f32⟩
  | 1 => ⟨S4096x128, .f32⟩
  | 2 => ⟨S4096x256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S_, .f32⟩
  | 9 => ⟨S4096x256, .f32⟩
  | 10 => ⟨S4096x256, .f32⟩
  | 11 => ⟨S256x128, .f32⟩
  | 12 => ⟨S4096x128, .f32⟩
  | 13 => ⟨S1x128, .f32⟩
  | 14 => ⟨S4096x128, .f32⟩
  | 15 => ⟨S4096x128, .f32⟩
  | 16 => ⟨S_, .f32⟩
  | 17 => ⟨S4096x128, .f32⟩
  | 18 => ⟨S4096x128, .f32⟩
  | 19 => ⟨S4096x1x128, .f32⟩
  | 20 => ⟨S4096x200x128, .f32⟩
  | 21 => ⟨S4096x200x128, .f32⟩
  | 22 => ⟨S_, .f32⟩
  | 23 => ⟨S4096x200, .f32⟩
  | 24 => ⟨S_, .i32⟩
  | 25 => ⟨S4096x200, .i32⟩
  | 26 => ⟨S4096x200, .i1⟩
  | 27 => ⟨S_, .f32⟩
  | 28 => ⟨S4096x200, .f32⟩
  | 29 => ⟨S4096x200, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S1x1, .f32⟩
  | 44 => ⟨S1x1, .f32⟩
  | 45 => ⟨S1, .i32⟩
  | 46 => ⟨S_, .i32⟩
  | 47 => ⟨S1, .i32⟩
  | 48 => ⟨S_, .i32⟩
  | 49 => ⟨S4096x200, .i64⟩
  | 50 => ⟨S4096x200, .i64⟩
  | 51 => ⟨S_, .i64⟩
  | 52 => ⟨S4096x200, .i64⟩
  | 53 => ⟨S4096x200, .i64⟩
  | 54 => ⟨S_, .i64⟩
  | 55 => ⟨S4096x200, .i64⟩
  | 56 => ⟨S4096x200, .i64⟩
  | 57 => ⟨S4096x200, .i64⟩
  | 58 => ⟨S_, .i64⟩
  | 59 => ⟨S4096x200, .i64⟩
  | 60 => ⟨S4096x200, .i64⟩
  | 61 => ⟨S4096x200, .i32⟩
  | 62 => ⟨S4096x200, .i32⟩
  | 63 => ⟨S_, .i32⟩
  | 64 => ⟨S_, .i32⟩
  | 65 => ⟨S_, .i32⟩
  | 66 => ⟨S4096x200, .i32⟩
  | 67 => ⟨S4096x200, .i32⟩
  | 68 => ⟨S4096x200, .i32⟩
  | 69 => ⟨S4096x200, .i32⟩
  | 70 => ⟨S4096x200, .i32⟩
  | 71 => ⟨S_, .i32⟩
  | 72 => ⟨S4096x200, .i32⟩
  | 73 => ⟨S4096x200, .i32⟩
  | 74 => ⟨S_, .i32⟩
  | 75 => ⟨S4096x200, .i32⟩
  | 76 => ⟨S4096x200, .i32⟩
  | 77 => ⟨S4096x200, .i32⟩
  | 78 => ⟨S4096x200, .i32⟩
  | 79 => ⟨S4096x200, .i32⟩
  | 80 => ⟨S_, .i32⟩
  | 81 => ⟨S4096x200, .i32⟩
  | 82 => ⟨S4096x200, .i32⟩
  | 83 => ⟨S_, .i32⟩
  | 84 => ⟨S4096x200, .i32⟩
  | 85 => ⟨S4096x200, .i32⟩
  | 86 => ⟨S4096x200, .i32⟩
  | 87 => ⟨S4096x200, .i32⟩
  | 88 => ⟨S4096x200, .i32⟩
  | 89 => ⟨S_, .i32⟩
  | 90 => ⟨S4096x200, .i32⟩
  | 91 => ⟨S4096x200, .i32⟩
  | 92 => ⟨S_, .i32⟩
  | 93 => ⟨S4096x200, .i32⟩
  | 94 => ⟨S4096x200, .i32⟩
  | 95 => ⟨S4096x200, .i32⟩
  | 96 => ⟨S4096x200, .i32⟩
  | 97 => ⟨S4096x200, .i32⟩
  | 98 => ⟨S_, .i32⟩
  | 99 => ⟨S4096x200, .i32⟩
  | 100 => ⟨S4096x200, .i32⟩
  | 101 => ⟨S_, .i32⟩
  | 102 => ⟨S4096x200, .i32⟩
  | 103 => ⟨S4096x200, .i32⟩
  | 104 => ⟨S4096x200, .i32⟩
  | 105 => ⟨S4096x200, .i32⟩
  | 106 => ⟨S4096x200, .i32⟩
  | 107 => ⟨S4096x200, .i32⟩
  | 108 => ⟨S4096x200, .i32⟩
  | 109 => ⟨S4096x200, .i32⟩
  | 110 => ⟨S_, .i32⟩
  | 111 => ⟨S4096x200, .i32⟩
  | 112 => ⟨S4096x200, .i32⟩
  | 113 => ⟨S4096x200, .i32⟩
  | 114 => ⟨S_, .i32⟩
  | 115 => ⟨S4096x200, .i32⟩
  | 116 => ⟨S4096x200, .i32⟩
  | 117 => ⟨S_, .i32⟩
  | 118 => ⟨S4096x200, .i32⟩
  | 119 => ⟨S4096x200, .i32⟩
  | 120 => ⟨S4096x200, .i32⟩
  | 121 => ⟨S4096x200, .i32⟩
  | 122 => ⟨S4096x200, .i32⟩
  | 123 => ⟨S_, .i32⟩
  | 124 => ⟨S4096x200, .i32⟩
  | 125 => ⟨S4096x200, .i32⟩
  | 126 => ⟨S_, .i32⟩
  | 127 => ⟨S4096x200, .i32⟩
  | _ => ⟨S4096x128, .f32⟩

abbrev hbmTy0_2 (i : Nat) : BufTy := match i % 128 with
  | 0 => ⟨S4096x200, .i32⟩
  | 1 => ⟨S4096x200, .i32⟩
  | 2 => ⟨S4096x200, .i32⟩
  | 3 => ⟨S4096x200, .i32⟩
  | 4 => ⟨S_, .i32⟩
  | 5 => ⟨S4096x200, .i32⟩
  | 6 => ⟨S4096x200, .i32⟩
  | 7 => ⟨S_, .i32⟩
  | 8 => ⟨S4096x200, .i32⟩
  | 9 => ⟨S4096x200, .i32⟩
  | 10 => ⟨S4096x200, .i32⟩
  | 11 => ⟨S4096x200, .i32⟩
  | 12 => ⟨S4096x200, .i32⟩
  | 13 => ⟨S_, .i32⟩
  | 14 => ⟨S4096x200, .i32⟩
  | 15 => ⟨S4096x200, .i32⟩
  | 16 => ⟨S_, .i32⟩
  | 17 => ⟨S4096x200, .i32⟩
  | 18 => ⟨S4096x200, .i32⟩
  | 19 => ⟨S4096x200, .i32⟩
  | 20 => ⟨S4096x200, .i32⟩
  | 21 => ⟨S4096x200, .i32⟩
  | 22 => ⟨S4096x200, .i32⟩
  | 23 => ⟨S4096x200, .i32⟩
  | 24 => ⟨S4096x200, .i32⟩
  | 25 => ⟨S_, .i32⟩
  | 26 => ⟨S4096x200, .i32⟩
  | 27 => ⟨S4096x200, .i32⟩
  | 28 => ⟨S4096x200, .i32⟩
  | 29 => ⟨S_, .i32⟩
  | 30 => ⟨S4096x200, .i32⟩
  | 31 => ⟨S4096x200, .i32⟩
  | 32 => ⟨S_, .i32⟩
  | 33 => ⟨S4096x200, .i32⟩
  | 34 => ⟨S4096x200, .i32⟩
  | 35 => ⟨S4096x200, .i32⟩
  | 36 => ⟨S4096x200, .i32⟩
  | 37 => ⟨S4096x200, .i32⟩
  | 38 => ⟨S_, .i32⟩
  | 39 => ⟨S4096x200, .i32⟩
  | 40 => ⟨S4096x200, .i32⟩
  | 41 => ⟨S_, .i32⟩
  | 42 => ⟨S4096x200, .i32⟩
  | 43 => ⟨S4096x200, .i32⟩
  | 44 => ⟨S4096x200, .i32⟩
  | 45 => ⟨S4096x200, .i32⟩
  | 46 => ⟨S4096x200, .i32⟩
  | 47 => ⟨S_, .i32⟩
  | 48 => ⟨S4096x200, .i32⟩
  | 49 => ⟨S4096x200, .i32⟩
  | 50 => ⟨S_, .i32⟩
  | 51 => ⟨S4096x200, .i32⟩
  | 52 => ⟨S4096x200, .i32⟩
  | 53 => ⟨S4096x200, .i32⟩
  | 54 => ⟨S4096x200, .i32⟩
  | 55 => ⟨S4096x200, .i32⟩
  | 56 => ⟨S_, .i32⟩
  | 57 => ⟨S4096x200, .i32⟩
  | 58 => ⟨S4096x200, .i32⟩
  | 59 => ⟨S_, .i32⟩
  | 60 => ⟨S4096x200, .i32⟩
  | 61 => ⟨S4096x200, .i32⟩
  | 62 => ⟨S4096x200, .i32⟩
  | 63 => ⟨S4096x200, .i32⟩
  | 64 => ⟨S4096x200, .i32⟩
  | 65 => ⟨S4096x200, .i32⟩
  | 66 => ⟨S4096x200, .i32⟩
  | 67 => ⟨S4096x200, .i32⟩
  | 68 => ⟨S_, .i32⟩
  | 69 => ⟨S4096x200, .i32⟩
  | 70 => ⟨S4096x200, .i32⟩
  | 71 => ⟨S4096x200, .i32⟩
  | 72 => ⟨S_, .i32⟩
  | 73 => ⟨S4096x200, .i32⟩
  | 74 => ⟨S4096x200, .i32⟩
  | 75 => ⟨S_, .i32⟩
  | 76 => ⟨S4096x200, .i32⟩
  | 77 => ⟨S4096x200, .i32⟩
  | 78 => ⟨S4096x200, .i32⟩
  | 79 => ⟨S4096x200, .i32⟩
  | 80 => ⟨S4096x200, .i32⟩
  | 81 => ⟨S_, .i32⟩
  | 82 => ⟨S4096x200, .i32⟩
  | 83 => ⟨S4096x200, .i32⟩
  | 84 => ⟨S_, .i32⟩
  | 85 => ⟨S4096x200, .i32⟩
  | 86 => ⟨S4096x200, .i32⟩
  | 87 => ⟨S4096x200, .i32⟩
  | 88 => ⟨S4096x200, .i32⟩
  | 89 => ⟨S4096x200, .i32⟩
  | 90 => ⟨S_, .i32⟩
  | 91 => ⟨S4096x200, .i32⟩
  | 92 => ⟨S4096x200, .i32⟩
  | 93 => ⟨S_, .i32⟩
  | 94 => ⟨S4096x200, .i32⟩
  | 95 => ⟨S4096x200, .i32⟩
  | 96 => ⟨S4096x200, .i32⟩
  | 97 => ⟨S4096x200, .i32⟩
  | 98 => ⟨S4096x200, .i32⟩
  | 99 => ⟨S_, .i32⟩
  | 100 => ⟨S4096x200, .i32⟩
  | 101 => ⟨S4096x200, .i32⟩
  | 102 => ⟨S_, .i32⟩
  | 103 => ⟨S4096x200, .i32⟩
  | 104 => ⟨S4096x200, .i32⟩
  | 105 => ⟨S4096x200, .i32⟩
  | 106 => ⟨S4096x200, .i32⟩
  | 107 => ⟨S4096x200, .i32⟩
  | 108 => ⟨S4096x200, .i32⟩
  | 109 => ⟨S4096x200, .i32⟩
  | 110 => ⟨S4096x200, .i32⟩
  | 111 => ⟨S_, .i32⟩
  | 112 => ⟨S4096x200, .i32⟩
  | 113 => ⟨S4096x200, .i32⟩
  | 114 => ⟨S4096x200, .i32⟩
  | 115 => ⟨S_, .i32⟩
  | 116 => ⟨S4096x200, .i32⟩
  | 117 => ⟨S4096x200, .i32⟩
  | 118 => ⟨S_, .i32⟩
  | 119 => ⟨S4096x200, .i32⟩
  | 120 => ⟨S4096x200, .i32⟩
  | 121 => ⟨S4096x200, .i32⟩
  | 122 => ⟨S4096x200, .i32⟩
  | 123 => ⟨S4096x200, .i32⟩
  | 124 => ⟨S_, .i32⟩
  | 125 => ⟨S4096x200, .i32⟩
  | 126 => ⟨S4096x200, .i32⟩
  | 127 => ⟨S_, .i32⟩
  | _ => ⟨S4096x128, .f32⟩

abbrev hbmTy0_3 (i : Nat) : BufTy := match i % 128 with
  | 0 => ⟨S4096x200, .i32⟩
  | 1 => ⟨S4096x200, .i32⟩
  | 2 => ⟨S4096x200, .i32⟩
  | 3 => ⟨S4096x200, .i32⟩
  | 4 => ⟨S4096x200, .i32⟩
  | 5 => ⟨S_, .i32⟩
  | 6 => ⟨S4096x200, .i32⟩
  | 7 => ⟨S4096x200, .i32⟩
  | 8 => ⟨S_, .i32⟩
  | 9 => ⟨S4096x200, .i32⟩
  | 10 => ⟨S4096x200, .i32⟩
  | 11 => ⟨S4096x200, .i32⟩
  | 12 => ⟨S4096x200, .i32⟩
  | 13 => ⟨S4096x200, .i32⟩
  | 14 => ⟨S_, .i32⟩
  | 15 => ⟨S4096x200, .i32⟩
  | 16 => ⟨S4096x200, .i32⟩
  | 17 => ⟨S_, .i32⟩
  | 18 => ⟨S4096x200, .i32⟩
  | 19 => ⟨S4096x200, .i32⟩
  | 20 => ⟨S4096x200, .i32⟩
  | 21 => ⟨S4096x200, .i32⟩
  | 22 => ⟨S4096x200, .i32⟩
  | 23 => ⟨S4096x200, .i32⟩
  | 24 => ⟨S4096x200, .i32⟩
  | 25 => ⟨S4096x200, .i32⟩
  | 26 => ⟨S_, .i32⟩
  | 27 => ⟨S4096x200, .i32⟩
  | 28 => ⟨S4096x200, .i32⟩
  | 29 => ⟨S4096x200, .i32⟩
  | 30 => ⟨S_, .i32⟩
  | 31 => ⟨S4096x200, .i32⟩
  | 32 => ⟨S4096x200, .i32⟩
  | 33 => ⟨S_, .i32⟩
  | 34 => ⟨S4096x200, .i32⟩
  | 35 => ⟨S4096x200, .i32⟩
  | 36 => ⟨S4096x200, .f32⟩
  | 37 => ⟨S_, .f32⟩
  | 38 => ⟨S4096x200, .f32⟩
  | 39 => ⟨S4096x200, .f32⟩
  | 40 => ⟨S1x1, .f32⟩
  | 41 => ⟨S4096x200, .f32⟩
  | 42 => ⟨S4096x200, .f32⟩
  | 43 => ⟨S4096x200, .f32⟩
  | 44 => ⟨S4096x200, .f32⟩
  | 45 => ⟨S4096x200, .f32⟩
  | 46 => ⟨S4096x200, .f32⟩
  | 47 => ⟨S4096x200, .f32⟩
  | 48 => ⟨S4096x200, .f32⟩
  | 49 => ⟨S4096x200, .f32⟩
  | 50 => ⟨S4096x200, .f32⟩
  | 51 => ⟨S4096x200, .f32⟩
  | 52 => ⟨S4096x200, .i32⟩
  | 53 => ⟨S_, .f32⟩
  | 54 => ⟨S_, .i32⟩
  | 55 => ⟨S4096, .f32⟩
  | 56 => ⟨S4096, .i32⟩
  | 57 => ⟨S4096x1, .i32⟩
  | 58 => ⟨S_, .i32⟩
  | 59 => ⟨S4096x1, .i32⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S4096x1x1, .i32⟩
  | 66 => ⟨S1, .i32⟩
  | 67 => ⟨S_, .i32⟩
  | 68 => ⟨S4096x1x1, .i32⟩
  | 69 => ⟨S4096x1x1, .i1⟩
  | 70 => ⟨S1x1x1, .i32⟩
  | 71 => ⟨S4096x1x1, .i32⟩
  | 72 => ⟨S4096x1x1, .i1⟩
  | 73 => ⟨S4096x1x1, .i1⟩
  | 74 => ⟨S_, .i1⟩
  | 75 => ⟨S4096x1, .i1⟩
  | 76 => ⟨S4096x1, .i32⟩
  | 77 => ⟨S_, .i32⟩
  | 78 => ⟨S4096x1, .i32⟩
  | 79 => ⟨S4096x1, .i32⟩
  | 80 => ⟨S4096, .i32⟩
  | 81 => ⟨S_, .f32⟩
  | 82 => ⟨S4096, .f32⟩
  | 83 => ⟨S_, .f32⟩
  | 84 => ⟨S4096, .f32⟩
  | 85 => ⟨S4096, .f32⟩
  | 86 => ⟨S4096x1, .f32⟩
  | 87 => ⟨S4096x200, .f32⟩
  | 88 => ⟨S4096x200, .f32⟩
  | 89 => ⟨S4096x200, .f32⟩
  | 90 => ⟨S_, .f32⟩
  | 91 => ⟨S4096, .f32⟩
  | 92 => ⟨S4096x1, .f32⟩
  | 93 => ⟨S4096x1, .f32⟩
  | 94 => ⟨S4096x200, .f32⟩
  | 95 => ⟨S4096x200, .f32⟩
  | 96 => ⟨S4096x1, .i32⟩
  | 97 => ⟨S1x200, .i32⟩
  | 98 => ⟨S4096x200, .i32⟩
  | 99 => ⟨S4096x200, .i32⟩
  | 100 => ⟨S4096x200, .i1⟩
  | 101 => ⟨S4096x200, .f32⟩
  | 102 => ⟨S4096x200, .f32⟩
  | 103 => ⟨S_, .f32⟩
  | 104 => ⟨S4096, .f32⟩
  | 105 => ⟨S4096, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_3 : Ref sig .tc := ⟨.hbm, 71, rfl⟩
abbrev main_v31 : Ref sig .tc := ⟨.hbm, 72, rfl⟩
abbrev main_v32 : Ref sig .tc := ⟨.hbm, 73, rfl⟩
abbrev main_cst_4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v42 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_call3_cst : Ref sig .tc := ⟨.hbm, 136, rfl⟩
abbrev main_call3_v0 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_call4_cst : Ref sig .tc := ⟨.hbm, 144, rfl⟩
abbrev main_call4_v0 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_cst_5 : Ref sig .tc := ⟨.hbm, 150, rfl⟩
abbrev main_v60 : Ref sig .tc := ⟨.hbm, 151, rfl⟩
abbrev main_c : Ref sig .tc := ⟨.hbm, 152, rfl⟩
abbrev main_v61 : Ref sig .tc := ⟨.hbm, 153, rfl⟩
abbrev main_v62 : Ref sig .tc := ⟨.hbm, 154, rfl⟩
abbrev main_cst_6 : Ref sig .tc := ⟨.hbm, 155, rfl⟩
abbrev main_v63 : Ref sig .tc := ⟨.hbm, 156, rfl⟩
abbrev main_v64 : Ref sig .tc := ⟨.hbm, 157, rfl⟩
abbrev main_c_7 : Ref sig .tc := ⟨.hbm, 158, rfl⟩
abbrev main_c_8 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_c_9 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_call6_cst : Ref sig .tc := ⟨.hbm, 168, rfl⟩
abbrev main_call6_cst_0 : Ref sig .tc := ⟨.hbm, 169, rfl⟩
abbrev main_call6_call0_v0 : Ref sig .tc := ⟨.hbm, 170, rfl⟩
abbrev main_call6_call0_v1 : Ref sig .tc := ⟨.hbm, 171, rfl⟩
abbrev main_call6_call0_v2 : Ref sig .tc := ⟨.hbm, 172, rfl⟩
abbrev main_call6_call0_v3 : Ref sig .tc := ⟨.hbm, 173, rfl⟩
abbrev main_call6_call0_v4 : Ref sig .tc := ⟨.hbm, 174, rfl⟩
abbrev main_call6_call0_v5 : Ref sig .tc := ⟨.hbm, 175, rfl⟩
abbrev main_call6_call0_v6 : Ref sig .tc := ⟨.hbm, 176, rfl⟩
abbrev main_call6_call0_v7 : Ref sig .tc := ⟨.hbm, 177, rfl⟩
abbrev main_call6_call0_v8 : Ref sig .tc := ⟨.hbm, 178, rfl⟩
abbrev main_call6_call0_c : Ref sig .tc := ⟨.hbm, 179, rfl⟩
abbrev main_call6_call0_v9 : Ref sig .tc := ⟨.hbm, 180, rfl⟩
abbrev main_call6_call0_v10 : Ref sig .tc := ⟨.hbm, 181, rfl⟩
abbrev main_call6_call0_c_0 : Ref sig .tc := ⟨.hbm, 182, rfl⟩
abbrev main_call6_call0_v11 : Ref sig .tc := ⟨.hbm, 183, rfl⟩
abbrev main_call6_call0_v12 : Ref sig .tc := ⟨.hbm, 184, rfl⟩
abbrev main_call6_call0_v13 : Ref sig .tc := ⟨.hbm, 185, rfl⟩
abbrev main_call6_call0_c_1 : Ref sig .tc := ⟨.hbm, 186, rfl⟩
abbrev main_call6_call0_v14 : Ref sig .tc := ⟨.hbm, 187, rfl⟩
abbrev main_call6_call0_v15 : Ref sig .tc := ⟨.hbm, 188, rfl⟩
abbrev main_call6_call0_v16 : Ref sig .tc := ⟨.hbm, 189, rfl⟩
abbrev main_call6_call0_v17 : Ref sig .tc := ⟨.hbm, 190, rfl⟩
abbrev main_call6_call0_call0_v0 : Ref sig .tc := ⟨.hbm, 191, rfl⟩
abbrev main_call6_call0_call0_c : Ref sig .tc := ⟨.hbm, 192, rfl⟩
abbrev main_call6_call0_call0_v1 : Ref sig .tc := ⟨.hbm, 193, rfl⟩
abbrev main_call6_call0_call0_v2 : Ref sig .tc := ⟨.hbm, 194, rfl⟩
abbrev main_call6_call0_call0_v3 : Ref sig .tc := ⟨.hbm, 195, rfl⟩
abbrev main_call6_call0_call0_v4 : Ref sig .tc := ⟨.hbm, 196, rfl⟩
abbrev main_call6_call0_call0_v5 : Ref sig .tc := ⟨.hbm, 197, rfl⟩
abbrev main_call6_call0_call0_v6 : Ref sig .tc := ⟨.hbm, 198, rfl⟩
abbrev main_call6_call0_call0_c_0 : Ref sig .tc := ⟨.hbm, 199, rfl⟩
abbrev main_call6_call0_call0_v7 : Ref sig .tc := ⟨.hbm, 200, rfl⟩
abbrev main_call6_call0_call0_v8 : Ref sig .tc := ⟨.hbm, 201, rfl⟩
abbrev main_call6_call0_call0_c_1 : Ref sig .tc := ⟨.hbm, 202, rfl⟩
abbrev main_call6_call0_call0_v9 : Ref sig .tc := ⟨.hbm, 203, rfl⟩
abbrev main_call6_call0_call0_v10 : Ref sig .tc := ⟨.hbm, 204, rfl⟩
abbrev main_call6_call0_call0_v11 : Ref sig .tc := ⟨.hbm, 205, rfl⟩
abbrev main_call6_call0_call0_v12 : Ref sig .tc := ⟨.hbm, 206, rfl⟩
abbrev main_call6_call0_call0_v13 : Ref sig .tc := ⟨.hbm, 207, rfl⟩
abbrev main_call6_call0_call0_c_2 : Ref sig .tc := ⟨.hbm, 208, rfl⟩
abbrev main_call6_call0_call0_v14 : Ref sig .tc := ⟨.hbm, 209, rfl⟩
abbrev main_call6_call0_call0_v15 : Ref sig .tc := ⟨.hbm, 210, rfl⟩
abbrev main_call6_call0_call0_c_3 : Ref sig .tc := ⟨.hbm, 211, rfl⟩
abbrev main_call6_call0_call0_v16 : Ref sig .tc := ⟨.hbm, 212, rfl⟩
abbrev main_call6_call0_call0_v17 : Ref sig .tc := ⟨.hbm, 213, rfl⟩
abbrev main_call6_call0_call0_v18 : Ref sig .tc := ⟨.hbm, 214, rfl⟩
abbrev main_call6_call0_call0_v19 : Ref sig .tc := ⟨.hbm, 215, rfl⟩
abbrev main_call6_call0_call0_v20 : Ref sig .tc := ⟨.hbm, 216, rfl⟩
abbrev main_call6_call0_call0_c_4 : Ref sig .tc := ⟨.hbm, 217, rfl⟩
abbrev main_call6_call0_call0_v21 : Ref sig .tc := ⟨.hbm, 218, rfl⟩
abbrev main_call6_call0_call0_v22 : Ref sig .tc := ⟨.hbm, 219, rfl⟩
abbrev main_call6_call0_call0_c_5 : Ref sig .tc := ⟨.hbm, 220, rfl⟩
abbrev main_call6_call0_call0_v23 : Ref sig .tc := ⟨.hbm, 221, rfl⟩
abbrev main_call6_call0_call0_v24 : Ref sig .tc := ⟨.hbm, 222, rfl⟩
abbrev main_call6_call0_call0_v25 : Ref sig .tc := ⟨.hbm, 223, rfl⟩
abbrev main_call6_call0_call0_v26 : Ref sig .tc := ⟨.hbm, 224, rfl⟩
abbrev main_call6_call0_call0_v27 : Ref sig .tc := ⟨.hbm, 225, rfl⟩
abbrev main_call6_call0_call0_c_6 : Ref sig .tc := ⟨.hbm, 226, rfl⟩
abbrev main_call6_call0_call0_v28 : Ref sig .tc := ⟨.hbm, 227, rfl⟩
abbrev main_call6_call0_call0_v29 : Ref sig .tc := ⟨.hbm, 228, rfl⟩
abbrev main_call6_call0_call0_c_7 : Ref sig .tc := ⟨.hbm, 229, rfl⟩
abbrev main_call6_call0_call0_v30 : Ref sig .tc := ⟨.hbm, 230, rfl⟩
abbrev main_call6_call0_call0_v31 : Ref sig .tc := ⟨.hbm, 231, rfl⟩
abbrev main_call6_call0_call0_v32 : Ref sig .tc := ⟨.hbm, 232, rfl⟩
abbrev main_call6_call0_call0_v33 : Ref sig .tc := ⟨.hbm, 233, rfl⟩
abbrev main_call6_call0_call0_v34 : Ref sig .tc := ⟨.hbm, 234, rfl⟩
abbrev main_call6_call0_call0_v35 : Ref sig .tc := ⟨.hbm, 235, rfl⟩
abbrev main_call6_call0_call0_v36 : Ref sig .tc := ⟨.hbm, 236, rfl⟩
abbrev main_call6_call0_call0_v37 : Ref sig .tc := ⟨.hbm, 237, rfl⟩
abbrev main_call6_call0_call0_c_8 : Ref sig .tc := ⟨.hbm, 238, rfl⟩
abbrev main_call6_call0_call0_v38 : Ref sig .tc := ⟨.hbm, 239, rfl⟩
abbrev main_call6_call0_call0_v39 : Ref sig .tc := ⟨.hbm, 240, rfl⟩
abbrev main_call6_call0_call0_v40 : Ref sig .tc := ⟨.hbm, 241, rfl⟩
abbrev main_call6_call0_call0_c_9 : Ref sig .tc := ⟨.hbm, 242, rfl⟩
abbrev main_call6_call0_call0_v41 : Ref sig .tc := ⟨.hbm, 243, rfl⟩
abbrev main_call6_call0_call0_v42 : Ref sig .tc := ⟨.hbm, 244, rfl⟩
abbrev main_call6_call0_call0_c_10 : Ref sig .tc := ⟨.hbm, 245, rfl⟩
abbrev main_call6_call0_call0_v43 : Ref sig .tc := ⟨.hbm, 246, rfl⟩
abbrev main_call6_call0_call0_v44 : Ref sig .tc := ⟨.hbm, 247, rfl⟩
abbrev main_call6_call0_call0_v45 : Ref sig .tc := ⟨.hbm, 248, rfl⟩
abbrev main_call6_call0_call0_v46 : Ref sig .tc := ⟨.hbm, 249, rfl⟩
abbrev main_call6_call0_call0_v47 : Ref sig .tc := ⟨.hbm, 250, rfl⟩
abbrev main_call6_call0_call0_c_11 : Ref sig .tc := ⟨.hbm, 251, rfl⟩
abbrev main_call6_call0_call0_v48 : Ref sig .tc := ⟨.hbm, 252, rfl⟩
abbrev main_call6_call0_call0_v49 : Ref sig .tc := ⟨.hbm, 253, rfl⟩
abbrev main_call6_call0_call0_c_12 : Ref sig .tc := ⟨.hbm, 254, rfl⟩
abbrev main_call6_call0_call0_v50 : Ref sig .tc := ⟨.hbm, 255, rfl⟩
abbrev main_call6_call0_call0_v51 : Ref sig .tc := ⟨.hbm, 256, rfl⟩
abbrev main_call6_call0_call0_v52 : Ref sig .tc := ⟨.hbm, 257, rfl⟩
abbrev main_call6_call0_call0_v53 : Ref sig .tc := ⟨.hbm, 258, rfl⟩
abbrev main_call6_call0_call0_v54 : Ref sig .tc := ⟨.hbm, 259, rfl⟩
abbrev main_call6_call0_call0_c_13 : Ref sig .tc := ⟨.hbm, 260, rfl⟩
abbrev main_call6_call0_call0_v55 : Ref sig .tc := ⟨.hbm, 261, rfl⟩
abbrev main_call6_call0_call0_v56 : Ref sig .tc := ⟨.hbm, 262, rfl⟩
abbrev main_call6_call0_call0_c_14 : Ref sig .tc := ⟨.hbm, 263, rfl⟩
abbrev main_call6_call0_call0_v57 : Ref sig .tc := ⟨.hbm, 264, rfl⟩
abbrev main_call6_call0_call0_v58 : Ref sig .tc := ⟨.hbm, 265, rfl⟩
abbrev main_call6_call0_call0_v59 : Ref sig .tc := ⟨.hbm, 266, rfl⟩
abbrev main_call6_call0_call0_v60 : Ref sig .tc := ⟨.hbm, 267, rfl⟩
abbrev main_call6_call0_call0_v61 : Ref sig .tc := ⟨.hbm, 268, rfl⟩
abbrev main_call6_call0_call0_c_15 : Ref sig .tc := ⟨.hbm, 269, rfl⟩
abbrev main_call6_call0_call0_v62 : Ref sig .tc := ⟨.hbm, 270, rfl⟩
abbrev main_call6_call0_call0_v63 : Ref sig .tc := ⟨.hbm, 271, rfl⟩
abbrev main_call6_call0_call0_c_16 : Ref sig .tc := ⟨.hbm, 272, rfl⟩
abbrev main_call6_call0_call0_v64 : Ref sig .tc := ⟨.hbm, 273, rfl⟩
abbrev main_call6_call0_call0_v65 : Ref sig .tc := ⟨.hbm, 274, rfl⟩
abbrev main_call6_call0_call0_v66 : Ref sig .tc := ⟨.hbm, 275, rfl⟩
abbrev main_call6_call0_call0_v67 : Ref sig .tc := ⟨.hbm, 276, rfl⟩
abbrev main_call6_call0_call0_v68 : Ref sig .tc := ⟨.hbm, 277, rfl⟩
abbrev main_call6_call0_call0_v69 : Ref sig .tc := ⟨.hbm, 278, rfl⟩
abbrev main_call6_call0_call0_v70 : Ref sig .tc := ⟨.hbm, 279, rfl⟩
abbrev main_call6_call0_call0_v71 : Ref sig .tc := ⟨.hbm, 280, rfl⟩
abbrev main_call6_call0_call0_c_17 : Ref sig .tc := ⟨.hbm, 281, rfl⟩
abbrev main_call6_call0_call0_v72 : Ref sig .tc := ⟨.hbm, 282, rfl⟩
abbrev main_call6_call0_call0_v73 : Ref sig .tc := ⟨.hbm, 283, rfl⟩
abbrev main_call6_call0_call0_v74 : Ref sig .tc := ⟨.hbm, 284, rfl⟩
abbrev main_call6_call0_call0_c_18 : Ref sig .tc := ⟨.hbm, 285, rfl⟩
abbrev main_call6_call0_call0_v75 : Ref sig .tc := ⟨.hbm, 286, rfl⟩
abbrev main_call6_call0_call0_v76 : Ref sig .tc := ⟨.hbm, 287, rfl⟩
abbrev main_call6_call0_call0_c_19 : Ref sig .tc := ⟨.hbm, 288, rfl⟩
abbrev main_call6_call0_call0_v77 : Ref sig .tc := ⟨.hbm, 289, rfl⟩
abbrev main_call6_call0_call0_v78 : Ref sig .tc := ⟨.hbm, 290, rfl⟩
abbrev main_call6_call0_call0_v79 : Ref sig .tc := ⟨.hbm, 291, rfl⟩
abbrev main_call6_call0_call0_v80 : Ref sig .tc := ⟨.hbm, 292, rfl⟩
abbrev main_call6_call0_call0_v81 : Ref sig .tc := ⟨.hbm, 293, rfl⟩
abbrev main_call6_call0_call0_c_20 : Ref sig .tc := ⟨.hbm, 294, rfl⟩
abbrev main_call6_call0_call0_v82 : Ref sig .tc := ⟨.hbm, 295, rfl⟩
abbrev main_call6_call0_call0_v83 : Ref sig .tc := ⟨.hbm, 296, rfl⟩
abbrev main_call6_call0_call0_c_21 : Ref sig .tc := ⟨.hbm, 297, rfl⟩
abbrev main_call6_call0_call0_v84 : Ref sig .tc := ⟨.hbm, 298, rfl⟩
abbrev main_call6_call0_call0_v85 : Ref sig .tc := ⟨.hbm, 299, rfl⟩
abbrev main_call6_call0_call0_v86 : Ref sig .tc := ⟨.hbm, 300, rfl⟩
abbrev main_call6_call0_call0_v87 : Ref sig .tc := ⟨.hbm, 301, rfl⟩
abbrev main_call6_call0_call0_v88 : Ref sig .tc := ⟨.hbm, 302, rfl⟩
abbrev main_call6_call0_call0_c_22 : Ref sig .tc := ⟨.hbm, 303, rfl⟩
abbrev main_call6_call0_call0_v89 : Ref sig .tc := ⟨.hbm, 304, rfl⟩
abbrev main_call6_call0_call0_v90 : Ref sig .tc := ⟨.hbm, 305, rfl⟩
abbrev main_call6_call0_call0_c_23 : Ref sig .tc := ⟨.hbm, 306, rfl⟩
abbrev main_call6_call0_call0_v91 : Ref sig .tc := ⟨.hbm, 307, rfl⟩
abbrev main_call6_call0_call0_v92 : Ref sig .tc := ⟨.hbm, 308, rfl⟩
abbrev main_call6_call0_call0_v93 : Ref sig .tc := ⟨.hbm, 309, rfl⟩
abbrev main_call6_call0_call0_v94 : Ref sig .tc := ⟨.hbm, 310, rfl⟩
abbrev main_call6_call0_call0_v95 : Ref sig .tc := ⟨.hbm, 311, rfl⟩
abbrev main_call6_call0_call0_c_24 : Ref sig .tc := ⟨.hbm, 312, rfl⟩
abbrev main_call6_call0_call0_v96 : Ref sig .tc := ⟨.hbm, 313, rfl⟩
abbrev main_call6_call0_call0_v97 : Ref sig .tc := ⟨.hbm, 314, rfl⟩
abbrev main_call6_call0_call0_c_25 : Ref sig .tc := ⟨.hbm, 315, rfl⟩
abbrev main_call6_call0_call0_v98 : Ref sig .tc := ⟨.hbm, 316, rfl⟩
abbrev main_call6_call0_call0_v99 : Ref sig .tc := ⟨.hbm, 317, rfl⟩
abbrev main_call6_call0_call0_v100 : Ref sig .tc := ⟨.hbm, 318, rfl⟩
abbrev main_call6_call0_call0_v101 : Ref sig .tc := ⟨.hbm, 319, rfl⟩
abbrev main_call6_call0_call0_v102 : Ref sig .tc := ⟨.hbm, 320, rfl⟩
abbrev main_call6_call0_call0_v103 : Ref sig .tc := ⟨.hbm, 321, rfl⟩
abbrev main_call6_call0_call0_v104 : Ref sig .tc := ⟨.hbm, 322, rfl⟩
abbrev main_call6_call0_call0_v105 : Ref sig .tc := ⟨.hbm, 323, rfl⟩
abbrev main_call6_call0_call0_c_26 : Ref sig .tc := ⟨.hbm, 324, rfl⟩
abbrev main_call6_call0_call0_v106 : Ref sig .tc := ⟨.hbm, 325, rfl⟩
abbrev main_call6_call0_call0_v107 : Ref sig .tc := ⟨.hbm, 326, rfl⟩
abbrev main_call6_call0_call0_v108 : Ref sig .tc := ⟨.hbm, 327, rfl⟩
abbrev main_call6_call0_call0_c_27 : Ref sig .tc := ⟨.hbm, 328, rfl⟩
abbrev main_call6_call0_call0_v109 : Ref sig .tc := ⟨.hbm, 329, rfl⟩
abbrev main_call6_call0_call0_v110 : Ref sig .tc := ⟨.hbm, 330, rfl⟩
abbrev main_call6_call0_call0_c_28 : Ref sig .tc := ⟨.hbm, 331, rfl⟩
abbrev main_call6_call0_call0_v111 : Ref sig .tc := ⟨.hbm, 332, rfl⟩
abbrev main_call6_call0_call0_v112 : Ref sig .tc := ⟨.hbm, 333, rfl⟩
abbrev main_call6_call0_call0_v113 : Ref sig .tc := ⟨.hbm, 334, rfl⟩
abbrev main_call6_call0_call0_v114 : Ref sig .tc := ⟨.hbm, 335, rfl⟩
abbrev main_call6_call0_call0_v115 : Ref sig .tc := ⟨.hbm, 336, rfl⟩
abbrev main_call6_call0_call0_c_29 : Ref sig .tc := ⟨.hbm, 337, rfl⟩
abbrev main_call6_call0_call0_v116 : Ref sig .tc := ⟨.hbm, 338, rfl⟩
abbrev main_call6_call0_call0_v117 : Ref sig .tc := ⟨.hbm, 339, rfl⟩
abbrev main_call6_call0_call0_c_30 : Ref sig .tc := ⟨.hbm, 340, rfl⟩
abbrev main_call6_call0_call0_v118 : Ref sig .tc := ⟨.hbm, 341, rfl⟩
abbrev main_call6_call0_call0_v119 : Ref sig .tc := ⟨.hbm, 342, rfl⟩
abbrev main_call6_call0_call0_v120 : Ref sig .tc := ⟨.hbm, 343, rfl⟩
abbrev main_call6_call0_call0_v121 : Ref sig .tc := ⟨.hbm, 344, rfl⟩
abbrev main_call6_call0_call0_v122 : Ref sig .tc := ⟨.hbm, 345, rfl⟩
abbrev main_call6_call0_call0_c_31 : Ref sig .tc := ⟨.hbm, 346, rfl⟩
abbrev main_call6_call0_call0_v123 : Ref sig .tc := ⟨.hbm, 347, rfl⟩
abbrev main_call6_call0_call0_v124 : Ref sig .tc := ⟨.hbm, 348, rfl⟩
abbrev main_call6_call0_call0_c_32 : Ref sig .tc := ⟨.hbm, 349, rfl⟩
abbrev main_call6_call0_call0_v125 : Ref sig .tc := ⟨.hbm, 350, rfl⟩
abbrev main_call6_call0_call0_v126 : Ref sig .tc := ⟨.hbm, 351, rfl⟩
abbrev main_call6_call0_call0_v127 : Ref sig .tc := ⟨.hbm, 352, rfl⟩
abbrev main_call6_call0_call0_v128 : Ref sig .tc := ⟨.hbm, 353, rfl⟩
abbrev main_call6_call0_call0_v129 : Ref sig .tc := ⟨.hbm, 354, rfl⟩
abbrev main_call6_call0_call0_c_33 : Ref sig .tc := ⟨.hbm, 355, rfl⟩
abbrev main_call6_call0_call0_v130 : Ref sig .tc := ⟨.hbm, 356, rfl⟩
abbrev main_call6_call0_call0_v131 : Ref sig .tc := ⟨.hbm, 357, rfl⟩
abbrev main_call6_call0_call0_c_34 : Ref sig .tc := ⟨.hbm, 358, rfl⟩
abbrev main_call6_call0_call0_v132 : Ref sig .tc := ⟨.hbm, 359, rfl⟩
abbrev main_call6_call0_call0_v133 : Ref sig .tc := ⟨.hbm, 360, rfl⟩
abbrev main_call6_call0_call0_v134 : Ref sig .tc := ⟨.hbm, 361, rfl⟩
abbrev main_call6_call0_call0_v135 : Ref sig .tc := ⟨.hbm, 362, rfl⟩
abbrev main_call6_call0_call0_v136 : Ref sig .tc := ⟨.hbm, 363, rfl⟩
abbrev main_call6_call0_call0_v137 : Ref sig .tc := ⟨.hbm, 364, rfl⟩
abbrev main_call6_call0_call0_v138 : Ref sig .tc := ⟨.hbm, 365, rfl⟩
abbrev main_call6_call0_call0_v139 : Ref sig .tc := ⟨.hbm, 366, rfl⟩
abbrev main_call6_call0_call0_c_35 : Ref sig .tc := ⟨.hbm, 367, rfl⟩
abbrev main_call6_call0_call0_v140 : Ref sig .tc := ⟨.hbm, 368, rfl⟩
abbrev main_call6_call0_call0_v141 : Ref sig .tc := ⟨.hbm, 369, rfl⟩
abbrev main_call6_call0_call0_v142 : Ref sig .tc := ⟨.hbm, 370, rfl⟩
abbrev main_call6_call0_call0_c_36 : Ref sig .tc := ⟨.hbm, 371, rfl⟩
abbrev main_call6_call0_call0_v143 : Ref sig .tc := ⟨.hbm, 372, rfl⟩
abbrev main_call6_call0_call0_v144 : Ref sig .tc := ⟨.hbm, 373, rfl⟩
abbrev main_call6_call0_call0_c_37 : Ref sig .tc := ⟨.hbm, 374, rfl⟩
abbrev main_call6_call0_call0_v145 : Ref sig .tc := ⟨.hbm, 375, rfl⟩
abbrev main_call6_call0_call0_v146 : Ref sig .tc := ⟨.hbm, 376, rfl⟩
abbrev main_call6_call0_call0_v147 : Ref sig .tc := ⟨.hbm, 377, rfl⟩
abbrev main_call6_call0_call0_v148 : Ref sig .tc := ⟨.hbm, 378, rfl⟩
abbrev main_call6_call0_call0_v149 : Ref sig .tc := ⟨.hbm, 379, rfl⟩
abbrev main_call6_call0_call0_c_38 : Ref sig .tc := ⟨.hbm, 380, rfl⟩
abbrev main_call6_call0_call0_v150 : Ref sig .tc := ⟨.hbm, 381, rfl⟩
abbrev main_call6_call0_call0_v151 : Ref sig .tc := ⟨.hbm, 382, rfl⟩
abbrev main_call6_call0_call0_c_39 : Ref sig .tc := ⟨.hbm, 383, rfl⟩
abbrev main_call6_call0_call0_v152 : Ref sig .tc := ⟨.hbm, 384, rfl⟩
abbrev main_call6_call0_call0_v153 : Ref sig .tc := ⟨.hbm, 385, rfl⟩
abbrev main_call6_call0_call0_v154 : Ref sig .tc := ⟨.hbm, 386, rfl⟩
abbrev main_call6_call0_call0_v155 : Ref sig .tc := ⟨.hbm, 387, rfl⟩
abbrev main_call6_call0_call0_v156 : Ref sig .tc := ⟨.hbm, 388, rfl⟩
abbrev main_call6_call0_call0_c_40 : Ref sig .tc := ⟨.hbm, 389, rfl⟩
abbrev main_call6_call0_call0_v157 : Ref sig .tc := ⟨.hbm, 390, rfl⟩
abbrev main_call6_call0_call0_v158 : Ref sig .tc := ⟨.hbm, 391, rfl⟩
abbrev main_call6_call0_call0_c_41 : Ref sig .tc := ⟨.hbm, 392, rfl⟩
abbrev main_call6_call0_call0_v159 : Ref sig .tc := ⟨.hbm, 393, rfl⟩
abbrev main_call6_call0_call0_v160 : Ref sig .tc := ⟨.hbm, 394, rfl⟩
abbrev main_call6_call0_call0_v161 : Ref sig .tc := ⟨.hbm, 395, rfl⟩
abbrev main_call6_call0_call0_v162 : Ref sig .tc := ⟨.hbm, 396, rfl⟩
abbrev main_call6_call0_call0_v163 : Ref sig .tc := ⟨.hbm, 397, rfl⟩
abbrev main_call6_call0_call0_c_42 : Ref sig .tc := ⟨.hbm, 398, rfl⟩
abbrev main_call6_call0_call0_v164 : Ref sig .tc := ⟨.hbm, 399, rfl⟩
abbrev main_call6_call0_call0_v165 : Ref sig .tc := ⟨.hbm, 400, rfl⟩
abbrev main_call6_call0_call0_c_43 : Ref sig .tc := ⟨.hbm, 401, rfl⟩
abbrev main_call6_call0_call0_v166 : Ref sig .tc := ⟨.hbm, 402, rfl⟩
abbrev main_call6_call0_call0_v167 : Ref sig .tc := ⟨.hbm, 403, rfl⟩
abbrev main_call6_call0_call0_v168 : Ref sig .tc := ⟨.hbm, 404, rfl⟩
abbrev main_call6_call0_call0_v169 : Ref sig .tc := ⟨.hbm, 405, rfl⟩
abbrev main_call6_call0_call0_v170 : Ref sig .tc := ⟨.hbm, 406, rfl⟩
abbrev main_call6_call0_v18_0 : Ref sig .tc := ⟨.hbm, 407, rfl⟩
abbrev main_call6_call0_call0_v172 : Ref sig .tc := ⟨.hbm, 408, rfl⟩
abbrev main_call6_call0_call0_v173 : Ref sig .tc := ⟨.hbm, 409, rfl⟩
abbrev main_call6_call0_call0_c_44 : Ref sig .tc := ⟨.hbm, 410, rfl⟩
abbrev main_call6_call0_call0_v174 : Ref sig .tc := ⟨.hbm, 411, rfl⟩
abbrev main_call6_call0_v18_1 : Ref sig .tc := ⟨.hbm, 412, rfl⟩
abbrev main_call6_call0_v19 : Ref sig .tc := ⟨.hbm, 413, rfl⟩
abbrev main_call6_call0_c_2 : Ref sig .tc := ⟨.hbm, 414, rfl⟩
abbrev main_call6_call0_v20 : Ref sig .tc := ⟨.hbm, 415, rfl⟩
abbrev main_call6_call0_v21 : Ref sig .tc := ⟨.hbm, 416, rfl⟩
abbrev main_call6_call0_c_3 : Ref sig .tc := ⟨.hbm, 417, rfl⟩
abbrev main_call6_call0_v22 : Ref sig .tc := ⟨.hbm, 418, rfl⟩
abbrev main_call6_call0_v23 : Ref sig .tc := ⟨.hbm, 419, rfl⟩
abbrev main_call6_call0_v24 : Ref sig .tc := ⟨.hbm, 420, rfl⟩
abbrev main_call6_call0_cst : Ref sig .tc := ⟨.hbm, 421, rfl⟩
abbrev main_call6_call0_v25 : Ref sig .tc := ⟨.hbm, 422, rfl⟩
abbrev main_call6_call0_v26 : Ref sig .tc := ⟨.hbm, 423, rfl⟩
abbrev main_call6_call0_v27 : Ref sig .tc := ⟨.hbm, 424, rfl⟩
abbrev main_call6_call0_v28 : Ref sig .tc := ⟨.hbm, 425, rfl⟩
abbrev main_call6_call0_v29 : Ref sig .tc := ⟨.hbm, 426, rfl⟩
abbrev main_call6_call0_v30 : Ref sig .tc := ⟨.hbm, 427, rfl⟩
abbrev main_call6_call0_v31 : Ref sig .tc := ⟨.hbm, 428, rfl⟩
abbrev main_call6_call0_v32 : Ref sig .tc := ⟨.hbm, 429, rfl⟩
abbrev main_call6_v0 : Ref sig .tc := ⟨.hbm, 430, rfl⟩
abbrev main_call6_v1 : Ref sig .tc := ⟨.hbm, 431, rfl⟩
abbrev main_call6_v2 : Ref sig .tc := ⟨.hbm, 432, rfl⟩
abbrev main_call6_v3 : Ref sig .tc := ⟨.hbm, 433, rfl⟩
abbrev main_v72 : Ref sig .tc := ⟨.hbm, 434, rfl⟩
abbrev main_v73 : Ref sig .tc := ⟨.hbm, 435, rfl⟩
abbrev main_call7_v0 : Ref sig .tc := ⟨.hbm, 436, rfl⟩
abbrev main_call7_cst : Ref sig .tc := ⟨.hbm, 437, rfl⟩
abbrev main_call7_c : Ref sig .tc := ⟨.hbm, 438, rfl⟩
abbrev main_call7_v1_0 : Ref sig .tc := ⟨.hbm, 439, rfl⟩
abbrev main_v74 : Ref sig .tc := ⟨.hbm, 440, rfl⟩
abbrev main_v75 : Ref sig .tc := ⟨.hbm, 441, rfl⟩
abbrev main_call8_c : Ref sig .tc := ⟨.hbm, 442, rfl⟩
abbrev main_call8_v0 : Ref sig .tc := ⟨.hbm, 443, rfl⟩
abbrev main_call8_v1 : Ref sig .tc := ⟨.hbm, 444, rfl⟩
abbrev main_call8_c_0 : Ref sig .tc := ⟨.hbm, 445, rfl⟩
abbrev main_call8_v2 : Ref sig .tc := ⟨.hbm, 446, rfl⟩
abbrev main_call8_v3 : Ref sig .tc := ⟨.hbm, 447, rfl⟩
abbrev main_call8_v4 : Ref sig .tc := ⟨.hbm, 448, rfl⟩
abbrev main_call8_v5 : Ref sig .tc := ⟨.hbm, 449, rfl⟩
abbrev main_call8_c_1 : Ref sig .tc := ⟨.hbm, 450, rfl⟩
abbrev main_call8_c_2 : Ref sig .tc := ⟨.hbm, 451, rfl⟩
abbrev main_call8_v6 : Ref sig .tc := ⟨.hbm, 452, rfl⟩
abbrev main_call8_v7 : Ref sig .tc := ⟨.hbm, 453, rfl⟩
abbrev main_call8_v8 : Ref sig .tc := ⟨.hbm, 454, rfl⟩
abbrev main_call8_v9 : Ref sig .tc := ⟨.hbm, 455, rfl⟩
abbrev main_call8_v10 : Ref sig .tc := ⟨.hbm, 456, rfl⟩
abbrev main_call8_v11 : Ref sig .tc := ⟨.hbm, 457, rfl⟩
abbrev main_call8_c_3 : Ref sig .tc := ⟨.hbm, 458, rfl⟩
abbrev main_call8_v12 : Ref sig .tc := ⟨.hbm, 459, rfl⟩
abbrev main_call8_v13 : Ref sig .tc := ⟨.hbm, 460, rfl⟩
abbrev main_call8_c_4 : Ref sig .tc := ⟨.hbm, 461, rfl⟩
abbrev main_call8_v14 : Ref sig .tc := ⟨.hbm, 462, rfl⟩
abbrev main_v76 : Ref sig .tc := ⟨.hbm, 463, rfl⟩
abbrev main_v77 : Ref sig .tc := ⟨.hbm, 464, rfl⟩
abbrev main_call9_cst : Ref sig .tc := ⟨.hbm, 465, rfl⟩
abbrev main_call9_v0 : Ref sig .tc := ⟨.hbm, 466, rfl⟩
abbrev main_call9_cst_0 : Ref sig .tc := ⟨.hbm, 467, rfl⟩
abbrev main_call9_v1 : Ref sig .tc := ⟨.hbm, 468, rfl⟩
abbrev main_call9_v2 : Ref sig .tc := ⟨.hbm, 469, rfl⟩
abbrev main_call9_v3 : Ref sig .tc := ⟨.hbm, 470, rfl⟩
abbrev main_call9_v4 : Ref sig .tc := ⟨.hbm, 471, rfl⟩
abbrev main_call9_v5 : Ref sig .tc := ⟨.hbm, 472, rfl⟩
abbrev main_call9_v6 : Ref sig .tc := ⟨.hbm, 473, rfl⟩
abbrev main_call9_cst_1 : Ref sig .tc := ⟨.hbm, 474, rfl⟩
abbrev main_call9_v7 : Ref sig .tc := ⟨.hbm, 475, rfl⟩
abbrev main_call9_v8 : Ref sig .tc := ⟨.hbm, 476, rfl⟩
abbrev main_call9_v9 : Ref sig .tc := ⟨.hbm, 477, rfl⟩
abbrev main_call9_v10 : Ref sig .tc := ⟨.hbm, 478, rfl⟩
abbrev main_v78 : Ref sig .tc := ⟨.hbm, 479, rfl⟩
abbrev main_call10_v0 : Ref sig .tc := ⟨.hbm, 480, rfl⟩
abbrev main_call10_v1 : Ref sig .tc := ⟨.hbm, 481, rfl⟩
abbrev main_call10_v2 : Ref sig .tc := ⟨.hbm, 482, rfl⟩
abbrev main_call10_v3 : Ref sig .tc := ⟨.hbm, 483, rfl⟩
abbrev main_call10_v4 : Ref sig .tc := ⟨.hbm, 484, rfl⟩
abbrev main_v79 : Ref sig .tc := ⟨.hbm, 485, rfl⟩
abbrev main_v80 : Ref sig .tc := ⟨.hbm, 486, rfl⟩
abbrev main_cst_10 : Ref sig .tc := ⟨.hbm, 487, rfl⟩
abbrev main_v81 : Ref sig .tc := ⟨.hbm, 488, rfl⟩
abbrev main_v82 : Ref sig .tc := ⟨.hbm, 489, rfl⟩

abbrev nD : Nat := 1
abbrev τ : Topo := Topo.v7x

variable {F : FTy → Type} [FloatOps F]
-- ==== Proof.Line.lean ====
/-
  Straight lines of host operations read off a program: a class `Line p` gives the operations `p` runs, in order, with what a
  run of them asks (each on TensorCore references, each determining its result) and which reference each writes; a class
  `Chain p` gives the line a program starts with and the rest.
-/
module

public import Idealize.ShloMosaic.Lib.StableHlo.Run

@[expose] public section

noncomputable section

namespace Cert.Proof

open Idealize.ShloMosaic Idealize.SL Idealize.SL.Sem

variable {nD : Nat} {τ : Topo} {sig : RefSig} {Val : EltTy → Type} {Λ : Labels}

/-- A host operation with one result buffer. -/
class LineOp (op : HloOp τ sig Val) where
  out : Ref sig .tc
  writes : op.writes = {Proc.devRef .tc out}
  bufs : op.bufs ⊆ StableHlo.tcRefs τ sig
  fresh : op.fresh = ∅

section Ops

variable {x y a b c e : Ref sig .tc}

instance (v : y.ty.Contents Val) (hy) : LineOp (StableHlo.nullary (τ := τ) y v hy) := ⟨y, rfl, StableHlo.nullary_bufs_sub .., rfl⟩
instance (f : x.ty.Contents Val → y.ty.Contents Val) (hx hy) : LineOp (StableHlo.unary (τ := τ) x y f hx hy) := ⟨y, rfl, StableHlo.unary_bufs_sub .., rfl⟩
instance (f : a.ty.Contents Val → b.ty.Contents Val → y.ty.Contents Val) (ha hb hy) : LineOp (StableHlo.binary (τ := τ) a b y f ha hb hy) :=
  ⟨y, rfl, StableHlo.binary_bufs_sub .., rfl⟩
instance (f : c.ty.Contents Val → a.ty.Contents Val → b.ty.Contents Val → y.ty.Contents Val) (hc ha hb hy) :
    LineOp (StableHlo.ternary (τ := τ) c a b y f hc ha hb hy) := ⟨y, rfl, StableHlo.ternary_bufs_sub .., rfl⟩
instance (f : a.ty.Contents Val → b.ty.Contents Val → c.ty.Contents Val → e.ty.Contents Val → y.ty.Contents Val) (ha hb hc he hy) :
    LineOp (StableHlo.quaternary (τ := τ) a b c e y f ha hb hc he hy) := ⟨y, rfl, StableHlo.quaternary_bufs_sub .., rfl⟩
instance (he hn hx hy) : LineOp (StableHlo.reshape (τ := τ) (Val := Val) x y he hn hx hy) := ⟨y, rfl, StableHlo.reshape_bufs_sub .., rfl⟩

end Ops

/-- `p` runs the operations `ops`, in order, and returns. -/
class Line (p : Prog (TpuEff nD τ sig Val Λ .tc) PUnit) where
  ops : List (HloOp τ sig Val)
  outs : List (Ref sig .tc)
  eq : p = StableHlo.seq ops
  writes : ops.map HloOp.writes = outs.map fun r => {Proc.devRef (τ := τ) .tc r}
  bufs : ∀ op ∈ ops, op.bufs ⊆ StableHlo.tcRefs τ sig
  fresh : ∀ op ∈ ops, op.fresh = ∅

instance lineOp (op : HloOp τ sig Val) [h : LineOp op] : Line (nD := nD) (Λ := Λ) (hlo rfl op fun _ => .ret (⟨⟩ : PUnit)) where
  ops := [op]
  outs := [h.out]
  eq := (bind_pure _).symm
  writes := by rw [List.map_singleton, List.map_singleton, h.writes]
  bufs := fun o ho => (List.mem_singleton.mp ho) ▸ h.bufs
  fresh := fun o ho => (List.mem_singleton.mp ho) ▸ h.fresh

instance lineRet : Line (nD := nD) (τ := τ) (sig := sig) (Val := Val) (Λ := Λ) (pure (⟨⟩ : PUnit)) where
  ops := []
  outs := []
  eq := rfl
  writes := rfl
  bufs := fun _ h => nomatch h
  fresh := fun _ h => nomatch h

instance lineBind (p q : Prog (TpuEff nD τ sig Val Λ .tc) PUnit) [hp : Line p] [hq : Line q] : Line (p >>= fun _ => q) where
  ops := hp.ops ++ hq.ops
  outs := hp.outs ++ hq.outs
  eq := by rw [StableHlo.seq_append, ← hp.eq, ← hq.eq]
  writes := by rw [List.map_append, List.map_append, hp.writes, hq.writes]
  bufs := fun o ho => (List.mem_append.mp ho).elim (hp.bufs o) (hq.bufs o)
  fresh := fun o ho => (List.mem_append.mp ho).elim (hp.fresh o) (hq.fresh o)

/-- `p` runs the operations `ops`, in order, and then `rest`. -/
class Chain (p : Prog (TpuEff nD τ sig Val Λ .tc) PUnit) where
  ops : List (HloOp τ sig Val)
  outs : List (Ref sig .tc)
  rest : Prog (TpuEff nD τ sig Val Λ .tc) PUnit
  eq : p = StableHlo.seq ops >>= fun _ => rest
  writes : ops.map HloOp.writes = outs.map fun r => {Proc.devRef (τ := τ) .tc r}
  bufs : ∀ op ∈ ops, op.bufs ⊆ StableHlo.tcRefs τ sig
  fresh : ∀ op ∈ ops, op.fresh = ∅

instance (priority := low) chainRest (p : Prog (TpuEff nD τ sig Val Λ .tc) PUnit) : Chain p where
  ops := []
  outs := []
  rest := p
  eq := by rw [StableHlo.seq, pure_bind]
  writes := rfl
  bufs := fun _ h => nomatch h
  fresh := fun _ h => nomatch h

instance chainBind (p q : Prog (TpuEff nD τ sig Val Λ .tc) PUnit) [hp : Line p] [hq : Chain q] : Chain (p >>= fun _ => q) where
  ops := hp.ops ++ hq.ops
  outs := hp.outs ++ hq.outs
  rest := hq.rest
  eq := by rw [StableHlo.seq_append, bind_assoc, ← hp.eq, ← hq.eq]
  writes := by rw [List.map_append, List.map_append, hp.writes, hq.writes]
  bufs := fun o ho => (List.mem_append.mp ho).elim (hp.bufs o) (hq.bufs o)
  fresh := fun o ho => (List.mem_append.mp ho).elim (hp.fresh o) (hq.fresh o)

/-- A line in two pieces runs the first and then the second. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A reference none of the operations writes keeps its contents. -/
theorem after_keep {ops : List (HloOp τ sig Val)} {outs : List (Ref sig .tc)}
    (h : ops.map HloOp.writes = outs.map fun r => {Proc.devRef (τ := τ) .tc r}) (V : Valuation τ sig Val) {r : Ref sig .tc} (hr : r ∉ outs) :
    StableHlo.after ops V (Proc.devRef .tc r) = V (Proc.devRef .tc r) :=
  StableHlo.after_of_writes_sub ops V (StableHlo.forall_writes_sub_of_map h) hr

end Cert.Proof

end
-- ==== Proof.KI.Base.lean ====
/-
  The launch's set-up: the configuration of the one SparseCore call, the resource algebra, the buffers a tile
  names, and the array the call computes (`gathered`): position `p` of the result is the score of row `p / 208`
  at the identifier the flattened identifier array holds at `p`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the call's semaphores and of the absence of task-shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipelines' staging cells take their rounds from an algebra of their own. -/
abbrev UP : Type := URounds (GSem nD τ sig) Unit
abbrev UU : Type := UH × (UP × Counters)

local notation "𝕄" => MT nD τ sig (HIx 1) (Elt F) ℕ UU ℕ

/-- The handshakes' component of the ghost state. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

/-- The pipelines' component. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

instance EH_landsIn : (EH : Emb UH 𝕄).LandsIn (upEmb : UEmb _ 𝕄) := by unfold EH; infer_instance

/-! ## The buffers a tile names -/

abbrev sV : Memref sig .scVector .hbm S4194304 .f32 := Memref.whole main_v25_scv
abbrev aV : Memref sig .scVector .hbm S851968 .i32 := Memref.whole main_v26_scv
abbrev oV : Memref sig .scVector .hbm S851968 .f32 := Memref.whole main_v27_scv
/-- A tile's scratch: a block of scores, a block of identifiers, a block of results. -/
abbrev mS : Memref sig .scVector .vmem S65536 .f32 := Memref.whole cc1_scratch0
abbrev mI : Memref sig .scVector .vmem S13312 .i32 := Memref.whole cc1_scratch1
abbrev mO : Memref sig .scVector .vmem S13312 .f32 := Memref.whole cc1_scratch2

abbrev cV (L : grid1.Coords) : Fin τ.nSC := (L 0).castLE hcore1
abbrev jV (L : grid1.Coords) : Fin τ.nSub := (L 1).castLE hsub1

abbrev sLoc (d : Dev nD) : Loc nD τ sig := (SparseCore.T d).loc main_v25
abbrev aLoc (d : Dev nD) : Loc nD τ sig := (SparseCore.T d).loc main_v26
abbrev oLoc (d : Dev nD) : Loc nD τ sig := (SparseCore.T d).loc main_v27

/-- Tile `L`'s scores, identifiers and results of its trip `t`. -/
abbrev sCh (L : grid1.Coords) (t : Fin k1_t1_loop.trips) : Memref sig .scVector .hbm S65536 .f32 :=
  sV.slice (Rect.unit (s := S4194304) (k1_off1 L t) S65536.size (k1_off1_inb L t)) (fun _ => rfl)
abbrev aCh (L : grid1.Coords) (t : Fin k1_t1_loop.trips) : Memref sig .scVector .hbm S13312 .i32 :=
  aV.slice (Rect.unit (s := S851968) (k1_off2 L t) S13312.size (k1_off2_inb L t)) (fun _ => rfl)
abbrev oCh (L : grid1.Coords) (t : Fin k1_t1_loop.trips) : Memref sig .scVector .hbm S13312 .f32 :=
  oV.slice (Rect.unit (s := S851968) (k1_off2 L t) S13312.size (k1_off2_inb L t)) (fun _ => rfl)

/-! ## What is gathered -/

theorem idx1_eq {n : ℕ} {p q : (⟨1, ![n]⟩ : Shape).Idx} (h : (p 0).val = (q 0).val) : p = q := by
  funext a; match a with | 0 => exact Fin.ext h

/-- A block's result: entry `p` is the block of scores at `1024 · (p / 208)` plus the identifier at `p`. -/
def gatC (s : S65536.Idx → Elt F .f32) (a : S13312.Idx → Elt F .i32) : S13312.Idx → Elt F .f32 := fun p =>
  s (fun | 0 => ⟨((p 0).val / 208 * 1024 + (a p : BitVec 32).toNat) % 65536, Nat.mod_lt _ (by decide)⟩)

/-- The whole result: entry `p` is the flat scores at `1024 · (p / 208)` plus the identifier at `p`. -/
def gathered (s : S4194304.Idx → Elt F .f32) (a : S851968.Idx → Elt F .i32) : S851968.Idx → Elt F .f32 := fun p =>
  s (fun | 0 => ⟨((p 0).val / 208 * 1024 + (a p : BitVec 32).toNat) % 4194304, Nat.mod_lt _ (by decide)⟩)

/-- The first `16 · n` entries of a block's result are written. -/
def Gath (s : S65536.Idx → Elt F .f32) (a : S13312.Idx → Elt F .i32) (n : ℕ) (g : S13312.Idx → Elt F .f32) : Prop :=
  ∀ p, (p 0).val < 16 * n → g p = gatC s a p

end Cert.Proof.KI

end
-- ==== Proof.KI.Window.lean ====
/-
  One window of the gather: sixteen identifiers are read, the row's offset is added, the sum is checked to name
  scores of the block, the scores are gathered, and the sixteen results are stored. Thirteen windows make a row.
-/
module

public import proofs.«01_k».proof.Proof.KI.Base

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The row's offset added to an identifier stays an address of the block. -/
theorem addr_toNat {row : ℕ} (hrow : row < 64) {a b : BitVec 32} (ha : a.toNat < 1024) (hb : b.toNat = 1024 * row) :
    (a + b).toNat = 1024 * row + a.toNat ∧ (a + b).toNat < 65536 := by
  rw [BitVec.toNat_add, hb, Nat.mod_eq_of_lt (by omega)]; omega

/-- A window's store extends what is written by sixteen entries. -/
theorem gath_store {s : S65536.Idx → Elt F .f32} {a : S13312.Idx → Elt F .i32} {g : S13312.Idx → Elt F .f32}
    {row j : ℕ} (hrow : row < 64) (hj : j < 13) {off : Fin 1 → ℕ} (hin : ∀ x, off x + S16.size x ≤ S13312.size x)
    (hoff : off = ![208 * row + 16 * j]) (h : Gath s a (13 * row + j) g) (w : S16.Idx → Elt F .f32)
    (hw : ∀ x : S16.Idx, w x = gatC s a ((Rect.unit (s := S13312) off S16.size hin).emb x)) :
    Gath s a (13 * row + j + 1) ((mO.access (Rect.unit (s := S13312) off S16.size hin)).write (Elt F) g w Finset.univ) := by
  intro p hp
  have hset : p ∈ (mO.access (Rect.unit (s := S13312) off S16.size hin)).setOn Finset.univ ↔ 208 * row + 16 * j ≤ (p 0).val ∧ (p 0).val < 208 * row + 16 * j + 16 := by
    subst hoff
    show p ∈ ((View.whole cc1_scratch2).slice (Rect.unit (s := S13312) _ S16.size hin)).set ↔ _
    rw [View.set_slice_whole, Rect.mem_set_unit]
    exact ⟨fun h => h 0, fun h x => by match x with | 0 => exact h⟩
  by_cases hm : p ∈ (mO.access (Rect.unit (s := S13312) off S16.size hin)).setOn Finset.univ
  · obtain ⟨x, -, rfl⟩ := Finset.mem_map.mp hm
    rw [View.write_emb_of_mem _ _ (Finset.mem_univ x)]
    exact hw x
  · rw [View.write_of_not_mem _ _ _ hm]
    refine h p ?_
    rw [hset] at hm
    omega

variable (d : Dev nD) (L : grid1.Coords)

/-- Tile `L`'s three scratch buffers: the scores, the identifiers, the results. -/
abbrev Held (s : S65536.Idx → Elt F .f32) (a : S13312.Idx → Elt F .i32) (g : S13312.Idx → Elt F .f32) : sProp 𝕄 :=
  iprop(((mS.access (.whole S65536)).loc (V d (cV L) (jV L)) ↦{fullShare} s) ∗ (mI.view.loc (V d (cV L) (jV L)) ↦{fullShare} a)
    ∗ (mO.view.loc (V d (cV L) (jV L)) ↦{fullShare} g))

/-- The addresses of row `row`'s window at `off`: the row's offset plus the identifiers read there. -/
def Addr (a : S13312.Idx → Elt F .i32) (row j : ℕ) (v : IVec S16 32) : Prop :=
  ∀ (x : S16.Idx) (p : S13312.Idx), (p 0).val = 208 * row + 16 * j + (x 0).val → (v x).toNat = 1024 * row + (a p : BitVec 32).toNat

theorem emb_val {n : ℕ} (hin : ∀ x, (![n] : Fin 1 → ℕ) x + S16.size x ≤ S13312.size x) (x : S16.Idx) :
    ((Rect.unit (s := S13312) ![n] S16.size hin).emb x 0).val = n + (x 0).val :=
  congrArg (n + ·) (Nat.one_mul _)

/-- A window's identifiers with the row's offset added: addresses of the block. -/
theorem addr_read {off : Fin 1 → ℕ} {hin : ∀ x, off x + S16.size x ≤ S13312.size x} {pay : IVec S16 32} {row j : ℕ} (hrow : row < 64)
    (hpay : ∀ x, (pay x).toNat = 1024 * row) (hoff : off = ![208 * row + 16 * j]) {a : S13312.Idx → Elt F .i32}
    (ha : ∀ p : S13312.Idx, (a p : BitVec 32).toNat < 1024) :
    Addr a row j (addi (mI.view.readAt (Elt F) (Rect.unit (s := S13312) off S16.size hin).toLoadRect a : IVec S16 32) pay) := by
  intro x p hp
  subst hoff
  obtain rfl : p = (Rect.unit (s := S13312) ![208 * row + 16 * j] S16.size hin).emb x := idx1_eq (hp.trans (emb_val hin x).symm)
  exact (addr_toNat hrow (ha _) (hpay x)).1

/-- Addresses of the block pass the window's check. -/
theorem addr_ok {a : S13312.Idx → Elt F .i32} {row j : ℕ} {v : IVec S16 32} (hrow : row < 64) (hj : j < 13)
    (ha : ∀ p : S13312.Idx, (a p : BitVec 32).toNat < 1024) (h : Addr a row j v) :
    ∀ b x, ((![v] : Fin 1 → IVec S16 32) b x).toNat < S65536.size b := by
  intro b x
  have hx : (x 0).val < 16 := (x 0).isLt
  have h1 := h x (fun | 0 => ⟨208 * row + 16 * j + (x 0).val, by show _ < 13312; omega⟩) rfl
  have h2 := ha (fun | 0 => ⟨208 * row + 16 * j + (x 0).val, by show _ < 13312; omega⟩)
  match b with
  | 0 => show (v x).toNat < 65536; omega

/-- A window's check, gather and store: with the addresses in hand, sixteen more results are written. -/
theorem window {chk : IVec S16 32 → Prop} (idx : ∀ v : IVec S16 32, chk v → ∀ a x, ((![v] : Fin 1 → IVec S16 32) a x).toNat < S65536.size a)
    {v : IVec S16 32} (hc : chk v) {off' : Fin 1 → ℕ} {hin' : ∀ x, off' x + S16.size x ≤ S13312.size x}
    {hb hl' hx hm} {α : Type} {k : PUnit → Prog (TpuEff nD τ sig (Elt F) Λ₀ (V d (cV L) (jV L)).2) α} {Q : α → sProp 𝕄}
    {row j n : ℕ} (hrow : row < 64) (hj : j < 13) (hoff' : off' = ![208 * row + 16 * j])
    {s : S65536.Idx → Elt F .f32} {a : S13312.Idx → Elt F .i32} {g : S13312.Idx → Elt F .f32}
    (hv : Addr a row j v) (hg : Gath s a n g) (hn : n = 13 * row + j) :
    Held d L s a g
      ⊢ iprop((∀ g' : S13312.Idx → Elt F .f32, ⌜Gath s a (n + 1) g'⌝ -∗ Held d L s a g'
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.vectorLoadIdx mS ![v] (idx v hc) hb >>= fun w =>
              .op (.load mO (Rect.unit (s := S13312) off' S16.size hin').toLoadRect hl') fun _ =>
                .op (.store mO (Rect.unit (s := S13312) off' S16.size hin') w Finset.univ hx hm) k) Q) := by
  subst hn
  have hw : ∀ x : S16.Idx, loadIdx ((mS.access (.whole S65536)).read (Elt F) s) ![v] (idx v hc) x
      = gatC s a ((Rect.unit (s := S13312) off' S16.size hin').emb x) := by
    intro x
    subst hoff'
    have hr : (mS.access (.whole S65536)).read (Elt F) s = s := Memref.read_access_whole (Elt F) cc1_scratch0 s
    refine (congrFun hr _).trans (congrArg s (idx1_eq ?_))
    have he := emb_val hin' x
    have h1 := hv x _ he
    have hx : (x 0).val < 16 := (x 0).isLt
    have h2 : (v x).toNat < 65536 := idx v hc 0 x
    show (v x).toNat = (((Rect.unit (s := S13312) ![208 * row + 16 * j] S16.size hin').emb x 0).val / 208 * 1024
          + (a ((Rect.unit (s := S13312) ![208 * row + 16 * j] S16.size hin').emb x) : BitVec 32).toNat) % 65536
    rw [h1] at h2
    rw [he, h1, show (208 * row + 16 * j + (x 0).val) / 208 = row by omega, Nat.mod_eq_of_lt (by omega), Nat.mul_comm]
  iintro ⟨Hs, Ha, Hg⟩
  iintro Hk
  iapply (SparseCore.wp_vectorLoadIdx 𝒱₀ (V d (cV L) (jV L)) none Set.univ (base := mS) (S := Finset.univ) (q := fullShare) (Finset.subset_univ _)) $$ [Hs]
  · iexact Hs
  iintro Hs
  iapply (wp_load 𝒱₀ (V d (cV L) (jV L)) none Set.univ (m := mO) (S := Finset.univ) (Finset.subset_univ _)) $$ [Hg]
  · iexact Hg
  iintro Hg
  iapply (wp_store 𝒱₀ (V d (cV L) (jV L)) none Set.univ (m := mO) (S := Finset.univ) (Finset.subset_univ _)) $$ [Hg]
  · iexact Hg
  iintro Hg
  iapply Hk $$ %_ %(gath_store hrow hj hin' hoff' hg _ hw) [Hs Ha Hg]
  isplitl [Hs]; · iexact Hs
  isplitl [Ha]; · iexact Ha
  iexact Hg

/-- A window's read of identifiers and its check: the program goes on with addresses of the block. -/
theorem fetch {chk : IVec S16 32 → Prop} {dec : ∀ v, Decidable (chk v)}
    (hchk : ∀ v : IVec S16 32, (∀ a x, ((![v] : Fin 1 → IVec S16 32) a x).toNat < S65536.size a) → chk v)
    {off : Fin 1 → ℕ} {hin : ∀ x, off x + S16.size x ≤ S13312.size x} {hl} {α : Type} {pay : IVec S16 32}
    {k : ∀ v : Vec F S16 .i32, PLift (chk (addi v pay)) → Prog (TpuEff nD τ sig (Elt F) Λ₀ (V d (cV L) (jV L)).2) α} {Q : α → sProp 𝕄}
    {row j : ℕ} (hrow : row < 64) (hj : j < 13) (hpay : ∀ x, (pay x).toNat = 1024 * row) (hoff : off = ![208 * row + 16 * j])
    {s : S65536.Idx → Elt F .f32} {a : S13312.Idx → Elt F .i32} {g : S13312.Idx → Elt F .f32} (ha : ∀ p : S13312.Idx, (a p : BitVec 32).toNat < 1024) :
    Held d L s a g
      ⊢ iprop((∀ (v : Vec F S16 .i32) (hw : PLift (chk (addi v pay))), ⌜Addr a row j (addi v pay)⌝ -∗ Held d L s a g
            -∗ wp frame (wpE (defs₀ (F := F)) 𝒱₀ (V d (cV L) (jV L)) none) Set.univ (k v hw) Q)
          -∗ wp frame (wpE (defs₀ (F := F)) 𝒱₀ (V d (cV L) (jV L)) none) Set.univ
            (.op (.load mI (Rect.unit (s := S13312) off S16.size hin).toLoadRect hl) fun v : Vec F S16 .i32 =>
              .op (.assume (chk (addi v pay)) (dec (addi v pay))) (k v)) Q) := by
  have hv := addr_read (hin := hin) hrow hpay hoff ha
  have hc := hchk _ (addr_ok hrow hj ha hv)
  iintro ⟨Hs, Ha, Hg⟩
  iintro Hk
  iapply (wp_load 𝒱₀ (V d (cV L) (jV L)) none Set.univ (m := mI) (S := Finset.univ) (Finset.subset_univ _)) $$ [Ha]
  · iexact Ha
  iintro Ha
  rw [wp_assume_of _ _ _ _ hc]
  iapply Hk $$ %_ %_ %hv [Hs Ha Hg]
  isplitl [Hs]; · iexact Hs
  isplitl [Ha]; · iexact Ha
  iexact Hg

end Cert.Proof.KI

end
-- ==== Proof.KI.Row.lean ====
/-
  One trip of a block's loop: the thirteen windows of one row of 208 results, in the program's three parts and its rest.
-/
module

public import proofs.«01_k».proof.Proof.KI.Window

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords)

theorem row_lt (r : Fin k1_t2_loop.trips) : r.val < 64 := Nat.lt_of_lt_of_le r.isLt k1_t2_abs.2.1

theorem off_of {off : Fin 1 → ℕ} {n k : ℕ} (h : off = ![n]) (e : n = k) : off = ![k] := e ▸ h

/-- The row's offset, as the body computes it. -/
theorem pay1_toNat : ∀ (r : Fin k1_t2_loop.trips) (x : S16.Idx), (k1_pay1 0#32 1#32 r x).toNat = 1024 * r.val := by
  intro r x
  show (Scalar.muli (Scf.iv 0#32 1#32 r) 1024#32).toNat = _
  revert r; decide +kernel

variable (r : Fin k1_t2_loop.trips) {s : S65536.Idx → Elt F .f32} {a : S13312.Idx → Elt F .i32} {g : S13312.Idx → Elt F .f32}
  (ha : ∀ p : S13312.Idx, (a p : BitVec 32).toNat < 1024)

include ha

set_option maxHeartbeats 1000000 in
/-- Windows one to three and the fourth's read. -/
theorem part1 (h0 : Gath s a (13 * r.val) g) {Q : _ → sProp 𝕄} :
    Held d L s a g
      ⊢ iprop((∀ (a9 : BitVec 32) (v : IVec S16 32) (w : IVec S16 32) (hw : k1_chk4 w) (g' : S13312.Idx → Elt F .f32),
            ⌜(∀ x, (v x).toNat = 1024 * r.val) ∧ Addr a r.val 3 w ∧ Gath s a (13 * r.val + 3) g'⌝ -∗ Held d L s a g' -∗ Q ⟨a9, v, w, hw⟩)
          -∗ wp frame (wpE (defs₀ (F := F)) 𝒱₀ (V d (cV L) (jV L)) none) Set.univ
            (k1_part1 (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2 0#32 1#32 r) Q) := by
  have hr := row_lt r
  have hpay := pay1_toNat r
  simp only [k1_part1_eq_skeleton]
  unfold k1_part1_skel
  simp only [Prog.lift, Prog.bind_op, Prog.bind_ret, Prog.pure_eq_ret]
  iintro H Hk
  iapply (fetch d L (chk := k1_chk1) (fun _ h => h) (row := r.val) (j := 0) hr (by decide) hpay (off_of (k1_off3_eq r) (by show 208 * r.val = _; omega)) ha) $$ H
  iintro %v1 %c1 %e1 H
  iapply (window d L k1_idx1_inb c1.down (row := r.val) (j := 0) hr (by decide) (off_of (k1_off4_eq r 0) (by show 208 * r.val + 16 * 0 = _; omega)) e1 h0 rfl) $$ H
  iintro %g1 %h1 H
  iapply (fetch d L (chk := k1_chk2) (fun _ h => h) (row := r.val) (j := 1) hr (by decide) hpay (off_of (k1_off4_eq r 1) (by show 208 * r.val + 16 * 1 = _; omega)) ha) $$ H
  iintro %v2 %c2 %e2 H
  iapply (window d L k1_idx2_inb c2.down (row := r.val) (j := 1) hr (by decide) (off_of (k1_off5_eq r 0) (by show 208 * r.val + 16 * 0 + 16 = _; omega)) e2 h1 rfl) $$ H
  iintro %g2 %h2 H
  iapply (fetch d L (chk := k1_chk3) (fun _ h => h) (row := r.val) (j := 2) hr (by decide) hpay (off_of (k1_off5_eq r 1) (by show 208 * r.val + 16 * 1 + 16 = _; omega)) ha) $$ H
  iintro %v3 %c3 %e3 H
  iapply (window d L k1_idx3_inb c3.down (row := r.val) (j := 2) hr (by decide) (off_of (k1_off6_eq r 0) (by show 208 * r.val + 16 * 0 + 32 = _; omega)) e3 h2 rfl) $$ H
  iintro %g3 %h3 H
  iapply (fetch d L (chk := k1_chk4) (fun _ h => h) (row := r.val) (j := 3) hr (by decide) hpay (off_of (k1_off6_eq r 1) (by show 208 * r.val + 16 * 1 + 32 = _; omega)) ha) $$ H
  iintro %v4 %c4 %e4 H
  sl_step
  iapply Hk $$ %_ %_ %_ %c4.down %g3 %⟨hpay, e4, h3⟩ H

set_option maxHeartbeats 1000000 in
/-- The fourth window's rest and windows five to seven. -/
theorem part2 (h3 : Gath s a (13 * r.val + 3) g) {a9 : BitVec 32} {v w : IVec S16 32} (hpay : ∀ x, (v x).toNat = 1024 * r.val)
    (e4 : Addr a r.val 3 w) (c4 : k1_chk4 w) {Q : _ → sProp 𝕄} :
    Held d L s a g
      ⊢ iprop((∀ (b : BitVec 32) (g' : S13312.Idx → Elt F .f32), ⌜Gath s a (13 * r.val + 7) g'⌝ -∗ Held d L s a g' -∗ Q b)
          -∗ wp frame (wpE (defs₀ (F := F)) 𝒱₀ (V d (cV L) (jV L)) none) Set.univ
            (k1_part2 (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2 r a9 v w c4) Q) := by
  have hr := row_lt r
  simp only [k1_part2_eq_skeleton]
  unfold k1_part2_skel
  simp only [Prog.lift, Prog.bind_op, Prog.bind_ret, Prog.pure_eq_ret]
  iintro H Hk
  iapply (window d L k1_idx4_inb c4 (row := r.val) (j := 3) hr (by decide) (off_of (k1_off7_eq r 0) (by show 208 * r.val + 16 * 0 + 48 = _; omega)) e4 h3 rfl) $$ H
  iintro %g4 %h4 H
  iapply (fetch d L (chk := k1_chk5) (fun _ h => h) (row := r.val) (j := 4) hr (by decide) hpay (off_of (k1_off7_eq r 1) (by show 208 * r.val + 16 * 1 + 48 = _; omega)) ha) $$ H
  iintro %v5 %c5 %e5 H
  iapply (window d L k1_idx5_inb c5.down (row := r.val) (j := 4) hr (by decide) (off_of (k1_off8_eq r 0) (by show 208 * r.val + 16 * 0 + 64 = _; omega)) e5 h4 rfl) $$ H
  iintro %g5 %h5 H
  iapply (fetch d L (chk := k1_chk6) (fun _ h => h) (row := r.val) (j := 5) hr (by decide) hpay (off_of (k1_off8_eq r 1) (by show 208 * r.val + 16 * 1 + 64 = _; omega)) ha) $$ H
  iintro %v6 %c6 %e6 H
  iapply (window d L k1_idx6_inb c6.down (row := r.val) (j := 5) hr (by decide) (off_of (k1_off9_eq r 0) (by show 208 * r.val + 16 * 0 + 80 = _; omega)) e6 h5 rfl) $$ H
  iintro %g6 %h6 H
  iapply (fetch d L (chk := k1_chk7) (fun _ h => h) (row := r.val) (j := 6) hr (by decide) hpay (off_of (k1_off9_eq r 1) (by show 208 * r.val + 16 * 1 + 80 = _; omega)) ha) $$ H
  iintro %v7 %c7 %e7 H
  iapply (window d L k1_idx7_inb c7.down (row := r.val) (j := 6) hr (by decide) (off_of (k1_off10_eq r 0) (by show 208 * r.val + 16 * 0 + 96 = _; omega)) e7 h6 rfl) $$ H
  iintro %g7 %h7 H
  sl_step
  iapply Hk $$ %_ %g7 %h7 H

set_option maxHeartbeats 1000000 in
/-- Windows eight to eleven. -/
theorem part3 (h7 : Gath s a (13 * r.val + 7) g) {a9 b : BitVec 32} {v : IVec S16 32} (hpay : ∀ x, (v x).toNat = 1024 * r.val)
    {Q : _ → sProp 𝕄} :
    Held d L s a g
      ⊢ iprop((∀ g' : S13312.Idx → Elt F .f32, ⌜Gath s a (13 * r.val + 11) g'⌝ -∗ Held d L s a g' -∗ Q ⟨⟩)
          -∗ wp frame (wpE (defs₀ (F := F)) 𝒱₀ (V d (cV L) (jV L)) none) Set.univ
            (k1_part3 (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2 r a9 v b) Q) := by
  have hr := row_lt r
  simp only [k1_part3_eq_skeleton]
  unfold k1_part3_skel
  simp only [Prog.lift, Prog.bind_op, Prog.bind_ret, Prog.pure_eq_ret]
  iintro H Hk
  iapply (fetch d L (chk := k1_chk8) (fun _ h => h) (row := r.val) (j := 7) hr (by decide) hpay (off_of (k1_off10_eq r 1) (by show 208 * r.val + 16 * 1 + 96 = _; omega)) ha) $$ H
  iintro %v8 %c8 %e8 H
  iapply (window d L k1_idx8_inb c8.down (row := r.val) (j := 7) hr (by decide) (off_of (k1_off11_eq r 0) (by show 208 * r.val + 16 * 0 + 112 = _; omega)) e8 h7 rfl) $$ H
  iintro %g8 %h8 H
  iapply (fetch d L (chk := k1_chk9) (fun _ h => h) (row := r.val) (j := 8) hr (by decide) hpay (off_of (k1_off11_eq r 1) (by show 208 * r.val + 16 * 1 + 112 = _; omega)) ha) $$ H
  iintro %v9 %c9 %e9 H
  iapply (window d L k1_idx9_inb c9.down (row := r.val) (j := 8) hr (by decide) (off_of (k1_off12_eq r 0) (by show 208 * r.val + 16 * 0 + 128 = _; omega)) e9 h8 rfl) $$ H
  iintro %g9 %h9 H
  iapply (fetch d L (chk := k1_chk10) (fun _ h => h) (row := r.val) (j := 9) hr (by decide) hpay (off_of (k1_off12_eq r 1) (by show 208 * r.val + 16 * 1 + 128 = _; omega)) ha) $$ H
  iintro %v10 %c10 %e10 H
  iapply (window d L k1_idx10_inb c10.down (row := r.val) (j := 9) hr (by decide) (off_of (k1_off13_eq r 0) (by show 208 * r.val + 16 * 0 + 144 = _; omega)) e10 h9 rfl) $$ H
  iintro %g10 %h10 H
  iapply (fetch d L (chk := k1_chk11) (fun _ h => h) (row := r.val) (j := 10) hr (by decide) hpay (off_of (k1_off13_eq r 1) (by show 208 * r.val + 16 * 1 + 144 = _; omega)) ha) $$ H
  iintro %v11 %c11 %e11 H
  iapply (window d L k1_idx11_inb c11.down (row := r.val) (j := 10) hr (by decide) (off_of (k1_off14_eq r 0) (by show 208 * r.val + 16 * 0 + 160 = _; omega)) e11 h10 rfl) $$ H
  iintro %g11 %h11 H
  sl_step
  iapply Hk $$ %g11 %h11 H

set_option maxHeartbeats 1000000 in
/-- One trip writes the next 208 results of the block. -/
theorem row_trip (hg : Gath s a (13 * r.val) g) :
    Held d L s a g
      ⊢ wp frame (wpE (defs₀ (F := F)) 𝒱₀ (V d (cV L) (jV L)) none) Set.univ
          (k1_t2_body (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2 r ())
          fun _ => iprop(∃ g' : S13312.Idx → Elt F .f32, ⌜Gath s a (13 * (r.val + 1)) g'⌝ ∗ Held d L s a g') := by
  have hr := row_lt r
  unfold k1_t2_body
  rw [wp_bind]
  iintro H
  iapply (part1 d L r ha hg) $$ H
  iintro %a9 %v %w %c4 %g3 %hh H
  obtain ⟨hpay, e4, h3⟩ := hh
  rw [wp_bind]
  iapply (part2 d L r ha h3 hpay e4 c4) $$ H
  iintro %b %g7 %h7 H
  rw [wp_bind]
  iapply (part3 d L r ha h7 hpay) $$ H
  iintro %g11 %h11 H
  simp only [Prog.lift, Prog.bind_op, Prog.bind_ret, Prog.pure_eq_ret]
  iapply (fetch d L (chk := k1_chk12) (fun _ h => h) (row := r.val) (j := 11) hr (by decide) hpay (off_of (k1_off14_eq r 1) (by show 208 * r.val + 16 * 1 + 160 = _; omega)) ha) $$ H
  iintro %v12 %c12 %e12 H
  iapply (window d L k1_idx12_inb c12.down (row := r.val) (j := 11) hr (by decide) (off_of (k1_off15_eq r 0) (by show 208 * r.val + 16 * 0 + 176 = _; omega)) e12 h11 rfl) $$ H
  iintro %g12 %h12 H
  iapply (fetch d L (chk := k1_chk13) (fun _ h => h) (row := r.val) (j := 12) hr (by decide) hpay (off_of (k1_off15_eq r 1) (by show 208 * r.val + 16 * 1 + 176 = _; omega)) ha) $$ H
  iintro %v13 %c13 %e13 H
  iapply (window d L k1_idx13_inb c13.down (row := r.val) (j := 12) hr (by decide) (off_of (k1_off16_eq r) (by show 208 * r.val + 192 = _; omega)) e13 h12 rfl) $$ H
  iintro %g13 %h13 H
  sl_step
  iexists g13
  isplitr
  · ipureintro; exact h13
  · iexact H

end Cert.Proof.KI

end
-- ==== Proof.KI.Tile.lean ====
/-
  One tile's run: two blocks of 64 rows, each fetched (scores, identifiers), gathered row by row and written out.
-/
module

public import proofs.«01_k».proof.Proof.KI.Row

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords)

abbrev thr : Thread nD τ := V d (cV L) (jV L)
abbrev semA : GSem nD τ sig := (thr d L, .dma cc1_scoped0.sem)
abbrev semB : GSem nD τ sig := (thr d L, .dma cc1_scoped1.sem)
abbrev semC : GSem nD τ sig := (thr d L, .dma cc1_scoped2.sem)

theorem ownSems0_V :
    (ownSems0 (thr d L) : sProp 𝕄)
      = iprop(semVal (semA d L) 0 ∗ semVal (semB d L) 0 ∗ semVal (semC d L) 0
          ∗ bigSep ((((ownCells (thr d L)).erase (semA d L)).erase (semB d L)).erase (semC d L)) fun g => semVal g 0) := by
  unfold SparseCore.Cfg.ownSems0
  rw [SparseCore.bigSep_erase' ((mem_ownCells (g := semA d L)).mpr ⟨rfl, by
      show (SemLoc.dma cc1_scoped0.sem : SemLoc sig).isScoped .scVector = true; decide⟩),
    SparseCore.bigSep_erase' (Finset.mem_erase.mpr ⟨by simp [semA, semB]; decide, (mem_ownCells (g := semB d L)).mpr ⟨rfl, by
      show (SemLoc.dma cc1_scoped1.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc1_scoped2.sem : SemLoc sig).isScoped .scVector = true; decide⟩⟩⟩)]

/-- The three scratch buffers are among the subcore's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (s : S4194304.Idx → Elt F .f32) (a : S851968.Idx → Elt F .i32) (f : S851968.Idx → Elt F .f32) (q : PosShare TreeShare)

/-- The tile's results after `k` blocks: the first `k` gathered, the rest as found. -/
abbrev outs (k : ℕ) : sProp 𝕄 :=
  bigSep (Finset.univ : Finset (Fin k1_t1_loop.trips)) fun t =>
    (oCh L t).view.loc (thr d L) ↦[(oCh L t).view.set]{fullShare} (if t.val < k then gathered s a else f)

/-- Between the trips of a block's rows. -/
def rowInv (sb : S65536.Idx → Elt F .f32) (ab : S13312.Idx → Elt F .i32) (k : ℕ) (_ : Unit) : sProp 𝕄 :=
  iprop(∃ g : S13312.Idx → Elt F .f32, ⌜Gath sb ab (13 * k) g⌝ ∗ Held d L sb ab g)

/-- Between the blocks. -/
def blockInv (O : CellTallies nD τ sig (HIx 1)) (W : Waits sig (HIx 1)) (k : ℕ) (_ : Unit) : sProp 𝕄 :=
  iprop(Transfers.MayWaits (thr d L) (none : HIx 1) O ∗ (sV.view.loc (thr d L) ↦{q} s) ∗ (aV.view.loc (thr d L) ↦{q} a) ∗ outs d L s a f k
    ∗ (∃ b, mS.view.loc (thr d L) ↦{fullShare} b) ∗ (∃ b, mI.view.loc (thr d L) ↦{fullShare} b) ∗ (∃ b, mO.view.loc (thr d L) ↦{fullShare} b)
    ∗ semVal (semA d L) 0 ∗ semVal (semB d L) 0 ∗ semVal (semC d L) 0
    ∗ ∃ W', ⌜∀ p ∈ W', p ∈ W ∨ p.2 = none⌝ ∗ owes (thr d L) O W')

/-- The block of scores and the block of identifiers trip `t` fetches. -/
abbrev blkS (t : Fin k1_t1_loop.trips) : S65536.Idx → Elt F .f32 := (sCh L t).view.read (Elt F) s
abbrev blkA (t : Fin k1_t1_loop.trips) : S13312.Idx → Elt F .i32 := (aCh L t).view.read (Elt F) a

theorem rows_all : Scf.trips k1_t2_loop.lb k1_t2_loop.ub k1_t2_loop.st = 64 := by decide

/-- A block's result is the block of the whole result. -/
theorem block_gathered (t : Fin k1_t1_loop.trips) (ha : ∀ p : S851968.Idx, (a p : BitVec 32).toNat < 1024) (p : S13312.Idx) :
    gatC (blkS L s t) (blkA L a t) p = gathered s a ((oCh L t).view.emb p) := by
  have h1 : ((oCh L t).view.emb p 0).val = 53248 * (L 1).val + 26624 * (L 0).val + 13312 * t.val + 1 * (p 0).val := by
    show k1_off2 L t 0 + 1 * (p 0).val = _
    rw [k1_off2_eq]; rfl
  have h0 : ∀ x : S65536.Idx, ((sCh L t).view.emb x 0).val = 262144 * (L 1).val + 131072 * (L 0).val + 65536 * t.val + 1 * (x 0).val := by
    intro x
    show k1_off1 L t 0 + 1 * (x 0).val = _
    rw [k1_off1_eq]; rfl
  refine congrArg s (idx1_eq ?_)
  rw [h0]
  have hp : (p 0).val < 13312 := (p 0).isLt
  have h2 := ha ((oCh L t).view.emb p)
  have hL0 : (L 0).val < 2 := (L 0).isLt
  have hL1 : (L 1).val < 16 := (L 1).isLt
  have ht : t.val < 2 := Nat.lt_of_lt_of_le t.isLt k1_t1_abs.2.1
  show 262144 * (L 1).val + 131072 * (L 0).val + 65536 * t.val + 1 * (((p 0).val / 208 * 1024 + (a ((oCh L t).view.emb p) : BitVec 32).toNat) % 65536)
    = (((oCh L t).view.emb p 0).val / 208 * 1024 + (a ((oCh L t).view.emb p) : BitVec 32).toNat) % 4194304
  rw [h1]
  omega

/-- The block written out whole is the block of the whole result. -/
theorem out_lands (t : Fin k1_t1_loop.trips) (f0 : S851968.Idx → Elt F .f32) {w : S13312.Idx → Elt F .f32} (hw : w = gatC (blkS L s t) (blkA L a t))
    (ha : ∀ p : S851968.Idx, (a p : BitVec 32).toNat < 1024) :
    ((oCh L t).view.loc (thr d L) ↦[(oCh L t).view.set]{fullShare} (oCh L t).view.writes (Elt F) f0 [⟨Rect.whole S13312, w⟩] : sProp 𝕄)
      = (oCh L t).view.loc (thr d L) ↦[(oCh L t).view.set]{fullShare} gathered s a := by
  refine pointsTo_congr fun i hi => ?_
  obtain ⟨p, -, rfl⟩ := Finset.mem_map.mp hi
  have e : (oCh L t).view.emb p = ((oCh L t).view.slice (Rect.whole S13312)).emb p :=
    congrArg (oCh L t).view.emb (Rect.emb_whole_apply S13312 p).symm
  rw [View.writes_singleton, ← block_gathered L s a t ha p, ← hw, e]
  exact View.write_emb_of_mem (v := (oCh L t).view.slice (Rect.whole S13312)) f0 w (Finset.mem_univ p)

variable (ha : ∀ p : S851968.Idx, (a p : BitVec 32).toNat < 1024)
include ha

set_option maxHeartbeats 1000000 in
theorem block_trip (t : Fin k1_t1_loop.trips) (O : CellTallies nD τ sig (HIx 1)) (W : Waits sig (HIx 1)) :
    blockInv d L s a f q O W t.val ()
      ⊢ wp frame (wpE (defs₀ (F := F)) 𝒱₀ (thr d L) none) Set.univ
          (k1_t1_body (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2 t ())
          fun _ => blockInv d L s a f q O W (t.val + 1) () := by
  unfold k1_t1_body
  simp only [Prog.lift, Prog.bind_op, Prog.bind_ret, Prog.pure_eq_ret]
  unfold blockInv
  rw [show outs d L s a f t.val = _ from SparseCore.bigSep_erase' (Finset.mem_univ t)]
  iintro ⟨Hmw, Hs, Ha, ⟨Ho, Hos⟩, ⟨%b0, H0⟩, ⟨%b1, H1⟩, ⟨%b2, H2⟩, HA, HB, HC, %W', %hW', HO⟩
  sl_exec (disch := exact View.amount_pos _ _ (by decide))
  have e0 : View.write (Elt F) mS.view b0 (block_trip.sl.dma0 L s t) Finset.univ = blkS L s t := View.write_whole_univ ..
  have e1 : View.write (Elt F) mI.view b1 (block_trip.sl.dma0_1 L a t) Finset.univ = blkA L a t := View.write_whole_univ ..
  rw [e0, e1]
  have hab : ∀ p, (blkA L a t p : BitVec 32).toNat < 1024 := fun p => ha _
  sl_for (rowInv d L (blkS L s t) (blkA L a t)) $$ [H0 H1 H2]
  case region =>
    intro r _
    unfold rowInv
    iintro ⟨%g, %hg, H⟩
    iapply (row_trip d L r hab hg) $$ H
  · unfold rowInv
    iexists b2
    isplitr
    · ipureintro; intro p hp; exact absurd hp (by omega)
    · isplitl [H0]; · iexact H0
      isplitl [H1]; · iexact H1
      iexact H2
  unfold rowInv
  rw [rows_all]
  iintro %_ ⟨%g, %hg, H0, H1, H2⟩
  sl_exec (disch := exact View.amount_pos _ _ (by decide))
  sl_step
  have e2 : g = gatC (blkS L s t) (blkA L a t) := funext fun p => hg p (p 0).isLt
  have e3 : block_trip.sl.dma0_2 g = gatC (blkS L s t) (blkA L a t) := e2
  iframe Hmw Hs Ha HA HB HC
  isplitl [Ho Hos]
  · rw [show outs d L s a f (t.val + 1) = _ from SparseCore.bigSep_erase' (Finset.mem_univ t)]
    isplitl [Ho]
    · rw [if_pos (Nat.lt_succ_self _)]
      iapply (Entails.of_eq (out_lands d L s a t _ e3 ha)) $$ Ho
    · iapply (Entails.of_eq (BI.bigSep_congr fun u hu => ?_)) $$ Hos
      have hne : u.val ≠ t.val := fun e => (Finset.mem_erase.mp hu).1 (Fin.ext e)
      simp only [show (u.val < t.val + 1) = (u.val < t.val) from propext ⟨fun h => by omega, fun h => by omega⟩]
  isplitl [H0]; · iexists _; iexact H0
  isplitl [H1]; · iexists _; iexact H1
  isplitl [H2]; · iexists _; iexact H2
  iexists (insert (SemLoc.dma cc1_scoped2.sem, (default : HIx 1)) (insert (SemLoc.dma cc1_scoped1.sem, (default : HIx 1))
    (insert (SemLoc.dma cc1_scoped0.sem, (default : HIx 1)) W')))
  isplitr
  · ipureintro
    intro p hp
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    exact hW' p hp
  · iexact HO

/-- A tile's run: from read shares of the scores and the identifiers and its two blocks of results, the blocks gathered. -/
theorem tile_body (hF : (K (F := F)).Facts) (O : CellTallies nD τ sig (HIx 1)) (W : Waits sig (HIx 1)) (hO : ∀ g, O g none = 0) :
    iprop(levAts (K (F := F)).L (K (F := F)).lev ∗ ((sV.view.loc (thr d L) ↦{q} s) ∗ (aV.view.loc (thr d L) ↦{q} a) ∗ outs d L s a f 0)
        ∗ scopedBufs (thr d L) ∗ scopedSems0 (thr d L) ∗ owes (thr d L) O W)
      ⊢ wp frame (wpE (defs₀ (F := F)) 𝒱₀ (thr d L) none) Set.univ
          (cc1_k (F := F) L sV (Memref.isWhole_whole _) aV (Memref.isWhole_whole _) oV (Memref.isWhole_whole _) mS (Memref.isWhole_whole _)
              mI (Memref.isWhole_whole _) mO (Memref.isWhole_whole _) cc1_scoped0 cc1_scoped1 cc1_scoped2)
          fun _ => iprop(((sV.view.loc (thr d L) ↦{q} s) ∗ (aV.view.loc (thr d L) ↦{q} a) ∗ outs d L s a f 2)
            ∗ scopedBufs (thr d L) ∗ scopedSems0 (thr d L) ∗ ∃ W', ⌜∀ p ∈ W', p ∈ W ∨ p.2 = none⌝ ∗ owes (thr d L) O W') := by
  simp only [cc1_k_eq_skeleton]
  unfold cc1_k_skel
  rw [(K (F := F)).scopedBufs_V hF d (cV L) (jV L), SparseCore.Cfg.scopedSems0_V (Val := Elt F) d (cV L) (jV L), ownSems0_V, ownBufs_V]
  iintro ⟨#Hlv, ⟨Hs, Ha, Ho⟩, ⟨H0, H1, H2, Hbufs⟩, ⟨HA, HB, HC, Hsems⟩, HO⟩
  ihave Hmw := ((K (F := F)).mayWaits_none (thr := thr d L) hO) $$ Hlv
  sl_for (blockInv d L s a f q O W) $$ [Hmw Hs Ha Ho H0 H1 H2 HA HB HC HO]
  case region =>
    intro t _
    exact block_trip d L s a f q ha t O W
  · unfold blockInv
    isplitl [Hmw]; · iexact Hmw
    isplitl [Hs]; · iexact Hs
    isplitl [Ha]; · iexact Ha
    isplitl [Ho]; · iexact Ho
    isplitl [H0]; · iexact H0
    isplitl [H1]; · iexact H1
    isplitl [H2]; · iexact H2
    isplitl [HA]; · iexact HA
    isplitl [HB]; · iexact HB
    isplitl [HC]; · iexact HC
    iexists W
    isplitr
    · ipureintro; exact fun p hp => .inl hp
    · iexact HO
  unfold blockInv
  rw [show Scf.trips k1_t1_loop.lb k1_t1_loop.ub k1_t1_loop.st = 2 by decide]
  iintro %_ ⟨-, Hs, Ha, Ho, H0, H1, H2, HA, HB, HC, HO⟩
  sl_step
  isplitl [Hs Ha Ho]
  · isplitl [Hs]; · iexact Hs
    isplitl [Ha]; · iexact Ha
    iexact Ho
  isplitl [H0 H1 H2 Hbufs]
  · isplitl [H0]; · iexact H0
    isplitl [H1]; · iexact H1
    isplitl [H2]; · iexact H2
    iexact Hbufs
  isplitl [HA HB HC Hsems]
  · isplitl [HA]; · iexact HA
    isplitl [HB]; · iexact HB
    isplitl [HC]; · iexact HC
    iexact Hsems
  iexact HO

end Cert.Proof.KI

end
-- ==== Proof.KI.Split.lean ====
/-
  The call's operands dealt to the tiles: the result array in its 64 chunks (2 SparseCores, 16 subcores, 2 trips), the
  scores and the identifiers as read shares.
-/
module

public import proofs.«01_k».proof.Proof.KI.Tile

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

/-- A tile's coordinates. -/
abbrev crd (c : Fin 2) (i : Fin 16) : grid1.Coords := fun | 0 => c | 1 => i | ⟨_ + 2, h⟩ => absurd h (Nat.not_lt.2 (Nat.le_add_left _ _))

/-- The positions of the result that tile `(c, i)` writes on trip `t`. -/
abbrev chunk (c : Fin 2) (i : Fin 16) (t : Fin k1_t1_loop.trips) : Finset S851968.Idx := (oCh (crd c i) t).view.set

theorem mem_chunk (c : Fin 2) (i : Fin 16) (t : Fin k1_t1_loop.trips) (y : S851968.Idx) :
    y ∈ chunk c i t ↔ 53248 * i.val + 26624 * c.val + 13312 * t.val ≤ (y 0).val ∧ (y 0).val < 53248 * i.val + 26624 * c.val + 13312 * t.val + 13312 := by
  show y ∈ ((View.whole (main_v27_scv : Ref sig .scVector)).slice (Rect.unit (s := S851968) (k1_off2 (crd c i) t) S13312.size (k1_off2_inb (crd c i) t))).set ↔ _
  rw [View.set_slice_whole, Rect.mem_set_unit]
  constructor
  · intro h; have h0 := h 0
    rw [k1_off2_eq] at h0
    exact h0
  · intro h a
    match a with
    | 0 => rw [k1_off2_eq]; exact h

theorem trips_two : k1_t1_loop.trips = 2 := by decide +kernel

theorem chunks_disjoint : ∀ p ∈ (Finset.univ : Finset (Fin 2 × Fin 16 × Fin k1_t1_loop.trips)), ∀ p' ∈ (Finset.univ : Finset (Fin 2 × Fin 16 × Fin k1_t1_loop.trips)),
    p ≠ p' → Disjoint (chunk p.1 p.2.1 p.2.2) (chunk p'.1 p'.2.1 p'.2.2) := by
  rintro ⟨c, i, t⟩ - ⟨c', i', t'⟩ - hne
  rw [Finset.disjoint_left]
  intro y hy hy'
  rw [mem_chunk] at hy hy'
  dsimp only at hy hy'
  have ht : t.val < 2 := trips_two ▸ t.isLt
  have ht' : t'.val < 2 := trips_two ▸ t'.isLt
  apply hne
  have e1 : c = c' := by apply Fin.ext; omega
  have e2 : i = i' := by apply Fin.ext; omega
  have e3 : t = t' := by apply Fin.ext; omega
  rw [e1, e2, e3]

theorem chunks_cover : (Finset.univ : Finset (Fin 2 × Fin 16 × Fin k1_t1_loop.trips)).biUnion (fun p => chunk p.1 p.2.1 p.2.2) = Finset.univ := by
  ext y
  simp only [Finset.mem_biUnion, Finset.mem_univ, true_and, iff_true]
  have hy : (y 0).val < 851968 := (y 0).isLt
  refine ⟨(⟨(y 0).val / 26624 % 2, by omega⟩, ⟨(y 0).val / 53248, by omega⟩, ⟨(y 0).val / 13312 % 2, by rw [trips_two]; omega⟩), ?_⟩
  rw [mem_chunk]
  dsimp only
  omega

/-- The result array held whole is its chunks held, tile by tile. -/
theorem out_chunks (d : Dev nD) (g : Buf (Elt F) (oLoc d)) :
    (oLoc d ↦{fullShare} g : sProp 𝕄)
      = bigSep Finset.univ fun c : Fin 2 => bigSep Finset.univ fun i : Fin 16 => bigSep Finset.univ fun t : Fin k1_t1_loop.trips => oLoc d ↦[chunk c i t]{fullShare} g := by
  have h := pointsTo_biUnion (Ix := HIx 1) (Val := Elt F) (Name := ℕ) (U := UU) (Lvl := ℕ) (ℓ := oLoc d) (q := fullShare) (f := g) Finset.univ (fun p : Fin 2 × Fin 16 × Fin k1_t1_loop.trips => chunk p.1 p.2.1 p.2.2) chunks_disjoint
  rw [chunks_cover] at h
  rw [h, ← Finset.univ_product_univ, SparseCore.bigSep_product]
  refine bigSep_congr fun c _ => ?_
  rw [← Finset.univ_product_univ, SparseCore.bigSep_product]

end Cert.Proof.KI

end
-- ==== Proof.KI.Fin.lean ====
/-
  The finishing call's body on one block of 512 rows: what it leaves in its four result blocks, as a function of the
  three blocks it reads.
-/
module

public import proofs.«01_k».proof.Proof.KI.Base
public import Idealize.ShloMosaic.Lib.VecWindow

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A block stored whole reads back as what was stored. -/
theorem read_stored {sp : Space} {s : Shape} {e : EltTy} (m : Memref sig .tc sp s e) (f : m.view.ty.Contents (Elt F))
    {off : Fin s.rank → ℕ} (inb : ∀ a, off a + s.size a ≤ s.size a) (v : s.Idx → Elt F e) :
    m.view.read (Elt F) (m.view.writes (Elt F) f [⟨Rect.unit off s.size inb, v⟩]) = v := by
  funext y
  have h := View.read_writes_cons_emb (v := m.view) (f := f) (Rect.unit off s.size inb) v [] y
  rwa [Rect.emb_unit_full] at h

/-- A block read whole is its contents. -/
theorem read_loaded {sp : Space} {s : Shape} {e : EltTy} (m : Memref sig .tc sp s e) (f : m.view.ty.Contents (Elt F))
    {off : Fin s.rank → ℕ} (inb : ∀ a, off a + s.size a ≤ s.size a) :
    (m.view.slice (Rect.unit off s.size inb)).read (Elt F) f = m.view.read (Elt F) f := by
  funext y
  exact congrArg (m.view.read (Elt F) f) (Rect.emb_unit_full inb y)

/-- Memref `M`'s buffer on core `c`, held whole with the block reading `x`. -/
abbrev ptv (c : Dev nD) {sp : Space} {S : Shape} {e : EltTy} (M : Memref sig .tc sp S e) (x : S.Idx → Elt F e) : sProp 𝕄 :=
  iprop(∃ f : Buf (Elt F) (M.view.loc (c : Thread nD τ)), ⌜M.view.read (Elt F) f = x⌝ ∗ pt c M f)

/-- The three results of the finishing call at a block of table scores `x`, identifiers `n` and noise `g`. -/
def finLoss (x : Vec F S512x208 .f32) (n : Vec F S512x208 .i32) (g : Vec F S512x208 .f32) : Vec F S512x1 .f32 := k2_pay1 (k2_pay9 x n g)
def finLogits (x : Vec F S512x208 .f32) (n : Vec F S512x208 .i32) : Vec F S512x200 .f32 := k2_pay2 (k2_pay7 x n)
def finAction (x : Vec F S512x208 .f32) (n : Vec F S512x208 .i32) (g : Vec F S512x208 .f32) : Vec F S512x1 .i32 := k2_pay6 x n g
def finChosen (x : Vec F S512x208 .f32) (n : Vec F S512x208 .i32) (g : Vec F S512x208 .f32) : Vec F S512x1 .i32 := k2_pay3 (k2_pay4 n) (k2_pay8 x n g)

/-- The body from its three blocks held at `x`, `n`, `g` and its result blocks at anything: the four results. -/
theorem fin_body (c : Dev nD) (i : grid2.Coords) (m1 : Memref sig .tc .vmem S512x208 .f32) (h1 : m1.IsWhole) (m2 : Memref sig .tc .vmem S512x208 .i32) (h2 : m2.IsWhole)
    (m3 : Memref sig .tc .vmem S512x208 .f32) (h3 : m3.IsWhole) (m4 : Memref sig .tc .vmem S512x1 .f32) (h4 : m4.IsWhole)
    (m5 : Memref sig .tc .vmem S512x200 .f32) (h5 : m5.IsWhole) (m6 : Memref sig .tc .vmem S512x1 .i32) (h6 : m6.IsWhole)
    (m7 : Memref sig .tc .vmem S512x1 .i32) (h7 : m7.IsWhole)
    (x : Vec F S512x208 .f32) (n : Vec F S512x208 .i32) (g : Vec F S512x208 .f32)
    (f4 : Buf (Elt F) (m4.view.loc (c : Thread nD τ))) (f5 : Buf (Elt F) (m5.view.loc (c : Thread nD τ))) (f6 : Buf (Elt F) (m6.view.loc (c : Thread nD τ)))
    (f7 : Buf (Elt F) (m7.view.loc (c : Thread nD τ))) (E : Set ℕ) (Q : PUnit → sProp 𝕄) :
    (iprop(ptv c m1 x ∗ ptv c m2 n ∗ ptv c m3 g ∗ pt c m4 f4 ∗ pt c m5 f5 ∗ pt c m6 f6 ∗ pt c m7 f7
        ∗ (iprop(ptv c m1 x ∗ ptv c m2 n ∗ ptv c m3 g ∗ ptv c m4 (finLoss x n g) ∗ ptv c m5 (finLogits x n) ∗ ptv c m6 (finAction x n g)
            ∗ ptv c m7 (finChosen x n g)) -∗ Q ⟨⟩)) : sProp 𝕄)
      ⊢ wp frame (wpE (defs₀ (F := F)) Variants.none c none) E (cc2__fin_body i m1 h1 m2 h2 m3 h3 m4 h4 m5 h5 m6 h6 m7 h7) Q := by
  iintro ⟨⟨%f1, %e1, H1⟩, ⟨%f2, %e2, H2⟩, ⟨%f3, %e3, H3⟩, H4, H5, H6, H7, Hk⟩
  rw [cc2__fin_body_eq_skeleton]
  unfold cc2__fin_body_skel
  rw [wp_bind, k2_part1_eq_skeleton]
  unfold k2_part1_skel
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  have e1' : (m1.view.slice (Rect.unit (s := S512x208) ![0, 0] S512x208.size inb_S512x208_S512x208_0_0)).read (Elt F) f1 = x := (read_loaded m1 f1 _).trans e1
  have e2' : (m2.view.slice (Rect.unit (s := S512x208) ![0, 0] S512x208.size inb_S512x208_S512x208_0_0)).read (Elt F) f2 = n := (read_loaded m2 f2 _).trans e2
  have e3' : (m3.view.slice (Rect.unit (s := S512x208) ![0, 0] S512x208.size inb_S512x208_S512x208_0_0)).read (Elt F) f3 = g := (read_loaded m3 f3 _).trans e3
  isplitl [H4]
  · iexists _; isplitr; swap; · iexact H4
    ipureintro
    refine (read_stored m4 _ _ _).trans ?_
    rw [← e1', ← e2', ← e3']; rfl
  isplitl [H5]
  · iexists _; isplitr; swap; · iexact H5
    ipureintro
    refine (read_stored m5 _ _ _).trans ?_
    rw [← e1', ← e2']; rfl
  isplitl [H6]
  · iexists _; isplitr; swap; · iexact H6
    ipureintro
    refine (read_stored m6 _ _ _).trans ?_
    rw [← e1', ← e2', ← e3']; rfl
  · iexists _; isplitr; swap; · iexact H7
    ipureintro
    refine (read_stored m7 _ _ _).trans ?_
    rw [← e1', ← e2', ← e3']; rfl

end Cert.Proof.KI

end
-- ==== Proof.KI.Dense.lean ====
/-
  The dense call's body on one block of 512 rows: what it leaves in its three result blocks (the new hidden state,
  the new cell state, the scores of all 1024 rows of the table), as a function of the fourteen blocks it reads.
-/
module

public import proofs.«01_k».proof.Proof.KI.Fin

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

/-- The new cell state. -/
def denseC (x1 : Vec F S512x1 .i32) (x3 : Vec F S512x128 .f32) (x5 : Vec F S1024x128 .f32) (x7 : Vec F S128x512 .f32) (x8 : Vec F S128x512 .f32) (x9 : Vec F S1x512 .f32) (x10 : Vec F S1x512 .f32) (x4 : Vec F S512x128 .f32) : Vec F S512x128 .f32 :=
  k0_pay8 (k0_pay4 x5 x1 x7 x9 x3 x8 x10) (k0_pay5 x5 x1 x7 x9 x3 x8 x10) (k0_pay6 x5 x1 x7 x9 x3 x8 x10) x4

/-- The new hidden state. -/
def denseH (x1 : Vec F S512x1 .i32) (x3 : Vec F S512x128 .f32) (x5 : Vec F S1024x128 .f32) (x7 : Vec F S128x512 .f32) (x8 : Vec F S128x512 .f32) (x9 : Vec F S1x512 .f32) (x10 : Vec F S1x512 .f32) (x4 : Vec F S512x128 .f32) : Vec F S512x128 .f32 :=
  k0_pay9 (k0_pay4 x5 x1 x7 x9 x3 x8 x10) (k0_pay5 x5 x1 x7 x9 x3 x8 x10) (k0_pay6 x5 x1 x7 x9 x3 x8 x10) (k0_pay7 x5 x1 x7 x9 x3 x8 x10) x4

/-- The row vectors that score the table. -/
def denseMlp (x1 : Vec F S512x1 .i32) (x3 : Vec F S512x128 .f32) (x5 : Vec F S1024x128 .f32) (x7 : Vec F S128x512 .f32) (x8 : Vec F S128x512 .f32) (x9 : Vec F S1x512 .f32) (x10 : Vec F S1x512 .f32) (x4 : Vec F S512x128 .f32) (x2 : Vec F S512x1 .i32) (x11 : Vec F S256x256 .f32) (x12 : Vec F S1x256 .f32)
    (x13 : Vec F S256x128 .f32) (x14 : Vec F S1x128 .f32) : Vec F S512x128 .f32 :=
  k0_pay10 (iota .tc S512x1024 32 [1] iota_S512x1024_d1_w32) (k0_pay2 x5) (k0_pay4 x5 x1 x7 x9 x3 x8 x10) (k0_pay5 x5 x1 x7 x9 x3 x8 x10) (k0_pay6 x5 x1 x7 x9 x3 x8 x10) (k0_pay7 x5 x1 x7 x9 x3 x8 x10)
    x4 x2 x11 x12 x13 x14

/-- The scores. -/
def denseS (x1 : Vec F S512x1 .i32) (x3 : Vec F S512x128 .f32) (x5 : Vec F S1024x128 .f32) (x7 : Vec F S128x512 .f32) (x8 : Vec F S128x512 .f32) (x9 : Vec F S1x512 .f32) (x10 : Vec F S1x512 .f32) (x4 : Vec F S512x128 .f32) (x2 : Vec F S512x1 .i32) (x11 : Vec F S256x256 .f32) (x12 : Vec F S1x256 .f32)
    (x13 : Vec F S256x128 .f32) (x14 : Vec F S1x128 .f32) (x6 : Vec F S128x1024 .f32) : Vec F S512x1024 .f32 :=
  k0_pay1 (denseMlp x1 x3 x5 x7 x8 x9 x10 x4 x2 x11 x12 x13 x14) x6

/-- The body from its fourteen blocks held at the `x`s and its result blocks at anything: the three results. -/
theorem dense_body (c : Dev nD) (i : grid0.Coords) (m1 : Memref sig .tc .vmem S512x1 .i32) (h1 : m1.IsWhole) (m2 : Memref sig .tc .vmem S512x1 .i32) (h2 : m2.IsWhole) (m3 : Memref sig .tc .vmem S512x128 .f32) (h3 : m3.IsWhole) (m4 : Memref sig .tc .vmem S512x128 .f32) (h4 : m4.IsWhole) (m5 : Memref sig .tc .vmem S1024x128 .f32) (h5 : m5.IsWhole) (m6 : Memref sig .tc .vmem S128x1024 .f32) (h6 : m6.IsWhole) (m7 : Memref sig .tc .vmem S128x512 .f32) (h7 : m7.IsWhole) (m8 : Memref sig .tc .vmem S128x512 .f32) (h8 : m8.IsWhole) (m9 : Memref sig .tc .vmem S1x512 .f32) (h9 : m9.IsWhole) (m10 : Memref sig .tc .vmem S1x512 .f32) (h10 : m10.IsWhole) (m11 : Memref sig .tc .vmem S256x256 .f32) (h11 : m11.IsWhole) (m12 : Memref sig .tc .vmem S1x256 .f32) (h12 : m12.IsWhole) (m13 : Memref sig .tc .vmem S256x128 .f32) (h13 : m13.IsWhole) (m14 : Memref sig .tc .vmem S1x128 .f32) (h14 : m14.IsWhole) (m15 : Memref sig .tc .vmem S512x128 .f32) (h15 : m15.IsWhole) (m16 : Memref sig .tc .vmem S512x128 .f32) (h16 : m16.IsWhole) (m17 : Memref sig .tc .vmem S512x1024 .f32) (h17 : m17.IsWhole)
    (x1 : Vec F S512x1 .i32) (x2 : Vec F S512x1 .i32) (x3 : Vec F S512x128 .f32) (x4 : Vec F S512x128 .f32) (x5 : Vec F S1024x128 .f32) (x6 : Vec F S128x1024 .f32) (x7 : Vec F S128x512 .f32) (x8 : Vec F S128x512 .f32) (x9 : Vec F S1x512 .f32) (x10 : Vec F S1x512 .f32) (x11 : Vec F S256x256 .f32) (x12 : Vec F S1x256 .f32) (x13 : Vec F S256x128 .f32) (x14 : Vec F S1x128 .f32)
    (f15 : Buf (Elt F) (m15.view.loc (c : Thread nD τ))) (f16 : Buf (Elt F) (m16.view.loc (c : Thread nD τ))) (f17 : Buf (Elt F) (m17.view.loc (c : Thread nD τ))) (E : Set ℕ) (Q : PUnit → sProp 𝕄) :
    (iprop(ptv c m1 x1 ∗ ptv c m2 x2 ∗ ptv c m3 x3 ∗ ptv c m4 x4 ∗ ptv c m5 x5 ∗ ptv c m6 x6 ∗ ptv c m7 x7 ∗ ptv c m8 x8 ∗ ptv c m9 x9 ∗ ptv c m10 x10 ∗ ptv c m11 x11 ∗ ptv c m12 x12 ∗ ptv c m13 x13 ∗ ptv c m14 x14 ∗ pt c m15 f15 ∗ pt c m16 f16 ∗ pt c m17 f17
        ∗ (iprop(ptv c m1 x1 ∗ ptv c m2 x2 ∗ ptv c m3 x3 ∗ ptv c m4 x4 ∗ ptv c m5 x5 ∗ ptv c m6 x6 ∗ ptv c m7 x7 ∗ ptv c m8 x8 ∗ ptv c m9 x9 ∗ ptv c m10 x10 ∗ ptv c m11 x11 ∗ ptv c m12 x12 ∗ ptv c m13 x13 ∗ ptv c m14 x14 ∗ ptv c m15 (denseH x1 x3 x5 x7 x8 x9 x10 x4) ∗ ptv c m16 (denseC x1 x3 x5 x7 x8 x9 x10 x4)
            ∗ ptv c m17 (denseS x1 x3 x5 x7 x8 x9 x10 x4 x2 x11 x12 x13 x14 x6)) -∗ Q ⟨⟩)) : sProp 𝕄)
      ⊢ wp frame (wpE (defs₀ (F := F)) Variants.none c none) E (cc0__dense_body i m1 h1 m2 h2 m3 h3 m4 h4 m5 h5 m6 h6 m7 h7 m8 h8 m9 h9 m10 h10 m11 h11 m12 h12 m13 h13 m14 h14 m15 h15 m16 h16 m17 h17) Q := by
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, H15, H16, H17, Hk⟩
  rw [cc0__dense_body_eq_skeleton]
  unfold cc0__dense_body_skel
  rw [wp_bind, k0_part1_eq_skeleton, k0_part2_eq_skeleton]
  unfold k0_part1_skel k0_part2_skel
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  isplitl [H13]; · iexists f13; isplitr; · ipureintro; exact e13
                   iexact H13
  isplitl [H14]; · iexists f14; isplitr; · ipureintro; exact e14
                   iexact H14
  have r1 : (m1.view.slice (Rect.unit (s := S512x1) ![0, 0] S512x1.size inb_S512x1_S512x1_0_0)).read (Elt F) f1 = x1 := (read_loaded m1 f1 _).trans e1
  have r2 : (m2.view.slice (Rect.unit (s := S512x1) ![0, 0] S512x1.size inb_S512x1_S512x1_0_0)).read (Elt F) f2 = x2 := (read_loaded m2 f2 _).trans e2
  have r3 : (m3.view.slice (Rect.unit (s := S512x128) ![0, 0] S512x128.size inb_S512x128_S512x128_0_0)).read (Elt F) f3 = x3 := (read_loaded m3 f3 _).trans e3
  have r4 : (m4.view.slice (Rect.unit (s := S512x128) ![0, 0] S512x128.size inb_S512x128_S512x128_0_0)).read (Elt F) f4 = x4 := (read_loaded m4 f4 _).trans e4
  have r5 : (m5.view.slice (Rect.unit (s := S1024x128) ![0, 0] S1024x128.size inb_S1024x128_S1024x128_0_0)).read (Elt F) f5 = x5 := (read_loaded m5 f5 _).trans e5
  have r6 : (m6.view.slice (Rect.unit (s := S128x1024) ![0, 0] S128x1024.size inb_S128x1024_S128x1024_0_0)).read (Elt F) f6 = x6 := (read_loaded m6 f6 _).trans e6
  have r7 : (m7.view.slice (Rect.unit (s := S128x512) ![0, 0] S128x512.size inb_S128x512_S128x512_0_0)).read (Elt F) f7 = x7 := (read_loaded m7 f7 _).trans e7
  have r8 : (m8.view.slice (Rect.unit (s := S128x512) ![0, 0] S128x512.size inb_S128x512_S128x512_0_0)).read (Elt F) f8 = x8 := (read_loaded m8 f8 _).trans e8
  have r9 : (m9.view.slice (Rect.unit (s := S1x512) ![0, 0] S1x512.size inb_S1x512_S1x512_0_0)).read (Elt F) f9 = x9 := (read_loaded m9 f9 _).trans e9
  have r10 : (m10.view.slice (Rect.unit (s := S1x512) ![0, 0] S1x512.size inb_S1x512_S1x512_0_0)).read (Elt F) f10 = x10 := (read_loaded m10 f10 _).trans e10
  have r11 : (m11.view.slice (Rect.unit (s := S256x256) ![0, 0] S256x256.size inb_S256x256_S256x256_0_0)).read (Elt F) f11 = x11 := (read_loaded m11 f11 _).trans e11
  have r12 : (m12.view.slice (Rect.unit (s := S1x256) ![0, 0] S1x256.size inb_S1x256_S1x256_0_0)).read (Elt F) f12 = x12 := (read_loaded m12 f12 _).trans e12
  have r13 : (m13.view.slice (Rect.unit (s := S256x128) ![0, 0] S256x128.size inb_S256x128_S256x128_0_0)).read (Elt F) f13 = x13 := (read_loaded m13 f13 _).trans e13
  have r14 : (m14.view.slice (Rect.unit (s := S1x128) ![0, 0] S1x128.size inb_S1x128_S1x128_0_0)).read (Elt F) f14 = x14 := (read_loaded m14 f14 _).trans e14
  isplitl [H15]
  · iexists _; isplitr; swap; · iexact H15
    ipureintro
    refine (read_stored m15 _ _ _).trans ?_
    rw [← r1, ← r3, ← r4, ← r5, ← r7, ← r8, ← r9, ← r10]; rfl
  isplitl [H16]
  · iexists _; isplitr; swap; · iexact H16
    ipureintro
    refine (read_stored m16 _ _ _).trans ?_
    rw [← r1, ← r3, ← r4, ← r5, ← r7, ← r8, ← r9, ← r10]; rfl
  · iexists _; isplitr; swap; · iexact H17
    ipureintro
    refine (read_stored m17 _ _ _).trans ?_
    rw [← r1, ← r2, ← r3, ← r4, ← r5, ← r6, ← r7, ← r8, ← r9, ← r10, ← r11, ← r12, ← r13, ← r14]; rfl

end Cert.Proof.KI

end
-- ==== Proof.KI.Dats.lean ====
/-
  The two TensorCore calls' proof data at a valuation of the arrays: what each staging block holds after the body, and
  the body's obligation at every grid point.
-/
module

public import proofs.«01_k».proof.Proof.KI.Dense
public import Idealize.ShloMosaic.Lib.Pipeline.RegionArraysS

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

/-- A whole block owned at `x` is its buffer held whole, reading `x`. -/
theorem owns_ptv (c : Dev nD) {sp : Space} {S : Shape} {e : EltTy} {M : Memref sig .tc sp S e} (h : M.IsWhole) (x : S.Idx → Elt F e) :
    (owns (c : Thread nD τ) M fullShare x : sProp 𝕄) = ptv c M x := by
  unfold owns; rw [h.set_eq_univ]

variable (V : Valuation τ sig (Elt F)) (O : CellTallies nD τ sig (HIx 1)) (B : Set (SemLoc sig × HIx 1))

/-- The dense call's arrays at the valuation. -/
abbrev A0 (c : Dev nD) (w : Fin cfg0.W) : Buf (Elt F) ((cfg0.win w).arr.view.loc (c.tc : Thread nD τ)) := V (Proc.devRef .tc (Pipeline.arrRef spec0 w))
/-- The block of input `w` that the body finds at point `t`. -/
abbrev in0 (c : Dev nD) (w : Fin cfg0.W) (t : Fin cfg0.N) := Pipeline.heldIn (c := c) cfg0 (A0 V c) w t.val t.isLt

/-- The dense call's proof data: the arrays at `V`; an input block as found; the three result blocks at the body's
    functions of the input blocks. -/
def dat0 (c : Dev nD) : Pipeline.Dat τ (Elt F) (HIx 1) ℕ UU ℕ cfg0 c where
  A w := A0 V c w
  after w t := match w with
    | ⟨0, _⟩ => in0 V c 0 t
    | ⟨1, _⟩ => in0 V c 1 t
    | ⟨2, _⟩ => in0 V c 2 t
    | ⟨3, _⟩ => in0 V c 3 t
    | ⟨4, _⟩ => in0 V c 4 t
    | ⟨5, _⟩ => in0 V c 5 t
    | ⟨6, _⟩ => in0 V c 6 t
    | ⟨7, _⟩ => in0 V c 7 t
    | ⟨8, _⟩ => in0 V c 8 t
    | ⟨9, _⟩ => in0 V c 9 t
    | ⟨10, _⟩ => in0 V c 10 t
    | ⟨11, _⟩ => in0 V c 11 t
    | ⟨12, _⟩ => in0 V c 12 t
    | ⟨13, _⟩ => in0 V c 13 t
    | ⟨14, _⟩ => denseH (in0 V c 0 t) (in0 V c 2 t) (in0 V c 4 t) (in0 V c 6 t) (in0 V c 7 t) (in0 V c 8 t) (in0 V c 9 t) (in0 V c 3 t)
    | ⟨15, _⟩ => denseC (in0 V c 0 t) (in0 V c 2 t) (in0 V c 4 t) (in0 V c 6 t) (in0 V c 7 t) (in0 V c 8 t) (in0 V c 9 t) (in0 V c 3 t)
    | ⟨16, _⟩ => denseS (in0 V c 0 t) (in0 V c 2 t) (in0 V c 4 t) (in0 V c 6 t) (in0 V c 7 t) (in0 V c 8 t) (in0 V c 9 t) (in0 V c 3 t) (in0 V c 1 t) (in0 V c 10 t) (in0 V c 11 t) (in0 V c 12 t) (in0 V c 13 t) (in0 V c 5 t)
    | ⟨_ + 17, h⟩ => absurd h (Nat.not_lt.2 (Nat.le_add_left _ _))
  Φ _ := Pipeline.scopedRest (Ix := HIx 1) (Name := ℕ) (U := UU) (Lvl := ℕ) (Val := Elt F) cfg0.spec c
  q _ := fullShare
  owed _ := O
  recorded _ := B

theorem before0_0 (c : Dev nD) (t : Fin cfg0.N) (d) : (dat0 V O B c).before 0 t d = in0 V c 0 t := (dat0 V O B c).before_eq_heldIn 0 rfl (fun _ => rfl) (fun _ _ => rfl) (fun _ => rfl) t d
theorem before0_1 (c : Dev nD) (t : Fin cfg0.N) (d) : (dat0 V O B c).before 1 t d = in0 V c 1 t := (dat0 V O B c).before_eq_heldIn 1 rfl (fun _ => rfl) (fun _ _ => rfl) (fun _ => rfl) t d
theorem before0_2 (c : Dev nD) (t : Fin cfg0.N) (d) : (dat0 V O B c).before 2 t d = in0 V c 2 t := (dat0 V O B c).before_eq_heldIn 2 rfl (fun _ => rfl) (fun _ _ => rfl) (fun _ => rfl) t d
theorem before0_3 (c : Dev nD) (t : Fin cfg0.N) (d) : (dat0 V O B c).before 3 t d = in0 V c 3 t := (dat0 V O B c).before_eq_heldIn 3 rfl (fun _ => rfl) (fun _ _ => rfl) (fun _ => rfl) t d
theorem before0_4 (c : Dev nD) (t : Fin cfg0.N) (d) : (dat0 V O B c).before 4 t d = in0 V c 4 t := (dat0 V O B c).before_eq_heldIn 4 rfl (fun _ => rfl) (fun _ _ => rfl) (fun _ => rfl) t d
theorem before0_5 (c : Dev nD) (t : Fin cfg0.N) (d) : (dat0 V O B c).before 5 t d = in0 V c 5 t := (dat0 V O B c).before_eq_heldIn 5 rfl (fun _ => rfl) (fun _ _ => rfl) (fun _ => rfl) t d
theorem before0_6 (c : Dev nD) (t : Fin cfg0.N) (d) : (dat0 V O B c).before 6 t d = in0 V c 6 t := (dat0 V O B c).before_eq_heldIn 6 rfl (fun _ => rfl) (fun _ _ => rfl) (fun _ => rfl) t d
theorem before0_7 (c : Dev nD) (t : Fin cfg0.N) (d) : (dat0 V O B c).before 7 t d = in0 V c 7 t := (dat0 V O B c).before_eq_heldIn 7 rfl (fun _ => rfl) (fun _ _ => rfl) (fun _ => rfl) t d
theorem before0_8 (c : Dev nD) (t : Fin cfg0.N) (d) : (dat0 V O B c).before 8 t d = in0 V c 8 t := (dat0 V O B c).before_eq_heldIn 8 rfl (fun _ => rfl) (fun _ _ => rfl) (fun _ => rfl) t d
theorem before0_9 (c : Dev nD) (t : Fin cfg0.N) (d) : (dat0 V O B c).before 9 t d = in0 V c 9 t := (dat0 V O B c).before_eq_heldIn 9 rfl (fun _ => rfl) (fun _ _ => rfl) (fun _ => rfl) t d
theorem before0_10 (c : Dev nD) (t : Fin cfg0.N) (d) : (dat0 V O B c).before 10 t d = in0 V c 10 t := (dat0 V O B c).before_eq_heldIn 10 rfl (fun _ => rfl) (fun _ _ => rfl) (fun _ => rfl) t d
theorem before0_11 (c : Dev nD) (t : Fin cfg0.N) (d) : (dat0 V O B c).before 11 t d = in0 V c 11 t := (dat0 V O B c).before_eq_heldIn 11 rfl (fun _ => rfl) (fun _ _ => rfl) (fun _ => rfl) t d
theorem before0_12 (c : Dev nD) (t : Fin cfg0.N) (d) : (dat0 V O B c).before 12 t d = in0 V c 12 t := (dat0 V O B c).before_eq_heldIn 12 rfl (fun _ => rfl) (fun _ _ => rfl) (fun _ => rfl) t d
theorem before0_13 (c : Dev nD) (t : Fin cfg0.N) (d) : (dat0 V O B c).before 13 t d = in0 V c 13 t := (dat0 V O B c).before_eq_heldIn 13 rfl (fun _ => rfl) (fun _ _ => rfl) (fun _ => rfl) t d

set_option maxHeartbeats 1000000 in
/-- The dense call's body at every point. -/
theorem body0 (c : Dev nD) : Pipeline.BodyObligation (dat0 V O B c) (defs₀ (F := F)) Variants.none none Set.univ := fun t => by
  rw [bigSep_W0, bigSep_W0]
  have o0 : ∀ x, (owns (c : Thread nD τ) (stage0_0 (cfg0.slots t 0)) fullShare x : sProp 𝕄) = ptv c (stage0_0 (cfg0.slots t 0)) x := owns_ptv c (hstage0_0 _)
  have o1 : ∀ x, (owns (c : Thread nD τ) (stage0_1 (cfg0.slots t 1)) fullShare x : sProp 𝕄) = ptv c (stage0_1 (cfg0.slots t 1)) x := owns_ptv c (hstage0_1 _)
  have o2 : ∀ x, (owns (c : Thread nD τ) (stage0_2 (cfg0.slots t 2)) fullShare x : sProp 𝕄) = ptv c (stage0_2 (cfg0.slots t 2)) x := owns_ptv c (hstage0_2 _)
  have o3 : ∀ x, (owns (c : Thread nD τ) (stage0_3 (cfg0.slots t 3)) fullShare x : sProp 𝕄) = ptv c (stage0_3 (cfg0.slots t 3)) x := owns_ptv c (hstage0_3 _)
  have o4 : ∀ x, (owns (c : Thread nD τ) (stage0_4 (cfg0.slots t 4)) fullShare x : sProp 𝕄) = ptv c (stage0_4 (cfg0.slots t 4)) x := owns_ptv c (hstage0_4 _)
  have o5 : ∀ x, (owns (c : Thread nD τ) (stage0_5 (cfg0.slots t 5)) fullShare x : sProp 𝕄) = ptv c (stage0_5 (cfg0.slots t 5)) x := owns_ptv c (hstage0_5 _)
  have o6 : ∀ x, (owns (c : Thread nD τ) (stage0_6 (cfg0.slots t 6)) fullShare x : sProp 𝕄) = ptv c (stage0_6 (cfg0.slots t 6)) x := owns_ptv c (hstage0_6 _)
  have o7 : ∀ x, (owns (c : Thread nD τ) (stage0_7 (cfg0.slots t 7)) fullShare x : sProp 𝕄) = ptv c (stage0_7 (cfg0.slots t 7)) x := owns_ptv c (hstage0_7 _)
  have o8 : ∀ x, (owns (c : Thread nD τ) (stage0_8 (cfg0.slots t 8)) fullShare x : sProp 𝕄) = ptv c (stage0_8 (cfg0.slots t 8)) x := owns_ptv c (hstage0_8 _)
  have o9 : ∀ x, (owns (c : Thread nD τ) (stage0_9 (cfg0.slots t 9)) fullShare x : sProp 𝕄) = ptv c (stage0_9 (cfg0.slots t 9)) x := owns_ptv c (hstage0_9 _)
  have o10 : ∀ x, (owns (c : Thread nD τ) (stage0_10 (cfg0.slots t 10)) fullShare x : sProp 𝕄) = ptv c (stage0_10 (cfg0.slots t 10)) x := owns_ptv c (hstage0_10 _)
  have o11 : ∀ x, (owns (c : Thread nD τ) (stage0_11 (cfg0.slots t 11)) fullShare x : sProp 𝕄) = ptv c (stage0_11 (cfg0.slots t 11)) x := owns_ptv c (hstage0_11 _)
  have o12 : ∀ x, (owns (c : Thread nD τ) (stage0_12 (cfg0.slots t 12)) fullShare x : sProp 𝕄) = ptv c (stage0_12 (cfg0.slots t 12)) x := owns_ptv c (hstage0_12 _)
  have o13 : ∀ x, (owns (c : Thread nD τ) (stage0_13 (cfg0.slots t 13)) fullShare x : sProp 𝕄) = ptv c (stage0_13 (cfg0.slots t 13)) x := owns_ptv c (hstage0_13 _)
  have o14 : ∀ x, (owns (c : Thread nD τ) (stage0_14 (cfg0.slots t 14)) fullShare x : sProp 𝕄) = ptv c (stage0_14 (cfg0.slots t 14)) x := owns_ptv c (hstage0_14 _)
  have o15 : ∀ x, (owns (c : Thread nD τ) (stage0_15 (cfg0.slots t 15)) fullShare x : sProp 𝕄) = ptv c (stage0_15 (cfg0.slots t 15)) x := owns_ptv c (hstage0_15 _)
  have o16 : ∀ x, (owns (c : Thread nD τ) (stage0_16 (cfg0.slots t 16)) fullShare x : sProp 𝕄) = ptv c (stage0_16 (cfg0.slots t 16)) x := owns_ptv c (hstage0_16 _)
  simp only [o0, o1, o2, o3, o4, o5, o6, o7, o8, o9, o10, o11, o12, o13, o14, o15, o16]
  rw [show (dat0 V O B c).Φ t.castSucc = (dat0 V O B c).Φ t.succ from rfl, show (dat0 V O B c).owesAt none t.succ = (dat0 V O B c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %f14, -, H14⟩, ⟨%d15, %f15, -, H15⟩, ⟨%d16, %f16, -, H16⟩⟩
  rw [before0_0, before0_1, before0_2, before0_3, before0_4, before0_5, before0_6, before0_7, before0_8, before0_9, before0_10, before0_11, before0_12, before0_13]
  iapply (dense_body c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) (in0 V c 0 t) (in0 V c 1 t) (in0 V c 2 t) (in0 V c 3 t) (in0 V c 4 t) (in0 V c 5 t) (in0 V c 6 t) (in0 V c 7 t) (in0 V c 8 t) (in0 V c 9 t) (in0 V c 10 t) (in0 V c 11 t) (in0 V c 12 t) (in0 V c 13 t) f14 f15 f16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The finishing call's arrays at the valuation. -/
abbrev A2 (c : Dev nD) (w : Fin cfg2.W) : Buf (Elt F) ((cfg2.win w).arr.view.loc (c.tc : Thread nD τ)) := V (Proc.devRef .tc (Pipeline.arrRef spec2 w))
/-- The block of input `w` that the body finds at point `t`. -/
abbrev in2 (c : Dev nD) (w : Fin cfg2.W) (t : Fin cfg2.N) := Pipeline.heldIn (c := c) cfg2 (A2 V c) w t.val t.isLt

/-- The finishing call's proof data. -/
def dat2 (c : Dev nD) : Pipeline.Dat τ (Elt F) (HIx 1) ℕ UU ℕ cfg2 c where
  A w := A2 V c w
  after w t := match w with
    | ⟨0, _⟩ => in2 V c 0 t
    | ⟨1, _⟩ => in2 V c 1 t
    | ⟨2, _⟩ => in2 V c 2 t
    | ⟨3, _⟩ => finLoss (in2 V c 0 t) (in2 V c 1 t) (in2 V c 2 t)
    | ⟨4, _⟩ => finLogits (in2 V c 0 t) (in2 V c 1 t)
    | ⟨5, _⟩ => finAction (in2 V c 0 t) (in2 V c 1 t) (in2 V c 2 t)
    | ⟨6, _⟩ => finChosen (in2 V c 0 t) (in2 V c 1 t) (in2 V c 2 t)
    | ⟨_ + 7, h⟩ => absurd h (Nat.not_lt.2 (Nat.le_add_left _ _))
  Φ _ := Pipeline.scopedRest (Ix := HIx 1) (Name := ℕ) (U := UU) (Lvl := ℕ) (Val := Elt F) cfg2.spec c
  q _ := fullShare
  owed _ := O
  recorded _ := B

theorem before2_0 (c : Dev nD) (t : Fin cfg2.N) (d) : (dat2 V O B c).before 0 t d = in2 V c 0 t := (dat2 V O B c).before_eq_heldIn 0 rfl (fun _ => rfl) (fun _ _ => rfl) (fun _ => rfl) t d
theorem before2_1 (c : Dev nD) (t : Fin cfg2.N) (d) : (dat2 V O B c).before 1 t d = in2 V c 1 t := (dat2 V O B c).before_eq_heldIn 1 rfl (fun _ => rfl) (fun _ _ => rfl) (fun _ => rfl) t d
theorem before2_2 (c : Dev nD) (t : Fin cfg2.N) (d) : (dat2 V O B c).before 2 t d = in2 V c 2 t := (dat2 V O B c).before_eq_heldIn 2 rfl (fun _ => rfl) (fun _ _ => rfl) (fun _ => rfl) t d

/-- The finishing call's body at every point. -/
theorem body2 (c : Dev nD) : Pipeline.BodyObligation (dat2 V O B c) (defs₀ (F := F)) Variants.none none Set.univ := fun t => by
  rw [bigSep_W2, bigSep_W2]
  have o0 : ∀ x, (owns (c : Thread nD τ) (stage2_0 (cfg2.slots t 0)) fullShare x : sProp 𝕄) = ptv c (stage2_0 (cfg2.slots t 0)) x := owns_ptv c (hstage2_0 _)
  have o1 : ∀ x, (owns (c : Thread nD τ) (stage2_1 (cfg2.slots t 1)) fullShare x : sProp 𝕄) = ptv c (stage2_1 (cfg2.slots t 1)) x := owns_ptv c (hstage2_1 _)
  have o2 : ∀ x, (owns (c : Thread nD τ) (stage2_2 (cfg2.slots t 2)) fullShare x : sProp 𝕄) = ptv c (stage2_2 (cfg2.slots t 2)) x := owns_ptv c (hstage2_2 _)
  have o3 : ∀ x, (owns (c : Thread nD τ) (stage2_3 (cfg2.slots t 3)) fullShare x : sProp 𝕄) = ptv c (stage2_3 (cfg2.slots t 3)) x := owns_ptv c (hstage2_3 _)
  have o4 : ∀ x, (owns (c : Thread nD τ) (stage2_4 (cfg2.slots t 4)) fullShare x : sProp 𝕄) = ptv c (stage2_4 (cfg2.slots t 4)) x := owns_ptv c (hstage2_4 _)
  have o5 : ∀ x, (owns (c : Thread nD τ) (stage2_5 (cfg2.slots t 5)) fullShare x : sProp 𝕄) = ptv c (stage2_5 (cfg2.slots t 5)) x := owns_ptv c (hstage2_5 _)
  have o6 : ∀ x, (owns (c : Thread nD τ) (stage2_6 (cfg2.slots t 6)) fullShare x : sProp 𝕄) = ptv c (stage2_6 (cfg2.slots t 6)) x := owns_ptv c (hstage2_6 _)
  simp only [o0, o1, o2, o3, o4, o5, o6]
  rw [show (dat2 V O B c).Φ t.castSucc = (dat2 V O B c).Φ t.succ from rfl, show (dat2 V O B c).owesAt none t.succ = (dat2 V O B c).owesAt none t.castSucc from rfl]
  iintro ⟨HΦ, Howes, ⟨%d0, H0⟩, ⟨%d1, H1⟩, ⟨%d2, H2⟩, ⟨%d3, %f3, -, H3⟩, ⟨%d4, %f4, -, H4⟩, ⟨%d5, %f5, -, H5⟩, ⟨%d6, %f6, -, H6⟩⟩
  rw [before2_0, before2_1, before2_2]
  iapply (fin_body c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) (in2 V c 0 t) (in2 V c 1 t) (in2 V c 2 t) f3 f4 f5 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  have a5 : (dat2 V O B c).after 5 t = finAction (in2 V c 0 t) (in2 V c 1 t) (in2 V c 2 t) := by dsimp only [dat2]
  have a6 : (dat2 V O B c).after 6 t = finChosen (in2 V c 0 t) (in2 V c 1 t) (in2 V c 2 t) := by dsimp only [dat2]
  rw [a5, a6]
  isplitl [H0]; · iexact H0
  isplitl [H1]; · iexact H1
  isplitl [H2]; · iexact H2
  isplitl [H3]; · iexact H3
  isplitl [H4]; · iexact H4
  isplitl [H5]; · iexact H5
  iexact H6

end Cert.Proof.KI

end
-- ==== Proof.KI.Region.lean ====
/-
  The two TensorCore calls as regions of @main: from every unscoped buffer held at a valuation, to every unscoped
  buffer held at the valuation with the call's arrays rewritten; what the core owes, and the level its recorded waits
  stay below, are kept.
-/
module

public import proofs.«01_k».proof.Proof.KI.Dats

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

/-- Neither call reads a prefetched table. -/
abbrev adm (q : Fin 2) : (pcfgs (F := F) q).Adm := (cfgs q).toPCfg_adm

/-- After `n` SparseCore calls the core's waits so far sit at or below this level. -/
abbrev rec (c : Dev nD) (n : ℕ) : Set (SemLoc sig × HIx 1) := {q | (K (F := F)).lev (T c, q.1) q.2 ≤ 8 * n}

/-- What the core owes after `n` SparseCore calls, its recorded waits below the level. -/
abbrev owesN (c : Dev nD) (n : ℕ) : sProp 𝕄 :=
  iprop(∃ W, ⌜(K (F := F)).WBelow (T c) W (8 * n)⌝ ∗ owes (T c) ((K (F := F)).Otc c n) W)

/-- The proof data of both calls at one valuation, after `n` SparseCore calls. -/
def pdats (V : Valuation τ sig (Elt F)) (n : ℕ) : (p : Fin 2) → (c : Dev nD) → Pipeline.Dat τ (Elt F) (HIx 1) ℕ UU ℕ (Pipeline.pin (pcfgs (F := F)) adm p) c
  | ⟨0, _⟩ => fun c => dat0 V ((K (F := F)).Otc c n) (rec (F := F) c n) c
  | ⟨1, _⟩ => fun c => dat2 V ((K (F := F)).Otc c n) (rec (F := F) c n) c

theorem pdats_share (V : Valuation τ sig (Elt F)) (n : ℕ) : ∀ (p : Fin 2) (c : Dev nD) (w), (pdats V n p c).share w = fullShare
  | ⟨0, _⟩, _, _ => by unfold Pipeline.Dat.share; split <;> rfl
  | ⟨1, _⟩, _, _ => by unfold Pipeline.Dat.share; split <;> rfl

theorem pdats_body (V : Valuation τ sig (Elt F)) (n : ℕ) : ∀ (p : Fin 2) (c : Dev nD), Pipeline.BodyObligationLoose (pdats V n p c) (defs₀ (F := F)) 𝒱₀ none Set.univ
  | ⟨0, _⟩, c => (body0 V _ _ c).loose
  | ⟨1, _⟩, c => (body2 V _ _ c).loose

theorem pdats_owed (V : Valuation τ sig (Elt F)) (n : ℕ) : ∀ (p : Fin 2) (c : Dev nD) (t), (pdats V n p c).owed t = (K (F := F)).Otc c n
  | ⟨0, _⟩, _, _ => rfl
  | ⟨1, _⟩, _, _ => rfl

theorem pdats_recorded (V : Valuation τ sig (Elt F)) (n : ℕ) : ∀ (p : Fin 2) (c : Dev nD) (t), (pdats V n p c).recorded t = rec (F := F) c n
  | ⟨0, _⟩, _, _ => rfl
  | ⟨1, _⟩, _, _ => rfl

theorem pdats_Φ (V : Valuation τ sig (Elt F)) (n : ℕ) : ∀ (p : Fin 2) (c : Dev nD) (t), (pdats V n p c).Φ t
      = Pipeline.scopedRest (Ix := HIx 1) (Name := ℕ) (U := UU) (Lvl := ℕ) (Val := Elt F) (Pipeline.pin (pcfgs (F := F)) adm p).spec c := by
  intro p c t
  match p with
  | ⟨0, _⟩ =>
    dsimp only [pdats, dat0]
    exact congrArg (fun s => Pipeline.scopedRest (Ix := HIx 1) (Name := ℕ) (U := UU) (Lvl := ℕ) (Val := Elt F) s c) (rfl : cfg0.spec = (Pipeline.pin (pcfgs (F := F)) adm 0).spec)
  | ⟨1, _⟩ =>
    dsimp only [pdats, dat2]
    exact congrArg (fun s => Pipeline.scopedRest (Ix := HIx 1) (Name := ℕ) (U := UU) (Lvl := ℕ) (Val := Elt F) s c) (rfl : cfg2.spec = (Pipeline.pin (pcfgs (F := F)) adm 1).spec)

theorem pdats_A (V : Valuation τ sig (Elt F)) (n : ℕ) : ∀ (p : Fin 2) (c : Dev nD) (w), (pdats V n p c).arrAt w 0
      = V (Proc.devRef .tc (Pipeline.arrRef (Pipeline.pin (pcfgs (F := F)) adm p).spec w))
  | ⟨0, _⟩, _, _ => rfl
  | ⟨1, _⟩, _, _ => rfl

theorem kit : ∀ p : Fin 2, Pipeline.PLaunchFacts (nD := nD) (τ := τ) (pcfgs (F := F)) p
  | ⟨0, _⟩ => launch0.toP
  | ⟨1, _⟩ => launch2.toP

theorem Otc_none (c : Dev nD) (n : ℕ) (g : GSem nD τ sig) : (K (F := F)).Otc c n g none = 0 := by
  by_contra h
  have := (K (F := F)).lev_of_Otc_pos (Nat.pos_of_ne_zero h)
  rw [SparseCore.Cfg.lev_none] at this
  omega

/-- Call `p` as a region of @main after `n` SparseCore calls. -/
def seg (p : Fin 2) (n : ℕ) (V : Valuation τ sig (Elt F)) :
    Pipeline.RegionSeg (pcfgs (F := F)) adm (pdats V n) none (defs₀ (F := F)) 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody c := pdats_body V n p c
  hwaits c := Pipeline.cellsWaits_intro _ _ _ _ _ fun w s t => by
    rw [pdats_owed]
    exact (K (F := F)).mayWait_none _ (Otc_none c n)
  pre c := iprop(StableHlo.held (c.tc : Thread nD τ) (Pipeline.ucRefs τ sig) V ∗ owesN c n)
  post c := iprop(StableHlo.held (c.tc : Thread nD τ) (Pipeline.ucRefs τ sig) (Pipeline.afterRegion (pdats V n p c) V) ∗ owesN c n)
  X _ := iprop(emp)
  Y _ := iprop(emp)
  Z c := StableHlo.held (c.tc : Thread nD τ) (Pipeline.ucRefs τ sig \ Pipeline.arrRefs (pcfgs (F := F) p).spec) V
  hentry c := by
    rw [Pipeline.ownSems0_none, Pipeline.prefHeld_of_none _ (by fin_cases p <;> rfl),
      StableHlo.held_sub_split (c.tc : Thread nD τ) (Pipeline.arrRefs_sub_ucRefs (pcfgs (F := F) p).spec (kit (F := F) p).win.arr_unscoped) V,
      ← Pipeline.arrays_held (pcfgs (F := F)) adm (pdats V n) p (kit (F := F) p) c (pdats_share V n p c) ((pdats V n p c).arrAt · 0) V (pdats_A V n p c)]
    iintro ⟨⟨⟨Ha, HZ⟩, ⟨%W, %hW, HO⟩⟩, -, -⟩
    imodintro
    isplitl [Ha]; · iexact Ha
    isplitr; · iempintro
    isplitl [HO]
    · unfold Pipeline.Dat.owesAt Pipeline.owesWithin Pipeline.Dat.bound
      rw [pdats_owed, pdats_recorded]
      iexists W; isplitr; · ipureintro; exact fun q hq => Or.inl (hW q hq)
      iexact HO
    isplitr; · iempintro
    iexact HZ
  hin c := by
    rw [pdats_Φ]
    iintro ⟨-, -, H⟩
    iexact H
  hout c := by
    rw [pdats_Φ, Pipeline.ownSems0_none]
    iintro H
    isplitr; · iempintro
    isplitr; · iempintro
    iexact H
  hexit c := by
    rw [Pipeline.arrays_held (pcfgs (F := F)) adm (pdats V n) p (kit (F := F) p) c (pdats_share V n p c) ((pdats V n p c).arrAt · (Pipeline.pin (pcfgs (F := F)) adm p).N)
      (Pipeline.afterRegion (pdats V n p c) V) (fun w => (Pipeline.afterRegion_arr (pdats V n p c) V (kit (F := F) p).win.arr_inj w).symm),
      StableHlo.held_sub_split (c.tc : Thread nD τ) (Pipeline.arrRefs_sub_ucRefs (pcfgs (F := F) p).spec (kit (F := F) p).win.arr_unscoped) (Pipeline.afterRegion (pdats V n p c) V),
      StableHlo.held_congr (c.tc : Thread nD τ) (S := Pipeline.ucRefs τ sig \ Pipeline.arrRefs (pcfgs (F := F) p).spec) (V := Pipeline.afterRegion (pdats V n p c) V) (V' := V)
        (Pipeline.afterRegion_off (pdats V n p c) V (Pipeline.ucRefs τ sig))]
    iintro ⟨Ha, HO, -, HZ⟩
    imodintro
    isplitl [Ha HZ]
    · isplitl [Ha]; · iexact Ha
      iexact HZ
    unfold Pipeline.Dat.owesAt Pipeline.owesWithin Pipeline.Dat.bound
    rw [pdats_owed, pdats_recorded]
    icases HO with ⟨%W, %hW, HO⟩
    iexists W; isplitr
    · ipureintro
      intro q hq
      rcases hW hq with h | ⟨w, s, rfl⟩
      · exact h
      · exact Nat.zero_le _
    iexact HO

end Cert.Proof.KI

end
-- ==== Proof.KI.Launch.lean ====
/-
  The one SparseCore call: what it takes and gives back, its tiles' obligation, and the ghost state the launch starts from.
-/
module

public import proofs.«01_k».proof.Proof.KI.Split
public import proofs.«01_k».proof.Proof.KI.Region

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

variable (s : Dev nD → S4194304.Idx → Elt F .f32) (a : Dev nD → S851968.Idx → Elt F .i32) (f : Dev nD → S851968.Idx → Elt F .f32)

/-- The share of the operands each SparseCore reads with, and each of its tiles. -/
abbrev coreShare (c : Fin 2) : PosShare TreeShare := Transfers.dealOf fullShare Finset.univ c
abbrev tileShare (c : Fin 2) (i : Fin 16) : PosShare TreeShare := Transfers.dealOf (coreShare c) Finset.univ i

/-- A tile's operands and results after `k` of its blocks. -/
abbrev tilePart (d : Dev nD) (c : Fin 2) (i : Fin 16) (k : ℕ) : sProp 𝕄 :=
  iprop((sLoc d ↦{tileShare c i} s d) ∗ (aLoc d ↦{tileShare c i} a d) ∗ outs d (crd c i) (s d) (a d) (f d) k)

/-- A SparseCore's operands and results. -/
abbrev corePart (d : Dev nD) (c : Fin 2) (k : ℕ) : sProp 𝕄 :=
  iprop((sLoc d ↦{coreShare c} s d) ∗ (aLoc d ↦{coreShare c} a d) ∗ bigSep Finset.univ fun i : Fin 16 => outs d (crd c i) (s d) (a d) (f d) k)

/-- The call takes the scores and the identifiers as read shares and the result array chunk by chunk, and brings the
    result back gathered. -/
def P : (K (F := F)).Pay (nD := nD) (Val := Elt F) (Name := ℕ) (U := UU) where
  st := fun q d c => match q with | 0 => corePart s a f d (Fin.cast nCore_zero c) 0
  dn := fun q d c => match q with | 0 => corePart s a f d (Fin.cast nCore_zero c) 2
  go := fun q d c i => match q with | 0 => tilePart s a f d (Fin.cast nCore_zero c) (Fin.cast nSub_zero i) 0
  td := fun q d c i => match q with | 0 => tilePart s a f d (Fin.cast nCore_zero c) (Fin.cast nSub_zero i) 2
  x := fun _ _ => iprop(emp)

instance P_storable : (P s a f).IsStorable where
  st q d c := match q with
    | 0 => (inferInstance : BI.Storable (upEmb : UEmb _ 𝕄) (corePart s a f d (Fin.cast nCore_zero c) 0))
  dn q d c := match q with
    | 0 => (inferInstance : BI.Storable (upEmb : UEmb _ 𝕄) (corePart s a f d (Fin.cast nCore_zero c) 2))
  go q d c i := match q with
    | 0 => (inferInstance : BI.Storable (upEmb : UEmb _ 𝕄) (tilePart s a f d (Fin.cast nCore_zero c) (Fin.cast nSub_zero i) 0))
  td q d c i := match q with
    | 0 => (inferInstance : BI.Storable (upEmb : UEmb _ 𝕄) (tilePart s a f d (Fin.cast nCore_zero c) (Fin.cast nSub_zero i) 2))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part dealt to its tiles. -/
theorem corePart_tiles (d : Dev nD) (c : Fin 2) (k : ℕ) :
    corePart s a f d c k = bigSep Finset.univ fun i : Fin 16 => tilePart s a f d c i k := by
  unfold corePart tilePart
  rw [bigSep_sep', bigSep_sep', Transfers.pointsTo_deal (ι := Fin 16) (ℓ := sLoc d) (f := s d) Finset.univ Finset.univ_nonempty (coreShare c),
    Transfers.pointsTo_deal (ι := Fin 16) (ℓ := aLoc d) (f := a d) Finset.univ Finset.univ_nonempty (coreShare c)]

theorem vecSplit : (K (F := F)).VecSplit' (P s a f) 0 := by
  intro d c
  show corePart s a f d (Fin.cast nCore_zero c) 0 ⊢ |={Set.univ}=> iprop(
      (bigSep Finset.univ fun i : Fin ((K (F := F)).nSub 0) => tilePart s a f d (Fin.cast nCore_zero c) (Fin.cast nSub_zero i) 0)
      ∗ ((bigSep Finset.univ fun i : Fin ((K (F := F)).nSub 0) => tilePart s a f d (Fin.cast nCore_zero c) (Fin.cast nSub_zero i) 2)
          -∗ corePart s a f d (Fin.cast nCore_zero c) 2))
  rw [bigSep_tasks (fun i => tilePart s a f d (Fin.cast nCore_zero c) i 0), bigSep_tasks (fun i => tilePart s a f d (Fin.cast nCore_zero c) i 2),
    corePart_tiles, corePart_tiles]
  iintro H; imodintro
  isplitl [H]; · iexact H
  iintro H; iexact H

/-- What the call takes is the three arrays whole; -/
theorem st_eq (d : Dev nD) : (bigSep Finset.univ fun c : Fin ((K (F := F)).nCore 0) => (P s a f).st 0 d c)
    = iprop((sLoc d ↦{fullShare} s d) ∗ (aLoc d ↦{fullShare} a d) ∗ oLoc d ↦{fullShare} f d) := by
  show (bigSep Finset.univ fun c : Fin ((K (F := F)).nCore 0) => corePart s a f d (Fin.cast nCore_zero c) 0) = _
  rw [bigSep_cores (fun c => corePart s a f d c 0), bigSep_sep', bigSep_sep', ← Transfers.pointsTo_deal, ← Transfers.pointsTo_deal, out_chunks]
  · rfl
  all_goals exact Finset.univ_nonempty

/-- what it gives back is the three arrays, the result gathered. -/
theorem dn_eq (d : Dev nD) : (bigSep Finset.univ fun c : Fin ((K (F := F)).nCore 0) => (P s a f).dn 0 d c)
    = iprop((sLoc d ↦{fullShare} s d) ∗ (aLoc d ↦{fullShare} a d) ∗ oLoc d ↦{fullShare} gathered (s d) (a d)) := by
  show (bigSep Finset.univ fun c : Fin ((K (F := F)).nCore 0) => corePart s a f d (Fin.cast nCore_zero c) 2) = _
  rw [bigSep_cores (fun c => corePart s a f d c 2), bigSep_sep', bigSep_sep', ← Transfers.pointsTo_deal, ← Transfers.pointsTo_deal, out_chunks]
  · refine congrArg (fun X : sProp 𝕄 => iprop((sLoc d ↦{fullShare} s d) ∗ (aLoc d ↦{fullShare} a d) ∗ X)) ?_
    refine bigSep_congr fun c _ => bigSep_congr fun i _ => bigSep_congr fun t _ => ?_
    rw [if_pos (trips_two ▸ t.isLt)]
  all_goals exact Finset.univ_nonempty

theorem obl_post {thr : Thread nD τ} {A B C : sProp 𝕄} {O : CellTallies nD τ sig (HIx 1)} {W : Waits sig (HIx 1)} {X : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ X p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem emp_drop {R : sProp 𝕄} : (iprop(emp ∗ R) : sProp 𝕄) ⊢ R := by
  iintro ⟨-, H⟩; iexact H

section Float

variable [FloatOps F]

/-- A tile's coordinates as the body takes them. -/
abbrev coordsV (c : Fin (grid1.bound 0)) (i : Fin (grid1.bound 1)) : grid1.Coords :=
  fun | 0 => c | 1 => i | ⟨_ + 2, h⟩ => absurd h (Nat.not_lt.2 (Nat.le_add_left _ _))

theorem defs₀_vector (c : Fin τ.nSC) (i : Fin τ.nSub) :
    defs₀ (F := F) (.scVector c i) 1 () = SparseCore.onTile hcore1 hsub1 (fun c i => cc1_k (coordsV c i) sV (Memref.isWhole_whole _) aV (Memref.isWhole_whole _) oV (Memref.isWhole_whole _)
      mS (Memref.isWhole_whole _) mI (Memref.isWhole_whole _) mO (Memref.isWhole_whole _)
      cc1_scoped0 cc1_scoped1 cc1_scoped2) ⟨⟩ c i := rfl

theorem tileObl (ha : ∀ d p, (a d p : BitVec 32).toNat < 1024) : (K (F := F)).TileObl (D (F := F)) 𝒱 (P s a f) v₀ 0 := by
  intro d c i O W hO _ _
  simp only [show (P s a f).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine (sep_mono_right emp_drop).trans ?_
  exact (tile_body d (coordsV ⟨_, hc.1⟩ ⟨_, hc.2⟩) (s d) (a d) (f d) (tileShare (Fin.cast nCore_zero c) (Fin.cast nSub_zero i)) (ha d) facts O W hO).trans
    (wp_mono frame _ _ fun _ => obl_post)

end Float

/-! ## The launch's ghost state -/

/-- The two pipelines' cells at their launch. -/
abbrev pipeInit : UP :=
  initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (pipeInit (F := F), (1 : Counters)))

/-- The pipelines' cells and their tokens on device `d`. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem ownU_split (x : UH) (y : UP) : (ownU ((x, (y, (1 : Counters))) : UU) : sProp 𝕄) ⊢ iprop(BI.own (EH x) ∗ BI.own (EP y)) :=
  BI.own_op_elim ((uEmb (nD := nD) (sig := sig) (Ix := HIx 1) (Val := Elt F) (Name := ℕ) (U := UU) (Lvl := ℕ)).toEmb.op_of_mem
    (Prod.mk_mem_op (URA.mem_op_one x) (URA.mem_one_op (y, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P s a f).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]; · iexact Hg
    iexact Ht
  · show _ ⊢ bigSep Finset.univ fun thr : Thread nD τ => bigSep Finset.univ fun q : Fin 1 => (iprop(emp) : sProp 𝕄)
    rw [show (bigSep Finset.univ fun thr : Thread nD τ => bigSep Finset.univ fun q : Fin 1 => (iprop(emp) : sProp 𝕄)) = iprop(emp) from
      (bigSep_congr fun _ _ => Idealize.SL.BI.bigSep_emp_const _).trans (Idealize.SL.BI.bigSep_emp_const _)]

end Cert.Proof.KI

end
-- ==== Proof.KI.Host.lean ====
/-
  The host operations before the first call, read off @main.
-/
module

public import proofs.«01_k».proof.Proof.KI.Base
public import proofs.«01_k».proof.Proof.Line

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

variable [FloatOps F]

set_option synthInstance.maxHeartbeats 400000
set_option synthInstance.maxSize 4096
set_option maxHeartbeats 1600000

instance (arg0 : StableHlo.TRef sig ⟨S4096x200, .i32⟩) (arg1 : StableHlo.TRef sig ⟨S_, .i32⟩) (φ : fn_pad.Bufs) : Line (fn_pad.body (F := F) arg0 arg1 φ) := by delta fn_pad.body; infer_instance
instance (arg0 : StableHlo.TRef sig ⟨S1000x128, .f32⟩) (arg1 : StableHlo.TRef sig ⟨S_, .i32⟩) (φ : fn_pad_0.Bufs) : Line (fn_pad_0.body (F := F) arg0 arg1 φ) := by delta fn_pad_0.body; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part0 (F := F) arg0 arg1 arg2 arg3 φ) := by delta fn_threefry2x32.body_part0; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part1 (F := F) arg0 arg1 arg2 arg3 φ) := by delta fn_threefry2x32.body_part1; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part2 (F := F) arg0 arg1 arg2 arg3 φ) := by delta fn_threefry2x32.body_part2; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part3 (F := F) arg0 arg1 arg2 arg3 φ) := by delta fn_threefry2x32.body_part3; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body (F := F) arg0 arg1 arg2 arg3 φ) := by delta fn_threefry2x32.body; infer_instance
instance (arg0 : StableHlo.TRef sig ⟨S2, .i32⟩) (arg1 : StableHlo.TRef sig ⟨S_, .f32⟩) (arg2 : StableHlo.TRef sig ⟨S_, .f32⟩) (φ : fn_uniform.Bufs) : Line (fn_uniform.body (F := F) arg0 arg1 arg2 φ) := by delta fn_uniform.body; infer_instance
instance (arg0 : StableHlo.TRef sig ⟨S2, .i32⟩) (φ : fn_gumbel.Bufs) : Line (fn_gumbel.body (F := F) arg0 φ) := by delta fn_gumbel.body; infer_instance
instance (arg0 : StableHlo.TRef sig ⟨S4096x200, .f32⟩) (arg1 : StableHlo.TRef sig ⟨S_, .f32⟩) (φ : fn_pad_1.Bufs) : Line (fn_pad_1.body (F := F) arg0 arg1 φ) := by delta fn_pad_1.body; infer_instance

/-- The operations before the first call. -/
instance mainChain (d : Dev nD) : Chain (main (F := F) d) := by delta main; infer_instance

end Cert.Proof.KI

end
-- ==== Proof.KI.Main.lean ====
/-
  @main's run: the host lines, the two TensorCore calls as regions, the SparseCore call between them; the contents of every
  unscoped buffer at the end (`V7`).
-/
module

public import proofs.«01_k».proof.Proof.KI.Launch
public import proofs.«01_k».proof.Proof.KI.Host

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

variable [FloatOps F]

/-! ## The contents between the calls -/

section Vals

variable (V0 : Valuation τ sig (Elt F)) (d : Dev nD)

abbrev ops1 : List (HloOp τ sig (Elt F)) :=
  [StableHlo.reshape main_v24_2 main_v25 (rfl : (.f32 : EltTy) = .f32) shapeCasts_S4096x1024_S4194304,
    StableHlo.reshape main_v2 main_v26 (rfl : (.i32 : EltTy) = .i32) shapeCasts_S4096x208_S851968]
abbrev ops2 : List (HloOp τ sig (Elt F)) :=
  [StableHlo.reshape main_v27 main_v28 (rfl : (.f32 : EltTy) = .f32) shapeCasts_S851968_S4096x208]
abbrev ops3 : List (HloOp τ sig (Elt F)) :=
  [StableHlo.reshape main_v29_0 main_v30 (rfl : (.f32 : EltTy) = .f32) shapeCasts_S4096x1_S4096,
    StableHlo.reshape main_v29_2 main_v31 (rfl : (.i32 : EltTy) = .i32) shapeCasts_S4096x1_S4096,
    StableHlo.reshape main_v29_3 main_v32 (rfl : (.i32 : EltTy) = .i32) shapeCasts_S4096x1_S4096]

/-- After the host's preparation, -/
def V1 : Valuation τ sig (Elt F) := StableHlo.after (mainChain (F := F) d).ops V0
/-- after the dense call, -/
def V2 : Valuation τ sig (Elt F) := Pipeline.afterRegion (pdats (V1 V0 d) 0 0 d) (V1 V0 d)
/-- at the SparseCore call, -/
def V3 : Valuation τ sig (Elt F) := StableHlo.after ops1 (V2 V0 d)
/-- after it, -/
def V4 : Valuation τ sig (Elt F) :=
  Function.update (V3 V0 d) (Proc.devRef .tc main_v27) (gathered (V3 V0 d (Proc.devRef .tc main_v25)) (V3 V0 d (Proc.devRef .tc main_v26)))
/-- at the closing call, -/
def V5 : Valuation τ sig (Elt F) := StableHlo.after ops2 (V4 V0 d)
/-- after it, -/
def V6 : Valuation τ sig (Elt F) := Pipeline.afterRegion (pdats (V5 V0 d) 1 1 d) (V5 V0 d)
/-- and at the end. -/
def V7 : Valuation τ sig (Elt F) := StableHlo.after ops3 (V6 V0 d)

end Vals

/-- @main is the host's preparation, the dense call, two reshapes, the SparseCore call, a reshape, the closing call, three reshapes. -/
theorem main_eq (d : Dev nD) : main (F := F) d
    = StableHlo.seq (mainChain (F := F) d).ops >>= fun _ => (Prog.lift (.customCall (SparseCore.inner (Pipeline.entry 0)) ()) >>= fun _ =>
      (StableHlo.seq ops1 >>= fun _ => (sc.run d 0 >>= fun _ => (StableHlo.seq ops2 >>= fun _ =>
        (Prog.lift (.customCall (SparseCore.inner (Pipeline.entry 1)) ()) >>= fun _ => (StableHlo.seq ops3 >>= fun _ => pure ⟨⟩)))))) := by
  refine (mainChain (F := F) d).eq.trans (congrArg (fun p => StableHlo.seq (mainChain (F := F) d).ops >>= fun _ => p) ?_)
  simp only [StableHlo.seq, bind_assoc, pure_bind]
  rfl

theorem sub_ops1 : ∀ op ∈ ops1 (F := F), op.bufs ⊆ Pipeline.ucRefs τ sig := by
  intro op h
  refine Pipeline.sub_ucRefs op ?_
  simp only [List.mem_cons, List.not_mem_nil, or_false] at h
  rcases h with rfl | rfl <;> exact StableHlo.reshape_bufs_sub ..
theorem sub_ops2 : ∀ op ∈ ops2 (F := F), op.bufs ⊆ Pipeline.ucRefs τ sig := by
  intro op h
  refine Pipeline.sub_ucRefs op ?_
  simp only [List.mem_cons, List.not_mem_nil, or_false] at h
  rcases h with rfl; exact StableHlo.reshape_bufs_sub ..
theorem sub_ops3 : ∀ op ∈ ops3 (F := F), op.bufs ⊆ Pipeline.ucRefs τ sig := by
  intro op h
  refine Pipeline.sub_ucRefs op ?_
  simp only [List.mem_cons, List.not_mem_nil, or_false] at h
  rcases h with rfl | rfl | rfl <;> exact StableHlo.reshape_bufs_sub ..
theorem fresh_ops1 : ∀ op ∈ ops1 (F := F), op.fresh = ∅ := by
  intro op h
  simp only [List.mem_cons, List.not_mem_nil, or_false] at h
  rcases h with rfl | rfl <;> rfl
theorem fresh_ops2 : ∀ op ∈ ops2 (F := F), op.fresh = ∅ := by
  intro op h
  simp only [List.mem_cons, List.not_mem_nil, or_false] at h
  rcases h with rfl; rfl
theorem fresh_ops3 : ∀ op ∈ ops3 (F := F), op.fresh = ∅ := by
  intro op h
  simp only [List.mem_cons, List.not_mem_nil, or_false] at h
  rcases h with rfl | rfl | rfl <;> rfl

/-- The three arrays of the SparseCore call. -/
def scRefs : Finset (DevRef τ sig) := {Proc.devRef .tc main_v25, Proc.devRef .tc main_v26, Proc.devRef .tc main_v27}

theorem scRefs_sub : scRefs ⊆ Pipeline.ucRefs τ sig := by
  intro b hb
  simp only [scRefs, Finset.mem_insert, Finset.mem_singleton] at hb
  unfold Pipeline.ucRefs
  rcases hb with rfl | rfl | rfl <;> exact Finset.mem_filter.mpr ⟨StableHlo.devRef_mem_tcRefs _, by decide⟩

theorem held_sc (d : Dev nD) (V : Valuation τ sig (Elt F)) :
    (StableHlo.held (T d : Thread nD τ) (Pipeline.ucRefs τ sig) V : sProp 𝕄)
      = iprop(((sLoc d ↦{fullShare} V (Proc.devRef .tc main_v25)) ∗ (aLoc d ↦{fullShare} V (Proc.devRef .tc main_v26)) ∗ oLoc d ↦{fullShare} V (Proc.devRef .tc main_v27))
          ∗ StableHlo.held (T d : Thread nD τ) (Pipeline.ucRefs τ sig \ scRefs) V) := by
  rw [StableHlo.held_sub_split (T d : Thread nD τ) scRefs_sub V]
  congr 1
  unfold StableHlo.held scRefs
  rw [SparseCore.bigSep_insert' (by decide), SparseCore.bigSep_insert' (by decide), bigSep_singleton]

section Run

variable (m : (ℓ : Loc nD τ sig) → Buf (Elt F) ℓ) (ρ : Dev nD → PrngReg)

/-- The launch contents of device `d`. -/
abbrev M0 (d : Dev nD) : Valuation τ sig (Elt F) := fun b => m (d, b)

abbrev PP : (K (F := F)).Pay (nD := nD) (Val := Elt F) (Name := ℕ) (U := UU) :=
  P (fun d => V3 (M0 m d) d (Proc.devRef .tc main_v25)) (fun d => V3 (M0 m d) d (Proc.devRef .tc main_v26)) (fun d => V3 (M0 m d) d (Proc.devRef .tc main_v27))

/-- Every buffer of device `d` at the end. -/
abbrev FIN (d : Dev nD) : sProp 𝕄 := StableHlo.held (T d : Thread nD τ) (Pipeline.ucRefs τ sig) (V7 (M0 m d) d)

theorem seg_pre (p : Fin 2) (n : ℕ) (d : Dev nD) (V : Valuation τ sig (Elt F)) :
    (iprop(StableHlo.held (T d : Thread nD τ) (Pipeline.ucRefs τ sig) V ∗ owesN (F := F) d n) : sProp 𝕄) = (seg p n V).pre d := rfl

theorem seg_post (p : Fin 2) (n : ℕ) (d : Dev nD) (V : Valuation τ sig (Elt F)) :
    (iprop(boundary (T d : Thread nD τ) ∗ (seg p n V).post d) : sProp 𝕄)
      = iprop(boundary (T d : Thread nD τ) ∗ StableHlo.held (T d : Thread nD τ) (Pipeline.ucRefs τ sig) (Pipeline.afterRegion (pdats V n p d) V) ∗ owesN (F := F) d n) := rfl

/-- Call `p`, entered with the buffers at `V` after `n` SparseCore calls. -/
theorem wp_region [∀ e, Nonempty (Elt F e)] (p : Fin 2) (n : ℕ) (d : Dev nD) (V : Valuation τ sig (Elt F)) (Φ : PUnit → sProp 𝕄) :
    iprop((iprop(boundary (T d : Thread nD τ) ∗ StableHlo.held (T d : Thread nD τ) (Pipeline.ucRefs τ sig) (Pipeline.afterRegion (pdats V n p d) V) ∗ owesN (F := F) d n) -∗ Φ ⟨⟩)
        ∗ boundary (T d : Thread nD τ) ∗ (StableHlo.held (T d : Thread nD τ) (Pipeline.ucRefs τ sig) V ∗ owesN (F := F) d n) ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  iintro ⟨H, Hb, HV, HL, Hg, Ht⟩
  iapply ((K (F := F)).wp_liftProg (D (F := F)) 𝒱 (T d) Set.univ none (Prog.lift (.customCall (Pipeline.entry p) ())) Φ)
  iapply (Pipeline.RegionSeg.wp (pcfgs (F := F)) adm (pdats V n) none cellOf_inj EP (defs₀ (F := F)) 𝒱₀ (K (F := F)).L (K (F := F)).lev (seg p n V) d none
    (fun u hu => nomatch hu) (fun x => .ret x) Φ)
  isplitl [H]
  · iintro Hb
    rw [wp_ret]
    imodintro
    iapply H
    iapply (Entails.of_eq (seg_post p n d V))
    iexact Hb
  isplitl [Hb]; · iexact Hb
  isplitl [HV]
  · iapply (Entails.of_eq (seg_pre p n d V))
    iexact HV
  isplitl [HL]; · iexact HL
  isplitl [Hg]; · iexact Hg
  iexact Ht

/-- What the TensorCore owes, out of its state between calls and back. -/
theorem tcSt_owes (n : ℕ) (d : Dev nD) :
    ((K (F := F)).tcSt EH d n : sProp 𝕄) ⊢ iprop(owesN (F := F) d n ∗ (owesN (F := F) d n -∗ (K (F := F)).tcSt EH d n)) := by
  unfold SparseCore.Cfg.tcSt owesN
  iintro ⟨HO, H⟩
  isplitl [HO]; · iexact HO
  iintro HO
  isplitl [HO]; · iexact HO
  iexact H

/-- After the SparseCore call: the three arrays and the rest are the buffers at `V4`. -/
theorem held_V4 (V0 : Valuation τ sig (Elt F)) (d : Dev nD) :
    (StableHlo.held (T d : Thread nD τ) (Pipeline.ucRefs τ sig) (V4 V0 d) : sProp 𝕄)
      = iprop(((sLoc d ↦{fullShare} V3 V0 d (Proc.devRef .tc main_v25)) ∗ (aLoc d ↦{fullShare} V3 V0 d (Proc.devRef .tc main_v26))
          ∗ oLoc d ↦{fullShare} gathered (V3 V0 d (Proc.devRef .tc main_v25)) (V3 V0 d (Proc.devRef .tc main_v26)))
          ∗ StableHlo.held (T d : Thread nD τ) (Pipeline.ucRefs τ sig \ scRefs) (V3 V0 d)) := by
  rw [held_sc]
  unfold V4
  rw [Function.update_of_ne (by decide), Function.update_of_ne (by decide), Function.update_self,
    StableHlo.held_congr (T d : Thread nD τ) (S := Pipeline.ucRefs τ sig \ scRefs) (V' := V3 V0 d) (fun b hb => by
      rw [Function.update_of_ne]
      rintro rfl
      exact (Finset.mem_sdiff.mp hb).2 (by decide))]

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [main_eq, show unscopedBufs d (fun b => m ((T d : Thread nD τ).loc b)) = StableHlo.held (T d : Thread nD τ) (Pipeline.ucRefs τ sig) (M0 m d)
    from Pipeline.unscopedBufs_held (Ix := HIx 1) (Name := ℕ) (U := UU) (Lvl := ℕ) d (M0 m d),
    show (Finset.univ : Finset (Fin 2)) = {0, 1} from rfl, SparseCore.bigSep_insert' (by decide), SparseCore.bigSep_insert' (by decide), bigSep_singleton, bigSep_singleton]
  iintro ⟨#Hctx, Hst, ⟨Hb, Hheld, Hts, -⟩, ⟨Hg0, Hg1⟩, ⟨Ht0, Ht1⟩⟩
  ihave #Hlev := (SparseCore.Cfg.ctx_levAts κ) $$ Hctx
  -- the host's preparation
  iapply (StableHlo.wp_seq 𝒱 none Set.univ d (Pipeline.ucRefs τ sig) _ (mainChain (F := F) d).ops
    (fun op h => Pipeline.sub_ucRefs op ((mainChain (F := F) d).bufs op h)) (mainChain (F := F) d).fresh (M0 m d)) $$ [Hb Hheld]
  · isplitl [Hb]; · iexact Hb
    iexact Hheld
  iintro ⟨Hb, Hheld⟩
  -- the dense call
  rw [wp_bind]
  ihave Hst' := (tcSt_owes 0 d) $$ Hst
  icases Hst' with ⟨HO, Hst⟩
  iapply (wp_region 0 0 d (V1 (M0 m d) d))
  isplitr [Hb Hheld HO Hg0 Ht0]
  rotate_left
  · isplitl [Hb]; · iexact Hb
    isplitl [Hheld HO]
    · isplitl [Hheld]; · iexact Hheld
      iexact HO
    isplitr; · iexact Hlev
    isplitl [Hg0]; · iexact Hg0
    iexact Ht0
  iintro ⟨Hb, Hheld, HO⟩
  ihave Hst := Hst $$ HO
  -- the reshapes
  iapply (StableHlo.wp_seq 𝒱 none Set.univ d (Pipeline.ucRefs τ sig) _ ops1 sub_ops1 fresh_ops1 (V2 (M0 m d) d)) $$ [Hb Hheld]
  · isplitl [Hb]; · iexact Hb
    iexact Hheld
  iintro ⟨Hb, Hheld⟩
  -- the SparseCore call
  ihave Hh := (show (StableHlo.held (d.tc : Thread nD τ) (Pipeline.ucRefs τ sig) (StableHlo.after ops1 (V2 (M0 m d) d)) : sProp 𝕄) ⊢ _ from Entails.of_eq (held_sc d (V3 (M0 m d) d))) $$ Hheld
  icases Hh with ⟨Hsc, Hheld⟩
  rw [wp_bind]
  iapply ((K (F := F)).wp_run (D (F := F)) 𝒱 (EH := EH) (P := PP m) κ d 0)
  isplitr; · iexact Hctx
  isplitl [Hst]; · iexact Hst
  isplitl [Hsc]
  · rw [st_eq]
    iexact Hsc
  iintro ⟨Hst, Hdn⟩
  ihave Hsc := (Entails.of_eq (dn_eq _ _ _ d)) $$ Hdn
  ihave Hheld := (Entails.of_eq (held_V4 (M0 m d) d).symm) $$ [Hsc Hheld]
  · isplitl [Hsc]; · iexact Hsc
    iexact Hheld
  -- the reshape
  iapply (StableHlo.wp_seq 𝒱 none Set.univ d (Pipeline.ucRefs τ sig) _ ops2 sub_ops2 fresh_ops2 (V4 (M0 m d) d)) $$ [Hb Hheld]
  · isplitl [Hb]; · iexact Hb
    iexact Hheld
  iintro ⟨Hb, Hheld⟩
  -- the closing call
  rw [wp_bind]
  ihave Hst' := (show ((K (F := F)).tcSt EH d ((0 : Fin 1).val + 1) : sProp 𝕄) ⊢ _ from tcSt_owes 1 d) $$ Hst
  icases Hst' with ⟨HO, Hst⟩
  iapply (wp_region 1 1 d (V5 (M0 m d) d))
  isplitr [Hb Hheld HO Hg1 Ht1]
  rotate_left
  · isplitl [Hb]; · iexact Hb
    isplitl [Hheld HO]
    · isplitl [Hheld]; · iexact Hheld
      iexact HO
    isplitr; · iexact Hlev
    isplitl [Hg1]; · iexact Hg1
    iexact Ht1
  iintro ⟨Hb, Hheld, HO⟩
  ihave Hst := Hst $$ HO
  iapply (StableHlo.wp_seq 𝒱 none Set.univ d (Pipeline.ucRefs τ sig) _ ops3 sub_ops3 fresh_ops3 (V6 (M0 m d) d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What is read of device `d`'s final state: every unscoped buffer at `V7`. -/
def fq (d : Dev nD) (s' : Phys nD τ sig (Elt F)) : Prop := ∀ b ∈ Pipeline.ucRefs τ sig, s'.mem.mem (d, b) = V7 (M0 m d) d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The run's outcome: every unscoped buffer at `V7`, every semaphore at zero. -/
def QC : PUnit × MemSt nD τ sig (Elt F) → Prop := fun r => (∀ d : Dev nD, ∀ b ∈ Pipeline.ucRefs τ sig, r.2.mem (d, b) = V7 (M0 m d) d b) ∧ r.2.sem = fun _ => 0

/-- The run, from any memory whose identifiers, padded, are below 1024. -/
theorem run_main [∀ e, Nonempty (Elt F e)] (ha : ∀ d p, (V3 (M0 m d) d (Proc.devRef .tc main_v26) p : BitVec 32).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ ha)
    (fun q _ => match q with | 0 => SparseCore.Cfg.VecSplit.of_plain (vecSplit _ _ _))
    m ρ main (fun d => G (F := F) d) (FIN m) (u₀ (F := F)) (sep_elim_left.trans (hu₀ _ _ _)) (hmain m ρ) (fq m) (hfin m) (QC m) (fun _ h hz => ⟨h, hz⟩)

end Run

end Cert.Proof.KI

end
-- ==== Proof.KI.Stages.lean ====
/-
The host's preparation, stage by stage.
-/
module

public import proofs.«01_k».proof.Proof.KI.Host

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

/-! ## The host's preparation in stages -/

variable [FloatOps F]

section Stages

variable (V0 : Valuation τ sig (Elt F)) (d : Dev nD)

/-- The relation column of the actions, and a zero. -/
abbrev hA : List (HloOp τ sig (Elt F)) :=
  [StableHlo.unary main_arg4 main_v0 ((extractStridedSlice S4096x200x1 ![0, 0, 0] · slices_S4096x200x2_S4096x200x1_0_0_0) : (⟨S4096x200x2, .i32⟩ : BufTy).Contents (Elt F) → (⟨S4096x200x1, .i32⟩ : BufTy).Contents (Elt F)),
    StableHlo.reshape main_v0 main_v1 (rfl : (.i32 : EltTy) = .i32) shapeCasts_S4096x200x1_S4096x200,
    StableHlo.nullary main_c (constantI S_ 32 0#32)]
/-- The column padded to 208. -/
abbrev hB : List (HloOp τ sig (Elt F)) := Line.ops (fn_pad.body (F := F) (.of main_v1) (.of main_c) main_call0)
/-- The table padded to 1024 rows. -/
abbrev hC : List (HloOp τ sig (Elt F)) := StableHlo.nullary main_c_0 (constantI S_ 32 0#32) :: Line.ops (fn_pad_0.body (F := F) (.of main_arg5) (.of main_c_0) main_call1)
/-- The noise's key. -/
abbrev hD : List (HloOp τ sig (Elt F)) :=
  [StableHlo.nullary main_c_1 (constantI S_ 32 42#32),
    StableHlo.nullary main_c_2 (constantI S_ 32 32#32),
    StableHlo.binary main_c_1 main_c_2 main_v4 (Host.shrui : (⟨S_, .i32⟩ : BufTy).Contents (Elt F) → (⟨S_, .i32⟩ : BufTy).Contents (Elt F) → (⟨S_, .i32⟩ : BufTy).Contents (Elt F)),
    StableHlo.unary main_v4 main_v5 (id : (⟨S_, .i32⟩ : BufTy).Contents (Elt F) → (⟨S_, .i32⟩ : BufTy).Contents (Elt F)),
    StableHlo.unary main_v5 main_v6 (broadcastInDim S1 ![] bcast_S_S1 : (⟨S_, .i32⟩ : BufTy).Contents (Elt F) → (⟨S1, .i32⟩ : BufTy).Contents (Elt F)),
    StableHlo.nullary main_c_3 (constantI S_ 32 4294967295#32),
    StableHlo.binary main_c_1 main_c_3 main_v7 (andi : (⟨S_, .i32⟩ : BufTy).Contents (Elt F) → (⟨S_, .i32⟩ : BufTy).Contents (Elt F) → (⟨S_, .i32⟩ : BufTy).Contents (Elt F)),
    StableHlo.unary main_v7 main_v8 (id : (⟨S_, .i32⟩ : BufTy).Contents (Elt F) → (⟨S_, .i32⟩ : BufTy).Contents (Elt F)),
    StableHlo.unary main_v8 main_v9 (broadcastInDim S1 ![] bcast_S_S1 : (⟨S_, .i32⟩ : BufTy).Contents (Elt F) → (⟨S1, .i32⟩ : BufTy).Contents (Elt F)),
    StableHlo.binary main_v6 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]
/-- The noise. -/
abbrev hE : List (HloOp τ sig (Elt F)) := Line.ops (fn_gumbel.body (F := F) (.of main_v10) main_call2)
/-- The noise padded to 208 columns. -/
abbrev hG : List (HloOp τ sig (Elt F)) := StableHlo.nullary main_cst (constant S_ .f32 0xF149F2CA#32) :: Line.ops (fn_pad_1.body (F := F) (.of main_v11) (.of main_cst) main_call3)
/-- The operands of the first call. -/
abbrev hH : List (HloOp τ sig (Elt F)) :=
  [StableHlo.reshape main_arg2 main_v13 (rfl : (.i32 : EltTy) = .i32) shapeCasts_S4096_S4096x1,
    StableHlo.reshape main_arg3 main_v14 (rfl : (.i32 : EltTy) = .i32) shapeCasts_S4096_S4096x1,
    StableHlo.unary main_v3 main_v15 ((transpose S128x1024 [1, 0] · transposes_S1024x128_S128x1024_1_0) : (⟨S1024x128, .f32⟩ : BufTy).Contents (Elt F) → (⟨S128x1024, .f32⟩ : BufTy).Contents (Elt F)),
    StableHlo.unary main_arg6 main_v16 ((transpose S128x512 [1, 0] · transposes_S512x128_S128x512_1_0) : (⟨S512x128, .f32⟩ : BufTy).Contents (Elt F) → (⟨S128x512, .f32⟩ : BufTy).Contents (Elt F)),
    StableHlo.unary main_arg7 main_v17 ((transpose S128x512 [1, 0] · transposes_S512x128_S128x512_1_0) : (⟨S512x128, .f32⟩ : BufTy).Contents (Elt F) → (⟨S128x512, .f32⟩ : BufTy).Contents (Elt F)),
    StableHlo.reshape main_arg8 main_v18 (rfl : (.f32 : EltTy) = .f32) shapeCasts_S512_S1x512,
    StableHlo.reshape main_arg9 main_v19 (rfl : (.f32 : EltTy) = .f32) shapeCasts_S512_S1x512,
    StableHlo.unary main_arg10 main_v20 ((transpose S256x256 [1, 0] · transposes_S256x256_S256x256_1_0) : (⟨S256x256, .f32⟩ : BufTy).Contents (Elt F) → (⟨S256x256, .f32⟩ : BufTy).Contents (Elt F)),
    StableHlo.reshape main_arg11 main_v21 (rfl : (.f32 : EltTy) = .f32) shapeCasts_S256_S1x256,
    StableHlo.unary main_arg12 main_v22 ((transpose S256x128 [1, 0] · transposes_S128x256_S256x128_1_0) : (⟨S128x256, .f32⟩ : BufTy).Contents (Elt F) → (⟨S256x128, .f32⟩ : BufTy).Contents (Elt F)),
    StableHlo.reshape main_arg13 main_v23 (rfl : (.f32 : EltTy) = .f32) shapeCasts_S128_S1x128]

theorem mainChain_ops : (mainChain (F := F) d).ops = hA ++ (hB ++ (hC ++ (hD ++ (hE ++ (hG ++ hH))))) := rfl

def WA : Valuation τ sig (Elt F) := StableHlo.after hA V0
def WB : Valuation τ sig (Elt F) := StableHlo.after hB (WA V0)
def WC : Valuation τ sig (Elt F) := StableHlo.after hC (WB V0)
def WD : Valuation τ sig (Elt F) := StableHlo.after hD (WC V0)
def WE : Valuation τ sig (Elt F) := StableHlo.after hE (WD V0)
def WG : Valuation τ sig (Elt F) := StableHlo.after hG (WE V0)
def WH : Valuation τ sig (Elt F) := StableHlo.after hH (WG V0)

theorem V1_eq : StableHlo.after (mainChain (F := F) d).ops V0 = WH V0 := by
  rw [mainChain_ops, after_append, after_append, after_append, after_append, after_append, after_append]
  rfl

/-! ### What each stage writes -/

abbrev oB : List (Ref sig .tc) := Line.outs (fn_pad.body (F := Bits) (.of main_v1) (.of main_c) main_call0)
abbrev oC : List (Ref sig .tc) := main_c_0 :: Line.outs (fn_pad_0.body (F := Bits) (.of main_arg5) (.of main_c_0) main_call1)
abbrev oD : List (Ref sig .tc) := [main_c_1, main_c_2, main_v4, main_v5, main_v6, main_c_3, main_v7, main_v8, main_v9, main_v10]
abbrev oE : List (Ref sig .tc) := Line.outs (fn_gumbel.body (F := Bits) (.of main_v10) main_call2)
abbrev oG : List (Ref sig .tc) := main_cst :: Line.outs (fn_pad_1.body (F := Bits) (.of main_v11) (.of main_cst) main_call3)
abbrev oH : List (Ref sig .tc) := [main_v13, main_v14, main_v15, main_v16, main_v17, main_v18, main_v19, main_v20, main_v21, main_v22, main_v23]

variable {V0}

theorem WA_keep {r : Ref sig .tc} (h : r ∉ [main_v0, main_v1, main_c]) : WA V0 (Proc.devRef .tc r) = V0 (Proc.devRef .tc r) :=
  after_keep (outs := [main_v0, main_v1, main_c]) rfl V0 h
theorem WB_keep {r : Ref sig .tc} (h : r ∉ oB) : WB V0 (Proc.devRef .tc r) = WA V0 (Proc.devRef .tc r) :=
  after_keep (Line.writes (p := fn_pad.body (F := F) (.of main_v1) (.of main_c) main_call0)) _ h
theorem WC_keep {r : Ref sig .tc} (h : r ∉ oC) : WC V0 (Proc.devRef .tc r) = WB V0 (Proc.devRef .tc r) :=
  after_keep (outs := oC) rfl _ h
theorem WD_keep {r : Ref sig .tc} (h : r ∉ oD) : WD V0 (Proc.devRef .tc r) = WC V0 (Proc.devRef .tc r) :=
  after_keep (outs := oD) rfl _ h
theorem WE_keep {r : Ref sig .tc} (h : r ∉ oE) : WE V0 (Proc.devRef .tc r) = WD V0 (Proc.devRef .tc r) :=
  after_keep (Line.writes (p := fn_gumbel.body (F := F) (.of main_v10) main_call2)) _ h
theorem WG_keep {r : Ref sig .tc} (h : r ∉ oG) : WG V0 (Proc.devRef .tc r) = WE V0 (Proc.devRef .tc r) :=
  after_keep (outs := oG) rfl _ h
theorem WH_keep {r : Ref sig .tc} (h : r ∉ oH) : WH V0 (Proc.devRef .tc r) = WG V0 (Proc.devRef .tc r) :=
  after_keep (outs := oH) rfl _ h

/-- A reference the first `G` stages leave alone, at the last stage. -/
theorem WG_arg {r : Ref sig .tc} (hA : r ∉ [main_v0, main_v1, main_c]) (hB : r ∉ oB) (hC : r ∉ oC) (hD : r ∉ oD) (hE : r ∉ oE)
    (hG : r ∉ oG) : WG V0 (Proc.devRef .tc r) = V0 (Proc.devRef .tc r) :=
  (WG_keep hG).trans ((WE_keep hE).trans ((WD_keep hD).trans ((WC_keep hC).trans ((WB_keep hB).trans (WA_keep hA)))))

/-! ### The values -/

variable (V0)

theorem WA_v1 : WA V0 (Proc.devRef .tc main_v1)
    = shapeCast S4096x200 (extractStridedSlice S4096x200x1 ![0, 0, 0] (V0 (Proc.devRef .tc main_arg4)) slices_S4096x200x2_S4096x200x1_0_0_0) shapeCasts_S4096x200x1_S4096x200 := rfl
theorem WA_c : WA V0 (Proc.devRef .tc main_c) = constantI S_ 32 0#32 := rfl

/-- The relation column padded with zeros. -/
def relPad (a4 : IVec S4096x200x2 32) : IVec S4096x208 32 :=
  pad S4096x208 ![0, 0] ![0, 8] ![0, 0] (shapeCast S4096x200 (extractStridedSlice S4096x200x1 ![0, 0, 0] a4 slices_S4096x200x2_S4096x200x1_0_0_0) shapeCasts_S4096x200x1_S4096x200)
    (constantI S_ 32 0#32) pads_S4096x200_S4096x208_000_080 h_S_

theorem WB_v2 : WB V0 (Proc.devRef .tc main_v2) = relPad (V0 (Proc.devRef .tc main_arg4)) := rfl

/-- The table padded with zero rows. -/
def embPad (a5 : FVec F S1000x128 .f32) : FVec F S1024x128 .f32 :=
  pad S1024x128 ![0, 0] ![24, 0] ![0, 0] a5 (sitofp .f32 (constantI S_ 32 0#32)) pads_S1000x128_S1024x128_0240_000 h_S_

theorem WC_v3 : WC V0 (Proc.devRef .tc main_v3) = embPad (WB V0 (Proc.devRef .tc main_arg5)) := rfl

/-- The noise padded. -/
def noisePad (g : FVec F S4096x200 .f32) : FVec F S4096x208 .f32 :=
  pad S4096x208 ![0, 0] ![0, 8] ![0, 0] g (constant S_ .f32 0xF149F2CA#32) pads_S4096x200_S4096x208_000_080 h_S_

theorem WG_v12 : WG V0 (Proc.devRef .tc main_v12) = noisePad (WE V0 (Proc.devRef .tc main_v11)) := by
  unfold WG
  generalize WE V0 = V
  rfl

theorem WH_v13 : WH V0 (Proc.devRef .tc main_v13) = shapeCast S4096x1 (WG V0 (Proc.devRef .tc main_arg2)) shapeCasts_S4096_S4096x1 := by
  unfold WH
  generalize WG V0 = V
  after_results
  rfl
theorem WH_v14 : WH V0 (Proc.devRef .tc main_v14) = shapeCast S4096x1 (WG V0 (Proc.devRef .tc main_arg3)) shapeCasts_S4096_S4096x1 := by
  unfold WH
  generalize WG V0 = V
  after_results
  rfl
theorem WH_v15 : WH V0 (Proc.devRef .tc main_v15) = transpose S128x1024 [1, 0] (WG V0 (Proc.devRef .tc main_v3)) transposes_S1024x128_S128x1024_1_0 := by
  unfold WH
  generalize WG V0 = V
  after_results
theorem WH_v16 : WH V0 (Proc.devRef .tc main_v16) = transpose S128x512 [1, 0] (WG V0 (Proc.devRef .tc main_arg6)) transposes_S512x128_S128x512_1_0 := by
  unfold WH
  generalize WG V0 = V
  after_results
theorem WH_v17 : WH V0 (Proc.devRef .tc main_v17) = transpose S128x512 [1, 0] (WG V0 (Proc.devRef .tc main_arg7)) transposes_S512x128_S128x512_1_0 := by
  unfold WH
  generalize WG V0 = V
  after_results
theorem WH_v18 : WH V0 (Proc.devRef .tc main_v18) = shapeCast S1x512 (WG V0 (Proc.devRef .tc main_arg8)) shapeCasts_S512_S1x512 := by
  unfold WH
  generalize WG V0 = V
  after_results
  rfl
theorem WH_v19 : WH V0 (Proc.devRef .tc main_v19) = shapeCast S1x512 (WG V0 (Proc.devRef .tc main_arg9)) shapeCasts_S512_S1x512 := by
  unfold WH
  generalize WG V0 = V
  after_results
  rfl
theorem WH_v20 : WH V0 (Proc.devRef .tc main_v20) = transpose S256x256 [1, 0] (WG V0 (Proc.devRef .tc main_arg10)) transposes_S256x256_S256x256_1_0 := by
  unfold WH
  generalize WG V0 = V
  after_results
theorem WH_v21 : WH V0 (Proc.devRef .tc main_v21) = shapeCast S1x256 (WG V0 (Proc.devRef .tc main_arg11)) shapeCasts_S256_S1x256 := by
  unfold WH
  generalize WG V0 = V
  after_results
  rfl
theorem WH_v22 : WH V0 (Proc.devRef .tc main_v22) = transpose S256x128 [1, 0] (WG V0 (Proc.devRef .tc main_arg12)) transposes_S128x256_S256x128_1_0 := by
  unfold WH
  generalize WG V0 = V
  after_results
theorem WH_v23 : WH V0 (Proc.devRef .tc main_v23) = shapeCast S1x128 (WG V0 (Proc.devRef .tc main_arg13)) shapeCasts_S128_S1x128 := by
  unfold WH
  generalize WG V0 = V
  after_results
  rfl

/-! ### In terms of the arguments -/

theorem in_v2 : WH V0 (Proc.devRef .tc main_v2) = relPad (V0 (Proc.devRef .tc main_arg4)) :=
  (WH_keep (by decide +kernel)).trans ((WG_keep (by decide +kernel)).trans ((WE_keep (by decide +kernel)).trans ((WD_keep (by decide +kernel)).trans ((WC_keep (by decide +kernel)).trans (WB_v2 V0)))))
theorem WG_v3 : WG V0 (Proc.devRef .tc main_v3) = embPad (V0 (Proc.devRef .tc main_arg5)) :=
  (WG_keep (by decide +kernel)).trans ((WE_keep (by decide +kernel)).trans ((WD_keep (by decide +kernel)).trans ((WC_v3 V0).trans
    (congrArg embPad ((WB_keep (by decide +kernel)).trans (WA_keep (by decide +kernel)))))))
theorem in_v3 : WH V0 (Proc.devRef .tc main_v3) = embPad (V0 (Proc.devRef .tc main_arg5)) := (WH_keep (by decide +kernel)).trans (WG_v3 V0)
theorem in_v12 : WH V0 (Proc.devRef .tc main_v12) = noisePad (WE V0 (Proc.devRef .tc main_v11)) := (WH_keep (by decide +kernel)).trans (WG_v12 V0)

/-- The preparation writes no argument. -/
theorem WG_args : ∀ r ∈ [main_arg0, main_arg1, main_arg2, main_arg3, main_arg4, main_arg5, main_arg6, main_arg7, main_arg8, main_arg9, main_arg10, main_arg11, main_arg12, main_arg13],
    WG V0 (Proc.devRef .tc r) = V0 (Proc.devRef .tc r) := by
  have hB : ∀ r ∈ [main_arg0, main_arg1, main_arg2, main_arg3, main_arg4, main_arg5, main_arg6, main_arg7, main_arg8, main_arg9, main_arg10, main_arg11, main_arg12, main_arg13],
      r ∉ [main_v0, main_v1, main_c] ∧ r ∉ oB ∧ r ∉ oC ∧ r ∉ oD ∧ r ∉ oE ∧ r ∉ oG := by decide +kernel
  intro r hr
  obtain ⟨a, b, c, d, e, g⟩ := hB r hr
  exact WG_arg a b c d e g

end Stages

end Cert.Proof.KI

end
-- ==== Proof.KI.Keep.lean ====
/-
What the steps of @main leave alone: the arguments, and the identifiers the SparseCore call reads.
-/
module

public import proofs.«01_k».proof.Proof.KI.Main
public import proofs.«01_k».proof.Proof.KI.Stages

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

variable [FloatOps F]

section Keep

variable {V0 : Valuation τ sig (Elt F)} {d : Dev nD} {r : Ref sig .tc}

/-! ## What each later step leaves alone -/

theorem outs_call0 : ∀ w : Fin cfg0.W, (cfg0.win w).isOut = true → Pipeline.arrRef cfg0.spec w ∈ [main_v24_0, main_v24_1, main_v24_2] := by decide +kernel
theorem outs_call1 : ∀ w : Fin cfg2.W, (cfg2.win w).isOut = true → Pipeline.arrRef cfg2.spec w ∈ [main_v29_0, main_v29_1, main_v29_2, main_v29_3] := by decide +kernel

theorem V2_keep (h : r ∉ [main_v24_0, main_v24_1, main_v24_2]) : V2 V0 d (Proc.devRef .tc r) = V1 V0 d (Proc.devRef .tc r) :=
  Pipeline.afterRegion_keeps (pdats (V1 V0 d) 0 0 d) (V1 V0 d) (kit (F := F) 0).win.arr_inj (pdats_A _ _ 0 d) r fun w hw => by
    by_contra hb
    exact h (hw ▸ outs_call0 w (Bool.of_not_eq_false hb))
theorem V3_keep (h : r ∉ [main_v25, main_v26]) : V3 V0 d (Proc.devRef .tc r) = V2 V0 d (Proc.devRef .tc r) :=
  after_keep (outs := [main_v25, main_v26]) rfl _ h
theorem V4_keep (h : r ≠ main_v27) : V4 V0 d (Proc.devRef .tc r) = V3 V0 d (Proc.devRef .tc r) :=
  Function.update_of_ne (fun e => h (Proc.devRef_injective _ e)) _ _
theorem V5_keep (h : r ∉ [main_v28]) : V5 V0 d (Proc.devRef .tc r) = V4 V0 d (Proc.devRef .tc r) :=
  after_keep (outs := [main_v28]) rfl _ h
theorem V6_keep (h : r ∉ [main_v29_0, main_v29_1, main_v29_2, main_v29_3]) : V6 V0 d (Proc.devRef .tc r) = V5 V0 d (Proc.devRef .tc r) :=
  Pipeline.afterRegion_keeps (pdats (V5 V0 d) 1 1 d) (V5 V0 d) (kit (F := F) 1).win.arr_inj (pdats_A _ _ 1 d) r fun w hw => by
    by_contra hb
    exact h (hw ▸ outs_call1 w (Bool.of_not_eq_false hb))
theorem V7_keep (h : r ∉ [main_v30, main_v31, main_v32]) : V7 V0 d (Proc.devRef .tc r) = V6 V0 d (Proc.devRef .tc r) :=
  after_keep (outs := [main_v30, main_v31, main_v32]) rfl _ h

variable (V0 d)

/-- No argument is written. -/
theorem V7_args : ∀ r ∈ [main_arg0, main_arg1, main_arg2, main_arg3, main_arg4, main_arg5, main_arg6, main_arg7, main_arg8, main_arg9, main_arg10, main_arg11, main_arg12, main_arg13],
    V7 V0 d (Proc.devRef .tc r) = V0 (Proc.devRef .tc r) := by
  have hB : ∀ r ∈ [main_arg0, main_arg1, main_arg2, main_arg3, main_arg4, main_arg5, main_arg6, main_arg7, main_arg8, main_arg9, main_arg10, main_arg11, main_arg12, main_arg13],
      r ∉ oH ∧ r ∉ [main_v24_0, main_v24_1, main_v24_2] ∧ r ∉ [main_v25, main_v26] ∧ r ≠ main_v27 ∧ r ∉ [main_v28] ∧ r ∉ [main_v29_0, main_v29_1, main_v29_2, main_v29_3]
        ∧ r ∉ [main_v30, main_v31, main_v32] := by decide +kernel
  intro r hr
  obtain ⟨a, b, c, e, f, g, i⟩ := hB r hr
  exact (V7_keep i).trans ((V6_keep g).trans ((V5_keep f).trans ((V4_keep e).trans ((V3_keep c).trans ((V2_keep b).trans
    ((congrFun (V1_eq V0 d) _).trans ((WH_keep a).trans (WG_args V0 r hr))))))))

/-- The identifiers the SparseCore call reads. -/
theorem V3_v26 : V3 V0 d (Proc.devRef .tc main_v26) = shapeCast S851968 (relPad (V0 (Proc.devRef .tc main_arg4))) shapeCasts_S4096x208_S851968 := by
  have h : V3 V0 d (Proc.devRef .tc main_v26) = shapeCast S851968 (V2 V0 d (Proc.devRef .tc main_v2)) shapeCasts_S4096x208_S851968 := by
    unfold V3
    generalize V2 V0 d = V
    after_results
    rfl
  rw [h, V2_keep (by decide), show V1 V0 d = _ from V1_eq V0 d, in_v2]

end Keep

/-- A padded identifier is 0 or one of the array's. -/
theorem relPad_lt (a4 : IVec S4096x200x2 32) (h : ∀ i, (a4 i).toNat < 1000) (p : S4096x208.Idx) : (relPad a4 p).toNat < 1000 := by
  unfold relPad
  unfold pad
  split
  · exact h _
  · decide

end Cert.Proof.KI

end
-- ==== Proof.KI.Frame.lean ====
/-
The kernel's frame.
-/
module

public import proofs.«01_k».proof.Proof.KI.Keep

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type}

local notation "𝕄" => MT nD τ sig (HIx 1) (Elt F) ℕ UU ℕ

variable [FloatOps F]

/-- An unscoped reference of @main is held. -/
theorem uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- The identifiers at the SparseCore call are below 1024. -/
theorem ids_lt (m : (ℓ : Loc nD τ sig) → Buf (Elt F) ℓ) (h : ∀ (c : Dev nD) i, (m ((c.tc : Thread nD τ).loc main_arg4) i : BitVec 32).toNat < 1000) (d : Dev nD) (p) :
    (V3 (M0 m d) d (Proc.devRef .tc main_v26) p : BitVec 32).toNat < 1024 := by
  rw [V3_v26]
  exact (relPad_lt _ (h d) _).trans (by decide)

/-- The run from a memory whose identifiers name rows of the table: the buffers at `V7`, the semaphores at zero. -/
theorem run [∀ e, Nonempty (Elt F e)] (m : (ℓ : Loc nD τ sig) → Buf (Elt F) ℓ) (ρ : Dev nD → PrngReg)
    (h : ∀ (c : Dev nD) i, (m ((c.tc : Thread nD τ).loc main_arg4) i : BitVec 32).toNat < 1000) :
    θ_run (Cert.KernelIdeal.defs (F := F)) (Cert.KernelIdeal.threads (F := F)) ⟨m, fun _ => 0, ρ⟩ (QC m) :=
  run_main m ρ (ids_lt m h)

/-- The frame: the arguments unchanged, every semaphore at zero. -/
theorem run_frame [∀ e, Nonempty (Elt F e)] (m : (ℓ : Loc nD τ sig) → Buf (Elt F) ℓ) (ρ : Dev nD → PrngReg)
    (h : ∀ (c : Dev nD) i, (m ((c.tc : Thread nD τ).loc main_arg4) i : BitVec 32).toNat < 1000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun _ h => ⟨fun c => ⟨h.1 c _ (uc main_arg0 (by decide)) |>.trans (V7_args (M0 m c) c main_arg0 (by decide)), h.1 c _ (uc main_arg1 (by decide)) |>.trans (V7_args (M0 m c) c main_arg1 (by decide)), h.1 c _ (uc main_arg2 (by decide)) |>.trans (V7_args (M0 m c) c main_arg2 (by decide)), h.1 c _ (uc main_arg3 (by decide)) |>.trans (V7_args (M0 m c) c main_arg3 (by decide)), h.1 c _ (uc main_arg4 (by decide)) |>.trans (V7_args (M0 m c) c main_arg4 (by decide)), h.1 c _ (uc main_arg5 (by decide)) |>.trans (V7_args (M0 m c) c main_arg5 (by decide)), h.1 c _ (uc main_arg6 (by decide)) |>.trans (V7_args (M0 m c) c main_arg6 (by decide)), h.1 c _ (uc main_arg7 (by decide)) |>.trans (V7_args (M0 m c) c main_arg7 (by decide)), h.1 c _ (uc main_arg8 (by decide)) |>.trans (V7_args (M0 m c) c main_arg8 (by decide)), h.1 c _ (uc main_arg9 (by decide)) |>.trans (V7_args (M0 m c) c main_arg9 (by decide)), h.1 c _ (uc main_arg10 (by decide)) |>.trans (V7_args (M0 m c) c main_arg10 (by decide)), h.1 c _ (uc main_arg11 (by decide)) |>.trans (V7_args (M0 m c) c main_arg11 (by decide)), h.1 c _ (uc main_arg12 (by decide)) |>.trans (V7_args (M0 m c) c main_arg12 (by decide)), h.1 c _ (uc main_arg13 (by decide)) |>.trans (V7_args (M0 m c) c main_arg13 (by decide))⟩, h.2⟩) (run m ρ h)

end Cert.Proof.KI

end
-- ==== Proof.R.Host.lean ====
/-
  The reference's host operations, read off its @main.
-/
module

public import proofs.«01_k».proof.Defs
public import proofs.«01_k».proof.Proof.Gen.ReferenceIdeal
public import proofs.«01_k».proof.Proof.Line

@[expose] public section

set_option maxRecDepth 16384

noncomputable section

namespace Cert.Proof.R

open Cert.ReferenceIdeal Cert.ReferenceIdeal.Gen
open Idealize.ShloMosaic Idealize.SL.Sem
open TcCoe

variable {F : FTy → Type} [FloatOps F]

set_option synthInstance.maxHeartbeats 400000
set_option synthInstance.maxSize 4096
set_option maxHeartbeats 1600000

instance (arg0 : StableHlo.TRef sig ⟨S4096, .i1⟩) (arg1 : StableHlo.TRef sig ⟨S4096, .i32⟩) (arg2 : StableHlo.TRef sig ⟨S4096, .i32⟩) (φ : fn_where.Bufs) : Line (fn_where.body (F := F) arg0 arg1 arg2 φ) := by delta fn_where.body; infer_instance
instance (arg0 : StableHlo.TRef sig ⟨S1000x128, .f32⟩) (arg1 : StableHlo.TRef sig ⟨S4096, .i32⟩) (φ : fn_take.Bufs) : Line (fn_take.body (F := F) arg0 arg1 φ) := by delta fn_take.body; infer_instance
instance (arg0 : StableHlo.TRef sig ⟨S4096x200, .i1⟩) (arg1 : StableHlo.TRef sig ⟨S4096x200, .i32⟩) (arg2 : StableHlo.TRef sig ⟨S4096x200, .i32⟩) (φ : fn_where_1.Bufs) : Line (fn_where_1.body (F := F) arg0 arg1 arg2 φ) := by delta fn_where_1.body; infer_instance
instance (arg0 : StableHlo.TRef sig ⟨S1000x128, .f32⟩) (arg1 : StableHlo.TRef sig ⟨S4096x200, .i32⟩) (φ : fn_take_0.Bufs) : Line (fn_take_0.body (F := F) arg0 arg1 φ) := by delta fn_take_0.body; infer_instance
instance (arg0 : StableHlo.TRef sig ⟨S4096x256, .f32⟩) (φ : fn_relu.Bufs) : Line (fn_relu.body (F := F) arg0 φ) := by delta fn_relu.body; infer_instance
instance (arg0 : StableHlo.TRef sig ⟨S4096x128, .f32⟩) (φ : fn_relu_2.Bufs) : Line (fn_relu_2.body (F := F) arg0 φ) := by delta fn_relu_2.body; infer_instance
instance (arg0 : StableHlo.TRef sig ⟨S4096x200, .i1⟩) (arg1 : StableHlo.TRef sig ⟨S4096x200, .f32⟩) (arg2 : StableHlo.TRef sig ⟨S4096x200, .f32⟩) (φ : fn_where_3.Bufs) : Line (fn_where_3.body (F := F) arg0 arg1 arg2 φ) := by delta fn_where_3.body; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part0 (F := F) arg0 arg1 arg2 arg3 φ) := by delta fn_threefry2x32.body_part0; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part1 (F := F) arg0 arg1 arg2 arg3 φ) := by delta fn_threefry2x32.body_part1; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part2 (F := F) arg0 arg1 arg2 arg3 φ) := by delta fn_threefry2x32.body_part2; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body_part3 (F := F) arg0 arg1 arg2 arg3 φ) := by delta fn_threefry2x32.body_part3; infer_instance
instance (arg0 : StableHlo.TRef sig ⟨S_, .i32⟩) (arg1 : StableHlo.TRef sig ⟨S_, .i32⟩) (arg2 : StableHlo.TRef sig ⟨S4096x200, .i32⟩) (arg3 : StableHlo.TRef sig ⟨S4096x200, .i32⟩) (φ : fn_threefry2x32.Bufs) : Line (fn_threefry2x32.body (F := F) arg0 arg1 arg2 arg3 φ) := by delta fn_threefry2x32.body; infer_instance
instance (arg0 : StableHlo.TRef sig ⟨S2, .i32⟩) (arg1 : StableHlo.TRef sig ⟨S_, .f32⟩) (arg2 : StableHlo.TRef sig ⟨S_, .f32⟩) (φ : fn_uniform.Bufs) : Line (fn_uniform.body (F := F) arg0 arg1 arg2 φ) := by delta fn_uniform.body; infer_instance
instance (arg0 : StableHlo.TRef sig ⟨S2, .i32⟩) (φ : fn_gumbel.Bufs) : Line (fn_gumbel.body (F := F) arg0 φ) := by delta fn_gumbel.body; infer_instance
instance (arg0 : StableHlo.TRef sig ⟨S4096x200, .f32⟩) (φ : fn_argmax.Bufs) : Line (fn_argmax.body (F := F) arg0 φ) := by delta fn_argmax.body; infer_instance
instance (arg0 : StableHlo.TRef sig ⟨S4096x200, .i32⟩) (arg1 : StableHlo.TRef sig ⟨S4096x1, .i32⟩) (φ : fn_take_along_axis.Bufs) : Line (fn_take_along_axis.body (F := F) arg0 arg1 φ) := by delta fn_take_along_axis.body; infer_instance
instance (arg0 : StableHlo.TRef sig ⟨S4096x200, .f32⟩) (φ : fn_log_softmax.Bufs) : Line (fn_log_softmax.body (F := F) arg0 φ) := by delta fn_log_softmax.body; infer_instance
instance (arg0 : StableHlo.TRef sig ⟨S4096, .i32⟩) (φ : fn_one_hot.Bufs) : Line (fn_one_hot.body (F := F) arg0 φ) := by delta fn_one_hot.body; infer_instance
instance (d : Dev nD) : Line (main_part0 (F := F) d) := by delta main_part0; infer_instance
instance (d : Dev nD) : Line (main_part1 (F := F) d) := by delta main_part1; infer_instance
instance mainLine (d : Dev nD) : Line (main (F := F) d) := by delta main; infer_instance

end Cert.Proof.R

end
-- ==== Proof.R.Frame.lean ====
/-
  The reference's run and its frame.
-/
module

public import proofs.«01_k».proof.Proof.R.Host
public import Idealize.ShloMosaic.Lib.Quiescent

@[expose] public section

set_option maxRecDepth 16384

noncomputable section

namespace Cert.Proof.R

open Cert.ReferenceIdeal Cert.ReferenceIdeal.Gen
open Idealize.ShloMosaic Idealize.SL.Sem
open TcCoe

variable {F : FTy → Type} [FloatOps F]

/-- The launch contents of device `d`. -/
abbrev M0 (m : (ℓ : Loc nD τ sig) → Buf (Elt F) ℓ) (d : Dev nD) : Valuation τ sig (Elt F) := fun b => m (d, b)

/-- The buffers of device `d` at the end. -/
def VR (V0 : Valuation τ sig (Elt F)) (d : Dev nD) : Valuation τ sig (Elt F) := StableHlo.after (mainLine (F := F) d).ops V0

/-- Every weakly fair run of the reference ends with the buffers at `VR`. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r =>
      ∀ (d : Dev nD) (b : Ref sig .tc), r.2.mem ((d.tc : Thread nD τ).loc b) = VR (M0 m d) d (Proc.devRef .tc b) :=
  StableHlo.run_seq (by decide +kernel) (by decide +kernel) defs main (fun d => (mainLine (F := F) d).ops) (fun d => (mainLine d).eq)
    (fun d => List.forall_iff_forall_mem.mpr (mainLine d).bufs) m ρ (fun d => (mainLine d).fresh)

/-- No operation writes an argument. -/
theorem args_out : ∀ r ∈ [main_arg0, main_arg1, main_arg2, main_arg3, main_arg4, main_arg5, main_arg6, main_arg7, main_arg8, main_arg9, main_arg10, main_arg11, main_arg12, main_arg13], r ∉ (mainLine (F := Bits) 0).outs := by decide +kernel

theorem arg_keep (m : (ℓ : Loc nD τ sig) → Buf (Elt F) ℓ) (d : Dev nD) (r : Ref sig .tc) (hr : r ∈ [main_arg0, main_arg1, main_arg2, main_arg3, main_arg4, main_arg5, main_arg6, main_arg7, main_arg8, main_arg9, main_arg10, main_arg11, main_arg12, main_arg13]) :
    VR (M0 m d) d (Proc.devRef .tc r) = m ((d.tc : Thread nD τ).loc r) :=
  after_keep (mainLine d).writes _ (args_out r hr)

/-- The reference's frame. -/
theorem run_frame (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun r h => ⟨fun c => ⟨(h c main_arg0).trans (arg_keep m c main_arg0 (by decide)), (h c main_arg1).trans (arg_keep m c main_arg1 (by decide)), (h c main_arg2).trans (arg_keep m c main_arg2 (by decide)), (h c main_arg3).trans (arg_keep m c main_arg3 (by decide)), (h c main_arg4).trans (arg_keep m c main_arg4 (by decide)), (h c main_arg5).trans (arg_keep m c main_arg5 (by decide)), (h c main_arg6).trans (arg_keep m c main_arg6 (by decide)), (h c main_arg7).trans (arg_keep m c main_arg7 (by decide)), (h c main_arg8).trans (arg_keep m c main_arg8 (by decide)), (h c main_arg9).trans (arg_keep m c main_arg9 (by decide)), (h c main_arg10).trans (arg_keep m c main_arg10 (by decide)), (h c main_arg11).trans (arg_keep m c main_arg11 (by decide)), (h c main_arg12).trans (arg_keep m c main_arg12 (by decide)), (h c main_arg13).trans (arg_keep m c main_arg13 (by decide))⟩, sem_eq_zero_of_no_sems (by decide) r.2⟩) (run m ρ)

end Cert.Proof.R

end
-- ==== Proof.Ids.lean ====
/-
  What the precondition `ids_in_table` says of the actions' identifiers: each is below 1000.
-/
module

public import proofs.«01_k».proof.Proof.Gen.Pre_ids_in_table
public import Idealize.ShloMosaic.Lib.ReduceAll

@[expose] public section

noncomputable section

namespace Cert.Proof

open Idealize.ShloMosaic Cert.Pre_ids_in_table

/-- A word that is not negative and below 1000, as signed comparisons have it. -/
theorem word_lt (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Both of two bits are 1 where their conjunction is. -/
theorem both (p q : BitVec 1) (e : IntOp.andi p q = 1#1) : p = 1#1 ∧ q = 1#1 := by
  revert p q; decide

variable {F : FTy → Type} [FloatOps F]
variable (a0 a1 : FVec F S4096x128 .f32) (a2 a3 : IVec S4096 32) (a4 : IVec S4096x200x2 32) (a5 : FVec F S1000x128 .f32)
  (a6 a7 : FVec F S512x128 .f32) (a8 a9 : FVec F S512 .f32) (a10 : FVec F S256x256 .f32) (a11 : FVec F S256 .f32)
  (a12 : FVec F S128x256 .f32) (a13 : FVec F S128 .f32)

/-- The precondition's three conjuncts, elementwise. -/
theorem ids_of_pre [Facts] (h : fn a0 a1 a2 a3 a4 a5 a6 a7 a8 a9 a10 a11 a12 a13 = fun _ => 1#1) :
    (∀ i, (a2 i).toNat < 1000) ∧ (∀ i, (a3 i).toNat < 1000) ∧ ∀ i, (a4 i).toNat < 1000 := by
  have e := congrFun h (fun a => a.elim0)
  simp only [fn, fn_part1] at e
  obtain ⟨e, e4⟩ := both _ _ e
  obtain ⟨e2, e3⟩ := both _ _ e
  haveI : Subsingleton (S_ : Shape).Idx := ⟨fun x y => funext fun a => a.elim0⟩
  exact ⟨fun i => word_lt _ (Host.reduce_andi_all _ _ _ _ _ e2 i), fun i => word_lt _ (Host.reduce_andi_all _ _ _ _ _ e3 i),
    fun i => word_lt _ (Host.reduce_andi_all _ _ _ _ _ e4 i)⟩

end Cert.Proof

end
-- ==== Proof.Spec.lean ====
/-
  What the problem computes for one row of the batch, over the extended reals: the cell, the two-layer net, the scores of
  the 200 actions, the masked scores and their log-softmax. Both programs are shown to compute these.
-/
module

public import Idealize.ShloMosaic.Lib.Pointwise

@[expose] public section

noncomputable section

namespace Cert.Proof.Spec

open Idealize.ShloMosaic

/-- The weights. -/
structure Net where
  wi : Fin 512 → Fin 128 → EReal
  wh : Fin 512 → Fin 128 → EReal
  bi : Fin 512 → EReal
  bh : Fin 512 → EReal
  w1 : Fin 256 → Fin 256 → EReal
  b1 : Fin 256 → EReal
  w2 : Fin 128 → Fin 256 → EReal
  b2 : Fin 128 → EReal

namespace Net

variable (N : Net)

/-- The cell's 512 sums, of an embedding `e` and a hidden state `h`. -/
def gate (e h : Fin 128 → EReal) (q : Fin 512) : EReal :=
  (∑ k, e k * N.wi q k) + N.bi q + (∑ k, h k * N.wh q k) + N.bh q

/-- The new cell state. -/
def cell (e h c : Fin 128 → EReal) (j : Fin 128) : EReal :=
  Ideal.logistic (N.gate e h ⟨128 + j.val, by omega⟩) * c j
    + Ideal.logistic (N.gate e h ⟨j.val, by omega⟩) * Ideal.tanh (N.gate e h ⟨256 + j.val, by omega⟩)

/-- The new hidden state. -/
def hidden (e h c : Fin 128 → EReal) (j : Fin 128) : EReal :=
  Ideal.logistic (N.gate e h ⟨384 + j.val, by omega⟩) * Ideal.tanh (N.cell e h c j)

/-- The net's first layer, of a hidden state `s` and a query's embedding `q`. -/
def layer1 (s q : Fin 128 → EReal) (p : Fin 256) : EReal :=
  max ((∑ k : Fin 128, s k * N.w1 p ⟨k.val, by omega⟩) + (∑ k : Fin 128, q k * N.w1 p ⟨128 + k.val, by omega⟩) + N.b1 p) 0

/-- The net's second layer. -/
def layer2 (s q : Fin 128 → EReal) (k : Fin 128) : EReal :=
  max ((∑ p, N.layer1 s q p * N.w2 k p) + N.b2 k) 0

/-- The vector that scores a row's actions: the net of the new hidden state and the query's embedding. -/
def vector (e q h c : Fin 128 → EReal) : Fin 128 → EReal := N.layer2 (N.hidden e h c) q

end Net

/-- An action's score: the vector against the action's embedding. -/
def score (m r : Fin 128 → EReal) : EReal := ∑ k, m k * r k

/-- The row of a table that a word names. -/
def row (T : (⟨2, ![1000, 128]⟩ : Shape).Idx → EReal) (w : BitVec 32) (k : Fin 128) : EReal :=
  if h : w.toNat < 1000 then T (ix2 ⟨w.toNat, h⟩ k) else 0

/-- The score of an action that is not there: −99999. -/
def absent : EReal := Ideal.ofBits .f32 0xC7C34F80#32

/-- A score, or `absent` where the action's relation is 0. -/
def masked (w : BitVec 32) (x : EReal) : EReal := if w = 0#32 then absent else x

/-- The greatest of 200 numbers. -/
def top (x : Fin 200 → EReal) : EReal := Finset.univ.sup x

/-- The log-softmax of 200 numbers. -/
def logit (x : Fin 200 → EReal) (j : Fin 200) : EReal :=
  x j - top x - Ideal.log (∑ i, Ideal.exp (x i - top x))

/-! ## Sums against an indicator -/

/-- A bit as a number. -/
theorem bit_one : (FloatOps.sitofp .f32 (BitVec.setWidth 32 (1#1)) : Ideal .f32) = 1 := by
  show (((BitVec.setWidth 32 (1#1)).toInt : ℝ) : EReal) = 1
  norm_num [show (BitVec.setWidth 32 (1#1)).toInt = 1 by decide]

theorem bit_zero : (FloatOps.sitofp .f32 (BitVec.setWidth 32 (0#1)) : Ideal .f32) = 0 := by
  show (((BitVec.setWidth 32 (0#1)).toInt : ℝ) : EReal) = 0
  norm_num [show (BitVec.setWidth 32 (0#1)).toInt = 0 by decide]

/-- A number's word compared with a word. -/
theorem cmpi_ofNat (w : BitVec 32) (n : Nat) (hn : n < 4294967296) :
    IntOp.cmpi CmpIPredicate.eq w (BitVec.ofNat 32 n) = if w.toNat = n then 1#1 else 0#1 := by
  have : (w = BitVec.ofNat 32 n) ↔ w.toNat = n := by
    constructor
    · intro h; rw [h, BitVec.toNat_ofNat]; exact Nat.mod_eq_of_lt hn
    · intro h; apply BitVec.eq_of_toNat_eq; rw [BitVec.toNat_ofNat, h]; exact (Nat.mod_eq_of_lt (h ▸ hn)).symm
  by_cases h : w.toNat = n
  · rw [if_pos h]; simp [IntOp.cmpi, this.mpr h]
  · rw [if_neg h]; rw [IntOp.cmpi, beq_false_of_ne (mt this.mp h)]; rfl

/-- The sum of a column against the indicator of the row a word names is the row's entry. -/
theorem sum_pick (w : BitVec 32) (hw : w.toNat < 1024) (f : Fin 1024 → EReal) :
    (∑ n : Fin 1024, (FloatOps.sitofp .f32 (BitVec.setWidth 32 (IntOp.cmpi CmpIPredicate.eq w (BitVec.ofNat 32 n.val))) : Ideal .f32) * f n)
      = f ⟨w.toNat, hw⟩ := by
  rw [Finset.sum_eq_single ⟨w.toNat, hw⟩]
  · rw [cmpi_ofNat _ _ (by omega), if_pos rfl, bit_one]; exact one_mul _
  · intro n _ hn
    rw [cmpi_ofNat _ _ (by omega), if_neg (fun h => hn (Fin.ext h.symm)), bit_zero]; exact zero_mul _
  · intro h; exact absurd (Finset.mem_univ _) h

/-- A select on an equality with 0. -/
theorem select_zero (w : BitVec 32) (x : EReal) :
    Scalar.select (IntOp.cmpi CmpIPredicate.eq w 0#32) (Ideal.ofBits FTy.f32 0xC7C34F80#32) x = masked w x := by
  unfold masked absent
  by_cases h : w = 0#32
  · rw [if_pos h]; simp [IntOp.cmpi, h, Scalar.select]
  · rw [if_neg h, IntOp.cmpi, beq_false_of_ne h]; rfl

/-- A fold of the maximum from −∞ is the supremum. -/
theorem fold_max {n : Nat} (f : Fin n → EReal) : Finset.fold max (Ideal.ofBits FTy.f32 4286578688#32) f Finset.univ = Finset.univ.sup f := by
  have hb : Ideal.ofBits FTy.f32 4286578688#32 = (⊥ : EReal) := by simp [Ideal.ofBits, Ideal.ieee]
  rw [hb]; rfl

end Cert.Proof.Spec

end
-- ==== Proof.Choice.lean ====
/-
  The action a row takes: the first of 200 lanes that holds the greatest number.

  `First y k` says that lane `k` is it. Such a lane exists and is found by each of the two programs' searches: the kernel's
  (`min_lane`), the least of the lanes that hold the greatest of 208, and the reference's (`foldl_better`), the better of
  two pairs at a time. `pick_word` and `pick_sum` read the word and the number that a lane holds.
-/
module

public import proofs.«01_k».proof.Proof.Spec

@[expose] public section

noncomputable section

namespace Cert.Proof.Spec

open Idealize.ShloMosaic

/-- A lane of the 200 is one of the 208. -/
theorem lane_le (j : Fin 200) : j.val < 208 := Nat.lt_trans j.isLt (by decide)

/-- Lane `k` is the first that holds the greatest of the 200 numbers. -/
def First (y : Fin 200 → EReal) (k : Fin 200) : Prop := (∀ j, y j ≤ y k) ∧ ∀ j, j < k → y j < y k

/-- There is such a lane. -/
theorem First.exists (y : Fin 200 → EReal) : ∃ k, First y k := by
  classical
  obtain ⟨m, -, hm⟩ := Finset.exists_max_image Finset.univ y ⟨0, Finset.mem_univ _⟩
  obtain ⟨k, hk, hmin⟩ := Finset.exists_min_image (Finset.univ.filter fun j => y j = y m) id ⟨m, by simp⟩
  have e : y k = y m := (Finset.mem_filter.mp hk).2
  refine ⟨k, fun j => e ▸ hm j (Finset.mem_univ _), fun j hj => lt_of_le_of_ne (e ▸ hm j (Finset.mem_univ _)) fun h => ?_⟩
  exact absurd (hmin j (Finset.mem_filter.mpr ⟨Finset.mem_univ _, h.trans e⟩)) (not_le.mpr hj)

/-- The lane a row takes. -/
def first (y : Fin 200 → EReal) : Fin 200 := (First.exists y).choose
theorem first_spec (y : Fin 200 → EReal) : First y (first y) := (First.exists y).choose_spec

/-! ### A fold that keeps one of its two arguments -/

section Fold

variable {α : Type} (op : α → α → α) (good : α → Prop) (m : α)

/-- A fold over a list is `m` if `m` is kept against every other entry, and is there. -/
theorem foldl_keep (hl : ∀ b, good b → op m b = m) (hr : ∀ a, good a → op a m = m) (hop : ∀ a b, good a → good b → good (op a b)) :
    ∀ (l : List α) (a : α), good a → (∀ b ∈ l, good b) → (a = m ∨ m ∈ l) → l.foldl op a = m
  | [], a, _, _, h => by simpa using h
  | b :: l, a, ha, hb, h => by
    have gb := hb b List.mem_cons_self
    refine foldl_keep hl hr hop l (op a b) (hop a b ha gb) (fun c hc => hb c (List.mem_cons_of_mem _ hc)) ?_
    rcases h with rfl | h
    · exact .inl (hl b gb)
    · rcases List.mem_cons.mp h with rfl | h
      · exact .inl (hr a ha)
      · exact .inr h

/-- A fold over a finite set, in any order, likewise. -/
theorem fold_keep {ι : Type} [Fintype ι] [DecidableEq ι] [Std.Commutative op] [Std.Associative op] (hl : ∀ b, good b → op m b = m)
    (hop : ∀ a b, good a → good b → good (op a b)) (a : α) (f : ι → α) (ha : good a) (hf : ∀ i, good (f i)) (k : ι) (hk : f k = m) :
    Finset.univ.fold op a f = m := by
  have hs : ∀ s : Finset ι, good (s.fold op a f) := fun s => by
    induction s using Finset.induction with
    | empty => simpa using ha
    | insert i s hi ih => rw [Finset.fold_insert hi]; exact hop _ _ (hf i) ih
  rw [← Finset.insert_erase (Finset.mem_univ k), Finset.fold_insert (Finset.notMem_erase _ _), hk]
  exact hl _ (hs _)

end Fold

theorem toInt_small (n : Nat) (h : n < 2147483648) : (BitVec.ofNat 32 n).toInt = n := by
  rw [BitVec.toInt_eq_toNat_of_lt (by rw [BitVec.toNat_ofNat]; omega), BitVec.toNat_ofNat]
  omega

/-! ### The kernel's search -/

section Kernel

variable (Y : Fin 208 → EReal) (y : Fin 200 → EReal) (k : Fin 200) (hk : First y k) (hY : ∀ j : Fin 200, Y ⟨j.val, lane_le j⟩ = y j)
  (hpad : ∀ i : Fin 208, 200 ≤ i.val → Y i < y k)
include hk hY hpad

theorem sup_first : Finset.univ.sup Y = y k := by
  refine le_antisymm (Finset.sup_le fun i _ => ?_) ?_
  · by_cases h : i.val < 200
    · exact (hY ⟨i.val, h⟩).le.trans (hk.1 _)
    · exact (hpad i (by omega)).le
  · exact (hY k).ge.trans (Finset.le_sup (f := Y) (Finset.mem_univ _))

/-- The least of the lanes that hold the greatest number, where a padded lane never does. -/
theorem min_lane : Finset.univ.fold IntOp.minsi 2147483647#32 (fun i : Fin 208 => if Y i = Finset.univ.sup Y then BitVec.ofNat 32 i.val else 208#32)
    = BitVec.ofNat 32 k.val := by
  rw [sup_first Y y k hk hY hpad]
  refine fold_keep IntOp.minsi (fun b => b = BitVec.ofNat 32 k.val ∨ (BitVec.ofNat 32 k.val).slt b = true) (BitVec.ofNat 32 k.val)
    (fun b hb => ?_) (fun a b ha hb => ?_) _ _ ?_ (fun i => ?_) (⟨k.val, by omega⟩ : Fin 208) ?_
  · unfold IntOp.minsi
    rcases hb with rfl | hb
    · split <;> rfl
    · rw [if_pos hb]
  · unfold IntOp.minsi; split <;> assumption
  · right
    rw [BitVec.slt_eq_decide, toInt_small _ (by omega), show (2147483647#32).toInt = 2147483647 by decide]
    exact decide_eq_true (by omega)
  · have hlt : ∀ n : Nat, k.val < n → n < 2147483648 → (BitVec.ofNat 32 k.val).slt (BitVec.ofNat 32 n) = true := fun n h h' => by
      rw [BitVec.slt_eq_decide, toInt_small _ (by omega), toInt_small _ h']
      exact decide_eq_true (by omega)
    split
    · rename_i e
      have hi : i.val < 200 := by
        by_contra h
        exact absurd e (hpad i (by omega)).ne
      have hki : k.val ≤ i.val := by
        by_contra h
        exact absurd ((hY ⟨i.val, hi⟩).symm.trans e) (hk.2 ⟨i.val, hi⟩ (Fin.lt_def.mpr (by simpa using h))).ne
      rcases Nat.eq_or_lt_of_le hki with h | h
      · left; rw [h]
      · right; exact hlt _ h (by omega)
    · right; exact hlt 208 (by omega) (by omega)
  · exact if_pos (hY k)

end Kernel

theorem ofNat_eq (i k : Nat) (hi : i < 4294967296) (hk : k < 4294967296) :
    IntOp.cmpi CmpIPredicate.eq (BitVec.ofNat 32 i) (BitVec.ofNat 32 k) = if i = k then 1#1 else 0#1 := by
  rw [cmpi_ofNat _ _ hk, BitVec.toNat_ofNat, Nat.mod_eq_of_lt hi]

/-- The sum of words of which all but lane `k`'s are put to 0 is that lane's word. -/
theorem pick_word (w : Fin 208 → BitVec 32) (k : Fin 208) :
    Finset.univ.fold IntOp.addi 0#32 (fun i : Fin 208 => Scalar.select (IntOp.cmpi CmpIPredicate.eq (BitVec.ofNat 32 i.val) (BitVec.ofNat 32 k.val)) (w i) 0#32)
      = w k := by
  have e : ∀ i : Fin 208, Scalar.select (IntOp.cmpi CmpIPredicate.eq (BitVec.ofNat 32 i.val) (BitVec.ofNat 32 k.val)) (w i) 0#32 = if i = k then w i else 0#32 := fun i => by
    rw [ofNat_eq _ _ (by omega) (by omega)]
    by_cases h : i = k
    · rw [if_pos h, if_pos (congrArg Fin.val h)]; rfl
    · rw [if_neg h, if_neg (fun h' => h (Fin.ext h'))]; rfl
  simp only [e]
  rw [← Finset.insert_erase (Finset.mem_univ k), Finset.fold_insert (Finset.notMem_erase _ _), if_pos rfl]
  have hs : ∀ s : Finset (Fin 208), k ∉ s → s.fold IntOp.addi 0#32 (fun i => if i = k then w i else 0#32) = 0#32 := fun s => by
    induction s using Finset.induction with
    | empty => intro _; rfl
    | insert i s hi ih =>
      intro h
      rw [Finset.mem_insert, not_or] at h
      rw [Finset.fold_insert hi, ih h.2, if_neg (Ne.symm h.1)]; rfl
  rw [hs _ (Finset.notMem_erase _ _)]
  show w k + 0#32 = w k
  exact BitVec.add_zero _

/-- The same of numbers. -/
theorem pick_sum (f : Fin 208 → EReal) (k : Fin 208) :
    (∑ i : Fin 208, Scalar.select (IntOp.cmpi CmpIPredicate.eq (BitVec.ofNat 32 i.val) (BitVec.ofNat 32 k.val)) (f i) 0) = f k := by
  rw [Finset.sum_eq_single k]
  · rw [ofNat_eq _ _ (by omega) (by omega), if_pos rfl]; rfl
  · intro i _ h
    rw [ofNat_eq _ _ (by omega) (by omega), if_neg (fun h' => h (Fin.ext h'))]; rfl
  · intro h; exact absurd (Finset.mem_univ _) h

/-! ### The reference's search -/

/-- The better of two pairs: the greater number, of equal ones the one with the lesser word. -/
def better (a b : EReal × BitVec 32) : EReal × BitVec 32 :=
  let v4 := IntOp.ori (Ideal.cmp .ogt a.1 b.1) (Ideal.cmp .une a.1 a.1)
  (Scalar.select v4 a.1 b.1, Scalar.select (IntOp.ori v4 (IntOp.andi (Ideal.cmp .oeq a.1 b.1) (IntOp.cmpi .slt a.2 b.2))) a.2 b.2)

theorem better_eq (a b : EReal × BitVec 32) : better a b = if b.1 < a.1 ∨ (a.1 = b.1 ∧ a.2.slt b.2 = true) then a else b := by
  obtain ⟨x, v⟩ := a
  obtain ⟨z, w⟩ := b
  rcases lt_trichotomy x z with h | rfl | h
  · simp [better, Ideal.cmp, IntOp.ori, IntOp.andi, Scalar.select, IntOp.cmpi, h.ne, h.not_gt]
  · cases hs : v.slt w <;> simp [better, Ideal.cmp, IntOp.ori, IntOp.andi, Scalar.select, IntOp.cmpi, hs]
  · simp [better, Ideal.cmp, IntOp.ori, IntOp.andi, Scalar.select, IntOp.cmpi, h.ne', h]

/-- The best of a list that holds the lanes, begun from −∞ and the word 0, is the first lane that holds the greatest number. -/
theorem foldl_better (y : Fin 200 → EReal) (k : Fin 200) (hk : First y k) (l : List (EReal × BitVec 32))
    (hl : ∀ p, p ∈ l ↔ ∃ j : Fin 200, p = (y j, BitVec.ofNat 32 j.val)) : l.foldl better (⊥, 0#32) = (y k, BitVec.ofNat 32 k.val) := by
  have hs : ∀ i j : Fin 200, (BitVec.ofNat 32 i.val).slt (BitVec.ofNat 32 j.val) = decide (i.val < j.val) := fun i j => by
    rw [BitVec.slt_eq_decide, toInt_small _ (by omega), toInt_small _ (by omega)]
    simp
  refine foldl_keep better (fun p => ∃ j : Fin 200, p.2 = BitVec.ofNat 32 j.val ∧ (p = (y k, BitVec.ofNat 32 k.val) ∨ p.1 < y k ∨ (p.1 = y k ∧ k.val < j.val)))
    (y k, BitVec.ofNat 32 k.val) ?_ ?_ ?_ l _ ?_ ?_ ?_
  · rintro b ⟨j, hj, rfl | h | ⟨h, h'⟩⟩
    · rw [better_eq]; split <;> rfl
    · rw [better_eq, if_pos (.inl h)]
    · rw [better_eq, if_pos (.inr ⟨h.symm, by rw [hj]; simpa [hs] using h'⟩)]
  · rintro a ⟨j, hj, rfl | h | ⟨h, h'⟩⟩
    · rw [better_eq]; split <;> rfl
    · rw [better_eq, if_neg]
      rintro (h2 | ⟨h2, -⟩)
      · exact absurd h2 h.not_gt
      · exact absurd h2 h.ne
    · rw [better_eq, if_neg]
      rintro (h2 | ⟨-, h2⟩)
      · exact absurd h2 (by simp [h])
      · rw [hj, hs] at h2
        simp at h2; omega
  · intro a b ha hb
    rw [better_eq]; split <;> assumption
  · refine ⟨0, rfl, ?_⟩
    rcases eq_bot_or_bot_lt (y k) with h | h
    · left
      have : k = 0 := by
        by_contra hne
        exact absurd (hk.2 0 (Fin.pos_of_ne_zero hne)) (by simp [h])
      rw [h, this]; rfl
    · right; left; exact h
  · intro p hp
    obtain ⟨j, rfl⟩ := (hl p).mp hp
    refine ⟨j, rfl, ?_⟩
    rcases lt_or_eq_of_le (hk.1 j) with h | h
    · right; left; exact h
    · rcases lt_trichotomy j k with h' | rfl | h'
      · exact absurd h (hk.2 j h').ne
      · left; rfl
      · right; right; exact ⟨h, h'⟩
  · right; exact (hl _).mpr ⟨k, rfl⟩

end Cert.Proof.Spec

end
-- ==== Proof.Inputs.lean ====
/-
  The problem's results as functions of its arrays.

  `Inputs` holds what the fourteen arrays say: the states, the identifiers, the table and the net.  `Inputs.of` reads them
  off the arrays; `cell`, `hidden`, `scores`, `logits`, `action`, `chosen` and `loss` are the entries of the results, row by row.
-/
module

public import proofs.«01_k».proof.Proof.Choice

@[expose] public section

noncomputable section

namespace Cert.Proof.Spec

open Idealize.ShloMosaic

/-- What the arrays hold. -/
structure Inputs where
  h : Fin 4096 → Fin 128 → EReal
  c : Fin 4096 → Fin 128 → EReal
  rel : Fin 4096 → BitVec 32
  query : Fin 4096 → BitVec 32
  act : Fin 4096 → Fin 200 → BitVec 32
  table : (⟨2, ![1000, 128]⟩ : Shape).Idx → EReal
  net : Net

/-- The weights, read off their arrays. -/
def Net.of (a6 a7 : (⟨2, ![512, 128]⟩ : Shape).Idx → EReal) (a8 a9 : (⟨1, ![512]⟩ : Shape).Idx → EReal) (a10 : (⟨2, ![256, 256]⟩ : Shape).Idx → EReal)
    (a11 : (⟨1, ![256]⟩ : Shape).Idx → EReal) (a12 : (⟨2, ![128, 256]⟩ : Shape).Idx → EReal) (a13 : (⟨1, ![128]⟩ : Shape).Idx → EReal) : Net where
  wi q k := a6 (ix2 q k)
  wh q k := a7 (ix2 q k)
  bi q := a8 (ix1 q)
  bh q := a9 (ix1 q)
  w1 p k := a10 (ix2 p k)
  b1 p := a11 (ix1 p)
  w2 k p := a12 (ix2 k p)
  b2 k := a13 (ix1 k)

/-- The arrays, read; an action's relation is the first of its two words. -/
def Inputs.of (a0 a1 : (⟨2, ![4096, 128]⟩ : Shape).Idx → EReal) (a2 a3 : (⟨1, ![4096]⟩ : Shape).Idx → BitVec 32)
    (a4 : (⟨3, ![4096, 200, 2]⟩ : Shape).Idx → BitVec 32) (a5 : (⟨2, ![1000, 128]⟩ : Shape).Idx → EReal)
    (a6 a7 : (⟨2, ![512, 128]⟩ : Shape).Idx → EReal) (a8 a9 : (⟨1, ![512]⟩ : Shape).Idx → EReal) (a10 : (⟨2, ![256, 256]⟩ : Shape).Idx → EReal)
    (a11 : (⟨1, ![256]⟩ : Shape).Idx → EReal) (a12 : (⟨2, ![128, 256]⟩ : Shape).Idx → EReal) (a13 : (⟨1, ![128]⟩ : Shape).Idx → EReal) : Inputs where
  h b k := a0 (ix2 b k)
  c b k := a1 (ix2 b k)
  rel b := a2 (ix1 b)
  query b := a3 (ix1 b)
  act b j := a4 (ix3 b j 0)
  table := a5
  net := Net.of a6 a7 a8 a9 a10 a11 a12 a13

namespace Inputs

variable (X : Inputs) (b : Fin 4096)

/-- The new cell state of row `b`. -/
def cell : Fin 128 → EReal := X.net.cell (row X.table (X.rel b)) (X.h b) (X.c b)
/-- The new hidden state of row `b`. -/
def hidden : Fin 128 → EReal := X.net.hidden (row X.table (X.rel b)) (X.h b) (X.c b)
/-- The vector that scores row `b`'s actions. -/
def vector : Fin 128 → EReal := X.net.vector (row X.table (X.rel b)) (row X.table (X.query b)) (X.h b) (X.c b)
/-- Row `b`'s masked scores. -/
def scores (j : Fin 200) : EReal := masked (X.act b j) (score (X.vector b) (row X.table (X.act b j)))
/-- Row `b`'s log-probabilities. -/
def logits : Fin 200 → EReal := logit (X.scores b)

variable (g : Fin 4096 → Fin 200 → EReal)

/-- The lane row `b` takes under the noise `g`: the first of the greatest sums of score and noise. -/
def lane : Fin 200 := first fun j => X.scores b j + g b j
/-- The lane, as a word. -/
def action : BitVec 32 := BitVec.ofNat 32 (X.lane b g).val
/-- The relation of the action taken. -/
def chosen : BitVec 32 := X.act b (X.lane b g)
/-- The loss: the action's log-probability, negated. -/
def loss : EReal := 0 - X.logits b (X.lane b g)

end Inputs

/-- Where a word names a row, `row` is it. -/
theorem row_of_lt (T : (⟨2, ![1000, 128]⟩ : Shape).Idx → EReal) (w : BitVec 32) (h : w.toNat < 1000) (k : Fin 128) :
    row T w k = T (ix2 ⟨w.toNat, h⟩ k) := dif_pos h

end Cert.Proof.Spec

end
-- ==== Proof.Bound.lean ====
/-
  How far the scores and the noise can lie from 0.

  `Within C x`: the number `x` is real and of size at most `C`.  Where the table and the net's two layers hold numbers of size
  at most 10000 every masked score is within 10²⁶ (`scores_within`); the new hidden state is within 1 whatever the states hold.
  Noise made of a number that is not below 2⁻¹²⁶ is at least −127 (`gumbel_ge`).  So a lane's sum of score and noise lies
  above the padded lanes' −99999 − 10³⁰ (`pad_lt`).
-/
module

public import proofs.«01_k».proof.Proof.Inputs

@[expose] public section

noncomputable section

namespace Cert.Proof.Spec

open Idealize.ShloMosaic

/-- `x` is real and of size at most `C`. -/
def Within (C : ℝ) (x : EReal) : Prop := ∃ r : ℝ, x = (r : EReal) ∧ |r| ≤ C

namespace Within

variable {C D : ℝ} {x y : EReal}

theorem mono (h : Within C x) (hC : C ≤ D) : Within D x := by
  obtain ⟨r, rfl, h⟩ := h
  exact ⟨r, rfl, h.trans hC⟩

theorem zero (h : 0 ≤ C) : Within C 0 := ⟨0, rfl, by simpa using h⟩

theorem add (h : Within C x) (h' : Within D y) : Within (C + D) (x + y) := by
  obtain ⟨r, rfl, h⟩ := h
  obtain ⟨s, rfl, h'⟩ := h'
  exact ⟨r + s, (EReal.coe_add r s).symm, (abs_add_le r s).trans (add_le_add h h')⟩

theorem mul (h : Within C x) (h' : Within D y) : Within (C * D) (x * y) := by
  obtain ⟨r, rfl, h⟩ := h
  obtain ⟨s, rfl, h'⟩ := h'
  refine ⟨r * s, (EReal.coe_mul r s).symm, ?_⟩
  rw [abs_mul]
  exact mul_le_mul h h' (abs_nonneg s) ((abs_nonneg r).trans h)

theorem relu (h : Within C x) : Within C (max x 0) := by
  have hC : 0 ≤ C := by obtain ⟨r, -, h⟩ := h; exact (abs_nonneg r).trans h
  rcases max_choice x 0 with e | e
  · rw [e]; exact h
  · rw [e]; exact zero hC

theorem sum {n : Nat} (f : Fin n → EReal) (h : ∀ i, Within C (f i)) : Within (n * C) (∑ i, f i) := by
  induction n with
  | zero => simpa using zero le_rfl
  | succ n ih =>
    rw [Fin.sum_univ_castSucc, show ((n + 1 : ℕ) : ℝ) * C = n * C + C by push_cast; ring]
    exact (ih _ fun i => h _).add (h _)

/-- A number that is real and whose size a comparison found at most `C`. -/
theorem of_abs (h : max x (-x) ≤ (C : EReal)) : Within C x := by
  have h1 : x ≤ C := (le_max_left _ _).trans h
  have h2 : -x ≤ C := (le_max_right _ _).trans h
  induction x using EReal.rec with
  | bot => exact absurd h2 (by simp)
  | top => exact absurd h1 (by simp)
  | coe r =>
    refine ⟨r, rfl, abs_le.mpr ⟨?_, EReal.coe_le_coe_iff.mp h1⟩⟩
    have : -r ≤ C := EReal.coe_le_coe_iff.mp (by simpa using h2)
    linarith

theorem tanh (x : EReal) : Within 1 (Ideal.tanh x) := by
  induction x using EReal.rec with
  | bot => exact ⟨-1, by rw [EReal.coe_neg]; rfl, by norm_num⟩
  | top => exact ⟨1, rfl, by norm_num⟩
  | coe r => exact ⟨Real.tanh r, rfl, abs_le.mpr ⟨(Real.neg_one_lt_tanh r).le, (Real.tanh_lt_one r).le⟩⟩

theorem logistic (x : EReal) : Within 1 (Ideal.logistic x) := by
  induction x using EReal.rec with
  | bot => rw [Ideal.logistic_bot]; exact zero zero_le_one
  | top => rw [Ideal.logistic_top]; exact ⟨1, rfl, by norm_num⟩
  | coe r =>
    rw [Ideal.logistic_coe]
    refine ⟨_, rfl, ?_⟩
    have := Real.exp_pos (-r)
    rw [abs_of_pos (by positivity)]
    exact inv_le_one_of_one_le₀ (by linarith)

end Within

/-! ### The scores -/

section Scores

variable (X : Inputs) (ht : ∀ i, Within 10000 (X.table i)) (h1 : ∀ p k, Within 10000 (X.net.w1 p k)) (h2 : ∀ p, Within 10000 (X.net.b1 p))
  (h3 : ∀ p k, Within 10000 (X.net.w2 p k)) (h4 : ∀ p, Within 10000 (X.net.b2 p)) (b : Fin 4096)

theorem hidden_within (j : Fin 128) : Within 1 (X.hidden b j) := by
  unfold Inputs.hidden Net.hidden
  exact ((Within.logistic _).mul (Within.tanh _)).mono (by norm_num)

include ht in
theorem row_within (w : BitVec 32) (k : Fin 128) : Within 10000 (row X.table w k) := by
  unfold row
  split
  · exact ht _
  · exact Within.zero (by norm_num)

include ht h1 h2 in
theorem layer1_within (p : Fin 256) : Within (10 ^ 11) (X.net.layer1 (X.hidden b) (row X.table (X.query b)) p) := by
  unfold Net.layer1
  refine (((Within.sum _ fun k => (hidden_within X b k).mul (h1 p _)).add (Within.sum _ fun k => (row_within X ht _ k).mul (h1 p _))).add (h2 p)).relu.mono ?_
  norm_num

include ht h1 h2 h3 h4 in
theorem vector_within (k : Fin 128) : Within (10 ^ 18) (X.vector b k) := by
  unfold Inputs.vector Net.vector Net.layer2
  refine ((Within.sum _ fun p => (layer1_within X ht h1 h2 b p).mul (h3 k p)).add (h4 k)).relu.mono ?_
  norm_num

theorem absent_eq : absent = ((-99999 : ℝ) : EReal) := by
  simp [absent, Ideal.ofBits, Ideal.ieee]
  rw [← EReal.coe_mul]
  norm_num

include ht h1 h2 h3 h4 in
/-- A masked score is real and within 10²⁶. -/
theorem scores_within (j : Fin 200) : Within (10 ^ 26) (X.scores b j) := by
  unfold Inputs.scores masked
  split
  · rw [absent_eq]; exact ⟨_, rfl, by norm_num⟩
  · refine (Within.sum _ fun k => (vector_within X ht h1 h2 h3 h4 b k).mul (row_within X ht _ k)).mono ?_
    norm_num

end Scores

/-! ### The noise -/

/-- The least number the noise is made of: 2⁻¹²⁶. -/
def tiny : EReal := Ideal.ofBits .f32 0x00800000#32

theorem tiny_eq : tiny = (((2 : ℝ) ^ (-126 : ℤ) : ℝ) : EReal) := by
  simp [tiny, Ideal.ofBits, Ideal.ieee]
  rw [← EReal.coe_mul]
  norm_num

/-- A logarithm of a number from 2⁻¹²⁶ on is at least −126. -/
theorem log_ge (x : EReal) (h : tiny ≤ x) : ((-126 : ℝ) : EReal) ≤ Ideal.log x := by
  rw [tiny_eq] at h
  induction x using EReal.rec with
  | bot => exact absurd h (by simp)
  | top => exact le_top
  | coe r =>
    have hr : (2 : ℝ) ^ (-126 : ℤ) ≤ r := EReal.coe_le_coe_iff.mp h
    have hp : (0 : ℝ) < 2 ^ (-126 : ℤ) := by positivity
    show _ ≤ if r ≤ 0 then ⊥ else ((Real.log r : ℝ) : EReal)
    rw [if_neg (by linarith)]
    refine EReal.coe_le_coe_iff.mpr ?_
    have := Real.log_le_log hp hr
    rw [Real.log_zpow] at this
    have h2 : Real.log 2 ≤ 1 := by
      have := Real.log_le_sub_one_of_pos (show (0 : ℝ) < 2 by norm_num)
      linarith
    push_cast at this
    linarith

/-- A logarithm of a number up to 126 is at most 126. -/
theorem log_le (x : EReal) (h : x ≤ ((126 : ℝ) : EReal)) : Ideal.log x ≤ ((126 : ℝ) : EReal) := by
  induction x using EReal.rec with
  | bot => exact bot_le
  | top => exact absurd h (by simp)
  | coe r =>
    have hr : r ≤ 126 := EReal.coe_le_coe_iff.mp h
    show (if r ≤ 0 then ⊥ else ((Real.log r : ℝ) : EReal)) ≤ _
    split
    · exact bot_le
    · refine EReal.coe_le_coe_iff.mpr ?_
      have := Real.log_le_sub_one_of_pos (show (0 : ℝ) < r by linarith)
      linarith

/-- The noise made of a number. -/
def gumbel (u : EReal) : EReal := -Ideal.log (-Ideal.log u)

/-- It is at least −126. -/
theorem gumbel_ge (u : EReal) (h : tiny ≤ u) : ((-126 : ℝ) : EReal) ≤ gumbel u := by
  have h1 : -Ideal.log u ≤ ((126 : ℝ) : EReal) := by
    have := EReal.neg_le_neg_iff.mpr (log_ge u h)
    rwa [← EReal.coe_neg, neg_neg] at this
  have h2 := EReal.neg_le_neg_iff.mpr (log_le _ h1)
  rwa [← EReal.coe_neg] at h2

/-! ### The padded lanes -/

/-- What the noise is padded with: −10³⁰, rounded. -/
def padNoise : EReal := Ideal.ofBits .f32 0xF149F2CA#32

theorem padNoise_le : padNoise ≤ ((-(10 ^ 29) : ℝ) : EReal) := by
  have e : padNoise = ((-(13234890 * 2 ^ 76) : ℝ) : EReal) := by
    simp [padNoise, Ideal.ofBits, Ideal.ieee]
  rw [e, EReal.coe_le_coe_iff]
  norm_num

/-- A lane's sum lies above the padded lanes'. -/
theorem pad_lt (s g : EReal) (hs : Within (10 ^ 26) s) (hg : ((-126 : ℝ) : EReal) ≤ g) : absent + padNoise < s + g := by
  obtain ⟨r, rfl, hr⟩ := hs
  have hr' : -(10 ^ 26) ≤ r := (abs_le.mp hr).1
  calc absent + padNoise ≤ ((-99999 : ℝ) : EReal) + ((-(10 ^ 29) : ℝ) : EReal) := add_le_add absent_eq.le padNoise_le
    _ = ((-99999 + -(10 ^ 29) : ℝ) : EReal) := (EReal.coe_add _ _).symm
    _ < ((r + -126 : ℝ) : EReal) := EReal.coe_lt_coe_iff.mpr (by linarith)
    _ = (r : EReal) + ((-126 : ℝ) : EReal) := EReal.coe_add _ _
    _ ≤ (r : EReal) + g := add_le_add le_rfl hg

end Cert.Proof.Spec

end
-- ==== Proof.Scale.lean ====
/-
  What the precondition `table_and_scale` says: the words are below 1000, and the table and the two layers hold numbers of
  size at most 10000.
-/
module

public import proofs.«01_k».proof.Proof.Ids
public import proofs.«01_k».proof.Proof.Bound
public import proofs.«01_k».proof.Proof.Gen.Pre_table_and_scale

@[expose] public section

noncomputable section

namespace Cert.Proof

open Idealize.ShloMosaic Cert.Pre_table_and_scale

/-- The bound the precondition compares with: 10000. -/
theorem scale_eq : Ideal.ofBits .f32 0x461C4000#32 = ((10000 : ℝ) : EReal) := by
  simp [Ideal.ofBits, Ideal.ieee]
  rw [← EReal.coe_mul]
  norm_num

/-- A number whose size a comparison found at most 10000. -/
theorem within_of_cmp (x : EReal) (h : Ideal.cmp .ole (max x (-x)) (Ideal.ofBits .f32 0x461C4000#32) = 1#1) : Spec.Within 10000 x := by
  refine Spec.Within.of_abs ?_
  rw [← scale_eq]
  by_contra hn
  exact absurd h (by simp [Ideal.cmp, hn])

variable (a0 a1 : FVec Ideal S4096x128 .f32) (a2 a3 : IVec S4096 32) (a4 : IVec S4096x200x2 32) (a5 : FVec Ideal S1000x128 .f32)
  (a6 a7 : FVec Ideal S512x128 .f32) (a8 a9 : FVec Ideal S512 .f32) (a10 : FVec Ideal S256x256 .f32) (a11 : FVec Ideal S256 .f32)
  (a12 : FVec Ideal S128x256 .f32) (a13 : FVec Ideal S128 .f32)

/-- The precondition's eight conjuncts, elementwise. -/
theorem scale_of_pre [Facts] (h : fn (F := Ideal) a0 a1 a2 a3 a4 a5 a6 a7 a8 a9 a10 a11 a12 a13 = fun _ => 1#1) :
    ((∀ i, (a2 i).toNat < 1000) ∧ (∀ i, (a3 i).toNat < 1000) ∧ ∀ i, (a4 i).toNat < 1000) ∧ (∀ i, Spec.Within 10000 (a5 i)) ∧ (∀ i, Spec.Within 10000 (a10 i))
      ∧ (∀ i, Spec.Within 10000 (a11 i)) ∧ (∀ i, Spec.Within 10000 (a12 i)) ∧ ∀ i, Spec.Within 10000 (a13 i) := by
  have e := congrFun h (fun a => a.elim0)
  simp only [fn, fn_part1, fn_part2] at e
  obtain ⟨e, e13⟩ := both _ _ e
  obtain ⟨e, e12⟩ := both _ _ e
  obtain ⟨e, e11⟩ := both _ _ e
  obtain ⟨e, e10⟩ := both _ _ e
  obtain ⟨e, e5⟩ := both _ _ e
  obtain ⟨e, e4⟩ := both _ _ e
  obtain ⟨e2, e3⟩ := both _ _ e
  haveI : Subsingleton (S_ : Shape).Idx := ⟨fun x y => funext fun a => a.elim0⟩
  exact ⟨⟨fun i => word_lt _ (Host.reduce_andi_all _ _ _ _ _ e2 i), fun i => word_lt _ (Host.reduce_andi_all _ _ _ _ _ e3 i),
    fun i => word_lt _ (Host.reduce_andi_all _ _ _ _ _ e4 i)⟩,
    fun i => within_of_cmp _ (Host.reduce_andi_all _ _ _ _ _ e5 i), fun i => within_of_cmp _ (Host.reduce_andi_all _ _ _ _ _ e10 i),
    fun i => within_of_cmp _ (Host.reduce_andi_all _ _ _ _ _ e11 i), fun i => within_of_cmp _ (Host.reduce_andi_all _ _ _ _ _ e12 i),
    fun i => within_of_cmp _ (Host.reduce_andi_all _ _ _ _ _ e13 i)⟩

end Cert.Proof

end
-- ==== Proof.Frames.lean ====
/-
  The frames, as the certificate states them.
-/
module

public import proofs.«01_k».proof.Proof.K.Frame
public import proofs.«01_k».proof.Proof.KI.Frame
public import proofs.«01_k».proof.Proof.R.Frame
public import proofs.«01_k».proof.Proof.Scale

@[expose] public section

noncomputable section

namespace Cert.Proof

open Idealize.ShloMosaic Idealize.SL.Sem

/-- The kernel's frame. -/
theorem frame_K : Cert.quiescent_Kernel (hKernel := Cert.Kernel.Gen.facts) (hPre_ids_in_table := Cert.Pre_ids_in_table.Gen.facts) :=
  fun m g h => K.run_frame m g fun c => (ids_of_pre _ _ _ _ _ _ _ _ _ _ _ _ _ _ (h c)).2.2

/-- The idealised kernel's frame. -/
theorem frame_KI : Cert.quiescent_KernelIdeal (hKernelIdeal := Cert.KernelIdeal.Gen.facts) (hPre_ids_in_table := Cert.Pre_ids_in_table.Gen.facts) :=
  fun m g h => KI.run_frame m g fun c => (ids_of_pre _ _ _ _ _ _ _ _ _ _ _ _ _ _ (h c)).2.2

/-- The reference's frame. -/
theorem frame_RI : Cert.quiescent_ReferenceIdeal (hReferenceIdeal := Cert.ReferenceIdeal.Gen.facts) :=
  fun m g _ => R.run_frame m g

/-- The idealised kernel's frame under the value claim's precondition. -/
theorem frame_KI_scale : Cert.quiescent_KernelIdeal_pre_table_and_scale (hKernelIdeal := Cert.KernelIdeal.Gen.facts)
    (hPre_table_and_scale := Cert.Pre_table_and_scale.Gen.facts) :=
  fun m g h => KI.run_frame m g fun c => (scale_of_pre _ _ _ _ _ _ _ _ _ _ _ _ _ _ (h c)).1.2.2

/-- The reference's frame under the value claim's precondition, which it does not need. -/
theorem frame_RI_scale : Cert.quiescent_ReferenceIdeal_pre_table_and_scale (hReferenceIdeal := Cert.ReferenceIdeal.Gen.facts)
    (hPre_table_and_scale := Cert.Pre_table_and_scale.Gen.facts) :=
  fun m g _ => R.run_frame m g

end Cert.Proof

end
-- ==== Proof.KI.NoiseOps.lean ====
/-
  The operations that make the kernel's noise, in six pieces.
-/
module

public import proofs.«01_k».proof.Proof.KI.Host

@[expose] public section

set_option maxRecDepth 16384

noncomputable section

namespace Cert.Proof.KI

open Cert.KernelIdeal Cert.KernelIdeal.Gen
open Idealize.ShloMosaic Idealize.SL.Sem
open TcCoe

variable {F : FTy → Type} [FloatOps F]

/-- The key of the noise. -/
abbrev key : StableHlo.TRef sig ⟨S2, .i32⟩ := .of main_v10

/-- Piece 0: the key split and the counters. -/
def n0 : List (HloOp τ sig (Elt F)) :=
  [StableHlo.TRef.nullary main_call2.cst (constant S_ .f32 0x3F800000#32),
    StableHlo.TRef.nullary main_call2.cst_0 (constant S_ .f32 0x00800000#32),
    StableHlo.TRef.unary main_call2.cst main_call2_call0.v0 id,
    StableHlo.TRef.unary main_call2.cst_0 main_call2_call0.v1 (broadcastInDim S1x1 ![] bcast_S_S1x1),
    StableHlo.TRef.unary main_call2_call0.v0 main_call2_call0.v2 (broadcastInDim S1x1 ![] bcast_S_S1x1),
    StableHlo.TRef.unary key main_call2_call0.v3 (extractStridedSlice S1 ![0] · slices_S2_S1_0),
    StableHlo.TRef.reshape main_call2_call0.v3 main_call2_call0.v4 (rfl : (.i32 : EltTy) = .i32) shapeCasts_S1_S_,
    StableHlo.TRef.unary key main_call2_call0.v5 (extractStridedSlice S1 ![1] · slices_S2_S1_1),
    StableHlo.TRef.reshape main_call2_call0.v5 main_call2_call0.v6 (rfl : (.i32 : EltTy) = .i32) shapeCasts_S1_S_,
    StableHlo.TRef.nullary main_call2_call0.v7 (iotaInDim S4096x200 64 0),
    StableHlo.TRef.nullary main_call2_call0.v8 (iotaInDim S4096x200 64 1),
    StableHlo.TRef.nullary main_call2_call0.c (constantI S_ 64 200#64),
    StableHlo.TRef.unary main_call2_call0.c main_call2_call0.v9 (broadcastInDim S4096x200 ![] bcast_S_S4096x200),
    StableHlo.TRef.binary main_call2_call0.v9 main_call2_call0.v7 main_call2_call0.v10 muli,
    StableHlo.TRef.nullary main_call2_call0.c_0 (constantI S_ 64 1#64),
    StableHlo.TRef.unary main_call2_call0.c_0 main_call2_call0.v11 (broadcastInDim S4096x200 ![] bcast_S_S4096x200),
    StableHlo.TRef.binary main_call2_call0.v11 main_call2_call0.v8 main_call2_call0.v12 muli,
    StableHlo.TRef.binary main_call2_call0.v10 main_call2_call0.v12 main_call2_call0.v13 addi,
    StableHlo.TRef.nullary main_call2_call0.c_1 (constantI S_ 64 32#64),
    StableHlo.TRef.unary main_call2_call0.c_1 main_call2_call0.v14 (broadcastInDim S4096x200 ![] bcast_S_S4096x200),
    StableHlo.TRef.binary main_call2_call0.v13 main_call2_call0.v14 main_call2_call0.v15 Host.shrui,
    StableHlo.TRef.unary main_call2_call0.v13 main_call2_call0.v16 (trunci 32 · natLt_32_64),
    StableHlo.TRef.unary main_call2_call0.v15 main_call2_call0.v17 (trunci 32 · natLt_32_64)]

/-- Piece 1: rounds of the generator. -/
def n1 : List (HloOp τ sig (Elt F)) :=
  [StableHlo.TRef.binary main_call2_call0.v4 main_call2_call0.v6 main_call2_call0_call0.v0 xori,
    StableHlo.TRef.nullary main_call2_call0_call0.c (constantI S_ 32 466688986#32),
    StableHlo.TRef.binary main_call2_call0_call0.v0 main_call2_call0_call0.c main_call2_call0_call0.v1 xori,
    StableHlo.TRef.unary main_call2_call0.v4 main_call2_call0_call0.v2 (broadcastInDim S4096x200 ![] bcast_S_S4096x200),
    StableHlo.TRef.binary main_call2_call0.v17 main_call2_call0_call0.v2 main_call2_call0_call0.v3 addi,
    StableHlo.TRef.unary main_call2_call0.v6 main_call2_call0_call0.v4 (broadcastInDim S4096x200 ![] bcast_S_S4096x200),
    StableHlo.TRef.binary main_call2_call0.v16 main_call2_call0_call0.v4 main_call2_call0_call0.v5 addi,
    StableHlo.TRef.binary main_call2_call0_call0.v3 main_call2_call0_call0.v5 main_call2_call0_call0.v6 addi,
    StableHlo.TRef.nullary main_call2_call0_call0.c_0 (constantI S_ 32 13#32),
    StableHlo.TRef.unary main_call2_call0_call0.c_0 main_call2_call0_call0.v7 (broadcastInDim S4096x200 ![] bcast_S_S4096x200),
    StableHlo.TRef.binary main_call2_call0_call0.v5 main_call2_call0_call0.v7 main_call2_call0_call0.v8 Host.shli,
    StableHlo.TRef.nullary main_call2_call0_call0.c_1 (constantI S_ 32 19#32),
    StableHlo.TRef.unary main_call2_call0_call0.c_1 main_call2_call0_call0.v9 (broadcastInDim S4096x200 ![] bcast_S_S4096x200),
    StableHlo.TRef.binary main_call2_call0_call0.v5 main_call2_call0_call0.v9 main_call2_call0_call0.v10 Host.shrui,
    StableHlo.TRef.binary main_call2_call0_call0.v8 main_call2_call0_call0.v10 main_call2_call0_call0.v11 ori,
    StableHlo.TRef.binary main_call2_call0_call0.v6 main_call2_call0_call0.v11 main_call2_call0_call0.v12 xori,
    StableHlo.TRef.binary main_call2_call0_call0.v6 main_call2_call0_call0.v12 main_call2_call0_call0.v13 addi,
    StableHlo.TRef.nullary main_call2_call0_call0.c_2 (constantI S_ 32 15#32),
    StableHlo.TRef.unary main_call2_call0_call0.c_2 main_call2_call0_call0.v14 (broadcastInDim S4096x200 ![] bcast_S_S4096x200),
    StableHlo.TRef.binary main_call2_call0_call0.v12 main_call2_call0_call0.v14 main_call2_call0_call0.v15 Host.shli,
    StableHlo.TRef.nullary main_call2_call0_call0.c_3 (constantI S_ 32 17#32),
    StableHlo.TRef.unary main_call2_call0_call0.c_3 main_call2_call0_call0.v16 (broadcastInDim S4096x200 ![] bcast_S_S4096x200),
    StableHlo.TRef.binary main_call2_call0_call0.v12 main_call2_call0_call0.v16 main_call2_call0_call0.v17 Host.shrui,
    StableHlo.TRef.binary main_call2_call0_call0.v15 main_call2_call0_call0.v17 main_call2_call0_call0.v18 ori,
    StableHlo.TRef.binary main_call2_call0_call0.v13 main_call2_call0_call0.v18 main_call2_call0_call0.v19 xori,
    StableHlo.TRef.binary main_call2_call0_call0.v13 main_call2_call0_call0.v19 main_call2_call0_call0.v20 addi,
    StableHlo.TRef.nullary main_call2_call0_call0.c_4 (constantI S_ 32 26#32),
    StableHlo.TRef.unary main_call2_call0_call0.c_4 main_call2_call0_call0.v21 (broadcastInDim S4096x200 ![] bcast_S_S4096x200),
    StableHlo.TRef.binary main_call2_call0_call0.v19 main_call2_call0_call0.v21 main_call2_call0_call0.v22 Host.shli,
    StableHlo.TRef.nullary main_call2_call0_call0.c_5 (constantI S_ 32 6#32),
    StableHlo.TRef.unary main_call2_call0_call0.c_5 main_call2_call0_call0.v23 (broadcastInDim S4096x200 ![] bcast_S_S4096x200),
    StableHlo.TRef.binary main_call2_call0_call0.v19 main_call2_call0_call0.v23 main_call2_call0_call0.v24 Host.shrui,
    StableHlo.TRef.binary main_call2_call0_call0.v22 main_call2_call0_call0.v24 main_call2_call0_call0.v25 ori,
    StableHlo.TRef.binary main_call2_call0_call0.v20 main_call2_call0_call0.v25 main_call2_call0_call0.v26 xori,
    StableHlo.TRef.binary main_call2_call0_call0.v20 main_call2_call0_call0.v26 main_call2_call0_call0.v27 addi,
    StableHlo.TRef.nullary main_call2_call0_call0.c_6 (constantI S_ 32 6#32),
    StableHlo.TRef.unary main_call2_call0_call0.c_6 main_call2_call0_call0.v28 (broadcastInDim S4096x200 ![] bcast_S_S4096x200),
    StableHlo.TRef.binary main_call2_call0_call0.v26 main_call2_call0_call0.v28 main_call2_call0_call0.v29 Host.shli,
    StableHlo.TRef.nullary main_call2_call0_call0.c_7 (constantI S_ 32 26#32),
    StableHlo.TRef.unary main_call2_call0_call0.c_7 main_call2_call0_call0.v30 (broadcastInDim S4096x200 ![] bcast_S_S4096x200),
    StableHlo.TRef.binary main_call2_call0_call0.v26 main_call2_call0_call0.v30 main_call2_call0_call0.v31 Host.shrui,
    StableHlo.TRef.binary main_call2_call0_call0.v29 main_call2_call0_call0.v31 main_call2_call0_call0.v32 ori,
    StableHlo.TRef.binary main_call2_call0_call0.v27 main_call2_call0_call0.v32 main_call2_call0_call0.v33 xori,
    StableHlo.TRef.unary main_call2_call0.v6 main_call2_call0_call0.v34 (broadcastInDim S4096x200 ![] bcast_S_S4096x200),
    StableHlo.TRef.binary main_call2_call0_call0.v27 main_call2_call0_call0.v34 main_call2_call0_call0.v35 addi,
    StableHlo.TRef.unary main_call2_call0_call0.v1 main_call2_call0_call0.v36 (broadcastInDim S4096x200 ![] bcast_S_S4096x200),
    StableHlo.TRef.binary main_call2_call0_call0.v33 main_call2_call0_call0.v36 main_call2_call0_call0.v37 addi,
    StableHlo.TRef.nullary main_call2_call0_call0.c_8 (constantI S_ 32 1#32),
    StableHlo.TRef.unary main_call2_call0_call0.c_8 main_call2_call0_call0.v38 (broadcastInDim S4096x200 ![] bcast_S_S4096x200),
    StableHlo.TRef.binary main_call2_call0_call0.v37 main_call2_call0_call0.v38 main_call2_call0_call0.v39 addi,
    StableHlo.TRef.binary main_call2_call0_call0.v35 main_call2_call0_call0.v39 main_call2_call0_call0.v40 addi,
    StableHlo.TRef.nullary main_call2_call0_call0.c_9 (constantI S_ 32 17#32),
    StableHlo.TRef.unary main_call2_call0_call0.c_9 main_call2_call0_call0.v41 (broadcastInDim S4096x200 ![] bcast_S_S4096x200),
    StableHlo.TRef.binary main_call2_call0_call0.v39 main_call2_call0_call0.v41 main_call2_call0_call0.v42 Host.shli,
    StableHlo.TRef.nullary main_call2_call0_call0.c_10 (constantI S_ 32 15#32),
    StableHlo.TRef.unary main_call2_call0_call0.c_10 main_call2_call0_call0.v43 (broadcastInDim S4096x200 ![] bcast_S_S4096x200),
    StableHlo.TRef.binary main_call2_call0_call0.v39 main_call2_call0_call0.v43 main_call2_call0_call0.v44 Host.shrui,
    StableHlo.TRef.binary main_call2_call0_call0.v42 main_call2_call0_call0.v44 main_call2_call0_call0.v45 ori,
    StableHlo.TRef.binary main_call2_call0_call0.v40 main_call2_call0_call0.v45 main_call2_call0_call0.v46 xori,
    StableHlo.TRef.binary main_call2_call0_call0.v40 main_call2_call0_call0.v46 main_call2_call0_call0.v47 addi]

/-- Piece 2: rounds of the generator. -/
def n2 : List (HloOp τ sig (Elt F)) :=
  [StableHlo.TRef.nullary main_call2_call0_call0.c_11 (constantI S_ 32 29#32),
    StableHlo.TRef.unary main_call2_call0_call0.c_11 main_call2_call0_call0.v48 (broadcastInDim S4096x200 ![] bcast_S_S4096x200),
    StableHlo.TRef.binary main_call2_call0_call0.v46 main_call2_call0_call0.v48 main_call2_call0_call0.v49 Host.shli,
    StableHlo.TRef.nullary main_call2_call0_call0.c_12 (constantI S_ 32 3#32),
    StableHlo.TRef.unary main_call2_call0_call0.c_12 main_call2_call0_call0.v50 (broadcastInDim S4096x200 ![] bcast_S_S4096x200),
    StableHlo.TRef.binary main_call2_call0_call0.v46 main_call2_call0_call0.v50 main_call2_call0_call0.v51 Host.shrui,
    StableHlo.TRef.binary main_call2_call0_call0.v49 main_call2_call0_call0.v51 main_call2_call0_call0.v52 ori,
    StableHlo.TRef.binary main_call2_call0_call0.v47 main_call2_call0_call0.v52 main_call2_call0_call0.v53 xori,
    StableHlo.TRef.binary main_call2_call0_call0.v47 main_call2_call0_call0.v53 main_call2_call0_call0.v54 addi,
    StableHlo.TRef.nullary main_call2_call0_call0.c_13 (constantI S_ 32 16#32),
    StableHlo.TRef.unary main_call2_call0_call0.c_13 main_call2_call0_call0.v55 (broadcastInDim S4096x200 ![] bcast_S_S4096x200),
    StableHlo.TRef.binary main_call2_call0_call0.v53 main_call2_call0_call0.v55 main_call2_call0_call0.v56 Host.shli,
    StableHlo.TRef.nullary main_call2_call0_call0.c_14 (constantI S_ 32 16#32),
    StableHlo.TRef.unary main_call2_call0_call0.c_14 main_call2_call0_call0.v57 (broadcastInDim S4096x200 ![] bcast_S_S4096x200),
    StableHlo.TRef.binary main_call2_call0_call0.v53 main_call2_call0_call0.v57 main_call2_call0_call0.v58 Host.shrui,
    StableHlo.TRef.binary main_call2_call0_call0.v56 main_call2_call0_call0.v58 main_call2_call0_call0.v59 ori,
    StableHlo.TRef.binary main_call2_call0_call0.v54 main_call2_call0_call0.v59 main_call2_call0_call0.v60 xori,
    StableHlo.TRef.binary main_call2_call0_call0.v54 main_call2_call0_call0.v60 main_call2_call0_call0.v61 addi,
    StableHlo.TRef.nullary main_call2_call0_call0.c_15 (constantI S_ 32 24#32),
    StableHlo.TRef.unary main_call2_call0_call0.c_15 main_call2_call0_call0.v62 (broadcastInDim S4096x200 ![] bcast_S_S4096x200),
    StableHlo.TRef.binary main_call2_call0_call0.v60 main_call2_call0_call0.v62 main_call2_call0_call0.v63 Host.shli,
    StableHlo.TRef.nullary main_call2_call0_call0.c_16 (constantI S_ 32 8#32),
    StableHlo.TRef.unary main_call2_call0_call0.c_16 main_call2_call0_call0.v64 (broadcastInDim S4096x200 ![] bcast_S_S4096x200),
    StableHlo.TRef.binary main_call2_call0_call0.v60 main_call2_call0_call0.v64 main_call2_call0_call0.v65 Host.shrui,
    StableHlo.TRef.binary main_call2_call0_call0.v63 main_call2_call0_call0.v65 main_call2_call0_call0.v66 ori,
    StableHlo.TRef.binary main_call2_call0_call0.v61 main_call2_call0_call0.v66 main_call2_call0_call0.v67 xori,
    StableHlo.TRef.unary main_call2_call0_call0.v1 main_call2_call0_call0.v68 (broadcastInDim S4096x200 ![] bcast_S_S4096x200),
    StableHlo.TRef.binary main_call2_call0_call0.v61 main_call2_call0_call0.v68 main_call2_call0_call0.v69 addi,
    StableHlo.TRef.unary main_call2_call0.v4 main_call2_call0_call0.v70 (broadcastInDim S4096x200 ![] bcast_S_S4096x200),
    StableHlo.TRef.binary main_call2_call0_call0.v67 main_call2_call0_call0.v70 main_call2_call0_call0.v71 addi,
    StableHlo.TRef.nullary main_call2_call0_call0.c_17 (constantI S_ 32 2#32),
    StableHlo.TRef.unary main_call2_call0_call0.c_17 main_call2_call0_call0.v72 (broadcastInDim S4096x200 ![] bcast_S_S4096x200),
    StableHlo.TRef.binary main_call2_call0_call0.v71 main_call2_call0_call0.v72 main_call2_call0_call0.v73 addi,
    StableHlo.TRef.binary main_call2_call0_call0.v69 main_call2_call0_call0.v73 main_call2_call0_call0.v74 addi,
    StableHlo.TRef.nullary main_call2_call0_call0.c_18 (constantI S_ 32 13#32),
    StableHlo.TRef.unary main_call2_call0_call0.c_18 main_call2_call0_call0.v75 (broadcastInDim S4096x200 ![] bcast_S_S4096x200),
    StableHlo.TRef.binary main_call2_call0_call0.v73 main_call2_call0_call0.v75 main_call2_call0_call0.v76 Host.shli,
    StableHlo.TRef.nullary main_call2_call0_call0.c_19 (constantI S_ 32 19#32),
    StableHlo.TRef.unary main_call2_call0_call0.c_19 main_call2_call0_call0.v77 (broadcastInDim S4096x200 ![] bcast_S_S4096x200),
    StableHlo.TRef.binary main_call2_call0_call0.v73 main_call2_call0_call0.v77 main_call2_call0_call0.v78 Host.shrui,
    StableHlo.TRef.binary main_call2_call0_call0.v76 main_call2_call0_call0.v78 main_call2_call0_call0.v79 ori,
    StableHlo.TRef.binary main_call2_call0_call0.v74 main_call2_call0_call0.v79 main_call2_call0_call0.v80 xori,
    StableHlo.TRef.binary main_call2_call0_call0.v74 main_call2_call0_call0.v80 main_call2_call0_call0.v81 addi,
    StableHlo.TRef.nullary main_call2_call0_call0.c_20 (constantI S_ 32 15#32),
    StableHlo.TRef.unary main_call2_call0_call0.c_20 main_call2_call0_call0.v82 (broadcastInDim S4096x200 ![] bcast_S_S4096x200),
    StableHlo.TRef.binary main_call2_call0_call0.v80 main_call2_call0_call0.v82 main_call2_call0_call0.v83 Host.shli,
    StableHlo.TRef.nullary main_call2_call0_call0.c_21 (constantI S_ 32 17#32),
    StableHlo.TRef.unary main_call2_call0_call0.c_21 main_call2_call0_call0.v84 (broadcastInDim S4096x200 ![] bcast_S_S4096x200),
    StableHlo.TRef.binary main_call2_call0_call0.v80 main_call2_call0_call0.v84 main_call2_call0_call0.v85 Host.shrui,
    StableHlo.TRef.binary main_call2_call0_call0.v83 main_call2_call0_call0.v85 main_call2_call0_call0.v86 ori,
    StableHlo.TRef.binary main_call2_call0_call0.v81 main_call2_call0_call0.v86 main_call2_call0_call0.v87 xori,
    StableHlo.TRef.binary main_call2_call0_call0.v81 main_call2_call0_call0.v87 main_call2_call0_call0.v88 addi,
    StableHlo.TRef.nullary main_call2_call0_call0.c_22 (constantI S_ 32 26#32),
    StableHlo.TRef.unary main_call2_call0_call0.c_22 main_call2_call0_call0.v89 (broadcastInDim S4096x200 ![] bcast_S_S4096x200),
    StableHlo.TRef.binary main_call2_call0_call0.v87 main_call2_call0_call0.v89 main_call2_call0_call0.v90 Host.shli,
    StableHlo.TRef.nullary main_call2_call0_call0.c_23 (constantI S_ 32 6#32),
    StableHlo.TRef.unary main_call2_call0_call0.c_23 main_call2_call0_call0.v91 (broadcastInDim S4096x200 ![] bcast_S_S4096x200),
    StableHlo.TRef.binary main_call2_call0_call0.v87 main_call2_call0_call0.v91 main_call2_call0_call0.v92 Host.shrui,
    StableHlo.TRef.binary main_call2_call0_call0.v90 main_call2_call0_call0.v92 main_call2_call0_call0.v93 ori,
    StableHlo.TRef.binary main_call2_call0_call0.v88 main_call2_call0_call0.v93 main_call2_call0_call0.v94 xori]

/-- Piece 3: rounds of the generator. -/
def n3 : List (HloOp τ sig (Elt F)) :=
  [StableHlo.TRef.binary main_call2_call0_call0.v88 main_call2_call0_call0.v94 main_call2_call0_call0.v95 addi,
    StableHlo.TRef.nullary main_call2_call0_call0.c_24 (constantI S_ 32 6#32),
    StableHlo.TRef.unary main_call2_call0_call0.c_24 main_call2_call0_call0.v96 (broadcastInDim S4096x200 ![] bcast_S_S4096x200),
    StableHlo.TRef.binary main_call2_call0_call0.v94 main_call2_call0_call0.v96 main_call2_call0_call0.v97 Host.shli,
    StableHlo.TRef.nullary main_call2_call0_call0.c_25 (constantI S_ 32 26#32),
    StableHlo.TRef.unary main_call2_call0_call0.c_25 main_call2_call0_call0.v98 (broadcastInDim S4096x200 ![] bcast_S_S4096x200),
    StableHlo.TRef.binary main_call2_call0_call0.v94 main_call2_call0_call0.v98 main_call2_call0_call0.v99 Host.shrui,
    StableHlo.TRef.binary main_call2_call0_call0.v97 main_call2_call0_call0.v99 main_call2_call0_call0.v100 ori,
    StableHlo.TRef.binary main_call2_call0_call0.v95 main_call2_call0_call0.v100 main_call2_call0_call0.v101 xori,
    StableHlo.TRef.unary main_call2_call0.v4 main_call2_call0_call0.v102 (broadcastInDim S4096x200 ![] bcast_S_S4096x200),
    StableHlo.TRef.binary main_call2_call0_call0.v95 main_call2_call0_call0.v102 main_call2_call0_call0.v103 addi,
    StableHlo.TRef.unary main_call2_call0.v6 main_call2_call0_call0.v104 (broadcastInDim S4096x200 ![] bcast_S_S4096x200),
    StableHlo.TRef.binary main_call2_call0_call0.v101 main_call2_call0_call0.v104 main_call2_call0_call0.v105 addi,
    StableHlo.TRef.nullary main_call2_call0_call0.c_26 (constantI S_ 32 3#32),
    StableHlo.TRef.unary main_call2_call0_call0.c_26 main_call2_call0_call0.v106 (broadcastInDim S4096x200 ![] bcast_S_S4096x200),
    StableHlo.TRef.binary main_call2_call0_call0.v105 main_call2_call0_call0.v106 main_call2_call0_call0.v107 addi,
    StableHlo.TRef.binary main_call2_call0_call0.v103 main_call2_call0_call0.v107 main_call2_call0_call0.v108 addi,
    StableHlo.TRef.nullary main_call2_call0_call0.c_27 (constantI S_ 32 17#32),
    StableHlo.TRef.unary main_call2_call0_call0.c_27 main_call2_call0_call0.v109 (broadcastInDim S4096x200 ![] bcast_S_S4096x200),
    StableHlo.TRef.binary main_call2_call0_call0.v107 main_call2_call0_call0.v109 main_call2_call0_call0.v110 Host.shli,
    StableHlo.TRef.nullary main_call2_call0_call0.c_28 (constantI S_ 32 15#32),
    StableHlo.TRef.unary main_call2_call0_call0.c_28 main_call2_call0_call0.v111 (broadcastInDim S4096x200 ![] bcast_S_S4096x200),
    StableHlo.TRef.binary main_call2_call0_call0.v107 main_call2_call0_call0.v111 main_call2_call0_call0.v112 Host.shrui,
    StableHlo.TRef.binary main_call2_call0_call0.v110 main_call2_call0_call0.v112 main_call2_call0_call0.v113 ori,
    StableHlo.TRef.binary main_call2_call0_call0.v108 main_call2_call0_call0.v113 main_call2_call0_call0.v114 xori,
    StableHlo.TRef.binary main_call2_call0_call0.v108 main_call2_call0_call0.v114 main_call2_call0_call0.v115 addi,
    StableHlo.TRef.nullary main_call2_call0_call0.c_29 (constantI S_ 32 29#32),
    StableHlo.TRef.unary main_call2_call0_call0.c_29 main_call2_call0_call0.v116 (broadcastInDim S4096x200 ![] bcast_S_S4096x200),
    StableHlo.TRef.binary main_call2_call0_call0.v114 main_call2_call0_call0.v116 main_call2_call0_call0.v117 Host.shli,
    StableHlo.TRef.nullary main_call2_call0_call0.c_30 (constantI S_ 32 3#32),
    StableHlo.TRef.unary main_call2_call0_call0.c_30 main_call2_call0_call0.v118 (broadcastInDim S4096x200 ![] bcast_S_S4096x200),
    StableHlo.TRef.binary main_call2_call0_call0.v114 main_call2_call0_call0.v118 main_call2_call0_call0.v119 Host.shrui,
    StableHlo.TRef.binary main_call2_call0_call0.v117 main_call2_call0_call0.v119 main_call2_call0_call0.v120 ori,
    StableHlo.TRef.binary main_call2_call0_call0.v115 main_call2_call0_call0.v120 main_call2_call0_call0.v121 xori,
    StableHlo.TRef.binary main_call2_call0_call0.v115 main_call2_call0_call0.v121 main_call2_call0_call0.v122 addi,
    StableHlo.TRef.nullary main_call2_call0_call0.c_31 (constantI S_ 32 16#32),
    StableHlo.TRef.unary main_call2_call0_call0.c_31 main_call2_call0_call0.v123 (broadcastInDim S4096x200 ![] bcast_S_S4096x200),
    StableHlo.TRef.binary main_call2_call0_call0.v121 main_call2_call0_call0.v123 main_call2_call0_call0.v124 Host.shli,
    StableHlo.TRef.nullary main_call2_call0_call0.c_32 (constantI S_ 32 16#32),
    StableHlo.TRef.unary main_call2_call0_call0.c_32 main_call2_call0_call0.v125 (broadcastInDim S4096x200 ![] bcast_S_S4096x200),
    StableHlo.TRef.binary main_call2_call0_call0.v121 main_call2_call0_call0.v125 main_call2_call0_call0.v126 Host.shrui,
    StableHlo.TRef.binary main_call2_call0_call0.v124 main_call2_call0_call0.v126 main_call2_call0_call0.v127 ori,
    StableHlo.TRef.binary main_call2_call0_call0.v122 main_call2_call0_call0.v127 main_call2_call0_call0.v128 xori,
    StableHlo.TRef.binary main_call2_call0_call0.v122 main_call2_call0_call0.v128 main_call2_call0_call0.v129 addi,
    StableHlo.TRef.nullary main_call2_call0_call0.c_33 (constantI S_ 32 24#32),
    StableHlo.TRef.unary main_call2_call0_call0.c_33 main_call2_call0_call0.v130 (broadcastInDim S4096x200 ![] bcast_S_S4096x200),
    StableHlo.TRef.binary main_call2_call0_call0.v128 main_call2_call0_call0.v130 main_call2_call0_call0.v131 Host.shli,
    StableHlo.TRef.nullary main_call2_call0_call0.c_34 (constantI S_ 32 8#32),
    StableHlo.TRef.unary main_call2_call0_call0.c_34 main_call2_call0_call0.v132 (broadcastInDim S4096x200 ![] bcast_S_S4096x200),
    StableHlo.TRef.binary main_call2_call0_call0.v128 main_call2_call0_call0.v132 main_call2_call0_call0.v133 Host.shrui,
    StableHlo.TRef.binary main_call2_call0_call0.v131 main_call2_call0_call0.v133 main_call2_call0_call0.v134 ori,
    StableHlo.TRef.binary main_call2_call0_call0.v129 main_call2_call0_call0.v134 main_call2_call0_call0.v135 xori,
    StableHlo.TRef.unary main_call2_call0.v6 main_call2_call0_call0.v136 (broadcastInDim S4096x200 ![] bcast_S_S4096x200),
    StableHlo.TRef.binary main_call2_call0_call0.v129 main_call2_call0_call0.v136 main_call2_call0_call0.v137 addi,
    StableHlo.TRef.unary main_call2_call0_call0.v1 main_call2_call0_call0.v138 (broadcastInDim S4096x200 ![] bcast_S_S4096x200),
    StableHlo.TRef.binary main_call2_call0_call0.v135 main_call2_call0_call0.v138 main_call2_call0_call0.v139 addi,
    StableHlo.TRef.nullary main_call2_call0_call0.c_35 (constantI S_ 32 4#32),
    StableHlo.TRef.unary main_call2_call0_call0.c_35 main_call2_call0_call0.v140 (broadcastInDim S4096x200 ![] bcast_S_S4096x200),
    StableHlo.TRef.binary main_call2_call0_call0.v139 main_call2_call0_call0.v140 main_call2_call0_call0.v141 addi,
    StableHlo.TRef.binary main_call2_call0_call0.v137 main_call2_call0_call0.v141 main_call2_call0_call0.v142 addi]

/-- Piece 4: the last rounds of the generator. -/
def n4 : List (HloOp τ sig (Elt F)) :=
  [StableHlo.TRef.nullary main_call2_call0_call0.c_36 (constantI S_ 32 13#32),
    StableHlo.TRef.unary main_call2_call0_call0.c_36 main_call2_call0_call0.v143 (broadcastInDim S4096x200 ![] bcast_S_S4096x200),
    StableHlo.TRef.binary main_call2_call0_call0.v141 main_call2_call0_call0.v143 main_call2_call0_call0.v144 Host.shli,
    StableHlo.TRef.nullary main_call2_call0_call0.c_37 (constantI S_ 32 19#32),
    StableHlo.TRef.unary main_call2_call0_call0.c_37 main_call2_call0_call0.v145 (broadcastInDim S4096x200 ![] bcast_S_S4096x200),
    StableHlo.TRef.binary main_call2_call0_call0.v141 main_call2_call0_call0.v145 main_call2_call0_call0.v146 Host.shrui,
    StableHlo.TRef.binary main_call2_call0_call0.v144 main_call2_call0_call0.v146 main_call2_call0_call0.v147 ori,
    StableHlo.TRef.binary main_call2_call0_call0.v142 main_call2_call0_call0.v147 main_call2_call0_call0.v148 xori,
    StableHlo.TRef.binary main_call2_call0_call0.v142 main_call2_call0_call0.v148 main_call2_call0_call0.v149 addi,
    StableHlo.TRef.nullary main_call2_call0_call0.c_38 (constantI S_ 32 15#32),
    StableHlo.TRef.unary main_call2_call0_call0.c_38 main_call2_call0_call0.v150 (broadcastInDim S4096x200 ![] bcast_S_S4096x200),
    StableHlo.TRef.binary main_call2_call0_call0.v148 main_call2_call0_call0.v150 main_call2_call0_call0.v151 Host.shli,
    StableHlo.TRef.nullary main_call2_call0_call0.c_39 (constantI S_ 32 17#32),
    StableHlo.TRef.unary main_call2_call0_call0.c_39 main_call2_call0_call0.v152 (broadcastInDim S4096x200 ![] bcast_S_S4096x200),
    StableHlo.TRef.binary main_call2_call0_call0.v148 main_call2_call0_call0.v152 main_call2_call0_call0.v153 Host.shrui,
    StableHlo.TRef.binary main_call2_call0_call0.v151 main_call2_call0_call0.v153 main_call2_call0_call0.v154 ori,
    StableHlo.TRef.binary main_call2_call0_call0.v149 main_call2_call0_call0.v154 main_call2_call0_call0.v155 xori,
    StableHlo.TRef.binary main_call2_call0_call0.v149 main_call2_call0_call0.v155 main_call2_call0_call0.v156 addi,
    StableHlo.TRef.nullary main_call2_call0_call0.c_40 (constantI S_ 32 26#32),
    StableHlo.TRef.unary main_call2_call0_call0.c_40 main_call2_call0_call0.v157 (broadcastInDim S4096x200 ![] bcast_S_S4096x200),
    StableHlo.TRef.binary main_call2_call0_call0.v155 main_call2_call0_call0.v157 main_call2_call0_call0.v158 Host.shli,
    StableHlo.TRef.nullary main_call2_call0_call0.c_41 (constantI S_ 32 6#32),
    StableHlo.TRef.unary main_call2_call0_call0.c_41 main_call2_call0_call0.v159 (broadcastInDim S4096x200 ![] bcast_S_S4096x200),
    StableHlo.TRef.binary main_call2_call0_call0.v155 main_call2_call0_call0.v159 main_call2_call0_call0.v160 Host.shrui,
    StableHlo.TRef.binary main_call2_call0_call0.v158 main_call2_call0_call0.v160 main_call2_call0_call0.v161 ori,
    StableHlo.TRef.binary main_call2_call0_call0.v156 main_call2_call0_call0.v161 main_call2_call0_call0.v162 xori,
    StableHlo.TRef.binary main_call2_call0_call0.v156 main_call2_call0_call0.v162 main_call2_call0_call0.v163 addi,
    StableHlo.TRef.nullary main_call2_call0_call0.c_42 (constantI S_ 32 6#32),
    StableHlo.TRef.unary main_call2_call0_call0.c_42 main_call2_call0_call0.v164 (broadcastInDim S4096x200 ![] bcast_S_S4096x200),
    StableHlo.TRef.binary main_call2_call0_call0.v162 main_call2_call0_call0.v164 main_call2_call0_call0.v165 Host.shli,
    StableHlo.TRef.nullary main_call2_call0_call0.c_43 (constantI S_ 32 26#32),
    StableHlo.TRef.unary main_call2_call0_call0.c_43 main_call2_call0_call0.v166 (broadcastInDim S4096x200 ![] bcast_S_S4096x200),
    StableHlo.TRef.binary main_call2_call0_call0.v162 main_call2_call0_call0.v166 main_call2_call0_call0.v167 Host.shrui,
    StableHlo.TRef.binary main_call2_call0_call0.v165 main_call2_call0_call0.v167 main_call2_call0_call0.v168 ori,
    StableHlo.TRef.binary main_call2_call0_call0.v163 main_call2_call0_call0.v168 main_call2_call0_call0.v169 xori,
    StableHlo.TRef.unary main_call2_call0_call0.v1 main_call2_call0_call0.v170 (broadcastInDim S4096x200 ![] bcast_S_S4096x200),
    StableHlo.TRef.binary main_call2_call0_call0.v163 main_call2_call0_call0.v170 main_call2_call0_call0.v171 addi,
    StableHlo.TRef.unary main_call2_call0.v4 main_call2_call0_call0.v172 (broadcastInDim S4096x200 ![] bcast_S_S4096x200),
    StableHlo.TRef.binary main_call2_call0_call0.v169 main_call2_call0_call0.v172 main_call2_call0_call0.v173 addi,
    StableHlo.TRef.nullary main_call2_call0_call0.c_44 (constantI S_ 32 5#32),
    StableHlo.TRef.unary main_call2_call0_call0.c_44 main_call2_call0_call0.v174 (broadcastInDim S4096x200 ![] bcast_S_S4096x200),
    StableHlo.TRef.binary main_call2_call0_call0.v173 main_call2_call0_call0.v174 main_call2_call0_call0.v175 addi]

/-- Piece 5: the words to noise. -/
def n5 : List (HloOp τ sig (Elt F)) :=
  [StableHlo.TRef.binary main_call2_call0_call0.v171 main_call2_call0_call0.v175 main_call2_call0.v19 xori,
    StableHlo.TRef.nullary main_call2_call0.c_2 (constantI S_ 32 9#32),
    StableHlo.TRef.unary main_call2_call0.c_2 main_call2_call0.v20 (broadcastInDim S4096x200 ![] bcast_S_S4096x200),
    StableHlo.TRef.binary main_call2_call0.v19 main_call2_call0.v20 main_call2_call0.v21 Host.shrui,
    StableHlo.TRef.nullary main_call2_call0.c_3 (constantI S_ 32 1065353216#32),
    StableHlo.TRef.unary main_call2_call0.c_3 main_call2_call0.v22 (broadcastInDim S4096x200 ![] bcast_S_S4096x200),
    StableHlo.TRef.binary main_call2_call0.v21 main_call2_call0.v22 main_call2_call0.v23 ori,
    StableHlo.TRef.unary main_call2_call0.v23 main_call2_call0.v24 (bitcastToFloat .f32),
    StableHlo.TRef.nullary main_call2_call0.cst (constant S_ .f32 0x3F800000#32),
    StableHlo.TRef.unary main_call2_call0.cst main_call2_call0.v25 (broadcastInDim S4096x200 ![] bcast_S_S4096x200),
    StableHlo.TRef.binary main_call2_call0.v24 main_call2_call0.v25 main_call2_call0.v26 subf,
    StableHlo.TRef.binary main_call2_call0.v2 main_call2_call0.v1 main_call2_call0.v27 subf,
    StableHlo.TRef.unary main_call2_call0.v27 main_call2_call0.v28 (broadcastInDim S4096x200 ![0, 1] bcast_S1x1_S4096x200_0_1),
    StableHlo.TRef.binary main_call2_call0.v26 main_call2_call0.v28 main_call2_call0.v29 mulf,
    StableHlo.TRef.unary main_call2_call0.v1 main_call2_call0.v30 (broadcastInDim S4096x200 ![0, 1] bcast_S1x1_S4096x200_0_1),
    StableHlo.TRef.binary main_call2_call0.v29 main_call2_call0.v30 main_call2_call0.v31 addf,
    StableHlo.TRef.unary main_call2_call0.v1 main_call2_call0.v32 (broadcastInDim S4096x200 ![0, 1] bcast_S1x1_S4096x200_0_1),
    StableHlo.TRef.binary main_call2_call0.v32 main_call2_call0.v31 main_call2_call0.v33 maximumf,
    StableHlo.TRef.unary main_call2_call0.v33 main_call2.v1 Host.log,
    StableHlo.TRef.unary main_call2.v1 main_call2.v2 Host.negf,
    StableHlo.TRef.unary main_call2.v2 main_call2.v3 Host.log,
    StableHlo.TRef.unary main_call2.v3 main_call2.v4 Host.negf]

/-- The noise's operations are the six pieces in turn. -/
theorem gumbel_ops : Line.ops (fn_gumbel.body (F := F) key main_call2) = n0 ++ (n1 ++ (n2 ++ (n3 ++ (n4 ++ n5)))) := rfl

end Cert.Proof.KI

end
-- ==== Proof.KI.DenseIdeal.lean ====
/-
  The dense call's three results over the extended reals, entry by entry: the cell, the hidden state and the scores of a
  row of the block, where the words of the row name rows of the block's table.
-/
module

public import proofs.«01_k».proof.Proof.KI.Dense
public import proofs.«01_k».proof.Proof.Spec

@[expose] public section

set_option maxRecDepth 16384

noncomputable section

namespace Cert.Proof.KI

open Cert.KernelIdeal Cert.KernelIdeal.Gen
open Idealize.ShloMosaic Spec

local notation "I" => Idealize.ShloMosaic.Ideal

/-- The weights as the call's blocks hold them: matrices transposed, vectors as one row. -/
def netOf (x7 : Vec I S128x512 .f32) (x8 : Vec I S128x512 .f32) (x9 x10 : Vec I S1x512 .f32) (x11 : Vec I S256x256 .f32) (x12 : Vec I S1x256 .f32)
    (x13 : Vec I S256x128 .f32) (x14 : Vec I S1x128 .f32) : Net where
  wi q k := x7 (ix2 k q)
  wh q k := x8 (ix2 k q)
  bi q := x9 (ix2 0 q)
  bh q := x10 (ix2 0 q)
  w1 p k := x11 (ix2 k p)
  b1 p := x12 (ix2 0 p)
  w2 k p := x13 (ix2 p k)
  b2 k := x14 (ix2 0 k)

/-- The row of a padded table that a word names. -/
def rowOf (x5 : Vec I S1024x128 .f32) (w : BitVec 32) (hw : w.toNat < 1024) (k : Fin 128) : EReal := x5 (ix2 ⟨w.toNat, hw⟩ k)

variable (x1 x2 : Vec I S512x1 .i32) (x3 x4 : Vec I S512x128 .f32) (x5 : Vec I S1024x128 .f32) (x6 : Vec I S128x1024 .f32)
  (x7 x8 : Vec I S128x512 .f32) (x9 x10 : Vec I S1x512 .f32) (x11 : Vec I S256x256 .f32) (x12 : Vec I S1x256 .f32)
  (x13 : Vec I S256x128 .f32) (x14 : Vec I S1x128 .f32) (r : Fin 512)

/-- The 512 sums. -/
theorem pay3_apply (hw : (x1 (ix2 r 0)).toNat < 1024) (q : Fin 512) :
    k0_pay3 x5 x1 x7 x9 x3 x8 x10 (ix2 r q)
      = (netOf x7 x8 x9 x10 x11 x12 x13 x14).gate (rowOf x5 (x1 (ix2 r 0)) hw) (fun k => x3 (ix2 r k)) q := by
  pointwise [k0_pay3, k0_pay2]
  simp only [sum_pick _ hw]
  rfl

theorem pay4_apply (hw : (x1 (ix2 r 0)).toNat < 1024) (j : Fin 128) :
    k0_pay4 x5 x1 x7 x9 x3 x8 x10 (ix2 r j)
      = Ideal.logistic ((netOf x7 x8 x9 x10 x11 x12 x13 x14).gate (rowOf x5 (x1 (ix2 r 0)) hw) (fun k => x3 (ix2 r k)) ⟨j.val, by omega⟩) := by
  pointwise [k0_pay4]
  rw [pay3_apply (x11 := x11) (x12 := x12) (x13 := x13) (x14 := x14) (hw := hw)]

theorem pay5_apply (hw : (x1 (ix2 r 0)).toNat < 1024) (j : Fin 128) :
    k0_pay5 x5 x1 x7 x9 x3 x8 x10 (ix2 r j)
      = Ideal.logistic ((netOf x7 x8 x9 x10 x11 x12 x13 x14).gate (rowOf x5 (x1 (ix2 r 0)) hw) (fun k => x3 (ix2 r k)) ⟨128 + j.val, by omega⟩) := by
  pointwise [k0_pay5]
  rw [pay3_apply (x11 := x11) (x12 := x12) (x13 := x13) (x14 := x14) (hw := hw)]

theorem pay6_apply (hw : (x1 (ix2 r 0)).toNat < 1024) (j : Fin 128) :
    k0_pay6 x5 x1 x7 x9 x3 x8 x10 (ix2 r j)
      = Ideal.tanh ((netOf x7 x8 x9 x10 x11 x12 x13 x14).gate (rowOf x5 (x1 (ix2 r 0)) hw) (fun k => x3 (ix2 r k)) ⟨256 + j.val, by omega⟩) := by
  pointwise [k0_pay6]
  rw [pay3_apply (x11 := x11) (x12 := x12) (x13 := x13) (x14 := x14) (hw := hw)]

theorem pay7_apply (hw : (x1 (ix2 r 0)).toNat < 1024) (j : Fin 128) :
    k0_pay7 x5 x1 x7 x9 x3 x8 x10 (ix2 r j)
      = Ideal.logistic ((netOf x7 x8 x9 x10 x11 x12 x13 x14).gate (rowOf x5 (x1 (ix2 r 0)) hw) (fun k => x3 (ix2 r k)) ⟨384 + j.val, by omega⟩) := by
  pointwise [k0_pay7]
  rw [pay3_apply (x11 := x11) (x12 := x12) (x13 := x13) (x14 := x14) (hw := hw)]

/-- The new cell state. -/
theorem denseC_apply (hw : (x1 (ix2 r 0)).toNat < 1024) (j : Fin 128) :
    denseC x1 x3 x5 x7 x8 x9 x10 x4 (ix2 r j)
      = (netOf x7 x8 x9 x10 x11 x12 x13 x14).cell (rowOf x5 (x1 (ix2 r 0)) hw) (fun k => x3 (ix2 r k)) (fun k => x4 (ix2 r k)) j := by
  pointwise [denseC, k0_pay8]
  rw [pay4_apply (x11 := x11) (x12 := x12) (x13 := x13) (x14 := x14) (hw := hw), pay5_apply (x11 := x11) (x12 := x12) (x13 := x13) (x14 := x14) (hw := hw),
    pay6_apply (x11 := x11) (x12 := x12) (x13 := x13) (x14 := x14) (hw := hw)]
  rfl

/-- The new hidden state. -/
theorem denseH_apply (hw : (x1 (ix2 r 0)).toNat < 1024) (j : Fin 128) :
    denseH x1 x3 x5 x7 x8 x9 x10 x4 (ix2 r j)
      = (netOf x7 x8 x9 x10 x11 x12 x13 x14).hidden (rowOf x5 (x1 (ix2 r 0)) hw) (fun k => x3 (ix2 r k)) (fun k => x4 (ix2 r k)) j := by
  pointwise [denseH, k0_pay9, k0_pay8]
  rw [pay4_apply (x11 := x11) (x12 := x12) (x13 := x13) (x14 := x14) (hw := hw), pay5_apply (x11 := x11) (x12 := x12) (x13 := x13) (x14 := x14) (hw := hw),
    pay6_apply (x11 := x11) (x12 := x12) (x13 := x13) (x14 := x14) (hw := hw), pay7_apply (x11 := x11) (x12 := x12) (x13 := x13) (x14 := x14) (hw := hw)]
  rfl

/-- The vector that scores the table. -/
theorem denseMlp_apply (hw : (x1 (ix2 r 0)).toNat < 1024) (hq : (x2 (ix2 r 0)).toNat < 1024) (k : Fin 128) :
    denseMlp x1 x3 x5 x7 x8 x9 x10 x4 x2 x11 x12 x13 x14 (ix2 r k)
      = (netOf x7 x8 x9 x10 x11 x12 x13 x14).vector (rowOf x5 (x1 (ix2 r 0)) hw) (rowOf x5 (x2 (ix2 r 0)) hq) (fun k => x3 (ix2 r k)) (fun k => x4 (ix2 r k)) k := by
  pointwise [denseMlp, k0_pay10, k0_pay9, k0_pay8, k0_pay2]
  simp only [sum_pick _ hq, pay4_apply (x11 := x11) (x12 := x12) (x13 := x13) (x14 := x14) (hw := hw), pay5_apply (x11 := x11) (x12 := x12) (x13 := x13) (x14 := x14) (hw := hw),
    pay6_apply (x11 := x11) (x12 := x12) (x13 := x13) (x14 := x14) (hw := hw), pay7_apply (x11 := x11) (x12 := x12) (x13 := x13) (x14 := x14) (hw := hw)]
  rfl

/-- The scores. -/
theorem denseS_apply (hw : (x1 (ix2 r 0)).toNat < 1024) (hq : (x2 (ix2 r 0)).toNat < 1024) (n : Fin 1024) :
    denseS x1 x3 x5 x7 x8 x9 x10 x4 x2 x11 x12 x13 x14 x6 (ix2 r n)
      = score ((netOf x7 x8 x9 x10 x11 x12 x13 x14).vector (rowOf x5 (x1 (ix2 r 0)) hw) (rowOf x5 (x2 (ix2 r 0)) hq) (fun k => x3 (ix2 r k)) (fun k => x4 (ix2 r k)))
          (fun k => x6 (ix2 k n)) := by
  pointwise [denseS, k0_pay1]
  simp only [denseMlp_apply (hw := hw) (hq := hq)]
  rfl

end Cert.Proof.KI

end
-- ==== Proof.KI.FinIdeal.lean ====
/-
  The closing call's results over the extended reals, entry by entry.
-/
module

public import proofs.«01_k».proof.Proof.KI.Fin
public import proofs.«01_k».proof.Proof.Spec

@[expose] public section

set_option maxRecDepth 16384

noncomputable section

namespace Cert.Proof.KI

open Cert.KernelIdeal Cert.KernelIdeal.Gen
open Idealize.ShloMosaic Spec

local notation "I" => Idealize.ShloMosaic.Ideal

/-- Whether a lane is one of the first 200. -/
theorem lane_lt (n : Fin 208) (x y : EReal) :
    Scalar.select (IntOp.cmpi CmpIPredicate.slt (BitVec.ofNat 32 n.val) 200#32) x y = if n.val < 200 then x else y := by
  have h : IntOp.cmpi CmpIPredicate.slt (BitVec.ofNat 32 n.val) 200#32 = if n.val < 200 then 1#1 else 0#1 := by
    revert n; decide +kernel
  rw [h]; split <;> rfl

/-- The supremum over 208 lanes of which those past 200 hold −∞. -/
theorem sup_lanes (f : Fin 208 → EReal) :
    Finset.univ.sup (fun n : Fin 208 => if n.val < 200 then f n else (⊥ : EReal)) = Finset.univ.sup fun j : Fin 200 => f ⟨j.val, by omega⟩ := by
  apply le_antisymm
  · refine Finset.sup_le fun n _ => ?_
    by_cases h : n.val < 200
    · rw [if_pos h]; exact Finset.le_sup (f := fun j : Fin 200 => f ⟨j.val, by omega⟩) (Finset.mem_univ (⟨n.val, h⟩ : Fin 200))
    · rw [if_neg h]; exact bot_le
  · refine Finset.sup_le fun j _ => ?_
    refine le_trans (le_of_eq ?_) (Finset.le_sup (f := fun n : Fin 208 => if n.val < 200 then f n else (⊥ : EReal)) (Finset.mem_univ (⟨j.val, by omega⟩ : Fin 208)))
    simp

/-- The sum over 208 lanes of which those past 200 hold nothing. -/
theorem sum_lanes (f : Fin 208 → EReal) :
    (∑ n : Fin 208, if n.val < 200 then f n else 0) = ∑ j : Fin 200, f ⟨j.val, by omega⟩ := by
  rw [show (∑ n : Fin 208, if n.val < 200 then f n else 0) = ∑ n : Fin (200 + 8), if n.val < 200 then f n else 0 from rfl, Fin.sum_univ_add]
  rw [show (∑ i : Fin 8, if (Fin.natAdd 200 i).val < 200 then f (Fin.natAdd 200 i) else 0) = 0 from
    Finset.sum_eq_zero fun i _ => if_neg (by simp), add_zero]
  exact Finset.sum_congr rfl fun j _ => if_pos j.isLt

variable (x : Vec I S512x208 .f32) (n : Vec I S512x208 .i32) (g : Vec I S512x208 .f32) (r : Fin 512)

/-- A row's masked scores, its 200 lanes. -/
def lanes (j : Fin 200) : EReal := masked (n (ix2 r ⟨j.val, by omega⟩)) (x (ix2 r ⟨j.val, by omega⟩))

/-- The log-softmax, at a lane of the first 200. -/
theorem pay7f_apply (q : Fin 208) (h : q.val < 200) : k2_pay7 x n (ix2 r q) = logit (lanes x n r) ⟨q.val, h⟩ := by
  have hb : Ideal.ofBits FTy.f32 4286578688#32 = (⊥ : EReal) := by simp [Ideal.ofBits, Ideal.ieee]
  pointwise [k2_pay4, k2_pay5, k2_pay7]
  simp only [fold_max, Spec.select_zero, lane_lt, sum_lanes, hb, sup_lanes]
  rfl

/-- The logits. -/
theorem finLogits_apply (q : Fin 200) : finLogits x n (ix2 r q) = logit (lanes x n r) q := by
  pointwise [finLogits, k2_pay2]
  exact pay7f_apply x n r _ q.isLt

end Cert.Proof.KI

end
-- ==== Proof.KI.Blocks.lean ====
/-
  What the two calls find and leave, block by block.

  A row block of an array at grid point `t` is rows `512 t … 512 t + 511`; a whole array is the same at every point.
  `dense_cell`, `dense_hidden`, `dense_scores`: the three arrays the first call leaves, entry by entry, of the arrays it finds.
  `fin_logits`: what the closing call leaves in its array of log-probabilities.
-/
module

public import proofs.«01_k».proof.Proof.KI.Keep
public import proofs.«01_k».proof.Proof.KI.DenseIdeal
public import proofs.«01_k».proof.Proof.KI.FinIdeal
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Spec

/-- Row `r` of the block of point `t`. -/
def at0 (t : Fin cfg0.N) (r : Fin 512) : Fin 4096 := ⟨t.val * 512 + r.val, by have := t.isLt; have : cfg0.N = 8 := N_0; omega⟩
def at2 (t : Fin cfg2.N) (r : Fin 512) : Fin 4096 := ⟨t.val * 512 + r.val, by have := t.isLt; have : cfg2.N = 8 := N_2; omega⟩

section Blocks

variable {F : FTy → Type} [FloatOps F]
variable (V : Valuation τ sig (Elt F)) (c : Dev nD)

theorem in0_0 (t : Fin cfg0.N) (r : Fin 512) (k : Fin 1) :
    in0 V c 0 t (ix2 r k) = V (Proc.devRef .tc main_v13) (ix2 (at0 t r) k) := by
  have e : ∀ t : Fin cfg0.N, win0_0.index t = ![t.val, 0] := by decide +kernel
  unfold in0
  rw [Pipeline.heldIn_of_fetch _ _ _ (by revert t; decide +kernel)]
  show V (Proc.devRef .tc main_v13) ((win0_0.blk t).view.emb (ix2 r k)) = _
  refine congrArg _ ?_
  blk_ext [e, at0, at2]

theorem in0_1 (t : Fin cfg0.N) (r : Fin 512) (k : Fin 1) :
    in0 V c 1 t (ix2 r k) = V (Proc.devRef .tc main_v14) (ix2 (at0 t r) k) := by
  have e : ∀ t : Fin cfg0.N, win0_1.index t = ![t.val, 0] := by decide +kernel
  unfold in0
  rw [Pipeline.heldIn_of_fetch _ _ _ (by revert t; decide +kernel)]
  show V (Proc.devRef .tc main_v14) ((win0_1.blk t).view.emb (ix2 r k)) = _
  refine congrArg _ ?_
  blk_ext [e, at0, at2]

theorem in0_2 (t : Fin cfg0.N) (r : Fin 512) (k : Fin 128) :
    in0 V c 2 t (ix2 r k) = V (Proc.devRef .tc main_arg0) (ix2 (at0 t r) k) := by
  have e : ∀ t : Fin cfg0.N, win0_2.index t = ![t.val, 0] := by decide +kernel
  unfold in0
  rw [Pipeline.heldIn_of_fetch _ _ _ (by revert t; decide +kernel)]
  show V (Proc.devRef .tc main_arg0) ((win0_2.blk t).view.emb (ix2 r k)) = _
  refine congrArg _ ?_
  blk_ext [e, at0, at2]

theorem in0_3 (t : Fin cfg0.N) (r : Fin 512) (k : Fin 128) :
    in0 V c 3 t (ix2 r k) = V (Proc.devRef .tc main_arg1) (ix2 (at0 t r) k) := by
  have e : ∀ t : Fin cfg0.N, win0_3.index t = ![t.val, 0] := by decide +kernel
  unfold in0
  rw [Pipeline.heldIn_of_fetch _ _ _ (by revert t; decide +kernel)]
  show V (Proc.devRef .tc main_arg1) ((win0_3.blk t).view.emb (ix2 r k)) = _
  refine congrArg _ ?_
  blk_ext [e, at0, at2]

theorem in2_0 (t : Fin cfg2.N) (r : Fin 512) (k : Fin 208) :
    in2 V c 0 t (ix2 r k) = V (Proc.devRef .tc main_v28) (ix2 (at2 t r) k) := by
  have e : ∀ t : Fin cfg2.N, win2_0.index t = ![t.val, 0] := by decide +kernel
  unfold in2
  rw [Pipeline.heldIn_of_fetch _ _ _ (by revert t; decide +kernel)]
  show V (Proc.devRef .tc main_v28) ((win2_0.blk t).view.emb (ix2 r k)) = _
  refine congrArg _ ?_
  blk_ext [e, at0, at2]

theorem in2_1 (t : Fin cfg2.N) (r : Fin 512) (k : Fin 208) :
    in2 V c 1 t (ix2 r k) = V (Proc.devRef .tc main_v2) (ix2 (at2 t r) k) := by
  have e : ∀ t : Fin cfg2.N, win2_1.index t = ![t.val, 0] := by decide +kernel
  unfold in2
  rw [Pipeline.heldIn_of_fetch _ _ _ (by revert t; decide +kernel)]
  show V (Proc.devRef .tc main_v2) ((win2_1.blk t).view.emb (ix2 r k)) = _
  refine congrArg _ ?_
  blk_ext [e, at0, at2]

theorem in2_2 (t : Fin cfg2.N) (r : Fin 512) (k : Fin 208) :
    in2 V c 2 t (ix2 r k) = V (Proc.devRef .tc main_v12) (ix2 (at2 t r) k) := by
  have e : ∀ t : Fin cfg2.N, win2_2.index t = ![t.val, 0] := by decide +kernel
  unfold in2
  rw [Pipeline.heldIn_of_fetch _ _ _ (by revert t; decide +kernel)]
  show V (Proc.devRef .tc main_v12) ((win2_2.blk t).view.emb (ix2 r k)) = _
  refine congrArg _ ?_
  blk_ext [e, at0, at2]

/-- An input whose every block reads the same is found the same at every point. -/
theorem held_const (w : Fin cfg0.W) (X : (cfg0.win w).block.Idx → Elt F (cfg0.win w).elt)
    (h : ∀ t : Fin cfg0.N, (cfg0.win w).fill (cfg0.grid.coords t) (fun _ => Classical.arbitrary _) (((cfg0.win w).blk t).view.read (Elt F) (A0 V c w)) = X)
    (n : ℕ) (hn : n < cfg0.N) : Pipeline.heldIn (c := c) cfg0 (A0 V c) w n hn = X := by
  induction n with
  | zero => exact h ⟨0, hn⟩
  | succ n ih =>
    by_cases hf : (cfg0.win w).fetch ⟨n + 1, hn⟩ = true
    · exact (Pipeline.heldIn_of_fetch (c := c) (A0 V c) w ⟨n + 1, hn⟩ hf).trans (h _)
    · rw [Pipeline.heldIn_of_not_fetch (c := c) (A0 V c) w n hn (by simpa using hf)]
      exact ih _

theorem in0_4 (t : Fin cfg0.N) : in0 V c 4 t = V (Proc.devRef .tc main_v3) := by
  have e : ∀ t : Fin cfg0.N, win0_4.index t = ![0, 0] := by decide +kernel
  refine held_const V c 4 _ (fun t => funext fun y => ?_) _ _
  show V (Proc.devRef .tc main_v3) ((win0_4.blk t).view.emb y) = _
  refine congrArg _ ?_
  blk_ext [e]

theorem in0_5 (t : Fin cfg0.N) : in0 V c 5 t = V (Proc.devRef .tc main_v15) := by
  have e : ∀ t : Fin cfg0.N, win0_5.index t = ![0, 0] := by decide +kernel
  refine held_const V c 5 _ (fun t => funext fun y => ?_) _ _
  show V (Proc.devRef .tc main_v15) ((win0_5.blk t).view.emb y) = _
  refine congrArg _ ?_
  blk_ext [e]

theorem in0_6 (t : Fin cfg0.N) : in0 V c 6 t = V (Proc.devRef .tc main_v16) := by
  have e : ∀ t : Fin cfg0.N, win0_6.index t = ![0, 0] := by decide +kernel
  refine held_const V c 6 _ (fun t => funext fun y => ?_) _ _
  show V (Proc.devRef .tc main_v16) ((win0_6.blk t).view.emb y) = _
  refine congrArg _ ?_
  blk_ext [e]

theorem in0_7 (t : Fin cfg0.N) : in0 V c 7 t = V (Proc.devRef .tc main_v17) := by
  have e : ∀ t : Fin cfg0.N, win0_7.index t = ![0, 0] := by decide +kernel
  refine held_const V c 7 _ (fun t => funext fun y => ?_) _ _
  show V (Proc.devRef .tc main_v17) ((win0_7.blk t).view.emb y) = _
  refine congrArg _ ?_
  blk_ext [e]

theorem in0_8 (t : Fin cfg0.N) : in0 V c 8 t = V (Proc.devRef .tc main_v18) := by
  have e : ∀ t : Fin cfg0.N, win0_8.index t = ![0, 0] := by decide +kernel
  refine held_const V c 8 _ (fun t => funext fun y => ?_) _ _
  show V (Proc.devRef .tc main_v18) ((win0_8.blk t).view.emb y) = _
  refine congrArg _ ?_
  blk_ext [e]

theorem in0_9 (t : Fin cfg0.N) : in0 V c 9 t = V (Proc.devRef .tc main_v19) := by
  have e : ∀ t : Fin cfg0.N, win0_9.index t = ![0, 0] := by decide +kernel
  refine held_const V c 9 _ (fun t => funext fun y => ?_) _ _
  show V (Proc.devRef .tc main_v19) ((win0_9.blk t).view.emb y) = _
  refine congrArg _ ?_
  blk_ext [e]

theorem in0_10 (t : Fin cfg0.N) : in0 V c 10 t = V (Proc.devRef .tc main_v20) := by
  have e : ∀ t : Fin cfg0.N, win0_10.index t = ![0, 0] := by decide +kernel
  refine held_const V c 10 _ (fun t => funext fun y => ?_) _ _
  show V (Proc.devRef .tc main_v20) ((win0_10.blk t).view.emb y) = _
  refine congrArg _ ?_
  blk_ext [e]

theorem in0_11 (t : Fin cfg0.N) : in0 V c 11 t = V (Proc.devRef .tc main_v21) := by
  have e : ∀ t : Fin cfg0.N, win0_11.index t = ![0, 0] := by decide +kernel
  refine held_const V c 11 _ (fun t => funext fun y => ?_) _ _
  show V (Proc.devRef .tc main_v21) ((win0_11.blk t).view.emb y) = _
  refine congrArg _ ?_
  blk_ext [e]

theorem in0_12 (t : Fin cfg0.N) : in0 V c 12 t = V (Proc.devRef .tc main_v22) := by
  have e : ∀ t : Fin cfg0.N, win0_12.index t = ![0, 0] := by decide +kernel
  refine held_const V c 12 _ (fun t => funext fun y => ?_) _ _
  show V (Proc.devRef .tc main_v22) ((win0_12.blk t).view.emb y) = _
  refine congrArg _ ?_
  blk_ext [e]

theorem in0_13 (t : Fin cfg0.N) : in0 V c 13 t = V (Proc.devRef .tc main_v23) := by
  have e : ∀ t : Fin cfg0.N, win0_13.index t = ![0, 0] := by decide +kernel
  refine held_const V c 13 _ (fun t => funext fun y => ?_) _ _
  show V (Proc.devRef .tc main_v23) ((win0_13.blk t).view.emb y) = _
  refine congrArg _ ?_
  blk_ext [e]

end Blocks

local notation "I" => Idealize.ShloMosaic.Ideal

variable (V : Valuation τ sig (Elt I)) (O : CellTallies nD τ sig (HIx 1)) (B : Set (SemLoc sig × HIx 1)) (c : Dev nD)

/-- The net of the arrays the first call finds. -/
def netV : Net := netOf (V (Proc.devRef .tc main_v16)) (V (Proc.devRef .tc main_v17)) (V (Proc.devRef .tc main_v18)) (V (Proc.devRef .tc main_v19))
  (V (Proc.devRef .tc main_v20)) (V (Proc.devRef .tc main_v21)) (V (Proc.devRef .tc main_v22)) (V (Proc.devRef .tc main_v23))

/-- The embedding a row of an index column names. -/
def embV (ids : Vec I S4096x1 .i32) (h : ∀ i, (ids i : BitVec 32).toNat < 1024) (b : Fin 4096) : Fin 128 → EReal :=
  rowOf (V (Proc.devRef .tc main_v3)) (ids (ix2 b 0)) (h _)

/-- A row of the state arrays. -/
def stH (b : Fin 4096) (k : Fin 128) : EReal := (V (Proc.devRef .tc main_arg0) : Vec I S4096x128 .f32) (ix2 b k)
def stC (b : Fin 4096) (k : Fin 128) : EReal := (V (Proc.devRef .tc main_arg1) : Vec I S4096x128 .f32) (ix2 b k)

variable (hr : ∀ i, ((V (Proc.devRef .tc main_v13) : Vec I S4096x1 .i32) i : BitVec 32).toNat < 1024)
  (hq : ∀ i, ((V (Proc.devRef .tc main_v14) : Vec I S4096x1 .i32) i : BitVec 32).toNat < 1024)

theorem rowOf_congr (T : Vec I S1024x128 .f32) {w w' : BitVec 32} (e : w = w') (h : w.toNat < 1024) (h' : w'.toNat < 1024) : rowOf T w h = rowOf T w' h' := by
  subst e; rfl

theorem net_eq (t : Fin cfg0.N) : netOf (in0 V c 6 t) (in0 V c 7 t) (in0 V c 8 t) (in0 V c 9 t) (in0 V c 10 t) (in0 V c 11 t) (in0 V c 12 t) (in0 V c 13 t)
    = netV V := by
  rw [in0_6, in0_7, in0_8, in0_9, in0_10, in0_11, in0_12, in0_13]; rfl

include hr in
theorem w0_lt (t : Fin cfg0.N) (r : Fin 512) : (in0 V c 0 t (ix2 r 0) : BitVec 32).toNat < 1024 := by rw [in0_0]; exact hr _
include hq in
theorem w1_lt (t : Fin cfg0.N) (r : Fin 512) : (in0 V c 1 t (ix2 r 0) : BitVec 32).toNat < 1024 := by rw [in0_1]; exact hq _

theorem emb_0 (t : Fin cfg0.N) (r : Fin 512) : rowOf (in0 V c 4 t) (in0 V c 0 t (ix2 r 0)) (w0_lt V c hr t r) = embV V _ hr (at0 t r) := by
  rw [rowOf_congr _ (in0_0 V c t r 0) _ (hr _), in0_4]; rfl
theorem emb_1 (t : Fin cfg0.N) (r : Fin 512) : rowOf (in0 V c 4 t) (in0 V c 1 t (ix2 r 0)) (w1_lt V c hq t r) = embV V _ hq (at0 t r) := by
  rw [rowOf_congr _ (in0_1 V c t r 0) _ (hq _), in0_4]; rfl
theorem st_h (t : Fin cfg0.N) (r : Fin 512) : (fun k => in0 V c 2 t (ix2 r k)) = stH V (at0 t r) := funext fun k => in0_2 V c t r k
theorem st_c (t : Fin cfg0.N) (r : Fin 512) : (fun k => in0 V c 3 t (ix2 r k)) = stC V (at0 t r) := funext fun k => in0_3 V c t r k

/-- The first call leaves in its third result the new cell state. -/
theorem dense_cell : (dat0 V O B c).arrAt 15 cfg0.N
    = fun y : S4096x128.Idx => (netV V).cell (embV V _ hr (y 0)) (stH V (y 0)) (stC V (y 0)) (y 1) := by
  have e : ∀ t : Fin cfg0.N, win0_15.index t = ![t.val, 0] := by decide +kernel
  refine (dat0 V O B c).arrAt_eq_of_covers 15 _ (by decide +kernel) fun t hf y => ?_
  have he : (win0_15.blk t).view.emb y = ix2 (at0 t (y 0)) (y 1) := by
    blk_ext [e, at0]
  refine Eq.trans ?_ (congrArg (fun y : S4096x128.Idx => (netV V).cell (embV V _ hr (y 0)) (stH V (y 0)) (stC V (y 0)) (y 1)) he).symm
  have key : ∀ (r : Fin 512) (j : Fin 128),
      denseC (in0 V c 0 t) (in0 V c 2 t) (in0 V c 4 t) (in0 V c 6 t) (in0 V c 7 t) (in0 V c 8 t) (in0 V c 9 t) (in0 V c 3 t) (ix2 r j)
        = (netV V).cell (embV V _ hr (at0 t r)) (stH V (at0 t r)) (stC V (at0 t r)) j := fun r j => by
    rw [denseC_apply (x11 := in0 V c 10 t) (x12 := in0 V c 11 t) (x13 := in0 V c 12 t) (x14 := in0 V c 13 t) (hw := w0_lt V c hr t r), net_eq, emb_0, st_h, st_c]
  exact (congrArg (denseC (in0 V c 0 t) (in0 V c 2 t) (in0 V c 4 t) (in0 V c 6 t) (in0 V c 7 t) (in0 V c 8 t) (in0 V c 9 t) (in0 V c 3 t)) (ValueIdx.eq_ix2 y)).trans (key _ _)

/-- In its first result the new hidden state. -/
theorem dense_hidden : (dat0 V O B c).arrAt 14 cfg0.N
    = fun y : S4096x128.Idx => (netV V).hidden (embV V _ hr (y 0)) (stH V (y 0)) (stC V (y 0)) (y 1) := by
  have e : ∀ t : Fin cfg0.N, win0_14.index t = ![t.val, 0] := by decide +kernel
  refine (dat0 V O B c).arrAt_eq_of_covers 14 _ (by decide +kernel) fun t hf y => ?_
  have he : (win0_14.blk t).view.emb y = ix2 (at0 t (y 0)) (y 1) := by
    blk_ext [e, at0]
  refine Eq.trans ?_ (congrArg (fun y : S4096x128.Idx => (netV V).hidden (embV V _ hr (y 0)) (stH V (y 0)) (stC V (y 0)) (y 1)) he).symm
  have key : ∀ (r : Fin 512) (j : Fin 128),
      denseH (in0 V c 0 t) (in0 V c 2 t) (in0 V c 4 t) (in0 V c 6 t) (in0 V c 7 t) (in0 V c 8 t) (in0 V c 9 t) (in0 V c 3 t) (ix2 r j)
        = (netV V).hidden (embV V _ hr (at0 t r)) (stH V (at0 t r)) (stC V (at0 t r)) j := fun r j => by
    rw [denseH_apply (x11 := in0 V c 10 t) (x12 := in0 V c 11 t) (x13 := in0 V c 12 t) (x14 := in0 V c 13 t) (hw := w0_lt V c hr t r), net_eq, emb_0, st_h, st_c]
  exact (congrArg (denseH (in0 V c 0 t) (in0 V c 2 t) (in0 V c 4 t) (in0 V c 6 t) (in0 V c 7 t) (in0 V c 8 t) (in0 V c 9 t) (in0 V c 3 t)) (ValueIdx.eq_ix2 y)).trans (key _ _)

/-- In its last result every row's score of every entry of the table. -/
theorem dense_scores : (dat0 V O B c).arrAt 16 cfg0.N
    = fun y : S4096x1024.Idx => score ((netV V).vector (embV V _ hr (y 0)) (embV V _ hq (y 0)) (stH V (y 0)) (stC V (y 0)))
        (fun k => (V (Proc.devRef .tc main_v15) : Vec I S128x1024 .f32) (ix2 k (y 1))) := by
  have e : ∀ t : Fin cfg0.N, win0_16.index t = ![t.val, 0] := by decide +kernel
  refine (dat0 V O B c).arrAt_eq_of_covers 16 _ (by decide +kernel) fun t hf y => ?_
  have he : (win0_16.blk t).view.emb y = ix2 (at0 t (y 0)) (y 1) := by
    blk_ext [e, at0]
  refine Eq.trans ?_ (congrArg (fun y : S4096x1024.Idx => score ((netV V).vector (embV V _ hr (y 0)) (embV V _ hq (y 0)) (stH V (y 0)) (stC V (y 0)))
    (fun k => (V (Proc.devRef .tc main_v15) : Vec I S128x1024 .f32) (ix2 k (y 1)))) he).symm
  have key : ∀ (r : Fin 512) (j : Fin 1024),
      denseS (in0 V c 0 t) (in0 V c 2 t) (in0 V c 4 t) (in0 V c 6 t) (in0 V c 7 t) (in0 V c 8 t) (in0 V c 9 t) (in0 V c 3 t) (in0 V c 1 t) (in0 V c 10 t) (in0 V c 11 t) (in0 V c 12 t) (in0 V c 13 t) (in0 V c 5 t) (ix2 r j)
        = score ((netV V).vector (embV V _ hr (at0 t r)) (embV V _ hq (at0 t r)) (stH V (at0 t r)) (stC V (at0 t r)))
          (fun k => (V (Proc.devRef .tc main_v15) : Vec I S128x1024 .f32) (ix2 k j)) := fun r j => by
    rw [denseS_apply (hw := w0_lt V c hr t r) (hq := w1_lt V c hq t r), net_eq, emb_0, emb_1, st_h, st_c, in0_5]
  exact (congrArg (denseS (in0 V c 0 t) (in0 V c 2 t) (in0 V c 4 t) (in0 V c 6 t) (in0 V c 7 t) (in0 V c 8 t) (in0 V c 9 t) (in0 V c 3 t) (in0 V c 1 t) (in0 V c 10 t) (in0 V c 11 t) (in0 V c 12 t) (in0 V c 13 t) (in0 V c 5 t)) (ValueIdx.eq_ix2 y)).trans (key _ _)

/-- A row's 200 masked scores, as the closing call finds them. -/
def lanesV (b : Fin 4096) (j : Fin 200) : EReal :=
  masked ((V (Proc.devRef .tc main_v2) : Vec I S4096x208 .i32) (ix2 b ⟨j.val, by omega⟩)) ((V (Proc.devRef .tc main_v28) : Vec I S4096x208 .f32) (ix2 b ⟨j.val, by omega⟩))

theorem lanes_eq (t : Fin cfg2.N) (r : Fin 512) : lanes (in2 V c 0 t) (in2 V c 1 t) r = lanesV V (at2 t r) := by
  funext j
  unfold lanes lanesV
  rw [in2_0, in2_1]

/-- The closing call leaves in its second result the log-softmax of every row's masked scores. -/
theorem fin_logits : (dat2 V O B c).arrAt 4 cfg2.N = fun y : S4096x200.Idx => logit (lanesV V (y 0)) (y 1) := by
  have e : ∀ t : Fin cfg2.N, win2_4.index t = ![t.val, 0] := by decide +kernel
  refine (dat2 V O B c).arrAt_eq_of_covers 4 _ (by decide +kernel) fun t hf y => ?_
  have he : (win2_4.blk t).view.emb y = ix2 (at2 t (y 0)) (y 1) := by
    blk_ext [e, at2]
  refine Eq.trans ?_ (congrArg (fun y : S4096x200.Idx => logit (lanesV V (y 0)) (y 1)) he).symm
  have key : ∀ (r : Fin 512) (j : Fin 200), finLogits (in2 V c 0 t) (in2 V c 1 t) (ix2 r j) = logit (lanesV V (at2 t r)) j := fun r j => by
    rw [finLogits_apply, lanes_eq]
  exact (congrArg (finLogits (in2 V c 0 t) (in2 V c 1 t)) (ValueIdx.eq_ix2 y)).trans (key _ _)

end Cert.Proof.KI

end
-- ==== Proof.KI.Out.lean ====
/-
  What the kernel leaves, of its arguments.

  `out_cell`, `out_hidden`, `out_logits`: the new cell state, the new hidden state and the log-probabilities, entry by entry,
  are the specification's, where every identifier names a row of the table.
-/
module

public import proofs.«01_k».proof.Proof.KI.Blocks
public import proofs.«01_k».proof.Proof.Inputs
public import Idealize.ShloMosaic.Lib.KernelVsHost

@[expose] public section

set_option maxRecDepth 16384

noncomputable section

namespace Cert.Proof.KI

open Cert.KernelIdeal Cert.KernelIdeal.Gen
open Idealize.ShloMosaic Idealize.SL Idealize.SL.Sem
open TcCoe Spec

local notation "I" => Idealize.ShloMosaic.Ideal

/-! ### Layouts, at an index -/

section Layouts

variable {α : Type}

theorem cast_of_flat {s t : Shape} (x : s.Idx → α) (h : s.ShapeCasts t) (j : t.Idx) (k : s.Idx) (e : (s.rowMajor k).val = (t.rowMajor j).val) :
    shapeCast t x h j = x k := congrArg x (Shape.reshapeEquiv_eq_of_rowMajor h e)

/-- A vector as one column. -/
theorem col_apply (x : S4096.Idx → α) (b : Fin 4096) : shapeCast S4096x1 x shapeCasts_S4096_S4096x1 (ix2 b 0) = x (ix1 b) :=
  cast_of_flat _ _ _ _ (by rw [Shape.rowMajor_val_one, Shape.rowMajor_val_two]; show b.val = b.val * 1 + 0; omega)

end Layouts

theorem embPad_apply (a5 : FVec I S1000x128 .f32) (w : Fin 1000) (k : Fin 128) : embPad a5 (ix2 ⟨w.val, by omega⟩ k) = a5 (ix2 w k) :=
  pad_apply_of_inside _ _ _ _ _ _ _ _ _ (by intro a; fin_cases a <;> simp)

theorem relPad_apply (a4 : IVec S4096x200x2 32) (b : Fin 4096) (j : Fin 200) : relPad a4 (ix2 b ⟨j.val, by omega⟩) = a4 (ix3 b j 0) := by
  unfold relPad
  refine (pad_apply_of_inside _ _ _ _ _ _ _ _ (ix2 b j) (by intro a; fin_cases a <;> simp)).trans ?_
  pointwise []

/-! ### The prepared arrays -/

variable (V0 : Valuation τ sig (Elt I)) (d : Dev nD)

/-- What the arguments hold. -/
def ins : Inputs := Inputs.of (V0 (Proc.devRef .tc main_arg0)) (V0 (Proc.devRef .tc main_arg1)) (V0 (Proc.devRef .tc main_arg2)) (V0 (Proc.devRef .tc main_arg3))
  (V0 (Proc.devRef .tc main_arg4)) (V0 (Proc.devRef .tc main_arg5)) (V0 (Proc.devRef .tc main_arg6)) (V0 (Proc.devRef .tc main_arg7))
  (V0 (Proc.devRef .tc main_arg8)) (V0 (Proc.devRef .tc main_arg9)) (V0 (Proc.devRef .tc main_arg10)) (V0 (Proc.devRef .tc main_arg11))
  (V0 (Proc.devRef .tc main_arg12)) (V0 (Proc.devRef .tc main_arg13))

theorem V1_WH (r : Ref sig .tc) : V1 V0 d (Proc.devRef .tc r) = WH V0 (Proc.devRef .tc r) := congrFun (V1_eq V0 d) _

theorem V1_arg {r : Ref sig .tc} (h : r ∈ [main_arg0, main_arg1, main_arg2, main_arg3, main_arg4, main_arg5, main_arg6, main_arg7, main_arg8, main_arg9, main_arg10, main_arg11, main_arg12, main_arg13])
    (hk : r ∉ oH) : V1 V0 d (Proc.devRef .tc r) = V0 (Proc.devRef .tc r) :=
  (V1_WH V0 d r).trans ((WH_keep hk).trans (WG_args V0 r h))

theorem net_V1 : netV (V1 V0 d) = (ins V0).net := by
  unfold netV
  rw [V1_WH, V1_WH, V1_WH, V1_WH, V1_WH, V1_WH, V1_WH, V1_WH, WH_v16, WH_v17, WH_v18, WH_v19, WH_v20, WH_v21, WH_v22, WH_v23,
    WG_args V0 main_arg6 (by decide), WG_args V0 main_arg7 (by decide), WG_args V0 main_arg8 (by decide), WG_args V0 main_arg9 (by decide),
    WG_args V0 main_arg10 (by decide), WG_args V0 main_arg11 (by decide), WG_args V0 main_arg12 (by decide), WG_args V0 main_arg13 (by decide)]
  unfold netOf ins Inputs.of Net.of
  congr 1 <;> funext a <;> first | (funext b; pointwise []) | pointwise []

theorem V1_v13 : V1 V0 d (Proc.devRef .tc main_v13) = shapeCast S4096x1 (V0 (Proc.devRef .tc main_arg2)) shapeCasts_S4096_S4096x1 := by
  rw [V1_WH, WH_v13, WG_args V0 main_arg2 (by decide)]
theorem V1_v14 : V1 V0 d (Proc.devRef .tc main_v14) = shapeCast S4096x1 (V0 (Proc.devRef .tc main_arg3)) shapeCasts_S4096_S4096x1 := by
  rw [V1_WH, WH_v14, WG_args V0 main_arg3 (by decide)]
theorem V1_v3 : V1 V0 d (Proc.devRef .tc main_v3) = embPad (F := I) (V0 (Proc.devRef .tc main_arg5)) := by rw [V1_WH, in_v3]

variable (h2 : ∀ i, ((V0 (Proc.devRef .tc main_arg2) : IVec S4096 32) i : BitVec 32).toNat < 1000)
  (h3 : ∀ i, ((V0 (Proc.devRef .tc main_arg3) : IVec S4096 32) i : BitVec 32).toNat < 1000)
  (h4 : ∀ i, ((V0 (Proc.devRef .tc main_arg4) : IVec S4096x200x2 32) i : BitVec 32).toNat < 1000)

include h2 in
theorem hr_V1 : ∀ i, ((V1 V0 d (Proc.devRef .tc main_v13) : Vec I S4096x1 .i32) i : BitVec 32).toNat < 1024 := fun i => by
  rw [V1_v13]; exact (h2 _).trans (by decide)
include h3 in
theorem hq_V1 : ∀ i, ((V1 V0 d (Proc.devRef .tc main_v14) : Vec I S4096x1 .i32) i : BitVec 32).toNat < 1024 := fun i => by
  rw [V1_v14]; exact (h3 _).trans (by decide)

/-- A padded table's row, at a word that names a row of the table. -/
theorem rowOf_pad (a5 : FVec I S1000x128 .f32) (w : BitVec 32) (h : w.toNat < 1024) (h' : w.toNat < 1000) : rowOf (embPad a5) w h = row a5 w := by
  funext k
  rw [row_of_lt _ _ h']
  exact embPad_apply a5 ⟨w.toNat, h'⟩ k

theorem emb_rel (b : Fin 4096) : embV (V1 V0 d) _ (hr_V1 V0 d h2) b = row (ins V0).table ((ins V0).rel b) := by
  unfold embV
  have e : (V1 V0 d (Proc.devRef .tc main_v13) : Vec I S4096x1 .i32) (ix2 b 0) = (ins V0).rel b := by rw [V1_v13]; exact col_apply _ b
  rw [V1_v3, rowOf_congr _ e _ (Nat.lt_trans (n := ((ins V0).rel b).toNat) (h2 (ix1 b)) (by decide))]
  exact rowOf_pad _ _ _ (h2 (ix1 b))

theorem emb_query (b : Fin 4096) : embV (V1 V0 d) _ (hq_V1 V0 d h3) b = row (ins V0).table ((ins V0).query b) := by
  unfold embV
  have e : (V1 V0 d (Proc.devRef .tc main_v14) : Vec I S4096x1 .i32) (ix2 b 0) = (ins V0).query b := by rw [V1_v14]; exact col_apply _ b
  rw [V1_v3, rowOf_congr _ e _ (Nat.lt_trans (n := ((ins V0).query b).toNat) (h3 (ix1 b)) (by decide))]
  exact rowOf_pad _ _ _ (h3 (ix1 b))

theorem st_h_V1 (b : Fin 4096) : stH (V1 V0 d) b = (ins V0).h b := by unfold stH; rw [V1_arg V0 d (r := main_arg0) (by decide) (by decide)]; rfl
theorem st_c_V1 (b : Fin 4096) : stC (V1 V0 d) b = (ins V0).c b := by unfold stC; rw [V1_arg V0 d (r := main_arg1) (by decide) (by decide)]; rfl

/-! ### The first call's results -/

theorem V2_arr (w : Fin cfg0.W) : V2 V0 d (Proc.devRef .tc (Pipeline.arrRef spec0 w)) = (dat0 (V1 V0 d) ((K (F := I)).Otc d 0) (rec (F := I) d 0) d).arrAt w cfg0.N :=
  Pipeline.afterRegion_arr (pdats (V1 V0 d) 0 0 d) (V1 V0 d) (by decide +kernel) w

include h2 in
theorem V2_cell : V2 V0 d (Proc.devRef .tc main_v24_1) = fun y : S4096x128.Idx => (ins V0).cell (y 0) (y 1) := by
  refine (V2_arr V0 d 15).trans ((dense_cell _ _ _ _ (hr_V1 V0 d h2)).trans (funext fun y => ?_))
  have key : ∀ (b : Fin 4096) (j : Fin 128), (netV (V1 V0 d)).cell (embV (V1 V0 d) _ (hr_V1 V0 d h2) b) (stH (V1 V0 d) b) (stC (V1 V0 d) b) j = (ins V0).cell b j :=
    fun b j => by rw [net_V1, emb_rel V0 d h2, st_h_V1, st_c_V1]; rfl
  exact key (y 0) (y 1)

include h2 in
theorem V2_hidden : V2 V0 d (Proc.devRef .tc main_v24_0) = fun y : S4096x128.Idx => (ins V0).hidden (y 0) (y 1) := by
  refine (V2_arr V0 d 14).trans ((dense_hidden _ _ _ _ (hr_V1 V0 d h2)).trans (funext fun y => ?_))
  have key : ∀ (b : Fin 4096) (j : Fin 128), (netV (V1 V0 d)).hidden (embV (V1 V0 d) _ (hr_V1 V0 d h2) b) (stH (V1 V0 d) b) (stC (V1 V0 d) b) j = (ins V0).hidden b j :=
    fun b j => by rw [net_V1, emb_rel V0 d h2, st_h_V1, st_c_V1]; rfl
  exact key (y 0) (y 1)

include h2 h3 in
theorem V2_scores (b : Fin 4096) (w : Fin 1000) : (V2 V0 d (Proc.devRef .tc main_v24_2) : Vec I S4096x1024 .f32) (ix2 b ⟨w.val, by omega⟩)
    = score ((ins V0).vector b) (fun k => (ins V0).table (ix2 w k)) := by
  have e : V2 V0 d (Proc.devRef .tc main_v24_2) = _ := (V2_arr V0 d 16).trans (dense_scores _ _ _ _ (hr_V1 V0 d h2) (hq_V1 V0 d h3))
  rw [e]
  show score ((netV (V1 V0 d)).vector (embV _ _ _ b) (embV _ _ _ b) (stH _ b) (stC _ b)) _ = _
  rw [net_V1, emb_rel V0 d h2, emb_query V0 d h3, st_h_V1, st_c_V1]
  refine congrArg _ (funext fun k => ?_)
  rw [V1_WH, WH_v15, WG_v3]
  refine Eq.trans ?_ (embPad_apply (V0 (Proc.devRef .tc main_arg5)) w k)
  pointwise []

include h2 in
/-- The new cell state, at the end. -/
theorem out_cell : V7 V0 d (Proc.devRef .tc main_v24_1) = fun y : S4096x128.Idx => (ins V0).cell (y 0) (y 1) := by
  rw [V7_keep (by decide), V6_keep (by decide), V5_keep (by decide), V4_keep (by decide), V3_keep (by decide), V2_cell V0 d h2]

include h2 in
/-- The new hidden state, at the end. -/
theorem out_hidden : V7 V0 d (Proc.devRef .tc main_v24_0) = fun y : S4096x128.Idx => (ins V0).hidden (y 0) (y 1) := by
  rw [V7_keep (by decide), V6_keep (by decide), V5_keep (by decide), V4_keep (by decide), V3_keep (by decide), V2_hidden V0 d h2]

/-! ### The gathered scores -/

theorem V3_v25 : V3 V0 d (Proc.devRef .tc main_v25) = shapeCast S4194304 (V2 V0 d (Proc.devRef .tc main_v24_2)) shapeCasts_S4096x1024_S4194304 := by
  unfold V3
  generalize V2 V0 d = V
  after_results
  rfl

theorem V5_v28 : V5 V0 d (Proc.devRef .tc main_v28) = shapeCast S4096x208 (V4 V0 d (Proc.devRef .tc main_v27)) shapeCasts_S851968_S4096x208 := by
  unfold V5
  generalize V4 V0 d = V
  after_results
  rfl

theorem V4_v27 : V4 V0 d (Proc.devRef .tc main_v27) = gathered (F := I) (V3 V0 d (Proc.devRef .tc main_v25)) (V3 V0 d (Proc.devRef .tc main_v26)) :=
  Function.update_self _ _ _

theorem V5_v2 : V5 V0 d (Proc.devRef .tc main_v2) = relPad (V0 (Proc.devRef .tc main_arg4)) := by
  rw [V5_keep (by decide), V4_keep (by decide), V3_keep (by decide), V2_keep (by decide), V1_WH, in_v2]

include h2 h3 h4 in
/-- An action's entry of the gathered scores is the score of its identifier. -/
theorem gathered_scores (b : Fin 4096) (j : Fin 200) : (V5 V0 d (Proc.devRef .tc main_v28) : Vec I S4096x208 .f32) (ix2 b ⟨j.val, by omega⟩)
    = score ((ins V0).vector b) (row (ins V0).table ((ins V0).act b j)) := by
  have hlt : ((ins V0).act b j).toNat < 1000 := h4 _
  have hid : (V3 V0 d (Proc.devRef .tc main_v26) : IVec S851968 32) (ix1 ⟨b.val * 208 + j.val, by omega⟩) = (ins V0).act b j := by
    rw [V3_v26]
    refine (cast_of_flat _ _ _ (ix2 b ⟨j.val, by omega⟩) ?_).trans (relPad_apply _ b j)
    rw [Shape.rowMajor_val_one, Shape.rowMajor_val_two]; rfl
  rw [V5_v28]
  refine (cast_of_flat _ _ _ (ix1 ⟨b.val * 208 + j.val, by omega⟩) ?_).trans ?_
  · rw [Shape.rowMajor_val_one, Shape.rowMajor_val_two]; rfl
  rw [V4_v27, V3_v25]
  unfold gathered
  refine (cast_of_flat _ _ _ (ix2 b ⟨((ins V0).act b j).toNat, by omega⟩) ?_).trans ((V2_scores V0 d h2 h3 b ⟨_, hlt⟩).trans ?_)
  · rw [Shape.rowMajor_val_one, Shape.rowMajor_val_two]
    show b.val * 1024 + ((ins V0).act b j).toNat = ((b.val * 208 + j.val) / 208 * 1024 + ((V3 V0 d (Proc.devRef .tc main_v26) : IVec S851968 32) (ix1 ⟨b.val * 208 + j.val, by omega⟩)).toNat) % 4194304
    rw [hid]
    omega
  · exact congrArg _ (funext fun k => (row_of_lt _ _ hlt k).symm)

include h2 h3 h4 in
theorem lanes_V5 (b : Fin 4096) : lanesV (V5 V0 d) b = (ins V0).scores b := by
  funext j
  unfold lanesV
  rw [gathered_scores V0 d h2 h3 h4, V5_v2, relPad_apply]
  rfl

theorem V6_arr (w : Fin cfg2.W) : V6 V0 d (Proc.devRef .tc (Pipeline.arrRef spec2 w)) = (dat2 (V5 V0 d) ((K (F := I)).Otc d 1) (rec (F := I) d 1) d).arrAt w cfg2.N :=
  Pipeline.afterRegion_arr (pdats (V5 V0 d) 1 1 d) (V5 V0 d) (by decide +kernel) w

include h2 h3 h4 in
/-- The log-probabilities, at the end. -/
theorem out_logits : V7 V0 d (Proc.devRef .tc main_v29_1) = fun y : S4096x200.Idx => (ins V0).logits (y 0) (y 1) := by
  rw [V7_keep (by decide)]
  refine (V6_arr V0 d 4).trans ((fin_logits _ _ _ _).trans (funext fun y => ?_))
  have key : ∀ (b : Fin 4096) (j : Fin 200), logit (lanesV (V5 V0 d) b) j = (ins V0).logits b j := fun b j => by
    rw [lanes_V5 V0 d h2 h3 h4]; rfl
  exact key (y 0) (y 1)

end Cert.Proof.KI

end
-- ==== Proof.KI.Taken.lean ====
/-
  The kernel's three results that depend on the noise: the action taken, its relation and the loss.

  `out_action`, `out_chosen`, `out_loss`: they are the specification's, where every identifier names a row of the table and
  in every row the sum that the action taken has is greater than the sum the padded lanes have.
-/
module

public import proofs.«01_k».proof.Proof.KI.Out
public import proofs.«01_k».proof.Proof.Bound

@[expose] public section

set_option maxRecDepth 16384

noncomputable section

namespace Cert.Proof.KI

open Cert.KernelIdeal Cert.KernelIdeal.Gen
open Idealize.ShloMosaic Idealize.SL Idealize.SL.Sem
open TcCoe Spec

local notation "I" => Idealize.ShloMosaic.Ideal

/-! ### One block of the closing call -/

section Block

variable (x : Vec I S512x208 .f32) (n : Vec I S512x208 .i32) (g : Vec I S512x208 .f32) (r : Fin 512)

/-- A row's sums of masked score and noise, its 208 lanes. -/
def sums (i : Fin 208) : EReal := masked (n (ix2 r i)) (x (ix2 r i)) + g (ix2 r i)

variable (k : Fin 200) (hk : First (fun j : Fin 200 => sums x n g r ⟨j.val, lane_le j⟩) k)
  (hp : ∀ i : Fin 208, 200 ≤ i.val → sums x n g r i < sums x n g r ⟨k.val, lane_le k⟩)
include hk hp

theorem finAction_apply : finAction x n g (ix2 r 0) = BitVec.ofNat 32 k.val := by
  pointwise [finAction, k2_pay4, k2_pay5, k2_pay6]
  simp only [fold_max, Spec.select_zero]
  exact min_lane (sums x n g r) _ k hk (fun _ => rfl) hp

theorem finChosen_apply : finChosen x n g (ix2 r 0) = n (ix2 r ⟨k.val, lane_le k⟩) := by
  pointwise [finChosen, k2_pay3, k2_pay8, k2_pay4]
  rw [show k2_pay6 x n g (ix2 r 0) = _ from finAction_apply x n g r k hk hp]
  exact pick_word (fun i => n (ix2 r i)) ⟨k.val, lane_le k⟩

theorem finLoss_apply : finLoss x n g (ix2 r 0) = 0 - logit (lanes x n r) k := by
  pointwise [finLoss, k2_pay1, k2_pay8, k2_pay9]
  rw [show k2_pay6 x n g (ix2 r 0) = _ from finAction_apply x n g r k hk hp]
  exact congrArg (0 - ·) ((pick_sum (fun i => k2_pay7 x n (ix2 r i)) ⟨k.val, lane_le k⟩).trans (pay7f_apply x n r ⟨k.val, lane_le k⟩ k.isLt))

end Block

/-! ### The closing call's arrays -/

section Arrays

variable (V : Valuation τ sig (Elt I)) (O B) (c : Dev nD)

/-- A row's sums of masked score and noise, as the closing call finds them. -/
def sumsV (b : Fin 4096) (i : Fin 208) : EReal :=
  masked ((V (Proc.devRef .tc main_v2) : Vec I S4096x208 .i32) (ix2 b i)) ((V (Proc.devRef .tc main_v28) : Vec I S4096x208 .f32) (ix2 b i))
    + (V (Proc.devRef .tc main_v12) : Vec I S4096x208 .f32) (ix2 b i)

theorem sums_eq (t : Fin cfg2.N) (r : Fin 512) : sums (in2 V c 0 t) (in2 V c 1 t) (in2 V c 2 t) r = sumsV V (at2 t r) := by
  funext j
  unfold sums sumsV
  rw [in2_0, in2_1, in2_2]

variable (k : Fin 4096 → Fin 200) (hk : ∀ b, First (fun j : Fin 200 => sumsV V b ⟨j.val, lane_le j⟩) (k b))
  (hp : ∀ b, ∀ i : Fin 208, 200 ≤ i.val → sumsV V b i < sumsV V b ⟨(k b).val, lane_le _⟩)
include hk hp

/-- The closing call leaves in its third result the lanes taken. -/
theorem fin_action : (dat2 V O B c).arrAt 5 cfg2.N = fun y : S4096x1.Idx => (BitVec.ofNat 32 (k (y 0)).val : BitVec 32) := by
  have e : ∀ t : Fin cfg2.N, win2_5.index t = ![t.val, 0] := by decide +kernel
  refine (dat2 V O B c).arrAt_eq_of_covers 5 _ (by decide +kernel) fun t hf y => ?_
  have he : (win2_5.blk t).view.emb y = ix2 (at2 t (y 0)) (y 1) := by
    blk_ext [e, at2]
  refine Eq.trans ?_ (congrArg (fun y : S4096x1.Idx => BitVec.ofNat 32 (k (y 0)).val) he).symm
  have key : ∀ (r : Fin 512) (j : Fin 1), finAction (in2 V c 0 t) (in2 V c 1 t) (in2 V c 2 t) (ix2 r j) = BitVec.ofNat 32 (k (at2 t r)).val := fun r j => by
    rw [show j = 0 from Subsingleton.elim _ _]
    exact finAction_apply _ _ _ r _ (by rw [sums_eq]; exact hk _) (by rw [sums_eq]; exact hp _)
  have a : (dat2 V O B c).after 5 t = finAction (in2 V c 0 t) (in2 V c 1 t) (in2 V c 2 t) := by dsimp only [dat2]
  refine Eq.trans ?_ (key (y 0) (y 1))
  refine Eq.trans ?_ (congrArg (finAction (in2 V c 0 t) (in2 V c 1 t) (in2 V c 2 t)) (ValueIdx.eq_ix2 (n0 := 512) (n1 := 1) y))
  refine (cast_eq _ _).trans ((congrFun a _).trans (congrArg (finAction (in2 V c 0 t) (in2 V c 1 t) (in2 V c 2 t)) ?_))
  rfl

/-- In its fourth their identifiers. -/
theorem fin_chosen : (dat2 V O B c).arrAt 6 cfg2.N = fun y : S4096x1.Idx => (V (Proc.devRef .tc main_v2) : Vec I S4096x208 .i32) (ix2 (y 0) ⟨(k (y 0)).val, lane_le _⟩) := by
  have e : ∀ t : Fin cfg2.N, win2_6.index t = ![t.val, 0] := by decide +kernel
  refine (dat2 V O B c).arrAt_eq_of_covers 6 _ (by decide +kernel) fun t hf y => ?_
  have he : (win2_6.blk t).view.emb y = ix2 (at2 t (y 0)) (y 1) := by
    blk_ext [e, at2]
  refine Eq.trans ?_ (congrArg (fun y : S4096x1.Idx => (V (Proc.devRef .tc main_v2) : Vec I S4096x208 .i32) (ix2 (y 0) ⟨(k (y 0)).val, lane_le _⟩)) he).symm
  have key : ∀ (r : Fin 512) (j : Fin 1), finChosen (in2 V c 0 t) (in2 V c 1 t) (in2 V c 2 t) (ix2 r j)
      = (V (Proc.devRef .tc main_v2) : Vec I S4096x208 .i32) (ix2 (at2 t r) ⟨(k (at2 t r)).val, lane_le _⟩) := fun r j => by
    rw [show j = 0 from Subsingleton.elim _ _]
    exact (finChosen_apply _ _ _ r _ (by rw [sums_eq]; exact hk _) (by rw [sums_eq]; exact hp _)).trans (in2_1 V c t r _)
  have a : (dat2 V O B c).after 6 t = finChosen (in2 V c 0 t) (in2 V c 1 t) (in2 V c 2 t) := by dsimp only [dat2]
  refine Eq.trans ?_ (key (y 0) (y 1))
  refine Eq.trans ?_ (congrArg (finChosen (in2 V c 0 t) (in2 V c 1 t) (in2 V c 2 t)) (ValueIdx.eq_ix2 (n0 := 512) (n1 := 1) y))
  refine (cast_eq _ _).trans ((congrFun a _).trans (congrArg (finChosen (in2 V c 0 t) (in2 V c 1 t) (in2 V c 2 t)) ?_))
  rfl

/-- In its first their log-probabilities, negated. -/
theorem fin_loss : (dat2 V O B c).arrAt 3 cfg2.N = fun y : S4096x1.Idx => 0 - logit (lanesV V (y 0)) (k (y 0)) := by
  have e : ∀ t : Fin cfg2.N, win2_3.index t = ![t.val, 0] := by decide +kernel
  refine (dat2 V O B c).arrAt_eq_of_covers 3 _ (by decide +kernel) fun t hf y => ?_
  have he : (win2_3.blk t).view.emb y = ix2 (at2 t (y 0)) (y 1) := by
    blk_ext [e, at2]
  refine Eq.trans ?_ (congrArg (fun y : S4096x1.Idx => 0 - logit (lanesV V (y 0)) (k (y 0))) he).symm
  have key : ∀ (r : Fin 512) (j : Fin 1), finLoss (in2 V c 0 t) (in2 V c 1 t) (in2 V c 2 t) (ix2 r j) = 0 - logit (lanesV V (at2 t r)) (k (at2 t r)) := fun r j => by
    rw [show j = 0 from Subsingleton.elim _ _, finLoss_apply _ _ _ r (k (at2 t r)) (by rw [sums_eq]; exact hk _) (by rw [sums_eq]; exact hp _), lanes_eq]
  exact (congrArg (finLoss (in2 V c 0 t) (in2 V c 1 t) (in2 V c 2 t)) (ValueIdx.eq_ix2 y)).trans (key _ _)

end Arrays

/-! ### At the end -/

section Layouts

/-- A column as a vector. -/
theorem flat_apply {α : Type} (x : S4096x1.Idx → α) (b : Fin 4096) : shapeCast S4096 x shapeCasts_S4096x1_S4096 (ix1 b) = x (ix2 b 0) :=
  cast_of_flat _ _ _ _ (by rw [Shape.rowMajor_val_one, Shape.rowMajor_val_two]; show b.val * 1 + 0 = b.val; omega)

theorem relPad_outside (a4 : IVec S4096x200x2 32) (b : Fin 4096) (i : Fin 208) (hi : 200 ≤ i.val) : relPad a4 (ix2 b i) = 0#32 := by
  unfold relPad
  refine (pad_apply_of_not_inside _ _ _ _ _ _ _ _ 1 ?_).trans rfl
  rintro ⟨-, -, h⟩
  have h' : (i.val - 0) / (0 + 1) < 200 := h
  omega

theorem noisePad_inside (g : FVec I S4096x200 .f32) (b : Fin 4096) (j : Fin 200) : noisePad g (ix2 b ⟨j.val, lane_le j⟩) = g (ix2 b j) :=
  pad_apply_of_inside _ _ _ _ _ _ _ _ _ (by intro a; fin_cases a <;> simp)

theorem noisePad_outside (g : FVec I S4096x200 .f32) (b : Fin 4096) (i : Fin 208) (hi : 200 ≤ i.val) : noisePad g (ix2 b i) = padNoise := by
  unfold noisePad
  refine (pad_apply_of_not_inside _ _ _ _ _ _ _ _ 1 ?_).trans rfl
  rintro ⟨-, -, h⟩
  have h' : (i.val - 0) / (0 + 1) < 200 := h
  omega

end Layouts

section End

variable (V0 : Valuation τ sig (Elt I)) (d : Dev nD)

/-- The noise. -/
def noise (b : Fin 4096) (j : Fin 200) : EReal := (WE V0 (Proc.devRef .tc main_v11) : FVec I S4096x200 .f32) (ix2 b j)

theorem V5_v12 : V5 V0 d (Proc.devRef .tc main_v12) = noisePad (F := I) (WE V0 (Proc.devRef .tc main_v11)) := by
  rw [V5_keep (by decide), V4_keep (by decide), V3_keep (by decide), V2_keep (by decide), V1_WH, in_v12]

variable (h2 : ∀ i, ((V0 (Proc.devRef .tc main_arg2) : IVec S4096 32) i : BitVec 32).toNat < 1000)
  (h3 : ∀ i, ((V0 (Proc.devRef .tc main_arg3) : IVec S4096 32) i : BitVec 32).toNat < 1000)
  (h4 : ∀ i, ((V0 (Proc.devRef .tc main_arg4) : IVec S4096x200x2 32) i : BitVec 32).toNat < 1000)

include h2 h3 h4 in
theorem sums_inside (b : Fin 4096) (j : Fin 200) : sumsV (V5 V0 d) b ⟨j.val, lane_le j⟩ = (ins V0).scores b j + noise V0 b j := by
  have e := congrFun (lanes_V5 V0 d h2 h3 h4 b) j
  unfold lanesV at e
  unfold sumsV
  rw [e, V5_v12, noisePad_inside]
  rfl

theorem sums_outside (b : Fin 4096) (i : Fin 208) (hi : 200 ≤ i.val) : sumsV (V5 V0 d) b i = absent + padNoise := by
  unfold sumsV
  rw [V5_v2, relPad_outside _ _ _ hi, V5_v12, noisePad_outside _ _ _ hi]
  rfl

variable (hs : ∀ b, absent + padNoise < (ins V0).scores b ((ins V0).lane b (noise V0)) + noise V0 b ((ins V0).lane b (noise V0)))

include h2 h3 h4 in
theorem first_V5 (b : Fin 4096) : First (fun j : Fin 200 => sumsV (V5 V0 d) b ⟨j.val, lane_le j⟩) ((ins V0).lane b (noise V0)) := by
  rw [show (fun j : Fin 200 => sumsV (V5 V0 d) b ⟨j.val, lane_le j⟩) = fun j => (ins V0).scores b j + noise V0 b j from
    funext fun j => sums_inside V0 d h2 h3 h4 b j]
  exact first_spec _

include h2 h3 h4 hs

theorem pads_V5 (b : Fin 4096) (i : Fin 208) (hi : 200 ≤ i.val) : sumsV (V5 V0 d) b i < sumsV (V5 V0 d) b ⟨((ins V0).lane b (noise V0)).val, lane_le _⟩ := by
  rw [sums_outside V0 d b i hi, sums_inside V0 d h2 h3 h4]
  exact hs b

/-- The action taken, at the end. -/
theorem out_action : V7 V0 d (Proc.devRef .tc main_v31) = fun y : S4096.Idx => (ins V0).action (y 0) (noise V0) := by
  have e : V7 V0 d (Proc.devRef .tc main_v31) = shapeCast S4096 (V6 V0 d (Proc.devRef .tc main_v29_2)) shapeCasts_S4096x1_S4096 := by
    unfold V7
    generalize V6 V0 d = V
    after_results
    rfl
  rw [e]
  funext y
  obtain ⟨b, rfl⟩ : ∃ b : Fin 4096, y = ix1 b := ⟨y 0, ValueIdx.eq_ix1 y⟩
  rw [flat_apply]
  exact congrFun ((V6_arr V0 d 5).trans (fin_action _ _ _ _ _ (first_V5 V0 d h2 h3 h4) (pads_V5 V0 d h2 h3 h4 hs))) (ix2 b 0)

/-- Its relation, at the end. -/
theorem out_chosen : V7 V0 d (Proc.devRef .tc main_v32) = fun y : S4096.Idx => (ins V0).chosen (y 0) (noise V0) := by
  have e : V7 V0 d (Proc.devRef .tc main_v32) = shapeCast S4096 (V6 V0 d (Proc.devRef .tc main_v29_3)) shapeCasts_S4096x1_S4096 := by
    unfold V7
    generalize V6 V0 d = V
    after_results
    rfl
  rw [e]
  funext y
  obtain ⟨b, rfl⟩ : ∃ b : Fin 4096, y = ix1 b := ⟨y 0, ValueIdx.eq_ix1 y⟩
  rw [flat_apply]
  refine (congrFun ((V6_arr V0 d 6).trans (fin_chosen _ _ _ _ _ (first_V5 V0 d h2 h3 h4) (pads_V5 V0 d h2 h3 h4 hs))) (ix2 b 0)).trans ?_
  show (V5 V0 d (Proc.devRef .tc main_v2) : Vec I S4096x208 .i32) (ix2 b ⟨((ins V0).lane b (noise V0)).val, lane_le _⟩) = _
  rw [V5_v2, relPad_apply]
  rfl

/-- The loss, at the end. -/
theorem out_loss : V7 V0 d (Proc.devRef .tc main_v30) = fun y : S4096.Idx => (ins V0).loss (y 0) (noise V0) := by
  have e : V7 V0 d (Proc.devRef .tc main_v30) = shapeCast S4096 (V6 V0 d (Proc.devRef .tc main_v29_0)) shapeCasts_S4096x1_S4096 := by
    unfold V7
    generalize V6 V0 d = V
    after_results
    rfl
  rw [e]
  funext y
  obtain ⟨b, rfl⟩ : ∃ b : Fin 4096, y = ix1 b := ⟨y 0, ValueIdx.eq_ix1 y⟩
  rw [flat_apply]
  refine (congrFun ((V6_arr V0 d 3).trans (fin_loss _ _ _ _ _ (first_V5 V0 d h2 h3 h4) (pads_V5 V0 d h2 h3 h4 hs))) (ix2 b 0)).trans ?_
  show 0 - logit (lanesV (V5 V0 d) b) ((ins V0).lane b (noise V0)) = _
  rw [lanes_V5 V0 d h2 h3 h4]
  rfl

end End

end Cert.Proof.KI

end
-- ==== Proof.KI.NoiseLow.lean ====
/-
  The kernel's noise is never below −126: the numbers it is made of are not below 2⁻¹²⁶.
-/
module

public import proofs.«01_k».proof.Proof.KI.NoiseOps
public import proofs.«01_k».proof.Proof.KI.Taken

@[expose] public section

set_option maxRecDepth 16384

noncomputable section

namespace Cert.Proof.KI

open Cert.KernelIdeal Cert.KernelIdeal.Gen
open Idealize.ShloMosaic Idealize.SL Idealize.SL.Sem
open TcCoe Spec

local notation "I" => Idealize.ShloMosaic.Ideal

section Generic

variable {F : FTy → Type} [FloatOps F]

/-- The noise's last six operations. -/
def nLast : List (HloOp τ sig (Elt F)) :=
  [StableHlo.TRef.unary main_call2_call0.v1 main_call2_call0.v32 (broadcastInDim S4096x200 ![0, 1] bcast_S1x1_S4096x200_0_1),
    StableHlo.TRef.binary main_call2_call0.v32 main_call2_call0.v31 main_call2_call0.v33 maximumf,
    StableHlo.TRef.unary main_call2_call0.v33 main_call2.v1 Host.log,
    StableHlo.TRef.unary main_call2.v1 main_call2.v2 Host.negf,
    StableHlo.TRef.unary main_call2.v2 main_call2.v3 Host.log,
    StableHlo.TRef.unary main_call2.v3 main_call2.v4 Host.negf]

/-- The operations between the first piece and the last six. -/
def nMid : List (HloOp τ sig (Elt F)) := n1 ++ (n2 ++ (n3 ++ (n4 ++ n5.take 16)))

theorem n5_ends : n5 (F := F) = n5.take 16 ++ nLast := rfl

theorem gumbel_ends : Line.ops (fn_gumbel.body (F := F) key main_call2) = n0 ++ (nMid ++ nLast) := by
  rw [gumbel_ops]
  unfold nMid
  simp only [List.append_assoc]
  rw [← n5_ends]

theorem n0_length : (n0 (F := F)).length = 23 := rfl

/-- The references the operations after the first piece write. -/
def oRest : List (Ref sig .tc) := (Line.outs (fn_gumbel.body (F := Bits) key main_call2)).drop 23

theorem rest_writes : (nMid (F := F) ++ nLast).map HloOp.writes = oRest.map fun r => {Proc.devRef (τ := τ) .tc r} := by
  have h := Line.writes (p := fn_gumbel.body (F := F) key main_call2)
  rw [gumbel_ends] at h
  have h' := congrArg (List.drop 23) h
  rw [← List.map_drop, ← List.map_drop, List.drop_left' n0_length] at h'
  exact h'

/-- The least number is kept up to the last six operations. -/
theorem mid_keep (V : Valuation τ sig (Elt F)) : StableHlo.after nMid V (Proc.devRef .tc main_call2_call0.v1.ref) = V (Proc.devRef .tc main_call2_call0.v1.ref) :=
  StableHlo.after_of_writes_sub (W := oRest) (r := main_call2_call0.v1.ref) nMid V (List.forall_iff_forall_mem.mpr fun op h => List.forall_iff_forall_mem.mp (StableHlo.forall_writes_sub_of_map rest_writes) op (List.mem_append_left _ h))
    (by decide +kernel)

/-- The least number, as the first piece makes it. -/
theorem first_tiny (V : Valuation τ sig (Elt F)) :
    (StableHlo.after n0 V (Proc.devRef .tc main_call2_call0.v1.ref) : FVec F S1x1 .f32) = broadcastInDim S1x1 ![] bcast_S_S1x1 (constant (F := F) S_ .f32 0x00800000#32) := by
  unfold n0
  after_results
  simp only [StableHlo.TRef.toBuf, StableHlo.TRef.ofBuf, cast_eq]

/-- What the last six operations make. -/
theorem last_made (V : Valuation τ sig (Elt F)) :
    (StableHlo.after nLast V (Proc.devRef .tc main_v11) : FVec F S4096x200 .f32)
      = Host.negf (Host.log (Host.negf (Host.log (maximumf (broadcastInDim S4096x200 ![0, 1] bcast_S1x1_S4096x200_0_1 (V (Proc.devRef .tc main_call2_call0.v1.ref) : FVec F S1x1 .f32))
          (V (Proc.devRef .tc main_call2_call0.v31.ref) : FVec F S4096x200 .f32))))) := by
  unfold nLast
  after_results
  simp only [StableHlo.TRef.toBuf, StableHlo.TRef.ofBuf, cast_eq]

end Generic

variable (V0 : Valuation τ sig (Elt I))

theorem WE_split : WE V0 = StableHlo.after nLast (StableHlo.after nMid (StableHlo.after n0 (WD V0))) :=
  (congrArg (StableHlo.after · (WD V0)) gumbel_ends).trans ((after_append _ _ _).trans (after_append _ _ _))

/-- The valuation before the last six operations holds the least number. -/
theorem before_last : ∃ M : Valuation τ sig (Elt I), WE V0 = StableHlo.after nLast M
    ∧ (M (Proc.devRef .tc main_call2_call0.v1.ref) : FVec I S1x1 .f32) = broadcastInDim S1x1 ![] bcast_S_S1x1 (constant (F := I) S_ .f32 0x00800000#32) :=
  ⟨StableHlo.after nMid (StableHlo.after n0 (WD V0)), WE_split V0, (mid_keep _).trans (first_tiny _)⟩

/-- What the last six operations make of a least number and others. -/
theorem made_ge (M : Valuation τ sig (Elt I))
    (h : (M (Proc.devRef .tc main_call2_call0.v1.ref) : FVec I S1x1 .f32) = broadcastInDim S1x1 ![] bcast_S_S1x1 (constant (F := I) S_ .f32 0x00800000#32))
    (b : Fin 4096) (j : Fin 200) : ((-126 : ℝ) : EReal) ≤ (StableHlo.after nLast M (Proc.devRef .tc main_v11) : FVec I S4096x200 .f32) (ix2 b j) := by
  rw [last_made M, h]
  generalize (M (Proc.devRef .tc main_call2_call0.v31.ref) : FVec I S4096x200 .f32) = x
  exact gumbel_ge (max tiny (x (ix2 b j))) (le_max_left _ _)

/-- The noise is at least −126. -/
theorem noise_ge (b : Fin 4096) (j : Fin 200) : ((-126 : ℝ) : EReal) ≤ noise V0 b j := by
  obtain ⟨M, e, h⟩ := before_last V0
  unfold noise
  rw [e]
  exact made_ge M h b j

end Cert.Proof.KI

end
-- ==== Proof.R.Stages.lean ====
/-
  The reference's operations in stages: each of its functions' calls, and the operations between two calls.

  `U V0 n` is what the buffers hold after the first `n` stages.
-/
module

public import proofs.«01_k».proof.Proof.R.Frame

@[expose] public section

set_option maxRecDepth 16384

noncomputable section

namespace Cert.Proof.R

open Cert.ReferenceIdeal Cert.ReferenceIdeal.Gen
open Idealize.ShloMosaic Idealize.SL.Sem
open TcCoe

variable {F : FTy → Type} [FloatOps F]

abbrev l0 : List (HloOp τ sig (Elt F)) :=
  Line.ops (fn_take.body (F := F) (.of main_arg5) (.of main_arg2) main_call0)
abbrev l1 : List (HloOp τ sig (Elt F)) :=
  [StableHlo.unary main_arg6 main_v1 ((transpose S128x512 [1, 0] · transposes_S512x128_S128x512_1_0) : (⟨S512x128, .f32⟩ : BufTy).Contents (Elt F) → (⟨S128x512, .f32⟩ : BufTy).Contents (Elt F)),
    StableHlo.binary main_v0 main_v1 main_v2 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    StableHlo.unary main_arg8 main_v3 (broadcastInDim S1x512 ![1] bcast_S512_S1x512_1 : (⟨S512, .f32⟩ : BufTy).Contents (Elt F) → (⟨S1x512, .f32⟩ : BufTy).Contents (Elt F)),
    StableHlo.unary main_v3 main_v4 (broadcastInDim S4096x512 ![0, 1] bcast_S1x512_S4096x512_0_1 : (⟨S1x512, .f32⟩ : BufTy).Contents (Elt F) → (⟨S4096x512, .f32⟩ : BufTy).Contents (Elt F)),
    StableHlo.binary main_v2 main_v4 main_v5 (addf : (⟨S4096x512, .f32⟩ : BufTy).Contents (Elt F) → (⟨S4096x512, .f32⟩ : BufTy).Contents (Elt F) → (⟨S4096x512, .f32⟩ : BufTy).Contents (Elt F)),
    StableHlo.unary main_arg7 main_v6 ((transpose S128x512 [1, 0] · transposes_S512x128_S128x512_1_0) : (⟨S512x128, .f32⟩ : BufTy).Contents (Elt F) → (⟨S128x512, .f32⟩ : BufTy).Contents (Elt F)),
    StableHlo.binary main_arg0 main_v6 main_v7 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    StableHlo.binary main_v5 main_v7 main_v8 (addf : (⟨S4096x512, .f32⟩ : BufTy).Contents (Elt F) → (⟨S4096x512, .f32⟩ : BufTy).Contents (Elt F) → (⟨S4096x512, .f32⟩ : BufTy).Contents (Elt F)),
    StableHlo.unary main_arg9 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S4096x512 ![0, 1] bcast_S1x512_S4096x512_0_1 : (⟨S1x512, .f32⟩ : BufTy).Contents (Elt F) → (⟨S4096x512, .f32⟩ : BufTy).Contents (Elt F)),
    StableHlo.binary main_v8 main_v10 main_v11 (addf : (⟨S4096x512, .f32⟩ : BufTy).Contents (Elt F) → (⟨S4096x512, .f32⟩ : BufTy).Contents (Elt F) → (⟨S4096x512, .f32⟩ : BufTy).Contents (Elt F))]
abbrev l2 : List (HloOp τ sig (Elt F)) :=
  [StableHlo.unary main_v11 main_v12 ((extractStridedSlice S4096x128 ![0, 0] · slices_S4096x512_S4096x128_0_0) : (⟨S4096x512, .f32⟩ : BufTy).Contents (Elt F) → (⟨S4096x128, .f32⟩ : BufTy).Contents (Elt F)),
    StableHlo.unary main_v11 main_v13 ((extractStridedSlice S4096x128 ![0, 128] · slices_S4096x512_S4096x128_0_128) : (⟨S4096x512, .f32⟩ : BufTy).Contents (Elt F) → (⟨S4096x128, .f32⟩ : BufTy).Contents (Elt F)),
    StableHlo.unary main_v11 main_v14 ((extractStridedSlice S4096x128 ![0, 256] · slices_S4096x512_S4096x128_0_256) : (⟨S4096x512, .f32⟩ : BufTy).Contents (Elt F) → (⟨S4096x128, .f32⟩ : BufTy).Contents (Elt F)),
    StableHlo.unary main_v11 main_v15 ((extractStridedSlice S4096x128 ![0, 384] · slices_S4096x512_S4096x128_0_384) : (⟨S4096x512, .f32⟩ : BufTy).Contents (Elt F) → (⟨S4096x128, .f32⟩ : BufTy).Contents (Elt F)),
    StableHlo.unary main_v12 main_v16 (Host.negf : (⟨S4096x128, .f32⟩ : BufTy).Contents (Elt F) → (⟨S4096x128, .f32⟩ : BufTy).Contents (Elt F)),
    StableHlo.unary main_v16 main_v17 (Host.exp : (⟨S4096x128, .f32⟩ : BufTy).Contents (Elt F) → (⟨S4096x128, .f32⟩ : BufTy).Contents (Elt F)),
    StableHlo.nullary main_cst (constant S_ .f32 0x3F800000#32),
    StableHlo.unary main_cst main_v18 (broadcastInDim S4096x128 ![] bcast_S_S4096x128 : (⟨S_, .f32⟩ : BufTy).Contents (Elt F) → (⟨S4096x128, .f32⟩ : BufTy).Contents (Elt F)),
    StableHlo.binary main_v18 main_v17 main_v19 (addf : (⟨S4096x128, .f32⟩ : BufTy).Contents (Elt F) → (⟨S4096x128, .f32⟩ : BufTy).Contents (Elt F) → (⟨S4096x128, .f32⟩ : BufTy).Contents (Elt F)),
    StableHlo.nullary main_cst_0 (constant S_ .f32 0x3F800000#32),
    StableHlo.unary main_cst_0 main_v20 (broadcastInDim S4096x128 ![] bcast_S_S4096x128 : (⟨S_, .f32⟩ : BufTy).Contents (Elt F) → (⟨S4096x128, .f32⟩ : BufTy).Contents (Elt F)),
    StableHlo.binary main_v20 main_v19 main_v21 (Host.divf : (⟨S4096x128, .f32⟩ : BufTy).Contents (Elt F) → (⟨S4096x128, .f32⟩ : BufTy).Contents (Elt F) → (⟨S4096x128, .f32⟩ : BufTy).Contents (Elt F)),
    StableHlo.unary main_v13 main_v22 (Host.negf : (⟨S4096x128, .f32⟩ : BufTy).Contents (Elt F) → (⟨S4096x128, .f32⟩ : BufTy).Contents (Elt F)),
    StableHlo.unary main_v22 main_v23 (Host.exp : (⟨S4096x128, .f32⟩ : BufTy).Contents (Elt F) → (⟨S4096x128, .f32⟩ : BufTy).Contents (Elt F)),
    StableHlo.nullary main_cst_1 (constant S_ .f32 0x3F800000#32),
    StableHlo.unary main_cst_1 main_v24 (broadcastInDim S4096x128 ![] bcast_S_S4096x128 : (⟨S_, .f32⟩ : BufTy).Contents (Elt F) → (⟨S4096x128, .f32⟩ : BufTy).Contents (Elt F)),
    StableHlo.binary main_v24 main_v23 main_v25 (addf : (⟨S4096x128, .f32⟩ : BufTy).Contents (Elt F) → (⟨S4096x128, .f32⟩ : BufTy).Contents (Elt F) → (⟨S4096x128, .f32⟩ : BufTy).Contents (Elt F)),
    StableHlo.nullary main_cst_2 (constant S_ .f32 0x3F800000#32),
    StableHlo.unary main_cst_2 main_v26 (broadcastInDim S4096x128 ![] bcast_S_S4096x128 : (⟨S_, .f32⟩ : BufTy).Contents (Elt F) → (⟨S4096x128, .f32⟩ : BufTy).Contents (Elt F)),
    StableHlo.binary main_v26 main_v25 main_v27 (Host.divf : (⟨S4096x128, .f32⟩ : BufTy).Contents (Elt F) → (⟨S4096x128, .f32⟩ : BufTy).Contents (Elt F) → (⟨S4096x128, .f32⟩ : BufTy).Contents (Elt F)),
    StableHlo.unary main_v14 main_v28 (Host.tanh : (⟨S4096x128, .f32⟩ : BufTy).Contents (Elt F) → (⟨S4096x128, .f32⟩ : BufTy).Contents (Elt F)),
    StableHlo.unary main_v15 main_v29 (Host.negf : (⟨S4096x128, .f32⟩ : BufTy).Contents (Elt F) → (⟨S4096x128, .f32⟩ : BufTy).Contents (Elt F)),
    StableHlo.unary main_v29 main_v30 (Host.exp : (⟨S4096x128, .f32⟩ : BufTy).Contents (Elt F) → (⟨S4096x128, .f32⟩ : BufTy).Contents (Elt F)),
    StableHlo.nullary main_cst_3 (constant S_ .f32 0x3F800000#32),
    StableHlo.unary main_cst_3 main_v31 (broadcastInDim S4096x128 ![] bcast_S_S4096x128 : (⟨S_, .f32⟩ : BufTy).Contents (Elt F) → (⟨S4096x128, .f32⟩ : BufTy).Contents (Elt F)),
    StableHlo.binary main_v31 main_v30 main_v32 (addf : (⟨S4096x128, .f32⟩ : BufTy).Contents (Elt F) → (⟨S4096x128, .f32⟩ : BufTy).Contents (Elt F) → (⟨S4096x128, .f32⟩ : BufTy).Contents (Elt F)),
    StableHlo.nullary main_cst_4 (constant S_ .f32 0x3F800000#32),
    StableHlo.unary main_cst_4 main_v33 (broadcastInDim S4096x128 ![] bcast_S_S4096x128 : (⟨S_, .f32⟩ : BufTy).Contents (Elt F) → (⟨S4096x128, .f32⟩ : BufTy).Contents (Elt F)),
    StableHlo.binary main_v33 main_v32 main_v34 (Host.divf : (⟨S4096x128, .f32⟩ : BufTy).Contents (Elt F) → (⟨S4096x128, .f32⟩ : BufTy).Contents (Elt F) → (⟨S4096x128, .f32⟩ : BufTy).Contents (Elt F)),
    StableHlo.binary main_v27 main_arg1 main_v35 (mulf : (⟨S4096x128, .f32⟩ : BufTy).Contents (Elt F) → (⟨S4096x128, .f32⟩ : BufTy).Contents (Elt F) → (⟨S4096x128, .f32⟩ : BufTy).Contents (Elt F)),
    StableHlo.binary main_v21 main_v28 main_v36 (mulf : (⟨S4096x128, .f32⟩ : BufTy).Contents (Elt F) → (⟨S4096x128, .f32⟩ : BufTy).Contents (Elt F) → (⟨S4096x128, .f32⟩ : BufTy).Contents (Elt F)),
    StableHlo.binary main_v35 main_v36 main_v37 (addf : (⟨S4096x128, .f32⟩ : BufTy).Contents (Elt F) → (⟨S4096x128, .f32⟩ : BufTy).Contents (Elt F) → (⟨S4096x128, .f32⟩ : BufTy).Contents (Elt F)),
    StableHlo.unary main_v37 main_v38 (Host.tanh : (⟨S4096x128, .f32⟩ : BufTy).Contents (Elt F) → (⟨S4096x128, .f32⟩ : BufTy).Contents (Elt F)),
    StableHlo.binary main_v34 main_v38 main_v39 (mulf : (⟨S4096x128, .f32⟩ : BufTy).Contents (Elt F) → (⟨S4096x128, .f32⟩ : BufTy).Contents (Elt F) → (⟨S4096x128, .f32⟩ : BufTy).Contents (Elt F))]
abbrev l3 : List (HloOp τ sig (Elt F)) :=
  [StableHlo.unary main_arg4 main_v40 ((extractStridedSlice S4096x200x1 ![0, 0, 0] · slices_S4096x200x2_S4096x200x1_0_0_0) : (⟨S4096x200x2, .i32⟩ : BufTy).Contents (Elt F) → (⟨S4096x200x1, .i32⟩ : BufTy).Contents (Elt F)),
    StableHlo.reshape main_v40 main_v41 (rfl : (.i32 : EltTy) = .i32) shapeCasts_S4096x200x1_S4096x200]
abbrev l4 : List (HloOp τ sig (Elt F)) :=
  Line.ops (fn_take_0.body (F := F) (.of main_arg5) (.of main_v41) main_call1)
abbrev l5 : List (HloOp τ sig (Elt F)) :=
  Line.ops (fn_take.body (F := F) (.of main_arg5) (.of main_arg3) main_call2)
abbrev l6 : List (HloOp τ sig (Elt F)) :=
  [StableHlo.binary main_v39 main_v43 main_v44 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg10 main_v45 ((transpose S256x256 [1, 0] · transposes_S256x256_S256x256_1_0) : (⟨S256x256, .f32⟩ : BufTy).Contents (Elt F) → (⟨S256x256, .f32⟩ : BufTy).Contents (Elt F)),
    StableHlo.binary main_v44 main_v45 main_v46 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg11 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S4096x256 ![0, 1] bcast_S1x256_S4096x256_0_1 : (⟨S1x256, .f32⟩ : BufTy).Contents (Elt F) → (⟨S4096x256, .f32⟩ : BufTy).Contents (Elt F)),
    StableHlo.binary main_v46 main_v48 main_v49 (addf : (⟨S4096x256, .f32⟩ : BufTy).Contents (Elt F) → (⟨S4096x256, .f32⟩ : BufTy).Contents (Elt F) → (⟨S4096x256, .f32⟩ : BufTy).Contents (Elt F))]
abbrev l7 : List (HloOp τ sig (Elt F)) :=
  Line.ops (fn_relu.body (F := F) (.of main_v49) main_call3)
abbrev l8 : List (HloOp τ sig (Elt F)) :=
  [StableHlo.unary main_arg12 main_v51 ((transpose S256x128 [1, 0] · transposes_S128x256_S256x128_1_0) : (⟨S128x256, .f32⟩ : BufTy).Contents (Elt F) → (⟨S256x128, .f32⟩ : BufTy).Contents (Elt F)),
    StableHlo.binary main_v50 main_v51 main_v52 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg13 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S4096x128 ![0, 1] bcast_S1x128_S4096x128_0_1 : (⟨S1x128, .f32⟩ : BufTy).Contents (Elt F) → (⟨S4096x128, .f32⟩ : BufTy).Contents (Elt F)),
    StableHlo.binary main_v52 main_v54 main_v55 (addf : (⟨S4096x128, .f32⟩ : BufTy).Contents (Elt F) → (⟨S4096x128, .f32⟩ : BufTy).Contents (Elt F) → (⟨S4096x128, .f32⟩ : BufTy).Contents (Elt F))]
abbrev l9 : List (HloOp τ sig (Elt F)) :=
  Line.ops (fn_relu_2.body (F := F) (.of main_v55) main_call4)
abbrev l10 : List (HloOp τ sig (Elt F)) :=
  [StableHlo.unary main_v56 main_v57 (broadcastInDim S4096x1x128 ![0, 2] bcast_S4096x128_S4096x1x128_0_2 : (⟨S4096x128, .f32⟩ : BufTy).Contents (Elt F) → (⟨S4096x1x128, .f32⟩ : BufTy).Contents (Elt F)),
    StableHlo.unary main_v57 main_v58 (broadcastInDim S4096x200x128 ![0, 1, 2] bcast_S4096x1x128_S4096x200x128_0_1_2 : (⟨S4096x1x128, .f32⟩ : BufTy).Contents (Elt F) → (⟨S4096x200x128, .f32⟩ : BufTy).Contents (Elt F)),
    StableHlo.binary main_v58 main_v42 main_v59 (mulf : (⟨S4096x200x128, .f32⟩ : BufTy).Contents (Elt F) → (⟨S4096x200x128, .f32⟩ : BufTy).Contents (Elt F) → (⟨S4096x200x128, .f32⟩ : BufTy).Contents (Elt F)),
    StableHlo.nullary main_cst_5 (constant S_ .f32 0x00000000#32),
    StableHlo.binary main_v59 main_cst_5 main_v60 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    StableHlo.nullary main_c (constantI S_ 32 0#32),
    StableHlo.unary main_c main_v61 (broadcastInDim S4096x200 ![] bcast_S_S4096x200 : (⟨S_, .i32⟩ : BufTy).Contents (Elt F) → (⟨S4096x200, .i32⟩ : BufTy).Contents (Elt F)),
    StableHlo.binary main_v41 main_v61 main_v62 (cmpi .eq : (⟨S4096x200, .i32⟩ : BufTy).Contents (Elt F) → (⟨S4096x200, .i32⟩ : BufTy).Contents (Elt F) → (⟨S4096x200, .i1⟩ : BufTy).Contents (Elt F))]
abbrev l11 : List (HloOp τ sig (Elt F)) :=
  [StableHlo.nullary main_cst_6 (constant S_ .f32 0xC7C34F80#32),
    StableHlo.unary main_cst_6 main_v63 (broadcastInDim S4096x200 ![] bcast_S_S4096x200 : (⟨S_, .f32⟩ : BufTy).Contents (Elt F) → (⟨S4096x200, .f32⟩ : BufTy).Contents (Elt F))]
abbrev l12 : List (HloOp τ sig (Elt F)) :=
  Line.ops (fn_where_3.body (F := F) (.of main_v62) (.of main_v63) (.of main_v60) main_call5)
abbrev l13 : List (HloOp τ sig (Elt F)) :=
  [StableHlo.nullary main_c_7 (constantI S_ 32 42#32),
    StableHlo.nullary main_c_8 (constantI S_ 32 32#32),
    StableHlo.binary main_c_7 main_c_8 main_v65 (Host.shrui : (⟨S_, .i32⟩ : BufTy).Contents (Elt F) → (⟨S_, .i32⟩ : BufTy).Contents (Elt F) → (⟨S_, .i32⟩ : BufTy).Contents (Elt F)),
    StableHlo.unary main_v65 main_v66 (id : (⟨S_, .i32⟩ : BufTy).Contents (Elt F) → (⟨S_, .i32⟩ : BufTy).Contents (Elt F)),
    StableHlo.unary main_v66 main_v67 (broadcastInDim S1 ![] bcast_S_S1 : (⟨S_, .i32⟩ : BufTy).Contents (Elt F) → (⟨S1, .i32⟩ : BufTy).Contents (Elt F)),
    StableHlo.nullary main_c_9 (constantI S_ 32 4294967295#32),
    StableHlo.binary main_c_7 main_c_9 main_v68 (andi : (⟨S_, .i32⟩ : BufTy).Contents (Elt F) → (⟨S_, .i32⟩ : BufTy).Contents (Elt F) → (⟨S_, .i32⟩ : BufTy).Contents (Elt F)),
    StableHlo.unary main_v68 main_v69 (id : (⟨S_, .i32⟩ : BufTy).Contents (Elt F) → (⟨S_, .i32⟩ : BufTy).Contents (Elt F)),
    StableHlo.unary main_v69 main_v70 (broadcastInDim S1 ![] bcast_S_S1 : (⟨S_, .i32⟩ : BufTy).Contents (Elt F) → (⟨S1, .i32⟩ : BufTy).Contents (Elt F)),
    StableHlo.binary main_v67 main_v70 main_v71 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]
abbrev l14 : List (HloOp τ sig (Elt F)) :=
  Line.ops (fn_gumbel.body (F := F) (.of main_v71) main_call6)
abbrev l15 : List (HloOp τ sig (Elt F)) :=
  [StableHlo.binary main_v72 main_v64 main_v73 (addf : (⟨S4096x200, .f32⟩ : BufTy).Contents (Elt F) → (⟨S4096x200, .f32⟩ : BufTy).Contents (Elt F) → (⟨S4096x200, .f32⟩ : BufTy).Contents (Elt F))]
abbrev l16 : List (HloOp τ sig (Elt F)) :=
  Line.ops (fn_argmax.body (F := F) (.of main_v73) main_call7)
abbrev l17 : List (HloOp τ sig (Elt F)) :=
  [StableHlo.unary main_v74 main_v75 (broadcastInDim S4096x1 ![0] bcast_S4096_S4096x1_0 : (⟨S4096, .i32⟩ : BufTy).Contents (Elt F) → (⟨S4096x1, .i32⟩ : BufTy).Contents (Elt F))]
abbrev l18 : List (HloOp τ sig (Elt F)) :=
  Line.ops (fn_take_along_axis.body (F := F) (.of main_v41) (.of main_v75) main_call8)
abbrev l19 : List (HloOp τ sig (Elt F)) :=
  [StableHlo.reshape main_v76 main_v77 (rfl : (.i32 : EltTy) = .i32) shapeCasts_S4096x1_S4096]
abbrev l20 : List (HloOp τ sig (Elt F)) :=
  Line.ops (fn_log_softmax.body (F := F) (.of main_v64) main_call9)
abbrev l21 : List (HloOp τ sig (Elt F)) :=
  Line.ops (fn_one_hot.body (F := F) (.of main_v74) main_call10)
abbrev l22 : List (HloOp τ sig (Elt F)) :=
  [StableHlo.binary main_v78 main_v79 main_v80 (mulf : (⟨S4096x200, .f32⟩ : BufTy).Contents (Elt F) → (⟨S4096x200, .f32⟩ : BufTy).Contents (Elt F) → (⟨S4096x200, .f32⟩ : BufTy).Contents (Elt F)),
    StableHlo.nullary main_cst_10 (constant S_ .f32 0x00000000#32),
    StableHlo.binary main_v80 main_cst_10 main_v81 ((fun x v => Host.reduceAdd x v reducesTo_S4096x200_S4096_d1 h_S_) : (⟨S4096x200, .f32⟩ : BufTy).Contents (Elt F) → (⟨S_, .f32⟩ : BufTy).Contents (Elt F) → (⟨S4096, .f32⟩ : BufTy).Contents (Elt F)),
    StableHlo.unary main_v81 main_v82 (Host.negf : (⟨S4096, .f32⟩ : BufTy).Contents (Elt F) → (⟨S4096, .f32⟩ : BufTy).Contents (Elt F))]
abbrev o0 : List (Ref sig .tc) := Line.outs (fn_take.body (F := Bits) (.of main_arg5) (.of main_arg2) main_call0)
abbrev o1 : List (Ref sig .tc) := [main_v1, main_v2, main_v3, main_v4, main_v5, main_v6, main_v7, main_v8, main_v9, main_v10, main_v11]
abbrev o2 : List (Ref sig .tc) := [main_v12, main_v13, main_v14, main_v15, main_v16, main_v17, main_cst, main_v18, main_v19, main_cst_0, main_v20, main_v21, main_v22, main_v23, main_cst_1, main_v24, main_v25, main_cst_2, main_v26, main_v27, main_v28, main_v29, main_v30, main_cst_3, main_v31, main_v32, main_cst_4, main_v33, main_v34, main_v35, main_v36, main_v37, main_v38, main_v39]
abbrev o3 : List (Ref sig .tc) := [main_v40, main_v41]
abbrev o4 : List (Ref sig .tc) := Line.outs (fn_take_0.body (F := Bits) (.of main_arg5) (.of main_v41) main_call1)
abbrev o5 : List (Ref sig .tc) := Line.outs (fn_take.body (F := Bits) (.of main_arg5) (.of main_arg3) main_call2)
abbrev o6 : List (Ref sig .tc) := [main_v44, main_v45, main_v46, main_v47, main_v48, main_v49]
abbrev o7 : List (Ref sig .tc) := Line.outs (fn_relu.body (F := Bits) (.of main_v49) main_call3)
abbrev o8 : List (Ref sig .tc) := [main_v51, main_v52, main_v53, main_v54, main_v55]
abbrev o9 : List (Ref sig .tc) := Line.outs (fn_relu_2.body (F := Bits) (.of main_v55) main_call4)
abbrev o10 : List (Ref sig .tc) := [main_v57, main_v58, main_v59, main_cst_5, main_v60, main_c, main_v61, main_v62]
abbrev o11 : List (Ref sig .tc) := [main_cst_6, main_v63]
abbrev o12 : List (Ref sig .tc) := Line.outs (fn_where_3.body (F := Bits) (.of main_v62) (.of main_v63) (.of main_v60) main_call5)
abbrev o13 : List (Ref sig .tc) := [main_c_7, main_c_8, main_v65, main_v66, main_v67, main_c_9, main_v68, main_v69, main_v70, main_v71]
abbrev o14 : List (Ref sig .tc) := Line.outs (fn_gumbel.body (F := Bits) (.of main_v71) main_call6)
abbrev o15 : List (Ref sig .tc) := [main_v73]
abbrev o16 : List (Ref sig .tc) := Line.outs (fn_argmax.body (F := Bits) (.of main_v73) main_call7)
abbrev o17 : List (Ref sig .tc) := [main_v75]
abbrev o18 : List (Ref sig .tc) := Line.outs (fn_take_along_axis.body (F := Bits) (.of main_v41) (.of main_v75) main_call8)
abbrev o19 : List (Ref sig .tc) := [main_v77]
abbrev o20 : List (Ref sig .tc) := Line.outs (fn_log_softmax.body (F := Bits) (.of main_v64) main_call9)
abbrev o21 : List (Ref sig .tc) := Line.outs (fn_one_hot.body (F := Bits) (.of main_v74) main_call10)
abbrev o22 : List (Ref sig .tc) := [main_v80, main_cst_10, main_v81, main_v82]

/-- Stage `n`'s operations, -/
def L : ℕ → List (HloOp τ sig (Elt F))
  | 0 => l0
  | 1 => l1
  | 2 => l2
  | 3 => l3
  | 4 => l4
  | 5 => l5
  | 6 => l6
  | 7 => l7
  | 8 => l8
  | 9 => l9
  | 10 => l10
  | 11 => l11
  | 12 => l12
  | 13 => l13
  | 14 => l14
  | 15 => l15
  | 16 => l16
  | 17 => l17
  | 18 => l18
  | 19 => l19
  | 20 => l20
  | 21 => l21
  | 22 => l22
  | _ => []
/-- and the references they write. -/
def O : ℕ → List (Ref sig .tc)
  | 0 => o0
  | 1 => o1
  | 2 => o2
  | 3 => o3
  | 4 => o4
  | 5 => o5
  | 6 => o6
  | 7 => o7
  | 8 => o8
  | 9 => o9
  | 10 => o10
  | 11 => o11
  | 12 => o12
  | 13 => o13
  | 14 => o14
  | 15 => o15
  | 16 => o16
  | 17 => o17
  | 18 => o18
  | 19 => o19
  | 20 => o20
  | 21 => o21
  | 22 => o22
  | _ => []

theorem L_writes : ∀ n, (L (F := F) n).map HloOp.writes = (O n).map fun r => {Proc.devRef (τ := τ) .tc r}
  | 0 => Line.writes (p := fn_take.body (F := F) (.of main_arg5) (.of main_arg2) main_call0)
  | 1 => rfl
  | 2 => rfl
  | 3 => rfl
  | 4 => Line.writes (p := fn_take_0.body (F := F) (.of main_arg5) (.of main_v41) main_call1)
  | 5 => Line.writes (p := fn_take.body (F := F) (.of main_arg5) (.of main_arg3) main_call2)
  | 6 => rfl
  | 7 => Line.writes (p := fn_relu.body (F := F) (.of main_v49) main_call3)
  | 8 => rfl
  | 9 => Line.writes (p := fn_relu_2.body (F := F) (.of main_v55) main_call4)
  | 10 => rfl
  | 11 => rfl
  | 12 => Line.writes (p := fn_where_3.body (F := F) (.of main_v62) (.of main_v63) (.of main_v60) main_call5)
  | 13 => rfl
  | 14 => Line.writes (p := fn_gumbel.body (F := F) (.of main_v71) main_call6)
  | 15 => rfl
  | 16 => Line.writes (p := fn_argmax.body (F := F) (.of main_v73) main_call7)
  | 17 => rfl
  | 18 => Line.writes (p := fn_take_along_axis.body (F := F) (.of main_v41) (.of main_v75) main_call8)
  | 19 => rfl
  | 20 => Line.writes (p := fn_log_softmax.body (F := F) (.of main_v64) main_call9)
  | 21 => Line.writes (p := fn_one_hot.body (F := F) (.of main_v74) main_call10)
  | 22 => rfl
  | _ + 23 => rfl

/-- The buffers after the first `n` stages. -/
def U (V0 : Valuation τ sig (Elt F)) : ℕ → Valuation τ sig (Elt F)
  | 0 => V0
  | n + 1 => StableHlo.after (L n) (U V0 n)

/-- A reference that stages `i … j − 1` do not write reads the same before and after them. -/
theorem U_keep (V0 : Valuation τ sig (Elt F)) {r : Ref sig .tc} (i j : ℕ) (hij : i ≤ j) (h : ∀ k, k < j → i ≤ k → r ∉ O k) :
    U V0 j (Proc.devRef .tc r) = U V0 i (Proc.devRef .tc r) := by
  induction j, hij using Nat.le_induction with
  | base => rfl
  | succ j hj ih =>
    exact (after_keep (L_writes j) (U V0 j) (h j (Nat.lt_succ_self j) hj)).trans (ih fun k hk hi => h k (Nat.lt_succ_of_lt hk) hi)

theorem main_ops (d : Dev nD) : (mainLine (F := F) d).ops = l0 ++ (l1 ++ (l2 ++ (l3 ++ (l4 ++ (l5 ++ (l6 ++ (l7 ++ (l8 ++ (l9 ++ (l10 ++ (l11 ++ (l12 ++ (l13 ++ (l14 ++ (l15 ++ (l16 ++ (l17 ++ (l18 ++ (l19 ++ (l20 ++ (l21 ++ (l22)))))))))))))))))))))) := rfl

/-- The whole run is the stages in turn. -/
theorem VR_eq (V0 : Valuation τ sig (Elt F)) (d : Dev nD) : VR V0 d = U V0 23 := by
  unfold VR
  rw [main_ops]
  iterate 22 rw [after_append]
  rfl

end Cert.Proof.R

end
-- ==== Proof.R.Bodies.lean ====
/-
  The operations of the reference's functions, each call's in a list: what `Line` reads off the function's body.
-/
module

public import proofs.«01_k».proof.Proof.R.Stages

@[expose] public section

set_option maxRecDepth 16384

noncomputable section

namespace Cert.Proof.R

open Cert.ReferenceIdeal Cert.ReferenceIdeal.Gen
open Idealize.ShloMosaic Idealize.SL.Sem
open TcCoe

variable {F : FTy → Type} [FloatOps F]

/-- What one call of `take` runs. -/
abbrev takeOps (arg0 : StableHlo.TRef sig ⟨S1000x128, .f32⟩) (arg1 : StableHlo.TRef sig ⟨S4096, .i32⟩) (φ : fn_take.Bufs) : List (HloOp τ sig (Elt F)) :=
  [StableHlo.TRef.nullary φ.c (constantI S_ 32 0#32),
    StableHlo.TRef.unary φ.c φ.v0 (broadcastInDim S4096 ![] bcast_S_S4096),
    StableHlo.TRef.binary arg1 φ.v0 φ.v1 (cmpi .slt),
    StableHlo.TRef.nullary φ.c_0 (constantI S_ 32 1000#32),
    StableHlo.TRef.unary φ.c_0 φ.v2 (broadcastInDim S4096 ![] bcast_S_S4096),
    StableHlo.TRef.binary arg1 φ.v2 φ.v3 addi,
    StableHlo.TRef.ternary φ.v1 φ.v3 arg1 φ.call0.v0 select,
    StableHlo.TRef.unary φ.call0.v0 φ.v5 (broadcastInDim S4096x1 ![0] bcast_S4096_S4096x1_0),
    StableHlo.TRef.nullary φ.c_1 (constantI S1 32 999#32),
    StableHlo.TRef.nullary φ.c_2 (constantI S_ 32 0#32),
    StableHlo.TRef.unary φ.c_2 φ.v6 (broadcastInDim S4096x1 ![] bcast_S_S4096x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S4096x1 ![0, 1] bcast_S1x1_S4096x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4096x1_S4096_d1 h_S_),
    StableHlo.TRef.binary arg0 φ.v5 φ.v13 (fun x i => Host.gather gather_S1000x128_S4096x1_S4096x128_1_0_n_n_0_1_1128 x i),
    StableHlo.TRef.unary φ.v12 φ.v14 (broadcastInDim S4096x128 ![0] bcast_S4096_S4096x128_0),
    StableHlo.TRef.nullary φ.cst (constant S_ .f32 0x7FC00000#32),
    StableHlo.TRef.unary φ.cst φ.v15 (broadcastInDim S4096x128 ![] bcast_S_S4096x128),
    StableHlo.TRef.ternary φ.v14 φ.v13 φ.v15 φ.v16 select]
theorem takeOps_eq (arg0 : StableHlo.TRef sig ⟨S1000x128, .f32⟩) (arg1 : StableHlo.TRef sig ⟨S4096, .i32⟩) (φ : fn_take.Bufs) : Line.ops (fn_take.body (F := F) arg0 arg1 φ) = takeOps arg0 arg1 φ := rfl

/-- What one call of `take_0` runs. -/
abbrev take3Ops (arg0 : StableHlo.TRef sig ⟨S1000x128, .f32⟩) (arg1 : StableHlo.TRef sig ⟨S4096x200, .i32⟩) (φ : fn_take_0.Bufs) : List (HloOp τ sig (Elt F)) :=
  [StableHlo.TRef.nullary φ.c (constantI S_ 32 0#32),
    StableHlo.TRef.unary φ.c φ.v0 (broadcastInDim S4096x200 ![] bcast_S_S4096x200),
    StableHlo.TRef.binary arg1 φ.v0 φ.v1 (cmpi .slt),
    StableHlo.TRef.nullary φ.c_0 (constantI S_ 32 1000#32),
    StableHlo.TRef.unary φ.c_0 φ.v2 (broadcastInDim S4096x200 ![] bcast_S_S4096x200),
    StableHlo.TRef.binary arg1 φ.v2 φ.v3 addi,
    StableHlo.TRef.ternary φ.v1 φ.v3 arg1 φ.call0.v0 select,
    StableHlo.TRef.unary φ.call0.v0 φ.v5 (broadcastInDim S4096x200x1 ![0, 1] bcast_S4096x200_S4096x200x1_0_1),
    StableHlo.TRef.nullary φ.c_1 (constantI S1 32 999#32),
    StableHlo.TRef.nullary φ.c_2 (constantI S_ 32 0#32),
    StableHlo.TRef.unary φ.c_2 φ.v6 (broadcastInDim S4096x200x1 ![] bcast_S_S4096x200x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S4096x200x1 ![0, 1, 2] bcast_S1x1x1_S4096x200x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4096x200x1_S4096x200_d2 h_S_),
    StableHlo.TRef.binary arg0 φ.v5 φ.v13 (fun x i => Host.gather gather_S1000x128_S4096x200x1_S4096x200x128_2_0_n_n_0_2_1128 x i),
    StableHlo.TRef.unary φ.v12 φ.v14 (broadcastInDim S4096x200x128 ![0, 1] bcast_S4096x200_S4096x200x128_0_1),
    StableHlo.TRef.nullary φ.cst (constant S_ .f32 0x7FC00000#32),
    StableHlo.TRef.unary φ.cst φ.v15 (broadcastInDim S4096x200x128 ![] bcast_S_S4096x200x128),
    StableHlo.TRef.ternary φ.v14 φ.v13 φ.v15 φ.v16 select]
theorem take3Ops_eq (arg0 : StableHlo.TRef sig ⟨S1000x128, .f32⟩) (arg1 : StableHlo.TRef sig ⟨S4096x200, .i32⟩) (φ : fn_take_0.Bufs) : Line.ops (fn_take_0.body (F := F) arg0 arg1 φ) = take3Ops arg0 arg1 φ := rfl

/-- What one call of `log_softmax` runs. -/
abbrev softmaxOps (arg0 : StableHlo.TRef sig ⟨S4096x200, .f32⟩) (φ : fn_log_softmax.Bufs) : List (HloOp τ sig (Elt F)) :=
  [StableHlo.TRef.nullary φ.cst (constant S_ .f32 0xFF800000#32),
    StableHlo.TRef.binary arg0 φ.cst φ.v0 (fun x v => Host.reduce FloatOps.maximumf x v reducesTo_S4096x200_S4096_d1 h_S_),
    StableHlo.TRef.nullary φ.cst_0 (constant S_ .f32 0xFF800000#32),
    StableHlo.TRef.unary φ.cst_0 φ.v1 (broadcastInDim S4096 ![] bcast_S_S4096),
    StableHlo.TRef.binary φ.v1 φ.v0 φ.v2 maximumf,
    StableHlo.TRef.unary φ.v2 φ.v3 (broadcastInDim S4096x1 ![0] bcast_S4096_S4096x1_0),
    StableHlo.TRef.unary φ.v3 φ.v4 (broadcastInDim S4096x200 ![0, 1] bcast_S4096x1_S4096x200_0_1),
    StableHlo.TRef.binary arg0 φ.v4 φ.v5 subf,
    StableHlo.TRef.unary φ.v5 φ.v6 Host.exp,
    StableHlo.TRef.nullary φ.cst_1 (constant S_ .f32 0x00000000#32),
    StableHlo.TRef.binary φ.v6 φ.cst_1 φ.v7 (fun x v => Host.reduceAdd x v reducesTo_S4096x200_S4096_d1 h_S_),
    StableHlo.TRef.unary φ.v7 φ.v8 (broadcastInDim S4096x1 ![0] bcast_S4096_S4096x1_0),
    StableHlo.TRef.unary φ.v8 φ.v9 Host.log,
    StableHlo.TRef.unary φ.v9 φ.v10 (broadcastInDim S4096x200 ![0, 1] bcast_S4096x1_S4096x200_0_1),
    StableHlo.TRef.binary φ.v5 φ.v10 φ.v11 subf]
theorem softmaxOps_eq (arg0 : StableHlo.TRef sig ⟨S4096x200, .f32⟩) (φ : fn_log_softmax.Bufs) : Line.ops (fn_log_softmax.body (F := F) arg0 φ) = softmaxOps arg0 φ := rfl

/-- What one call of `relu` runs. -/
abbrev reluOps (arg0 : StableHlo.TRef sig ⟨S4096x256, .f32⟩) (φ : fn_relu.Bufs) : List (HloOp τ sig (Elt F)) :=
  [StableHlo.TRef.nullary φ.cst (constant S_ .f32 0x00000000#32),
    StableHlo.TRef.unary φ.cst φ.v0 (broadcastInDim S4096x256 ![] bcast_S_S4096x256),
    StableHlo.TRef.binary arg0 φ.v0 φ.v1 maximumf]
theorem reluOps_eq (arg0 : StableHlo.TRef sig ⟨S4096x256, .f32⟩) (φ : fn_relu.Bufs) : Line.ops (fn_relu.body (F := F) arg0 φ) = reluOps arg0 φ := rfl

/-- What one call of `relu_2` runs. -/
abbrev relu2Ops (arg0 : StableHlo.TRef sig ⟨S4096x128, .f32⟩) (φ : fn_relu_2.Bufs) : List (HloOp τ sig (Elt F)) :=
  [StableHlo.TRef.nullary φ.cst (constant S_ .f32 0x00000000#32),
    StableHlo.TRef.unary φ.cst φ.v0 (broadcastInDim S4096x128 ![] bcast_S_S4096x128),
    StableHlo.TRef.binary arg0 φ.v0 φ.v1 maximumf]
theorem relu2Ops_eq (arg0 : StableHlo.TRef sig ⟨S4096x128, .f32⟩) (φ : fn_relu_2.Bufs) : Line.ops (fn_relu_2.body (F := F) arg0 φ) = relu2Ops arg0 φ := rfl

/-- What one call of `where_3` runs. -/
abbrev where3Ops (arg0 : StableHlo.TRef sig ⟨S4096x200, .i1⟩) (arg1 : StableHlo.TRef sig ⟨S4096x200, .f32⟩) (arg2 : StableHlo.TRef sig ⟨S4096x200, .f32⟩) (φ : fn_where_3.Bufs) : List (HloOp τ sig (Elt F)) :=
  [StableHlo.TRef.ternary arg0 arg1 arg2 φ.v0 select]
theorem where3Ops_eq (arg0 : StableHlo.TRef sig ⟨S4096x200, .i1⟩) (arg1 : StableHlo.TRef sig ⟨S4096x200, .f32⟩) (arg2 : StableHlo.TRef sig ⟨S4096x200, .f32⟩) (φ : fn_where_3.Bufs) : Line.ops (fn_where_3.body (F := F) arg0 arg1 arg2 φ) = where3Ops arg0 arg1 arg2 φ := rfl

/-- What one call of `argmax` runs. -/
abbrev argmaxOps (arg0 : StableHlo.TRef sig ⟨S4096x200, .f32⟩) (φ : fn_argmax.Bufs) : List (HloOp τ sig (Elt F)) :=
  [StableHlo.TRef.nullary φ.v0 (iotaInDim S4096x200 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S4096x200_S4096_d1 h_S_ j).1),
    StableHlo.TRef.quaternary arg0 φ.v0 φ.cst φ.c φ.v1_1 (fun x y u v j => (Host.argReduce reducer_argmax_f32_i32 x y u v reducesTo_S4096x200_S4096_d1 h_S_ j).2)]
theorem argmaxOps_eq (arg0 : StableHlo.TRef sig ⟨S4096x200, .f32⟩) (φ : fn_argmax.Bufs) : Line.ops (fn_argmax.body (F := F) arg0 φ) = argmaxOps arg0 φ := rfl

/-- What one call of `take_along_axis` runs. -/
abbrev alongOps (arg0 : StableHlo.TRef sig ⟨S4096x200, .i32⟩) (arg1 : StableHlo.TRef sig ⟨S4096x1, .i32⟩) (φ : fn_take_along_axis.Bufs) : List (HloOp τ sig (Elt F)) :=
  [StableHlo.TRef.nullary φ.c (constantI S_ 32 0#32),
    StableHlo.TRef.unary φ.c φ.v0 (broadcastInDim S4096x1 ![] bcast_S_S4096x1),
    StableHlo.TRef.binary arg1 φ.v0 φ.v1 (cmpi .slt),
    StableHlo.TRef.nullary φ.c_0 (constantI S_ 32 200#32),
    StableHlo.TRef.unary φ.c_0 φ.v2 (broadcastInDim S4096x1 ![] bcast_S_S4096x1),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S4096x1_S4096x1x1,
    StableHlo.TRef.nullary φ.c_1 (constantI S1 32 199#32),
    StableHlo.TRef.nullary φ.c_2 (constantI S_ 32 0#32),
    StableHlo.TRef.unary φ.c_2 φ.v6 (broadcastInDim S4096x1x1 ![] bcast_S_S4096x1x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S4096x1x1 ![0, 1, 2] bcast_S1x1x1_S4096x1x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4096x1x1_S4096x1_d2 h_S_),
    StableHlo.TRef.binary arg0 φ.v5 φ.v13 (fun x i => Host.gather gather_S4096x200_S4096x1x1_S4096x1_n_1_0_0_1_2_11 x i),
    StableHlo.TRef.nullary φ.c_4 (constantI S_ 32 2147483648#32),
    StableHlo.TRef.unary φ.c_4 φ.v14 (broadcastInDim S4096x1 ![] bcast_S_S4096x1),
    StableHlo.TRef.ternary φ.v12 φ.v13 φ.v14 φ.v15 select]
theorem alongOps_eq (arg0 : StableHlo.TRef sig ⟨S4096x200, .i32⟩) (arg1 : StableHlo.TRef sig ⟨S4096x1, .i32⟩) (φ : fn_take_along_axis.Bufs) : Line.ops (fn_take_along_axis.body (F := F) arg0 arg1 φ) = alongOps arg0 arg1 φ := rfl

/-- What one call of `one_hot` runs. -/
abbrev oneHotOps (arg0 : StableHlo.TRef sig ⟨S4096, .i32⟩) (φ : fn_one_hot.Bufs) : List (HloOp τ sig (Elt F)) :=
  [StableHlo.TRef.unary arg0 φ.v0 (broadcastInDim S4096x1 ![0] bcast_S4096_S4096x1_0),
    StableHlo.TRef.nullary φ.v1 (iotaInDim S1x200 32 1),
    StableHlo.TRef.unary φ.v0 φ.v2 (broadcastInDim S4096x200 ![0, 1] bcast_S4096x1_S4096x200_0_1),
    StableHlo.TRef.unary φ.v1 φ.v3 (broadcastInDim S4096x200 ![0, 1] bcast_S1x200_S4096x200_0_1),
    StableHlo.TRef.binary φ.v2 φ.v3 φ.v4 (cmpi .eq),
    StableHlo.TRef.unary φ.v4 φ.v5 (uitofp .f32)]
theorem oneHotOps_eq (arg0 : StableHlo.TRef sig ⟨S4096, .i32⟩) (φ : fn_one_hot.Bufs) : Line.ops (fn_one_hot.body (F := F) arg0 φ) = oneHotOps arg0 φ := rfl

end Cert.Proof.R

end
-- ==== Proof.R.Take.lean ====
/-
  The reference's `take`: the rows of the table that an array of words names.

  `taken` and `taken3` are the two functions as the program computes them (an index below zero counted from the end, an
  index outside the table giving not-a-number); `U_v0`, `U_v42`, `U_v43` say that the three calls leave them.
-/
module

public import proofs.«01_k».proof.Proof.R.Bodies
public import proofs.«01_k».proof.Proof.Inputs
public import Idealize.ShloMosaic.Lib.ReduceAll
public import Idealize.ShloMosaic.Lib.Pointwise

@[expose] public section

set_option maxRecDepth 16384

noncomputable section

namespace Cert.Proof.R

open Cert.ReferenceIdeal Cert.ReferenceIdeal.Gen
open Idealize.ShloMosaic Idealize.SL.Sem
open TcCoe Spec

section Defs

variable {F : FTy → Type} [FloatOps F]

/-- Each word as a row number, one column. -/
def startOf (ids : IVec S4096 32) : IVec S4096x1 32 :=
  broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 1000#32))) ids)
/-- Whether it is in the table. -/
def inside (s : IVec S4096x1 32) : IVec S4096 1 :=
  Host.reduce IntOp.andi
    (andi (cmpi .sge s (broadcastInDim S4096x1 ![] bcast_S_S4096x1 (constantI S_ 32 0#32)))
      (cmpi .sle s (broadcastInDim S4096x1 ![0, 1] bcast_S1x1_S4096x1_0_1 (broadcastInDim S1x1 ![1] bcast_S1_S1x1_1 (constantI S1 32 999#32)))))
    (constantI S_ 1 1#1) reducesTo_S4096x1_S4096_d1 h_S_
/-- The rows that 4096 words name. -/
def taken (T : FVec F S1000x128 .f32) (ids : IVec S4096 32) : FVec F S4096x128 .f32 :=
  select (broadcastInDim S4096x128 ![0] bcast_S4096_S4096x128_0 (inside (startOf ids)))
    (Host.gather gather_S1000x128_S4096x1_S4096x128_1_0_n_n_0_1_1128 T (startOf ids))
    (broadcastInDim S4096x128 ![] bcast_S_S4096x128 (constant S_ .f32 0x7FC00000#32))

def startOf3 (ids : IVec S4096x200 32) : IVec S4096x200x1 32 :=
  broadcastInDim S4096x200x1 ![0, 1] bcast_S4096x200_S4096x200x1_0_1
    (select (cmpi .slt ids (broadcastInDim S4096x200 ![] bcast_S_S4096x200 (constantI S_ 32 0#32)))
      (addi ids (broadcastInDim S4096x200 ![] bcast_S_S4096x200 (constantI S_ 32 1000#32))) ids)
def inside3 (s : IVec S4096x200x1 32) : IVec S4096x200 1 :=
  Host.reduce IntOp.andi
    (andi (cmpi .sge s (broadcastInDim S4096x200x1 ![] bcast_S_S4096x200x1 (constantI S_ 32 0#32)))
      (cmpi .sle s (broadcastInDim S4096x200x1 ![0, 1, 2] bcast_S1x1x1_S4096x200x1_0_1_2 (broadcastInDim S1x1x1 ![2] bcast_S1_S1x1x1_2 (constantI S1 32 999#32)))))
    (constantI S_ 1 1#1) reducesTo_S4096x200x1_S4096x200_d2 h_S_
/-- The rows that 4096 · 200 words name. -/
def taken3 (T : FVec F S1000x128 .f32) (ids : IVec S4096x200 32) : FVec F S4096x200x128 .f32 :=
  select (broadcastInDim S4096x200x128 ![0, 1] bcast_S4096x200_S4096x200x128_0_1 (inside3 (startOf3 ids)))
    (Host.gather gather_S1000x128_S4096x200x1_S4096x200x128_2_0_n_n_0_2_1128 T (startOf3 ids))
    (broadcastInDim S4096x200x128 ![] bcast_S_S4096x200x128 (constant S_ .f32 0x7FC00000#32))

variable (V0 : Valuation τ sig (Elt F))

theorem U_v0 : U V0 1 (Proc.devRef .tc main_v0) = taken (U V0 0 (Proc.devRef .tc main_arg5)) (U V0 0 (Proc.devRef .tc main_arg2)) := by
  show StableHlo.after l0 (U V0 0) _ = _
  generalize U V0 0 = V
  rw [show (l0 : List (HloOp τ sig (Elt F))) = _ from takeOps_eq _ _ _]
  after_results
  rfl

theorem U_v42 : U V0 5 (Proc.devRef .tc main_v42) = taken3 (U V0 4 (Proc.devRef .tc main_arg5)) (U V0 4 (Proc.devRef .tc main_v41)) := by
  show StableHlo.after l4 (U V0 4) _ = _
  generalize U V0 4 = V
  rw [show (l4 : List (HloOp τ sig (Elt F))) = _ from take3Ops_eq _ _ _]
  after_results
  simp only [StableHlo.TRef.toBuf, StableHlo.TRef.ofBuf, cast_eq]
  unfold taken3 inside3 startOf3
  rfl

theorem U_v43 : U V0 6 (Proc.devRef .tc main_v43) = taken (U V0 5 (Proc.devRef .tc main_arg5)) (U V0 5 (Proc.devRef .tc main_arg3)) := by
  show StableHlo.after l5 (U V0 5) _ = _
  generalize U V0 5 = V
  rw [show (l5 : List (HloOp τ sig (Elt F))) = _ from takeOps_eq _ _ _]
  after_results
  rfl

end Defs

end Cert.Proof.R

end
-- ==== Proof.R.Rows.lean ====
/-
  Where every word names a row of the table, the reference's `take` gives the rows named.
-/
module

public import proofs.«01_k».proof.Proof.R.Take

@[expose] public section

set_option maxRecDepth 16384

noncomputable section

namespace Cert.Proof.R

open Cert.ReferenceIdeal Cert.ReferenceIdeal.Gen
open Idealize.ShloMosaic Idealize.SL.Sem
open TcCoe Spec

/-! ### A word below 1000 -/

section Word

variable (w : BitVec 32) (h : w.toNat < 1000)
include h

theorem toInt_lt : w.toInt = w.toNat := BitVec.toInt_eq_toNat_of_lt (by omega)
theorem slt_zero : IntOp.cmpi CmpIPredicate.slt w 0#32 = 0#1 := by
  have : BitVec.slt w 0#32 = false := by simp [BitVec.slt, toInt_lt w h]
  simp [IntOp.cmpi, this]
theorem sge_zero : IntOp.cmpi CmpIPredicate.sge w 0#32 = 1#1 := by
  have : BitVec.sle 0#32 w = true := by simp [BitVec.sle, toInt_lt w h]
  simp [IntOp.cmpi, this]
theorem sle_last : IntOp.cmpi CmpIPredicate.sle w 999#32 = 1#1 := by
  have : BitVec.sle w 999#32 = true := by simp [BitVec.sle, toInt_lt w h]; omega
  simp [IntOp.cmpi, this]

end Word

/-- A gather of whole rows reads the row its word names, the last one at most. -/
theorem gather_apply {α : Type} (T : S1000x128.Idx → α) (s : IVec S4096x1 32) (b : Fin 4096) (k : Fin 128) :
    Host.gather gather_S1000x128_S4096x1_S4096x128_1_0_n_n_0_1_1128 T s (ix2 b k) = T (ix2 ⟨min (s (ix2 b 0)).toInt.toNat 999, by omega⟩ k) := by
  refine congrArg T (funext fun a => Fin.ext ?_)
  match a with
  | ⟨0, _⟩ =>
    have e : gather_S1000x128_S4096x1_S4096x128_1_0_n_n_0_1_1128.siIdx (ix2 b k) ⟨0, by decide⟩ = ix2 b 0 := by
      funext a; match a with
      | ⟨0, _⟩ => rfl
      | ⟨1, _⟩ => rfl
    exact congrArg (fun q => min (s q).toInt.toNat 999) e
  | ⟨1, _⟩ => exact Nat.zero_add k.val

theorem gather3_apply {α : Type} (T : S1000x128.Idx → α) (s : IVec S4096x200x1 32) (b : Fin 4096) (j : Fin 200) (k : Fin 128) :
    Host.gather gather_S1000x128_S4096x200x1_S4096x200x128_2_0_n_n_0_2_1128 T s (ix3 b j k) = T (ix2 ⟨min (s (ix3 b j 0)).toInt.toNat 999, by omega⟩ k) := by
  refine congrArg T (funext fun a => Fin.ext ?_)
  match a with
  | ⟨0, _⟩ =>
    have e : gather_S1000x128_S4096x200x1_S4096x200x128_2_0_n_n_0_2_1128.siIdx (ix3 b j k) ⟨0, by decide⟩ = ix3 b j 0 := by
      funext a; match a with
      | ⟨0, _⟩ => rfl
      | ⟨1, _⟩ => rfl
      | ⟨2, _⟩ => rfl
    exact congrArg (fun q => min (s q).toInt.toNat 999) e
  | ⟨1, _⟩ => exact Nat.zero_add k.val

theorem start_apply (ids : IVec S4096 32) (b : Fin 4096) (h : (ids (ix1 b)).toNat < 1000) : startOf ids (ix2 b 0) = ids (ix1 b) := by
  pointwise [startOf]
  rw [slt_zero _ h]
  rfl
theorem start3_apply (ids : IVec S4096x200 32) (b : Fin 4096) (j : Fin 200) (h : (ids (ix2 b j)).toNat < 1000) : startOf3 ids (ix3 b j 0) = ids (ix2 b j) := by
  pointwise [startOf3]
  rw [slt_zero _ h]
  rfl

theorem inside_apply (s : IVec S4096x1 32) (h : ∀ i, (s i).toNat < 1000) (b : Fin 4096) : inside s (ix1 b) = 1#1 := by
  refine Host.reduce_andi_one _ _ _ _ _ rfl fun i => ?_
  show IntOp.andi (IntOp.cmpi .sge (s i) 0#32) (IntOp.cmpi .sle (s i) 999#32) = 1#1
  rw [sge_zero _ (h i), sle_last _ (h i)]; rfl
theorem inside3_apply (s : IVec S4096x200x1 32) (h : ∀ i, (s i).toNat < 1000) (b : Fin 4096) (j : Fin 200) : inside3 s (ix2 b j) = 1#1 := by
  refine Host.reduce_andi_one _ _ _ _ _ rfl fun i => ?_
  show IntOp.andi (IntOp.cmpi .sge (s i) 0#32) (IntOp.cmpi .sle (s i) 999#32) = 1#1
  rw [sge_zero _ (h i), sle_last _ (h i)]; rfl

/-- Where every word names a row, the rows taken are those it names. -/
theorem taken_apply (T : FVec Ideal S1000x128 .f32) (ids : IVec S4096 32) (h : ∀ i, (ids i).toNat < 1000) (b : Fin 4096) (k : Fin 128) :
    taken T ids (ix2 b k) = row T (ids (ix1 b)) k := by
  have hs : ∀ i, (startOf ids i).toNat < 1000 := fun i => by
    obtain ⟨a, z, rfl⟩ : ∃ (a : Fin 4096) (z : Fin 1), i = ix2 a z := ⟨i 0, i 1, ValueIdx.eq_ix2 i⟩
    rw [show z = 0 from Subsingleton.elim _ _, start_apply ids a (h _)]; exact h _
  pointwise [taken]
  rw [inside_apply _ hs, gather_apply, row_of_lt T _ (h _)]
  refine (if_pos rfl).trans ?_
  refine congrArg (fun q => T (ix2 q k)) (Fin.ext ?_)
  show min (startOf ids (ix2 b 0)).toInt.toNat 999 = (ids (ix1 b)).toNat
  rw [start_apply ids b (h _)]
  have := h (ix1 b)
  rw [toInt_lt _ this, Int.toNat_natCast]
  omega

theorem taken3_apply (T : FVec Ideal S1000x128 .f32) (ids : IVec S4096x200 32) (h : ∀ i, (ids i).toNat < 1000) (b : Fin 4096) (j : Fin 200)
    (k : Fin 128) : taken3 T ids (ix3 b j k) = row T (ids (ix2 b j)) k := by
  have hs : ∀ i, (startOf3 ids i).toNat < 1000 := fun i => by
    obtain ⟨a, c, z, rfl⟩ : ∃ (a : Fin 4096) (c : Fin 200) (z : Fin 1), i = ix3 a c z := ⟨i 0, i 1, i 2, ValueIdx.eq_ix3 i⟩
    rw [show z = 0 from Subsingleton.elim _ _, start3_apply ids a c (h _)]; exact h _
  pointwise [taken3]
  rw [inside3_apply _ hs, gather3_apply, row_of_lt T _ (h _)]
  refine (if_pos rfl).trans ?_
  refine congrArg (fun q => T (ix2 q k)) (Fin.ext ?_)
  show min (startOf3 ids (ix3 b j 0)).toInt.toNat 999 = (ids (ix2 b j)).toNat
  rw [start3_apply ids b j (h _)]
  have := h (ix2 b j)
  rw [toInt_lt _ this, Int.toNat_natCast]
  omega

end Cert.Proof.R

end
-- ==== Proof.R.Vals.lean ====
/-
  The reference's stages over the extended reals, entry by entry.
-/
module

public import proofs.«01_k».proof.Proof.R.Rows

@[expose] public section

set_option maxRecDepth 16384

noncomputable section

namespace Cert.Proof.R

open Cert.ReferenceIdeal Cert.ReferenceIdeal.Gen
open Idealize.ShloMosaic Idealize.SL.Sem
open TcCoe Spec

local notation "I" => Idealize.ShloMosaic.Ideal

/-- A number, or 0 if it is below 0. -/
abbrev relu (x : EReal) : EReal := max x 0

/-- The sum of the products of two rows of numbers. -/
abbrev dot {n : ℕ} (x y : Fin n → EReal) : EReal := ∑ k, x k * y k

/-- −∞ is the least. -/
theorem bot_max (x : EReal) : max (Ideal.ofBits FTy.f32 4286578688#32) x = x := by
  have hb : Ideal.ofBits FTy.f32 4286578688#32 = (⊥ : EReal) := by simp [Ideal.ofBits, Ideal.ieee]
  rw [hb]; exact bot_sup_eq x

variable (V : Valuation τ sig (Elt I))

/-- Stage 1: the cell's 512 sums. -/
theorem l1_apply (b : Fin 4096) (q : Fin 512) :
    (StableHlo.after l1 V (Proc.devRef .tc main_v11) : FVec I S4096x512 .f32) (ix2 b q)
      = (dot (fun k => (V (Proc.devRef .tc main_v0) : FVec I S4096x128 .f32) (ix2 b k)) fun k => (V (Proc.devRef .tc main_arg6) : FVec I S512x128 .f32) (ix2 q k))
        + (V (Proc.devRef .tc main_arg8) : FVec I S512 .f32) (ix1 q)
        + (dot (fun k => (V (Proc.devRef .tc main_arg0) : FVec I S4096x128 .f32) (ix2 b k)) fun k => (V (Proc.devRef .tc main_arg7) : FVec I S512x128 .f32) (ix2 q k))
        + (V (Proc.devRef .tc main_arg9) : FVec I S512 .f32) (ix1 q) := by
  after_results
  pointwise []

/-- Stage 2: the new cell state, -/
theorem l2_cell (b : Fin 4096) (j : Fin 128) :
    (StableHlo.after l2 V (Proc.devRef .tc main_v37) : FVec I S4096x128 .f32) (ix2 b j)
      = Ideal.logistic ((V (Proc.devRef .tc main_v11) : FVec I S4096x512 .f32) (ix2 b ⟨128 + j.val, by omega⟩)) * (V (Proc.devRef .tc main_arg1) : FVec I S4096x128 .f32) (ix2 b j)
        + Ideal.logistic ((V (Proc.devRef .tc main_v11) : FVec I S4096x512 .f32) (ix2 b ⟨j.val, by omega⟩))
          * Ideal.tanh ((V (Proc.devRef .tc main_v11) : FVec I S4096x512 .f32) (ix2 b ⟨256 + j.val, by omega⟩)) := by
  after_results
  pointwise []
  rfl

/-- and the new hidden state. -/
theorem l2_hidden (b : Fin 4096) (j : Fin 128) :
    (StableHlo.after l2 V (Proc.devRef .tc main_v39) : FVec I S4096x128 .f32) (ix2 b j)
      = Ideal.logistic ((V (Proc.devRef .tc main_v11) : FVec I S4096x512 .f32) (ix2 b ⟨384 + j.val, by omega⟩))
        * Ideal.tanh ((StableHlo.after l2 V (Proc.devRef .tc main_v37) : FVec I S4096x128 .f32) (ix2 b j)) := by
  after_results
  pointwise []
  rfl

/-- Stage 6: the first layer's sums. -/
theorem l6_apply (b : Fin 4096) (p : Fin 256) :
    (StableHlo.after l6 V (Proc.devRef .tc main_v49) : FVec I S4096x256 .f32) (ix2 b p)
      = (dot (fun k => (V (Proc.devRef .tc main_v39) : FVec I S4096x128 .f32) (ix2 b k)) fun k => (V (Proc.devRef .tc main_arg10) : FVec I S256x256 .f32) (ix2 p ⟨k.val, by omega⟩))
        + (dot (fun k => (V (Proc.devRef .tc main_v43) : FVec I S4096x128 .f32) (ix2 b k)) fun k => (V (Proc.devRef .tc main_arg10) : FVec I S256x256 .f32) (ix2 p ⟨128 + k.val, by omega⟩))
        + (V (Proc.devRef .tc main_arg11) : FVec I S256 .f32) (ix1 p) := by
  after_results
  pointwise []

theorem l8_apply (b : Fin 4096) (k : Fin 128) :
    (StableHlo.after l8 V (Proc.devRef .tc main_v55) : FVec I S4096x128 .f32) (ix2 b k)
      = (dot (fun p => (V (Proc.devRef .tc main_v50) : FVec I S4096x256 .f32) (ix2 b p)) fun p => (V (Proc.devRef .tc main_arg12) : FVec I S128x256 .f32) (ix2 k p))
        + (V (Proc.devRef .tc main_arg13) : FVec I S128 .f32) (ix1 k) := by
  after_results
  pointwise []

theorem l10_score (b : Fin 4096) (j : Fin 200) :
    (StableHlo.after l10 V (Proc.devRef .tc main_v60) : FVec I S4096x200 .f32) (ix2 b j)
      = dot (fun k => (V (Proc.devRef .tc main_v56) : FVec I S4096x128 .f32) (ix2 b k)) fun k => (V (Proc.devRef .tc main_v42) : FVec I S4096x200x128 .f32) (ix3 b j k) := by
  after_results
  pointwise []

theorem l10_zero (b : Fin 4096) (j : Fin 200) :
    (StableHlo.after l10 V (Proc.devRef .tc main_v62) : IVec S4096x200 1) (ix2 b j)
      = IntOp.cmpi .eq ((V (Proc.devRef .tc main_v41) : IVec S4096x200 32) (ix2 b j)) 0#32 := by
  after_results
  pointwise []

theorem l3_apply (b : Fin 4096) (j : Fin 200) :
    (StableHlo.after l3 V (Proc.devRef .tc main_v41) : IVec S4096x200 32) (ix2 b j) = (V (Proc.devRef .tc main_arg4) : IVec S4096x200x2 32) (ix3 b j 0) := by
  after_results
  pointwise []

theorem l7_apply (b : Fin 4096) (p : Fin 256) :
    (StableHlo.after l7 V (Proc.devRef .tc main_v50) : FVec I S4096x256 .f32) (ix2 b p) = relu ((V (Proc.devRef .tc main_v49) : FVec I S4096x256 .f32) (ix2 b p)) := by
  rw [show (l7 : List (HloOp τ sig (Elt I))) = _ from reluOps_eq _ _]
  after_results
  simp only [StableHlo.TRef.toBuf, StableHlo.TRef.ofBuf, cast_eq]
  pointwise []

theorem l9_apply (b : Fin 4096) (p : Fin 128) :
    (StableHlo.after l9 V (Proc.devRef .tc main_v56) : FVec I S4096x128 .f32) (ix2 b p) = relu ((V (Proc.devRef .tc main_v55) : FVec I S4096x128 .f32) (ix2 b p)) := by
  rw [show (l9 : List (HloOp τ sig (Elt I))) = _ from relu2Ops_eq _ _]
  after_results
  simp only [StableHlo.TRef.toBuf, StableHlo.TRef.ofBuf, cast_eq]
  pointwise []

theorem l11_apply (b : Fin 4096) (j : Fin 200) : (StableHlo.after l11 V (Proc.devRef .tc main_v63) : FVec I S4096x200 .f32) (ix2 b j) = absent := by
  after_results
  pointwise []
  rfl

theorem l12_apply (b : Fin 4096) (j : Fin 200) :
    (StableHlo.after l12 V (Proc.devRef .tc main_v64) : FVec I S4096x200 .f32) (ix2 b j)
      = Scalar.select ((V (Proc.devRef .tc main_v62) : IVec S4096x200 1) (ix2 b j)) ((V (Proc.devRef .tc main_v63) : FVec I S4096x200 .f32) (ix2 b j))
          ((V (Proc.devRef .tc main_v60) : FVec I S4096x200 .f32) (ix2 b j)) := by
  rw [show (l12 : List (HloOp τ sig (Elt I))) = _ from where3Ops_eq _ _ _ _]
  after_results
  simp only [StableHlo.TRef.toBuf, StableHlo.TRef.ofBuf, cast_eq]
  pointwise []

/-- Stage 20: the log-softmax. -/
theorem l20_apply (b : Fin 4096) (j : Fin 200) :
    (StableHlo.after l20 V (Proc.devRef .tc main_v78) : FVec I S4096x200 .f32) (ix2 b j)
      = logit (fun i => (V (Proc.devRef .tc main_v64) : FVec I S4096x200 .f32) (ix2 b i)) j := by
  rw [show (l20 : List (HloOp τ sig (Elt I))) = _ from softmaxOps_eq _ _]
  after_results
  simp only [StableHlo.TRef.toBuf, StableHlo.TRef.ofBuf, cast_eq]
  pointwise []
  rw [fold_max, bot_max]
  rfl

end Cert.Proof.R

end
-- ==== Proof.R.Out.lean ====
/-
  The reference's results over the extended reals: the new cell state, the new hidden state, the masked scores and their
  log-softmax, as functions of the arguments, where every word names a row of the table.
-/
module

public import proofs.«01_k».proof.Proof.R.Vals

@[expose] public section

set_option maxRecDepth 16384

noncomputable section

namespace Cert.Proof.R

open Cert.ReferenceIdeal Cert.ReferenceIdeal.Gen
open Idealize.ShloMosaic Idealize.SL.Sem
open TcCoe Spec

local notation "I" => Idealize.ShloMosaic.Ideal

variable (V0 : Valuation τ sig (Elt I))

/-- What the arguments hold. -/
def ins : Inputs :=
  Inputs.of (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13))

/-- An argument keeps its contents. -/
theorem U_arg : ∀ n ≤ 23, ∀ r ∈ [main_arg0, main_arg1, main_arg2, main_arg3, main_arg4, main_arg5, main_arg6, main_arg7, main_arg8, main_arg9, main_arg10, main_arg11, main_arg12, main_arg13],
    U V0 n (Proc.devRef .tc r) = V0 (Proc.devRef .tc r) := by
  intro n hn r hr
  have h : ∀ k < 23, ∀ r ∈ [main_arg0, main_arg1, main_arg2, main_arg3, main_arg4, main_arg5, main_arg6, main_arg7, main_arg8, main_arg9, main_arg10, main_arg11, main_arg12, main_arg13], r ∉ O k := by
    decide +kernel
  exact U_keep V0 0 n (Nat.zero_le _) fun k hk _ => h k (by omega) r hr

variable (h2 : ∀ i : S4096.Idx, ((V0 (Proc.devRef .tc main_arg2) : IVec S4096 32) i).toNat < 1000)
  (h3 : ∀ i : S4096.Idx, ((V0 (Proc.devRef .tc main_arg3) : IVec S4096 32) i).toNat < 1000)
  (h4 : ∀ i : S4096x200x2.Idx, ((V0 (Proc.devRef .tc main_arg4) : IVec S4096x200x2 32) i).toNat < 1000)

section Cell

include h2

theorem v0_apply (b : Fin 4096) (k : Fin 128) :
    (U V0 1 (Proc.devRef .tc main_v0) : FVec I S4096x128 .f32) (ix2 b k) = row (ins V0).table ((ins V0).rel b) k := by
  rw [U_v0]; exact taken_apply _ _ h2 b k

/-- The cell's sums. -/
theorem v11_apply (b : Fin 4096) (q : Fin 512) :
    (U V0 2 (Proc.devRef .tc main_v11) : FVec I S4096x512 .f32) (ix2 b q)
      = (ins V0).net.gate (row (ins V0).table ((ins V0).rel b)) ((ins V0).h b) q := by
  refine (l1_apply (U V0 1) b q).trans ?_
  rw [U_arg V0 1 (by decide) main_arg0 (by decide), U_arg V0 1 (by decide) main_arg6 (by decide), U_arg V0 1 (by decide) main_arg7 (by decide),
    U_arg V0 1 (by decide) main_arg8 (by decide), U_arg V0 1 (by decide) main_arg9 (by decide)]
  simp only [v0_apply V0 h2]
  rfl

theorem v37_apply (b : Fin 4096) (j : Fin 128) :
    (U V0 3 (Proc.devRef .tc main_v37) : FVec I S4096x128 .f32) (ix2 b j) = (ins V0).cell b j := by
  refine (l2_cell (U V0 2) b j).trans ?_
  rw [U_arg V0 2 (by decide) main_arg1 (by decide), v11_apply V0 h2, v11_apply V0 h2, v11_apply V0 h2]
  rfl

theorem v39_apply (b : Fin 4096) (j : Fin 128) :
    (U V0 3 (Proc.devRef .tc main_v39) : FVec I S4096x128 .f32) (ix2 b j) = (ins V0).hidden b j := by
  refine (l2_hidden (U V0 2) b j).trans ?_
  rw [v11_apply V0 h2, show (StableHlo.after l2 (U V0 2) (Proc.devRef .tc main_v37) : FVec I S4096x128 .f32) (ix2 b j) = _ from v37_apply V0 h2 b j]
  rfl

/-- The new cell state. -/
theorem out_cell (d : Dev nD) : VR V0 d (Proc.devRef .tc main_v37) = fun y : S4096x128.Idx => (ins V0).cell (y 0) (y 1) := by
  rw [VR_eq, U_keep V0 3 23 (by decide) (by decide +kernel)]
  have key : ∀ b j, (U V0 3 (Proc.devRef .tc main_v37) : FVec I S4096x128 .f32) (ix2 b j) = (ins V0).cell b j := v37_apply V0 h2
  funext y
  rw [ValueIdx.eq_ix2 y]
  exact key (y 0) (y 1)

/-- The new hidden state. -/
theorem out_hidden (d : Dev nD) : VR V0 d (Proc.devRef .tc main_v39) = fun y : S4096x128.Idx => (ins V0).hidden (y 0) (y 1) := by
  rw [VR_eq, U_keep V0 3 23 (by decide) (by decide +kernel)]
  have key : ∀ b j, (U V0 3 (Proc.devRef .tc main_v39) : FVec I S4096x128 .f32) (ix2 b j) = (ins V0).hidden b j := v39_apply V0 h2
  funext y
  rw [ValueIdx.eq_ix2 y]
  exact key (y 0) (y 1)

end Cell

theorem v41_apply (b : Fin 4096) (j : Fin 200) :
    (U V0 4 (Proc.devRef .tc main_v41) : IVec S4096x200 32) (ix2 b j) = (ins V0).act b j := by
  refine (l3_apply (U V0 3) b j).trans ?_
  rw [U_arg V0 3 (by decide) main_arg4 (by decide)]
  rfl

section Rows

include h4

theorem v42_apply (b : Fin 4096) (j : Fin 200) (k : Fin 128) :
    (U V0 5 (Proc.devRef .tc main_v42) : FVec I S4096x200x128 .f32) (ix3 b j k) = row (ins V0).table ((ins V0).act b j) k := by
  have h : ∀ i : S4096x200.Idx, ((U V0 4 (Proc.devRef .tc main_v41) : IVec S4096x200 32) i).toNat < 1000 := fun i => by
    obtain ⟨a, c, rfl⟩ : ∃ (a : Fin 4096) (c : Fin 200), i = ix2 a c := ⟨i 0, i 1, ValueIdx.eq_ix2 i⟩
    rw [v41_apply]; exact h4 _
  rw [U_v42, taken3_apply _ _ h, v41_apply, U_arg V0 4 (by decide) main_arg5 (by decide)]
  rfl

end Rows

section Query

include h3

theorem v43_apply (b : Fin 4096) (k : Fin 128) :
    (U V0 6 (Proc.devRef .tc main_v43) : FVec I S4096x128 .f32) (ix2 b k) = row (ins V0).table ((ins V0).query b) k := by
  rw [U_v43, U_arg V0 5 (by decide) main_arg5 (by decide), U_arg V0 5 (by decide) main_arg3 (by decide)]
  exact taken_apply _ _ h3 b k

end Query

section Vector

include h2 h3

theorem v50_apply (b : Fin 4096) (p : Fin 256) :
    (U V0 8 (Proc.devRef .tc main_v50) : FVec I S4096x256 .f32) (ix2 b p)
      = (ins V0).net.layer1 ((ins V0).hidden b) (row (ins V0).table ((ins V0).query b)) p := by
  refine (l7_apply (U V0 7) b p).trans (congrArg relu ?_)
  refine (l6_apply (U V0 6) b p).trans ?_
  rw [U_arg V0 6 (by decide) main_arg10 (by decide), U_arg V0 6 (by decide) main_arg11 (by decide), U_keep V0 (r := main_v39) 3 6 (by decide) (by decide +kernel)]
  simp only [v39_apply V0 h2, v43_apply V0 h3]
  rfl

theorem v56_apply (b : Fin 4096) (k : Fin 128) :
    (U V0 10 (Proc.devRef .tc main_v56) : FVec I S4096x128 .f32) (ix2 b k) = (ins V0).vector b k := by
  refine (l9_apply (U V0 9) b k).trans (congrArg relu ?_)
  refine (l8_apply (U V0 8) b k).trans ?_
  rw [U_arg V0 8 (by decide) main_arg12 (by decide), U_arg V0 8 (by decide) main_arg13 (by decide)]
  simp only [v50_apply V0 h2 h3]
  rfl

include h4

/-- The masked scores. -/
theorem v64_apply (b : Fin 4096) (j : Fin 200) :
    (U V0 13 (Proc.devRef .tc main_v64) : FVec I S4096x200 .f32) (ix2 b j) = (ins V0).scores b j := by
  refine (l12_apply (U V0 12) b j).trans ?_
  rw [show (U V0 12 (Proc.devRef .tc main_v63) : FVec I S4096x200 .f32) (ix2 b j) = absent from l11_apply (U V0 11) b j,
    U_keep V0 (r := main_v62) 11 12 (by decide) (by decide +kernel), U_keep V0 (r := main_v60) 11 12 (by decide) (by decide +kernel),
    show (U V0 11 (Proc.devRef .tc main_v62) : IVec S4096x200 1) (ix2 b j) = _ from l10_zero (U V0 10) b j,
    show (U V0 11 (Proc.devRef .tc main_v60) : FVec I S4096x200 .f32) (ix2 b j) = _ from l10_score (U V0 10) b j,
    U_keep V0 (r := main_v41) 4 10 (by decide) (by decide +kernel), v41_apply, U_keep V0 (r := main_v42) 5 10 (by decide) (by decide +kernel)]
  simp only [v56_apply V0 h2 h3, v42_apply V0 h4]
  exact select_zero _ _

/-- The log-probabilities. -/
theorem out_logits (d : Dev nD) : VR V0 d (Proc.devRef .tc main_v78) = fun y : S4096x200.Idx => (ins V0).logits (y 0) (y 1) := by
  rw [VR_eq, U_keep V0 21 23 (by decide) (by decide +kernel)]
  have key : ∀ b j, (U V0 21 (Proc.devRef .tc main_v78) : FVec I S4096x200 .f32) (ix2 b j) = (ins V0).logits b j := fun b j => by
    refine (l20_apply (U V0 20) b j).trans ?_
    rw [U_keep V0 (r := main_v64) 13 20 (by decide) (by decide +kernel)]
    simp only [v64_apply V0 h2 h3 h4]
    rfl
  funext y
  rw [ValueIdx.eq_ix2 y]
  exact key (y 0) (y 1)

end Vector

end Cert.Proof.R

end
-- ==== Proof.R.Taken.lean ====
/-
  The reference's three results that depend on the noise: the action taken, its relation and the loss.

  `out_action`, `out_chosen`, `out_loss`: they are the specification's, where every identifier names a row of the table.
-/
module

public import proofs.«01_k».proof.Proof.R.Out

@[expose] public section

set_option maxRecDepth 16384

noncomputable section

namespace Cert.Proof.R

open Cert.ReferenceIdeal Cert.ReferenceIdeal.Gen
open Idealize.ShloMosaic Idealize.SL Idealize.SL.Sem
open TcCoe Spec

local notation "I" => Idealize.ShloMosaic.Ideal

/-! ### The arg-max -/

/-- The lanes of a row, each with its number. -/
theorem fiber_row (x : FVec I S4096x200 .f32) (b : Fin 4096) (p : EReal × BitVec 32) :
    p ∈ Host.argReduceFiber x (iotaInDim S4096x200 32 1) reducesTo_S4096x200_S4096_d1 (ix1 b)
      ↔ ∃ j : Fin 200, p = (x (ix2 b j), BitVec.ofNat 32 j.val) := by
  unfold Host.argReduceFiber
  rw [List.mem_map]
  constructor
  · rintro ⟨n, hn, rfl⟩
    have hd : reducesTo_S4096x200_S4096_d1.drop (S4096x200.rowMajor.symm n) = ix1 b := by simpa using hn
    generalize S4096x200.rowMajor.symm n = i at hd ⊢
    obtain ⟨a, j, rfl⟩ : ∃ (a : Fin 4096) (j : Fin 200), i = ix2 a j := ⟨i 0, i 1, ValueIdx.eq_ix2 i⟩
    have ha : a = b := congrFun hd 0
    exact ⟨j, by rw [ha]; rfl⟩
  · rintro ⟨j, rfl⟩
    refine ⟨S4096x200.rowMajor (ix2 b j), ?_, by rw [Equiv.symm_apply_apply]; rfl⟩
    simp only [List.mem_filter, List.mem_finRange, true_and, Equiv.symm_apply_apply, decide_eq_true_eq]
    funext a
    rw [show a = 0 from Subsingleton.elim _ _]
    rfl

/-- The arg-max of a row is the first lane that holds its greatest number. -/
theorem argmax_apply (x : FVec I S4096x200 .f32) (b : Fin 4096) :
    (Host.argReduce reducer_argmax_f32_i32 x (iotaInDim S4096x200 32 1) (constant S_ .f32 0xFF800000#32) (constantI S_ 32 0#32)
      reducesTo_S4096x200_S4096_d1 h_S_ (ix1 b)).2 = BitVec.ofNat 32 (first fun j => x (ix2 b j)).val := by
  have hb : Ideal.ofBits FTy.f32 4286578688#32 = (⊥ : EReal) := by simp [Ideal.ofBits, Ideal.ieee]
  rw [Ideal.argReduce_eq_reduce2, Host.reduce2_eq_foldl_fiber]
  have h := foldl_better (fun j => x (ix2 b j)) _ (first_spec _) _ (fiber_row x b)
  rw [← hb] at h
  exact congrArg Prod.snd h

variable (V : Valuation τ sig (Elt I))

theorem l16_apply (b : Fin 4096) : (StableHlo.after l16 V (Proc.devRef .tc main_v74) : IVec S4096 32) (ix1 b)
    = BitVec.ofNat 32 (first fun j => (V (Proc.devRef .tc main_v73) : FVec I S4096x200 .f32) (ix2 b j)).val := by
  rw [show (l16 : List (HloOp τ sig (Elt I))) = _ from argmaxOps_eq _ _]
  after_results
  exact argmax_apply _ b

/-- The sum of two numbers. -/
abbrev plus (x y : EReal) : EReal := x + y

theorem l15_apply (b : Fin 4096) (j : Fin 200) : (StableHlo.after l15 V (Proc.devRef .tc main_v73) : FVec I S4096x200 .f32) (ix2 b j)
    = plus ((V (Proc.devRef .tc main_v72) : FVec I S4096x200 .f32) (ix2 b j)) ((V (Proc.devRef .tc main_v64) : FVec I S4096x200 .f32) (ix2 b j)) := by
  after_results
  pointwise []

theorem l17_apply (b : Fin 4096) : (StableHlo.after l17 V (Proc.devRef .tc main_v75) : IVec S4096x1 32) (ix2 b 0)
    = (V (Proc.devRef .tc main_v74) : IVec S4096 32) (ix1 b) := by
  after_results
  pointwise []

/-! ### The entry of a row that a word names -/

/-- Each word as a lane, one entry. -/
def alongStart (w : IVec S4096x1 32) : IVec S4096x1x1 32 :=
  shapeCast S4096x1x1 (select (cmpi .slt w (broadcastInDim S4096x1 ![] bcast_S_S4096x1 (constantI S_ 32 0#32)))
    (addi w (broadcastInDim S4096x1 ![] bcast_S_S4096x1 (constantI S_ 32 200#32))) w) shapeCasts_S4096x1_S4096x1x1
/-- Whether it is one of the row's. -/
def alongInside (s : IVec S4096x1x1 32) : IVec S4096x1 1 :=
  Host.reduce IntOp.andi
    (andi (cmpi .sge s (broadcastInDim S4096x1x1 ![] bcast_S_S4096x1x1 (constantI S_ 32 0#32)))
      (cmpi .sle s (broadcastInDim S4096x1x1 ![0, 1, 2] bcast_S1x1x1_S4096x1x1_0_1_2 (broadcastInDim S1x1x1 ![2] bcast_S1_S1x1x1_2 (constantI S1 32 199#32)))))
    (constantI S_ 1 1#1) reducesTo_S4096x1x1_S4096x1_d2 h_S_
/-- The entries named. -/
def along (T : IVec S4096x200 32) (w : IVec S4096x1 32) : IVec S4096x1 32 :=
  select (alongInside (alongStart w)) (Host.gather gather_S4096x200_S4096x1x1_S4096x1_n_1_0_0_1_2_11 T (alongStart w))
    (broadcastInDim S4096x1 ![] bcast_S_S4096x1 (constantI S_ 32 2147483648#32))

theorem l18_eq : StableHlo.after l18 V (Proc.devRef .tc main_v76) = along (V (Proc.devRef .tc main_v41)) (V (Proc.devRef .tc main_v75)) := by
  rw [show (l18 : List (HloOp τ sig (Elt I))) = _ from alongOps_eq _ _ _]
  after_results
  simp only [StableHlo.TRef.toBuf, StableHlo.TRef.ofBuf, cast_eq]
  unfold along alongInside alongStart
  rfl

theorem sle_lane (w : BitVec 32) (h : w.toNat < 200) : IntOp.cmpi CmpIPredicate.sle w 199#32 = 1#1 := by
  have : BitVec.sle w 199#32 = true := by simp [BitVec.sle, toInt_lt w (by omega)]; omega
  simp [IntOp.cmpi, this]

theorem along_gather (T : IVec S4096x200 32) (s : IVec S4096x1x1 32) (b : Fin 4096) :
    Host.gather gather_S4096x200_S4096x1x1_S4096x1_n_1_0_0_1_2_11 T s (ix2 b 0) = T (ix2 b ⟨min (s (ix3 b 0 0)).toInt.toNat 199, by omega⟩) := by
  refine congrArg T (funext fun a => Fin.ext ?_)
  match a with
  | ⟨0, _⟩ => exact Nat.zero_add b.val
  | ⟨1, _⟩ =>
    have e : gather_S4096x200_S4096x1x1_S4096x1_n_1_0_0_1_2_11.siIdx (ix2 b 0) ⟨0, by decide⟩ = ix3 b 0 0 := by
      funext a; match a with
      | ⟨0, _⟩ => rfl
      | ⟨1, _⟩ => rfl
      | ⟨2, _⟩ => rfl
    exact congrArg (fun q => min (s q).toInt.toNat 199) e

theorem alongStart_apply (w : IVec S4096x1 32) (b : Fin 4096) (h : (w (ix2 b 0)).toNat < 200) : alongStart w (ix3 b 0 0) = w (ix2 b 0) := by
  pointwise [alongStart]
  rw [slt_zero _ (by omega)]
  rfl

theorem along_apply (T : IVec S4096x200 32) (w : IVec S4096x1 32) (k : Fin 4096 → Fin 200) (h : ∀ b, w (ix2 b 0) = BitVec.ofNat 32 (k b).val) (b : Fin 4096) :
    along T w (ix2 b 0) = T (ix2 b (k b)) := by
  have hw : ∀ b, (w (ix2 b 0)).toNat = (k b).val := fun b => by rw [h, BitVec.toNat_ofNat]; omega
  have hs : ∀ i, (alongStart w i).toNat < 200 := fun i => by
    obtain ⟨a, y, z, rfl⟩ : ∃ (a : Fin 4096) (y z : Fin 1), i = ix3 a y z := ⟨i 0, i 1, i 2, ValueIdx.eq_ix3 i⟩
    rw [show y = 0 from Subsingleton.elim _ _, show z = 0 from Subsingleton.elim _ _, alongStart_apply w a (by rw [hw]; omega), hw]
    omega
  have hi : alongInside (alongStart w) (ix2 b 0) = 1#1 := by
    refine Host.reduce_andi_one _ _ _ _ _ rfl fun i => ?_
    show IntOp.andi (IntOp.cmpi .sge (alongStart w i) 0#32) (IntOp.cmpi .sle (alongStart w i) 199#32) = 1#1
    rw [sge_zero _ (by have := hs i; omega), sle_lane _ (hs i)]; rfl
  pointwise [along]
  rw [hi, along_gather]
  refine (if_pos rfl).trans ?_
  refine congrArg (fun q => T (ix2 b q)) (Fin.ext ?_)
  show min (alongStart w (ix3 b 0 0)).toInt.toNat 199 = (k b).val
  rw [alongStart_apply w b (by rw [hw]; omega), toInt_lt _ (by rw [hw]; omega), hw, Int.toNat_natCast]
  omega

theorem l19_apply (b : Fin 4096) : (StableHlo.after l19 V (Proc.devRef .tc main_v77) : IVec S4096 32) (ix1 b)
    = (V (Proc.devRef .tc main_v76) : IVec S4096x1 32) (ix2 b 0) := by
  after_results
  pointwise []

/-! ### The loss -/

/-- A bit as a number. -/
abbrev num (v : BitVec 1) : EReal := (FloatOps.uitofp FTy.f32 v : Ideal .f32)

theorem num_eq (i k : Nat) (hi : i < 4294967296) (hk : k < 4294967296) :
    num (IntOp.cmpi CmpIPredicate.eq (BitVec.ofNat 32 k) (BitVec.ofNat 32 i)) = if i = k then 1 else 0 := by
  rw [ofNat_eq _ _ hk hi]
  show (((if k = i then 1#1 else 0#1 : BitVec 1).toNat : ℝ) : EReal) = _
  by_cases h : i = k
  · rw [if_pos h, if_pos h.symm]; norm_num
  · rw [if_neg h, if_neg (Ne.symm h)]; norm_num

/-- The sum of the products of two rows, negated. -/
def negDot (x y : Fin 200 → EReal) : EReal := -∑ j, x j * y j

/-- Against the indicator of a lane it is that lane's number, negated. -/
theorem negDot_pick (x y : Fin 200 → EReal) (k : Fin 200) (h : ∀ j : Fin 200, y j = if j.val = k.val then 1 else 0) : negDot x y = 0 - x k := by
  unfold negDot
  rw [Finset.sum_eq_single k, h, if_pos rfl, mul_one, zero_sub]
  · intro j _ hj
    rw [h, if_neg fun e => hj (Fin.ext e), mul_zero]
  · intro h; exact absurd (Finset.mem_univ _) h

theorem l21_apply (b : Fin 4096) (j : Fin 200) : (StableHlo.after l21 V (Proc.devRef .tc main_v79) : FVec I S4096x200 .f32) (ix2 b j)
    = num (IntOp.cmpi CmpIPredicate.eq ((V (Proc.devRef .tc main_v74) : IVec S4096 32) (ix1 b)) (BitVec.ofNat 32 j.val)) := by
  rw [show (l21 : List (HloOp τ sig (Elt I))) = _ from oneHotOps_eq _ _]
  after_results
  simp only [StableHlo.TRef.toBuf, StableHlo.TRef.ofBuf, cast_eq]
  pointwise []

theorem l22_apply (b : Fin 4096) : (StableHlo.after l22 V (Proc.devRef .tc main_v82) : FVec I S4096 .f32) (ix1 b)
    = negDot (fun j => (V (Proc.devRef .tc main_v78) : FVec I S4096x200 .f32) (ix2 b j)) (fun j => (V (Proc.devRef .tc main_v79) : FVec I S4096x200 .f32) (ix2 b j)) := by
  after_results
  pointwise []
  rfl

/-! ### At the end -/

section End

variable (V0 : Valuation τ sig (Elt I))

/-- The noise. -/
def noise (b : Fin 4096) (j : Fin 200) : EReal := (U V0 15 (Proc.devRef .tc main_v72) : FVec I S4096x200 .f32) (ix2 b j)

variable (h2 : ∀ i : S4096.Idx, ((V0 (Proc.devRef .tc main_arg2) : IVec S4096 32) i).toNat < 1000)
  (h3 : ∀ i : S4096.Idx, ((V0 (Proc.devRef .tc main_arg3) : IVec S4096 32) i).toNat < 1000)
  (h4 : ∀ i : S4096x200x2.Idx, ((V0 (Proc.devRef .tc main_arg4) : IVec S4096x200x2 32) i).toNat < 1000)

include h2 h3 h4

theorem v74_apply (b : Fin 4096) : (U V0 17 (Proc.devRef .tc main_v74) : IVec S4096 32) (ix1 b) = (ins V0).action b (noise V0) := by
  refine (l16_apply (U V0 16) b).trans ?_
  refine congrArg (fun y : Fin 200 → EReal => BitVec.ofNat 32 (first y).val) (funext fun j => ?_)
  refine (l15_apply (U V0 15) b j).trans ?_
  rw [U_keep V0 (r := main_v64) 13 15 (by decide) (by decide +kernel), v64_apply V0 h2 h3 h4]
  exact add_comm (G := EReal) _ _

/-- The action taken. -/
theorem out_action (d : Dev nD) : VR V0 d (Proc.devRef .tc main_v74) = fun y : S4096.Idx => (ins V0).action (y 0) (noise V0) := by
  rw [VR_eq, U_keep V0 17 23 (by decide) (by decide +kernel)]
  have key : ∀ b, (U V0 17 (Proc.devRef .tc main_v74) : IVec S4096 32) (ix1 b) = (ins V0).action b (noise V0) := v74_apply V0 h2 h3 h4
  funext y
  rw [ValueIdx.eq_ix1 y]
  exact key (y 0)

/-- Its relation. -/
theorem out_chosen (d : Dev nD) : VR V0 d (Proc.devRef .tc main_v77) = fun y : S4096.Idx => (ins V0).chosen (y 0) (noise V0) := by
  rw [VR_eq, U_keep V0 20 23 (by decide) (by decide +kernel)]
  have key : ∀ b, (U V0 20 (Proc.devRef .tc main_v77) : IVec S4096 32) (ix1 b) = (ins V0).chosen b (noise V0) := fun b => by
    refine (l19_apply (U V0 19) b).trans ?_
    rw [show U V0 19 (Proc.devRef .tc main_v76) = _ from l18_eq (U V0 18)]
    refine (along_apply _ (U V0 18 (Proc.devRef .tc main_v75)) (fun b => (ins V0).lane b (noise V0))
      (fun b => (l17_apply (U V0 17) b).trans (v74_apply V0 h2 h3 h4 b)) b).trans ?_
    rw [U_keep V0 (r := main_v41) 4 18 (by decide) (by decide +kernel), v41_apply]
    rfl
  funext y
  rw [ValueIdx.eq_ix1 y]
  exact key (y 0)

/-- The loss. -/
theorem out_loss (d : Dev nD) : VR V0 d (Proc.devRef .tc main_v82) = fun y : S4096.Idx => (ins V0).loss (y 0) (noise V0) := by
  rw [VR_eq]
  have key : ∀ b, (U V0 23 (Proc.devRef .tc main_v82) : FVec I S4096 .f32) (ix1 b) = (ins V0).loss b (noise V0) := fun b => by
    refine (l22_apply (U V0 22) b).trans ?_
    refine (negDot_pick _ _ ((ins V0).lane b (noise V0)) fun j => ?_).trans ?_
    · refine (l21_apply (U V0 21) b j).trans ?_
      rw [U_keep V0 (r := main_v74) 17 21 (by decide) (by decide +kernel), v74_apply V0 h2 h3 h4]
      exact num_eq _ _ (by omega) (by omega)
    · refine congrArg (fun x : EReal => 0 - x) ?_
      have e := congrFun (out_logits V0 h2 h3 h4 d) (ix2 b ((ins V0).lane b (noise V0)))
      rw [VR_eq, U_keep V0 (r := main_v78) 22 23 (by decide) (by decide +kernel)] at e
      exact e
  funext y
  rw [ValueIdx.eq_ix1 y]
  exact key (y 0)

end End

end Cert.Proof.R

end
-- ==== Proof.Sim.lean ====
/-
  Two programs that run the same operations, each over its own buffers, compute the same values.

  `Sim l l' n n' P Q`: from buffers that agree on the pairs `P`, the line `l` of the one program and the line `l'` of the other
  end in buffers that agree on the pairs `Q`. The operations write buffers of rising numbers, so that none is written twice: `n`
  and `n'` bound the numbers of `P`.
-/
module

public import proofs.«01_k».proof.Proof.Line

@[expose] public section

noncomputable section

namespace Cert.Proof

open Idealize.ShloMosaic Idealize.SL Idealize.SL.Sem

variable {τ τ' : Topo} {sig sig' : RefSig} {Val : EltTy → Type}

/-- A value's buffer in the one program and in the other. -/
structure Pair (sig sig' : RefSig) where
  T : BufTy
  x : StableHlo.TRef sig T
  x' : StableHlo.TRef sig' T

/-- The two programs' buffers of a pair hold the same. -/
def Pair.Same (p : Pair sig sig') (V : Valuation τ sig Val) (V' : Valuation τ' sig' Val) : Prop :=
  p.x.ofBuf (V (Proc.devRef .tc p.x.ref)) = p.x'.ofBuf (V' (Proc.devRef .tc p.x'.ref))

/-- The number of a reference's buffer. -/
def num {sig : RefSig} (r : Ref sig .tc) : ℕ := r.idx.val

/-- From buffers that agree on `P` the lines end in buffers that agree on `Q`. -/
def Sim (l : List (HloOp τ sig Val)) (l' : List (HloOp τ' sig' Val)) (n n' : ℕ) (P Q : List (Pair sig sig')) : Prop :=
  (∀ p ∈ P, num p.x.ref < n ∧ num p.x'.ref < n') →
    ∀ V V', (∀ p ∈ P, p.Same V V') → ∀ p ∈ Q, p.Same (StableHlo.after l V) (StableHlo.after l' V')

variable {l : List (HloOp τ sig Val)} {l' : List (HloOp τ' sig' Val)} {n n' : ℕ} {P Q : List (Pair sig sig')}

theorem Sim.done (h : Q ⊆ P) : Sim ([] : List (HloOp τ sig Val)) ([] : List (HloOp τ' sig' Val)) n n' P Q :=
  fun _ _ _ hP p hp => hP p (h hp)

theorem ne_of_num {sig : RefSig} {r s : Ref sig .tc} (h : num r < num s) : r ≠ s := fun e => absurd h (e ▸ lt_irrefl _)

/-- One operation in each program, writing fresh buffers and giving them the same value. -/
theorem Sim.cons {T : BufTy} {y : StableHlo.TRef sig T} {y' : StableHlo.TRef sig' T} {op : HloOp τ sig Val} {op' : HloOp τ' sig' Val}
    (hy : n ≤ num y.ref) (hy' : n' ≤ num y'.ref)
    (hne : ∀ (V : Valuation τ sig Val) (r : Ref sig .tc), r ≠ y.ref → op.result V (Proc.devRef .tc r) = V (Proc.devRef .tc r))
    (hne' : ∀ (V : Valuation τ' sig' Val) (r : Ref sig' .tc), r ≠ y'.ref → op'.result V (Proc.devRef .tc r) = V (Proc.devRef .tc r))
    (he : ∀ V V', (∀ p ∈ P, p.Same V V') → (⟨T, y, y'⟩ : Pair sig sig').Same (op.result V) (op'.result V'))
    (h : Sim l l' (num y.ref + 1) (num y'.ref + 1) (⟨T, y, y'⟩ :: P) Q) : Sim (op :: l) (op' :: l') n n' P Q := by
  intro hb V V' hP
  refine h (fun p hp => ?_) _ _ fun p hp => ?_
  · rcases List.mem_cons.mp hp with rfl | hp
    · exact ⟨Nat.lt_succ_self _, Nat.lt_succ_self _⟩
    · exact ⟨Nat.lt_succ_of_lt ((hb p hp).1.trans_le hy), Nat.lt_succ_of_lt ((hb p hp).2.trans_le hy')⟩
  · rcases List.mem_cons.mp hp with rfl | hp
    · exact he V V' hP
    · have e := hne V p.x.ref (ne_of_num ((hb p hp).1.trans_le hy))
      have e' := hne' V' p.x'.ref (ne_of_num ((hb p hp).2.trans_le hy'))
      have := hP p hp
      unfold Pair.Same at this ⊢
      rw [e, e']
      exact this

theorem ofBuf_toBuf {sig : RefSig} {T : BufTy} (y : StableHlo.TRef sig T) (v : T.Contents Val) : y.ofBuf (y.toBuf v) = v := by
  unfold StableHlo.TRef.ofBuf StableHlo.TRef.toBuf
  rw [cast_cast, cast_eq]

section Ops

variable {Tx Ta Tb T : BufTy}

theorem Sim.nullary {y : StableHlo.TRef sig T} {y' : StableHlo.TRef sig' T} {v : T.Contents Val}
    (hy : n ≤ num y.ref) (hy' : n' ≤ num y'.ref) (h : Sim l l' (num y.ref + 1) (num y'.ref + 1) (⟨T, y, y'⟩ :: P) Q) :
    Sim (StableHlo.TRef.nullary y v :: l) (StableHlo.TRef.nullary y' v :: l') n n' P Q :=
  Sim.cons hy hy' (fun _ _ hr => StableHlo.nullary_result_ne (h := hr) ..) (fun _ _ hr => StableHlo.nullary_result_ne (h := hr) ..)
    (fun V V' _ => by
      show y.ofBuf _ = y'.ofBuf _
      rw [StableHlo.nullary_result, StableHlo.nullary_result, ofBuf_toBuf, ofBuf_toBuf]) h

theorem Sim.unary {x : StableHlo.TRef sig Tx} {x' : StableHlo.TRef sig' Tx} {y : StableHlo.TRef sig T} {y' : StableHlo.TRef sig' T}
    {f : Tx.Contents Val → T.Contents Val} (hx : (⟨Tx, x, x'⟩ : Pair sig sig') ∈ P)
    (hy : n ≤ num y.ref) (hy' : n' ≤ num y'.ref) (h : Sim l l' (num y.ref + 1) (num y'.ref + 1) (⟨T, y, y'⟩ :: P) Q) :
    Sim (StableHlo.TRef.unary x y f :: l) (StableHlo.TRef.unary x' y' f :: l') n n' P Q :=
  Sim.cons hy hy' (fun _ _ hr => StableHlo.unary_result_ne (h := hr) ..) (fun _ _ hr => StableHlo.unary_result_ne (h := hr) ..)
    (fun V V' hP => by
      show y.ofBuf _ = y'.ofBuf _
      rw [StableHlo.unary_result, StableHlo.unary_result, ofBuf_toBuf, ofBuf_toBuf]
      exact congrArg f (hP _ hx)) h

theorem Sim.binary {a : StableHlo.TRef sig Ta} {a' : StableHlo.TRef sig' Ta} {b : StableHlo.TRef sig Tb} {b' : StableHlo.TRef sig' Tb}
    {y : StableHlo.TRef sig T} {y' : StableHlo.TRef sig' T} {f : Ta.Contents Val → Tb.Contents Val → T.Contents Val}
    (ha : (⟨Ta, a, a'⟩ : Pair sig sig') ∈ P) (hb : (⟨Tb, b, b'⟩ : Pair sig sig') ∈ P)
    (hy : n ≤ num y.ref) (hy' : n' ≤ num y'.ref) (h : Sim l l' (num y.ref + 1) (num y'.ref + 1) (⟨T, y, y'⟩ :: P) Q) :
    Sim (StableHlo.TRef.binary a b y f :: l) (StableHlo.TRef.binary a' b' y' f :: l') n n' P Q :=
  Sim.cons hy hy' (fun _ _ hr => StableHlo.binary_result_ne (h := hr) ..) (fun _ _ hr => StableHlo.binary_result_ne (h := hr) ..)
    (fun V V' hP => by
      show y.ofBuf _ = y'.ofBuf _
      rw [StableHlo.binary_result, StableHlo.binary_result, ofBuf_toBuf, ofBuf_toBuf]
      exact congrArg₂ f (hP _ ha) (hP _ hb)) h

theorem reshape_ofBuf (x : StableHlo.TRef sig Tx) (y : StableHlo.TRef sig T) (he : Tx.elt = T.elt) (hn : Tx.shape.ShapeCasts T.shape)
    (V : Valuation τ sig Val) :
    y.ofBuf ((StableHlo.TRef.reshape (Val := Val) (τ := τ) x y he hn).result V (Proc.devRef .tc y.ref))
      = fun i => he ▸ shapeCast T.shape (x.ofBuf (V (Proc.devRef .tc x.ref))) hn i := by
  rw [StableHlo.reshape_result]
  obtain ⟨x, rfl, _, _⟩ := x
  obtain ⟨y, rfl, _, _⟩ := y
  rfl

theorem Sim.reshape {x : StableHlo.TRef sig Tx} {x' : StableHlo.TRef sig' Tx} {y : StableHlo.TRef sig T} {y' : StableHlo.TRef sig' T}
    {he : Tx.elt = T.elt} {hn : Tx.shape.ShapeCasts T.shape} (hx : (⟨Tx, x, x'⟩ : Pair sig sig') ∈ P)
    (hy : n ≤ num y.ref) (hy' : n' ≤ num y'.ref) (h : Sim l l' (num y.ref + 1) (num y'.ref + 1) (⟨T, y, y'⟩ :: P) Q) :
    Sim (StableHlo.TRef.reshape x y he hn :: l) (StableHlo.TRef.reshape x' y' he hn :: l') n n' P Q :=
  Sim.cons hy hy' (fun _ _ hr => StableHlo.reshape_result_ne (h := hr) ..) (fun _ _ hr => StableHlo.reshape_result_ne (h := hr) ..)
    (fun V V' hP => by
      show y.ofBuf _ = y'.ofBuf _
      rw [reshape_ofBuf, reshape_ofBuf]
      have := hP _ hx
      unfold Pair.Same at this
      rw [this]) h

end Ops

end Cert.Proof

end
-- ==== Proof.R.NoiseOps.lean ====
/-
  The operations that make the reference's noise, in six pieces.
-/
module

public import proofs.«01_k».proof.Proof.R.Host

@[expose] public section

set_option maxRecDepth 16384

noncomputable section

namespace Cert.Proof.R

open Cert.ReferenceIdeal Cert.ReferenceIdeal.Gen
open Idealize.ShloMosaic Idealize.SL.Sem
open TcCoe

variable {F : FTy → Type} [FloatOps F]

/-- The key of the noise. -/
abbrev key : StableHlo.TRef sig ⟨S2, .i32⟩ := .of main_v71

/-- Piece 0: the key split and the counters. -/
def n0 : List (HloOp τ sig (Elt F)) :=
  [StableHlo.TRef.nullary main_call6.cst (constant S_ .f32 0x3F800000#32),
    StableHlo.TRef.nullary main_call6.cst_0 (constant S_ .f32 0x00800000#32),
    StableHlo.TRef.unary main_call6.cst main_call6_call0.v0 id,
    StableHlo.TRef.unary main_call6.cst_0 main_call6_call0.v1 (broadcastInDim S1x1 ![] bcast_S_S1x1),
    StableHlo.TRef.unary main_call6_call0.v0 main_call6_call0.v2 (broadcastInDim S1x1 ![] bcast_S_S1x1),
    StableHlo.TRef.unary key main_call6_call0.v3 (extractStridedSlice S1 ![0] · slices_S2_S1_0),
    StableHlo.TRef.reshape main_call6_call0.v3 main_call6_call0.v4 (rfl : (.i32 : EltTy) = .i32) shapeCasts_S1_S_,
    StableHlo.TRef.unary key main_call6_call0.v5 (extractStridedSlice S1 ![1] · slices_S2_S1_1),
    StableHlo.TRef.reshape main_call6_call0.v5 main_call6_call0.v6 (rfl : (.i32 : EltTy) = .i32) shapeCasts_S1_S_,
    StableHlo.TRef.nullary main_call6_call0.v7 (iotaInDim S4096x200 64 0),
    StableHlo.TRef.nullary main_call6_call0.v8 (iotaInDim S4096x200 64 1),
    StableHlo.TRef.nullary main_call6_call0.c (constantI S_ 64 200#64),
    StableHlo.TRef.unary main_call6_call0.c main_call6_call0.v9 (broadcastInDim S4096x200 ![] bcast_S_S4096x200),
    StableHlo.TRef.binary main_call6_call0.v9 main_call6_call0.v7 main_call6_call0.v10 muli,
    StableHlo.TRef.nullary main_call6_call0.c_0 (constantI S_ 64 1#64),
    StableHlo.TRef.unary main_call6_call0.c_0 main_call6_call0.v11 (broadcastInDim S4096x200 ![] bcast_S_S4096x200),
    StableHlo.TRef.binary main_call6_call0.v11 main_call6_call0.v8 main_call6_call0.v12 muli,
    StableHlo.TRef.binary main_call6_call0.v10 main_call6_call0.v12 main_call6_call0.v13 addi,
    StableHlo.TRef.nullary main_call6_call0.c_1 (constantI S_ 64 32#64),
    StableHlo.TRef.unary main_call6_call0.c_1 main_call6_call0.v14 (broadcastInDim S4096x200 ![] bcast_S_S4096x200),
    StableHlo.TRef.binary main_call6_call0.v13 main_call6_call0.v14 main_call6_call0.v15 Host.shrui,
    StableHlo.TRef.unary main_call6_call0.v13 main_call6_call0.v16 (trunci 32 · natLt_32_64),
    StableHlo.TRef.unary main_call6_call0.v15 main_call6_call0.v17 (trunci 32 · natLt_32_64)]

/-- Piece 1: rounds of the generator. -/
def n1 : List (HloOp τ sig (Elt F)) :=
  [StableHlo.TRef.binary main_call6_call0.v4 main_call6_call0.v6 main_call6_call0_call0.v0 xori,
    StableHlo.TRef.nullary main_call6_call0_call0.c (constantI S_ 32 466688986#32),
    StableHlo.TRef.binary main_call6_call0_call0.v0 main_call6_call0_call0.c main_call6_call0_call0.v1 xori,
    StableHlo.TRef.unary main_call6_call0.v4 main_call6_call0_call0.v2 (broadcastInDim S4096x200 ![] bcast_S_S4096x200),
    StableHlo.TRef.binary main_call6_call0.v17 main_call6_call0_call0.v2 main_call6_call0_call0.v3 addi,
    StableHlo.TRef.unary main_call6_call0.v6 main_call6_call0_call0.v4 (broadcastInDim S4096x200 ![] bcast_S_S4096x200),
    StableHlo.TRef.binary main_call6_call0.v16 main_call6_call0_call0.v4 main_call6_call0_call0.v5 addi,
    StableHlo.TRef.binary main_call6_call0_call0.v3 main_call6_call0_call0.v5 main_call6_call0_call0.v6 addi,
    StableHlo.TRef.nullary main_call6_call0_call0.c_0 (constantI S_ 32 13#32),
    StableHlo.TRef.unary main_call6_call0_call0.c_0 main_call6_call0_call0.v7 (broadcastInDim S4096x200 ![] bcast_S_S4096x200),
    StableHlo.TRef.binary main_call6_call0_call0.v5 main_call6_call0_call0.v7 main_call6_call0_call0.v8 Host.shli,
    StableHlo.TRef.nullary main_call6_call0_call0.c_1 (constantI S_ 32 19#32),
    StableHlo.TRef.unary main_call6_call0_call0.c_1 main_call6_call0_call0.v9 (broadcastInDim S4096x200 ![] bcast_S_S4096x200),
    StableHlo.TRef.binary main_call6_call0_call0.v5 main_call6_call0_call0.v9 main_call6_call0_call0.v10 Host.shrui,
    StableHlo.TRef.binary main_call6_call0_call0.v8 main_call6_call0_call0.v10 main_call6_call0_call0.v11 ori,
    StableHlo.TRef.binary main_call6_call0_call0.v6 main_call6_call0_call0.v11 main_call6_call0_call0.v12 xori,
    StableHlo.TRef.binary main_call6_call0_call0.v6 main_call6_call0_call0.v12 main_call6_call0_call0.v13 addi,
    StableHlo.TRef.nullary main_call6_call0_call0.c_2 (constantI S_ 32 15#32),
    StableHlo.TRef.unary main_call6_call0_call0.c_2 main_call6_call0_call0.v14 (broadcastInDim S4096x200 ![] bcast_S_S4096x200),
    StableHlo.TRef.binary main_call6_call0_call0.v12 main_call6_call0_call0.v14 main_call6_call0_call0.v15 Host.shli,
    StableHlo.TRef.nullary main_call6_call0_call0.c_3 (constantI S_ 32 17#32),
    StableHlo.TRef.unary main_call6_call0_call0.c_3 main_call6_call0_call0.v16 (broadcastInDim S4096x200 ![] bcast_S_S4096x200),
    StableHlo.TRef.binary main_call6_call0_call0.v12 main_call6_call0_call0.v16 main_call6_call0_call0.v17 Host.shrui,
    StableHlo.TRef.binary main_call6_call0_call0.v15 main_call6_call0_call0.v17 main_call6_call0_call0.v18 ori,
    StableHlo.TRef.binary main_call6_call0_call0.v13 main_call6_call0_call0.v18 main_call6_call0_call0.v19 xori,
    StableHlo.TRef.binary main_call6_call0_call0.v13 main_call6_call0_call0.v19 main_call6_call0_call0.v20 addi,
    StableHlo.TRef.nullary main_call6_call0_call0.c_4 (constantI S_ 32 26#32),
    StableHlo.TRef.unary main_call6_call0_call0.c_4 main_call6_call0_call0.v21 (broadcastInDim S4096x200 ![] bcast_S_S4096x200),
    StableHlo.TRef.binary main_call6_call0_call0.v19 main_call6_call0_call0.v21 main_call6_call0_call0.v22 Host.shli,
    StableHlo.TRef.nullary main_call6_call0_call0.c_5 (constantI S_ 32 6#32),
    StableHlo.TRef.unary main_call6_call0_call0.c_5 main_call6_call0_call0.v23 (broadcastInDim S4096x200 ![] bcast_S_S4096x200),
    StableHlo.TRef.binary main_call6_call0_call0.v19 main_call6_call0_call0.v23 main_call6_call0_call0.v24 Host.shrui,
    StableHlo.TRef.binary main_call6_call0_call0.v22 main_call6_call0_call0.v24 main_call6_call0_call0.v25 ori,
    StableHlo.TRef.binary main_call6_call0_call0.v20 main_call6_call0_call0.v25 main_call6_call0_call0.v26 xori,
    StableHlo.TRef.binary main_call6_call0_call0.v20 main_call6_call0_call0.v26 main_call6_call0_call0.v27 addi,
    StableHlo.TRef.nullary main_call6_call0_call0.c_6 (constantI S_ 32 6#32),
    StableHlo.TRef.unary main_call6_call0_call0.c_6 main_call6_call0_call0.v28 (broadcastInDim S4096x200 ![] bcast_S_S4096x200),
    StableHlo.TRef.binary main_call6_call0_call0.v26 main_call6_call0_call0.v28 main_call6_call0_call0.v29 Host.shli,
    StableHlo.TRef.nullary main_call6_call0_call0.c_7 (constantI S_ 32 26#32),
    StableHlo.TRef.unary main_call6_call0_call0.c_7 main_call6_call0_call0.v30 (broadcastInDim S4096x200 ![] bcast_S_S4096x200),
    StableHlo.TRef.binary main_call6_call0_call0.v26 main_call6_call0_call0.v30 main_call6_call0_call0.v31 Host.shrui,
    StableHlo.TRef.binary main_call6_call0_call0.v29 main_call6_call0_call0.v31 main_call6_call0_call0.v32 ori,
    StableHlo.TRef.binary main_call6_call0_call0.v27 main_call6_call0_call0.v32 main_call6_call0_call0.v33 xori,
    StableHlo.TRef.unary main_call6_call0.v6 main_call6_call0_call0.v34 (broadcastInDim S4096x200 ![] bcast_S_S4096x200),
    StableHlo.TRef.binary main_call6_call0_call0.v27 main_call6_call0_call0.v34 main_call6_call0_call0.v35 addi,
    StableHlo.TRef.unary main_call6_call0_call0.v1 main_call6_call0_call0.v36 (broadcastInDim S4096x200 ![] bcast_S_S4096x200),
    StableHlo.TRef.binary main_call6_call0_call0.v33 main_call6_call0_call0.v36 main_call6_call0_call0.v37 addi,
    StableHlo.TRef.nullary main_call6_call0_call0.c_8 (constantI S_ 32 1#32),
    StableHlo.TRef.unary main_call6_call0_call0.c_8 main_call6_call0_call0.v38 (broadcastInDim S4096x200 ![] bcast_S_S4096x200),
    StableHlo.TRef.binary main_call6_call0_call0.v37 main_call6_call0_call0.v38 main_call6_call0_call0.v39 addi,
    StableHlo.TRef.binary main_call6_call0_call0.v35 main_call6_call0_call0.v39 main_call6_call0_call0.v40 addi,
    StableHlo.TRef.nullary main_call6_call0_call0.c_9 (constantI S_ 32 17#32),
    StableHlo.TRef.unary main_call6_call0_call0.c_9 main_call6_call0_call0.v41 (broadcastInDim S4096x200 ![] bcast_S_S4096x200),
    StableHlo.TRef.binary main_call6_call0_call0.v39 main_call6_call0_call0.v41 main_call6_call0_call0.v42 Host.shli,
    StableHlo.TRef.nullary main_call6_call0_call0.c_10 (constantI S_ 32 15#32),
    StableHlo.TRef.unary main_call6_call0_call0.c_10 main_call6_call0_call0.v43 (broadcastInDim S4096x200 ![] bcast_S_S4096x200),
    StableHlo.TRef.binary main_call6_call0_call0.v39 main_call6_call0_call0.v43 main_call6_call0_call0.v44 Host.shrui,
    StableHlo.TRef.binary main_call6_call0_call0.v42 main_call6_call0_call0.v44 main_call6_call0_call0.v45 ori,
    StableHlo.TRef.binary main_call6_call0_call0.v40 main_call6_call0_call0.v45 main_call6_call0_call0.v46 xori,
    StableHlo.TRef.binary main_call6_call0_call0.v40 main_call6_call0_call0.v46 main_call6_call0_call0.v47 addi]

/-- Piece 2: rounds of the generator. -/
def n2 : List (HloOp τ sig (Elt F)) :=
  [StableHlo.TRef.nullary main_call6_call0_call0.c_11 (constantI S_ 32 29#32),
    StableHlo.TRef.unary main_call6_call0_call0.c_11 main_call6_call0_call0.v48 (broadcastInDim S4096x200 ![] bcast_S_S4096x200),
    StableHlo.TRef.binary main_call6_call0_call0.v46 main_call6_call0_call0.v48 main_call6_call0_call0.v49 Host.shli,
    StableHlo.TRef.nullary main_call6_call0_call0.c_12 (constantI S_ 32 3#32),
    StableHlo.TRef.unary main_call6_call0_call0.c_12 main_call6_call0_call0.v50 (broadcastInDim S4096x200 ![] bcast_S_S4096x200),
    StableHlo.TRef.binary main_call6_call0_call0.v46 main_call6_call0_call0.v50 main_call6_call0_call0.v51 Host.shrui,
    StableHlo.TRef.binary main_call6_call0_call0.v49 main_call6_call0_call0.v51 main_call6_call0_call0.v52 ori,
    StableHlo.TRef.binary main_call6_call0_call0.v47 main_call6_call0_call0.v52 main_call6_call0_call0.v53 xori,
    StableHlo.TRef.binary main_call6_call0_call0.v47 main_call6_call0_call0.v53 main_call6_call0_call0.v54 addi,
    StableHlo.TRef.nullary main_call6_call0_call0.c_13 (constantI S_ 32 16#32),
    StableHlo.TRef.unary main_call6_call0_call0.c_13 main_call6_call0_call0.v55 (broadcastInDim S4096x200 ![] bcast_S_S4096x200),
    StableHlo.TRef.binary main_call6_call0_call0.v53 main_call6_call0_call0.v55 main_call6_call0_call0.v56 Host.shli,
    StableHlo.TRef.nullary main_call6_call0_call0.c_14 (constantI S_ 32 16#32),
    StableHlo.TRef.unary main_call6_call0_call0.c_14 main_call6_call0_call0.v57 (broadcastInDim S4096x200 ![] bcast_S_S4096x200),
    StableHlo.TRef.binary main_call6_call0_call0.v53 main_call6_call0_call0.v57 main_call6_call0_call0.v58 Host.shrui,
    StableHlo.TRef.binary main_call6_call0_call0.v56 main_call6_call0_call0.v58 main_call6_call0_call0.v59 ori,
    StableHlo.TRef.binary main_call6_call0_call0.v54 main_call6_call0_call0.v59 main_call6_call0_call0.v60 xori,
    StableHlo.TRef.binary main_call6_call0_call0.v54 main_call6_call0_call0.v60 main_call6_call0_call0.v61 addi,
    StableHlo.TRef.nullary main_call6_call0_call0.c_15 (constantI S_ 32 24#32),
    StableHlo.TRef.unary main_call6_call0_call0.c_15 main_call6_call0_call0.v62 (broadcastInDim S4096x200 ![] bcast_S_S4096x200),
    StableHlo.TRef.binary main_call6_call0_call0.v60 main_call6_call0_call0.v62 main_call6_call0_call0.v63 Host.shli,
    StableHlo.TRef.nullary main_call6_call0_call0.c_16 (constantI S_ 32 8#32),
    StableHlo.TRef.unary main_call6_call0_call0.c_16 main_call6_call0_call0.v64 (broadcastInDim S4096x200 ![] bcast_S_S4096x200),
    StableHlo.TRef.binary main_call6_call0_call0.v60 main_call6_call0_call0.v64 main_call6_call0_call0.v65 Host.shrui,
    StableHlo.TRef.binary main_call6_call0_call0.v63 main_call6_call0_call0.v65 main_call6_call0_call0.v66 ori,
    StableHlo.TRef.binary main_call6_call0_call0.v61 main_call6_call0_call0.v66 main_call6_call0_call0.v67 xori,
    StableHlo.TRef.unary main_call6_call0_call0.v1 main_call6_call0_call0.v68 (broadcastInDim S4096x200 ![] bcast_S_S4096x200),
    StableHlo.TRef.binary main_call6_call0_call0.v61 main_call6_call0_call0.v68 main_call6_call0_call0.v69 addi,
    StableHlo.TRef.unary main_call6_call0.v4 main_call6_call0_call0.v70 (broadcastInDim S4096x200 ![] bcast_S_S4096x200),
    StableHlo.TRef.binary main_call6_call0_call0.v67 main_call6_call0_call0.v70 main_call6_call0_call0.v71 addi,
    StableHlo.TRef.nullary main_call6_call0_call0.c_17 (constantI S_ 32 2#32),
    StableHlo.TRef.unary main_call6_call0_call0.c_17 main_call6_call0_call0.v72 (broadcastInDim S4096x200 ![] bcast_S_S4096x200),
    StableHlo.TRef.binary main_call6_call0_call0.v71 main_call6_call0_call0.v72 main_call6_call0_call0.v73 addi,
    StableHlo.TRef.binary main_call6_call0_call0.v69 main_call6_call0_call0.v73 main_call6_call0_call0.v74 addi,
    StableHlo.TRef.nullary main_call6_call0_call0.c_18 (constantI S_ 32 13#32),
    StableHlo.TRef.unary main_call6_call0_call0.c_18 main_call6_call0_call0.v75 (broadcastInDim S4096x200 ![] bcast_S_S4096x200),
    StableHlo.TRef.binary main_call6_call0_call0.v73 main_call6_call0_call0.v75 main_call6_call0_call0.v76 Host.shli,
    StableHlo.TRef.nullary main_call6_call0_call0.c_19 (constantI S_ 32 19#32),
    StableHlo.TRef.unary main_call6_call0_call0.c_19 main_call6_call0_call0.v77 (broadcastInDim S4096x200 ![] bcast_S_S4096x200),
    StableHlo.TRef.binary main_call6_call0_call0.v73 main_call6_call0_call0.v77 main_call6_call0_call0.v78 Host.shrui,
    StableHlo.TRef.binary main_call6_call0_call0.v76 main_call6_call0_call0.v78 main_call6_call0_call0.v79 ori,
    StableHlo.TRef.binary main_call6_call0_call0.v74 main_call6_call0_call0.v79 main_call6_call0_call0.v80 xori,
    StableHlo.TRef.binary main_call6_call0_call0.v74 main_call6_call0_call0.v80 main_call6_call0_call0.v81 addi,
    StableHlo.TRef.nullary main_call6_call0_call0.c_20 (constantI S_ 32 15#32),
    StableHlo.TRef.unary main_call6_call0_call0.c_20 main_call6_call0_call0.v82 (broadcastInDim S4096x200 ![] bcast_S_S4096x200),
    StableHlo.TRef.binary main_call6_call0_call0.v80 main_call6_call0_call0.v82 main_call6_call0_call0.v83 Host.shli,
    StableHlo.TRef.nullary main_call6_call0_call0.c_21 (constantI S_ 32 17#32),
    StableHlo.TRef.unary main_call6_call0_call0.c_21 main_call6_call0_call0.v84 (broadcastInDim S4096x200 ![] bcast_S_S4096x200),
    StableHlo.TRef.binary main_call6_call0_call0.v80 main_call6_call0_call0.v84 main_call6_call0_call0.v85 Host.shrui,
    StableHlo.TRef.binary main_call6_call0_call0.v83 main_call6_call0_call0.v85 main_call6_call0_call0.v86 ori,
    StableHlo.TRef.binary main_call6_call0_call0.v81 main_call6_call0_call0.v86 main_call6_call0_call0.v87 xori,
    StableHlo.TRef.binary main_call6_call0_call0.v81 main_call6_call0_call0.v87 main_call6_call0_call0.v88 addi,
    StableHlo.TRef.nullary main_call6_call0_call0.c_22 (constantI S_ 32 26#32),
    StableHlo.TRef.unary main_call6_call0_call0.c_22 main_call6_call0_call0.v89 (broadcastInDim S4096x200 ![] bcast_S_S4096x200),
    StableHlo.TRef.binary main_call6_call0_call0.v87 main_call6_call0_call0.v89 main_call6_call0_call0.v90 Host.shli,
    StableHlo.TRef.nullary main_call6_call0_call0.c_23 (constantI S_ 32 6#32),
    StableHlo.TRef.unary main_call6_call0_call0.c_23 main_call6_call0_call0.v91 (broadcastInDim S4096x200 ![] bcast_S_S4096x200),
    StableHlo.TRef.binary main_call6_call0_call0.v87 main_call6_call0_call0.v91 main_call6_call0_call0.v92 Host.shrui,
    StableHlo.TRef.binary main_call6_call0_call0.v90 main_call6_call0_call0.v92 main_call6_call0_call0.v93 ori,
    StableHlo.TRef.binary main_call6_call0_call0.v88 main_call6_call0_call0.v93 main_call6_call0_call0.v94 xori]

/-- Piece 3: rounds of the generator. -/
def n3 : List (HloOp τ sig (Elt F)) :=
  [StableHlo.TRef.binary main_call6_call0_call0.v88 main_call6_call0_call0.v94 main_call6_call0_call0.v95 addi,
    StableHlo.TRef.nullary main_call6_call0_call0.c_24 (constantI S_ 32 6#32),
    StableHlo.TRef.unary main_call6_call0_call0.c_24 main_call6_call0_call0.v96 (broadcastInDim S4096x200 ![] bcast_S_S4096x200),
    StableHlo.TRef.binary main_call6_call0_call0.v94 main_call6_call0_call0.v96 main_call6_call0_call0.v97 Host.shli,
    StableHlo.TRef.nullary main_call6_call0_call0.c_25 (constantI S_ 32 26#32),
    StableHlo.TRef.unary main_call6_call0_call0.c_25 main_call6_call0_call0.v98 (broadcastInDim S4096x200 ![] bcast_S_S4096x200),
    StableHlo.TRef.binary main_call6_call0_call0.v94 main_call6_call0_call0.v98 main_call6_call0_call0.v99 Host.shrui,
    StableHlo.TRef.binary main_call6_call0_call0.v97 main_call6_call0_call0.v99 main_call6_call0_call0.v100 ori,
    StableHlo.TRef.binary main_call6_call0_call0.v95 main_call6_call0_call0.v100 main_call6_call0_call0.v101 xori,
    StableHlo.TRef.unary main_call6_call0.v4 main_call6_call0_call0.v102 (broadcastInDim S4096x200 ![] bcast_S_S4096x200),
    StableHlo.TRef.binary main_call6_call0_call0.v95 main_call6_call0_call0.v102 main_call6_call0_call0.v103 addi,
    StableHlo.TRef.unary main_call6_call0.v6 main_call6_call0_call0.v104 (broadcastInDim S4096x200 ![] bcast_S_S4096x200),
    StableHlo.TRef.binary main_call6_call0_call0.v101 main_call6_call0_call0.v104 main_call6_call0_call0.v105 addi,
    StableHlo.TRef.nullary main_call6_call0_call0.c_26 (constantI S_ 32 3#32),
    StableHlo.TRef.unary main_call6_call0_call0.c_26 main_call6_call0_call0.v106 (broadcastInDim S4096x200 ![] bcast_S_S4096x200),
    StableHlo.TRef.binary main_call6_call0_call0.v105 main_call6_call0_call0.v106 main_call6_call0_call0.v107 addi,
    StableHlo.TRef.binary main_call6_call0_call0.v103 main_call6_call0_call0.v107 main_call6_call0_call0.v108 addi,
    StableHlo.TRef.nullary main_call6_call0_call0.c_27 (constantI S_ 32 17#32),
    StableHlo.TRef.unary main_call6_call0_call0.c_27 main_call6_call0_call0.v109 (broadcastInDim S4096x200 ![] bcast_S_S4096x200),
    StableHlo.TRef.binary main_call6_call0_call0.v107 main_call6_call0_call0.v109 main_call6_call0_call0.v110 Host.shli,
    StableHlo.TRef.nullary main_call6_call0_call0.c_28 (constantI S_ 32 15#32),
    StableHlo.TRef.unary main_call6_call0_call0.c_28 main_call6_call0_call0.v111 (broadcastInDim S4096x200 ![] bcast_S_S4096x200),
    StableHlo.TRef.binary main_call6_call0_call0.v107 main_call6_call0_call0.v111 main_call6_call0_call0.v112 Host.shrui,
    StableHlo.TRef.binary main_call6_call0_call0.v110 main_call6_call0_call0.v112 main_call6_call0_call0.v113 ori,
    StableHlo.TRef.binary main_call6_call0_call0.v108 main_call6_call0_call0.v113 main_call6_call0_call0.v114 xori,
    StableHlo.TRef.binary main_call6_call0_call0.v108 main_call6_call0_call0.v114 main_call6_call0_call0.v115 addi,
    StableHlo.TRef.nullary main_call6_call0_call0.c_29 (constantI S_ 32 29#32),
    StableHlo.TRef.unary main_call6_call0_call0.c_29 main_call6_call0_call0.v116 (broadcastInDim S4096x200 ![] bcast_S_S4096x200),
    StableHlo.TRef.binary main_call6_call0_call0.v114 main_call6_call0_call0.v116 main_call6_call0_call0.v117 Host.shli,
    StableHlo.TRef.nullary main_call6_call0_call0.c_30 (constantI S_ 32 3#32),
    StableHlo.TRef.unary main_call6_call0_call0.c_30 main_call6_call0_call0.v118 (broadcastInDim S4096x200 ![] bcast_S_S4096x200),
    StableHlo.TRef.binary main_call6_call0_call0.v114 main_call6_call0_call0.v118 main_call6_call0_call0.v119 Host.shrui,
    StableHlo.TRef.binary main_call6_call0_call0.v117 main_call6_call0_call0.v119 main_call6_call0_call0.v120 ori,
    StableHlo.TRef.binary main_call6_call0_call0.v115 main_call6_call0_call0.v120 main_call6_call0_call0.v121 xori,
    StableHlo.TRef.binary main_call6_call0_call0.v115 main_call6_call0_call0.v121 main_call6_call0_call0.v122 addi,
    StableHlo.TRef.nullary main_call6_call0_call0.c_31 (constantI S_ 32 16#32),
    StableHlo.TRef.unary main_call6_call0_call0.c_31 main_call6_call0_call0.v123 (broadcastInDim S4096x200 ![] bcast_S_S4096x200),
    StableHlo.TRef.binary main_call6_call0_call0.v121 main_call6_call0_call0.v123 main_call6_call0_call0.v124 Host.shli,
    StableHlo.TRef.nullary main_call6_call0_call0.c_32 (constantI S_ 32 16#32),
    StableHlo.TRef.unary main_call6_call0_call0.c_32 main_call6_call0_call0.v125 (broadcastInDim S4096x200 ![] bcast_S_S4096x200),
    StableHlo.TRef.binary main_call6_call0_call0.v121 main_call6_call0_call0.v125 main_call6_call0_call0.v126 Host.shrui,
    StableHlo.TRef.binary main_call6_call0_call0.v124 main_call6_call0_call0.v126 main_call6_call0_call0.v127 ori,
    StableHlo.TRef.binary main_call6_call0_call0.v122 main_call6_call0_call0.v127 main_call6_call0_call0.v128 xori,
    StableHlo.TRef.binary main_call6_call0_call0.v122 main_call6_call0_call0.v128 main_call6_call0_call0.v129 addi,
    StableHlo.TRef.nullary main_call6_call0_call0.c_33 (constantI S_ 32 24#32),
    StableHlo.TRef.unary main_call6_call0_call0.c_33 main_call6_call0_call0.v130 (broadcastInDim S4096x200 ![] bcast_S_S4096x200),
    StableHlo.TRef.binary main_call6_call0_call0.v128 main_call6_call0_call0.v130 main_call6_call0_call0.v131 Host.shli,
    StableHlo.TRef.nullary main_call6_call0_call0.c_34 (constantI S_ 32 8#32),
    StableHlo.TRef.unary main_call6_call0_call0.c_34 main_call6_call0_call0.v132 (broadcastInDim S4096x200 ![] bcast_S_S4096x200),
    StableHlo.TRef.binary main_call6_call0_call0.v128 main_call6_call0_call0.v132 main_call6_call0_call0.v133 Host.shrui,
    StableHlo.TRef.binary main_call6_call0_call0.v131 main_call6_call0_call0.v133 main_call6_call0_call0.v134 ori,
    StableHlo.TRef.binary main_call6_call0_call0.v129 main_call6_call0_call0.v134 main_call6_call0_call0.v135 xori,
    StableHlo.TRef.unary main_call6_call0.v6 main_call6_call0_call0.v136 (broadcastInDim S4096x200 ![] bcast_S_S4096x200),
    StableHlo.TRef.binary main_call6_call0_call0.v129 main_call6_call0_call0.v136 main_call6_call0_call0.v137 addi,
    StableHlo.TRef.unary main_call6_call0_call0.v1 main_call6_call0_call0.v138 (broadcastInDim S4096x200 ![] bcast_S_S4096x200),
    StableHlo.TRef.binary main_call6_call0_call0.v135 main_call6_call0_call0.v138 main_call6_call0_call0.v139 addi,
    StableHlo.TRef.nullary main_call6_call0_call0.c_35 (constantI S_ 32 4#32),
    StableHlo.TRef.unary main_call6_call0_call0.c_35 main_call6_call0_call0.v140 (broadcastInDim S4096x200 ![] bcast_S_S4096x200),
    StableHlo.TRef.binary main_call6_call0_call0.v139 main_call6_call0_call0.v140 main_call6_call0_call0.v141 addi,
    StableHlo.TRef.binary main_call6_call0_call0.v137 main_call6_call0_call0.v141 main_call6_call0_call0.v142 addi]

/-- Piece 4: the last rounds of the generator. -/
def n4 : List (HloOp τ sig (Elt F)) :=
  [StableHlo.TRef.nullary main_call6_call0_call0.c_36 (constantI S_ 32 13#32),
    StableHlo.TRef.unary main_call6_call0_call0.c_36 main_call6_call0_call0.v143 (broadcastInDim S4096x200 ![] bcast_S_S4096x200),
    StableHlo.TRef.binary main_call6_call0_call0.v141 main_call6_call0_call0.v143 main_call6_call0_call0.v144 Host.shli,
    StableHlo.TRef.nullary main_call6_call0_call0.c_37 (constantI S_ 32 19#32),
    StableHlo.TRef.unary main_call6_call0_call0.c_37 main_call6_call0_call0.v145 (broadcastInDim S4096x200 ![] bcast_S_S4096x200),
    StableHlo.TRef.binary main_call6_call0_call0.v141 main_call6_call0_call0.v145 main_call6_call0_call0.v146 Host.shrui,
    StableHlo.TRef.binary main_call6_call0_call0.v144 main_call6_call0_call0.v146 main_call6_call0_call0.v147 ori,
    StableHlo.TRef.binary main_call6_call0_call0.v142 main_call6_call0_call0.v147 main_call6_call0_call0.v148 xori,
    StableHlo.TRef.binary main_call6_call0_call0.v142 main_call6_call0_call0.v148 main_call6_call0_call0.v149 addi,
    StableHlo.TRef.nullary main_call6_call0_call0.c_38 (constantI S_ 32 15#32),
    StableHlo.TRef.unary main_call6_call0_call0.c_38 main_call6_call0_call0.v150 (broadcastInDim S4096x200 ![] bcast_S_S4096x200),
    StableHlo.TRef.binary main_call6_call0_call0.v148 main_call6_call0_call0.v150 main_call6_call0_call0.v151 Host.shli,
    StableHlo.TRef.nullary main_call6_call0_call0.c_39 (constantI S_ 32 17#32),
    StableHlo.TRef.unary main_call6_call0_call0.c_39 main_call6_call0_call0.v152 (broadcastInDim S4096x200 ![] bcast_S_S4096x200),
    StableHlo.TRef.binary main_call6_call0_call0.v148 main_call6_call0_call0.v152 main_call6_call0_call0.v153 Host.shrui,
    StableHlo.TRef.binary main_call6_call0_call0.v151 main_call6_call0_call0.v153 main_call6_call0_call0.v154 ori,
    StableHlo.TRef.binary main_call6_call0_call0.v149 main_call6_call0_call0.v154 main_call6_call0_call0.v155 xori,
    StableHlo.TRef.binary main_call6_call0_call0.v149 main_call6_call0_call0.v155 main_call6_call0_call0.v156 addi,
    StableHlo.TRef.nullary main_call6_call0_call0.c_40 (constantI S_ 32 26#32),
    StableHlo.TRef.unary main_call6_call0_call0.c_40 main_call6_call0_call0.v157 (broadcastInDim S4096x200 ![] bcast_S_S4096x200),
    StableHlo.TRef.binary main_call6_call0_call0.v155 main_call6_call0_call0.v157 main_call6_call0_call0.v158 Host.shli,
    StableHlo.TRef.nullary main_call6_call0_call0.c_41 (constantI S_ 32 6#32),
    StableHlo.TRef.unary main_call6_call0_call0.c_41 main_call6_call0_call0.v159 (broadcastInDim S4096x200 ![] bcast_S_S4096x200),
    StableHlo.TRef.binary main_call6_call0_call0.v155 main_call6_call0_call0.v159 main_call6_call0_call0.v160 Host.shrui,
    StableHlo.TRef.binary main_call6_call0_call0.v158 main_call6_call0_call0.v160 main_call6_call0_call0.v161 ori,
    StableHlo.TRef.binary main_call6_call0_call0.v156 main_call6_call0_call0.v161 main_call6_call0_call0.v162 xori,
    StableHlo.TRef.binary main_call6_call0_call0.v156 main_call6_call0_call0.v162 main_call6_call0_call0.v163 addi,
    StableHlo.TRef.nullary main_call6_call0_call0.c_42 (constantI S_ 32 6#32),
    StableHlo.TRef.unary main_call6_call0_call0.c_42 main_call6_call0_call0.v164 (broadcastInDim S4096x200 ![] bcast_S_S4096x200),
    StableHlo.TRef.binary main_call6_call0_call0.v162 main_call6_call0_call0.v164 main_call6_call0_call0.v165 Host.shli,
    StableHlo.TRef.nullary main_call6_call0_call0.c_43 (constantI S_ 32 26#32),
    StableHlo.TRef.unary main_call6_call0_call0.c_43 main_call6_call0_call0.v166 (broadcastInDim S4096x200 ![] bcast_S_S4096x200),
    StableHlo.TRef.binary main_call6_call0_call0.v162 main_call6_call0_call0.v166 main_call6_call0_call0.v167 Host.shrui,
    StableHlo.TRef.binary main_call6_call0_call0.v165 main_call6_call0_call0.v167 main_call6_call0_call0.v168 ori,
    StableHlo.TRef.binary main_call6_call0_call0.v163 main_call6_call0_call0.v168 main_call6_call0_call0.v169 xori,
    StableHlo.TRef.unary main_call6_call0_call0.v1 main_call6_call0_call0.v170 (broadcastInDim S4096x200 ![] bcast_S_S4096x200),
    StableHlo.TRef.binary main_call6_call0_call0.v163 main_call6_call0_call0.v170 main_call6_call0_call0.v171 addi,
    StableHlo.TRef.unary main_call6_call0.v4 main_call6_call0_call0.v172 (broadcastInDim S4096x200 ![] bcast_S_S4096x200),
    StableHlo.TRef.binary main_call6_call0_call0.v169 main_call6_call0_call0.v172 main_call6_call0_call0.v173 addi,
    StableHlo.TRef.nullary main_call6_call0_call0.c_44 (constantI S_ 32 5#32),
    StableHlo.TRef.unary main_call6_call0_call0.c_44 main_call6_call0_call0.v174 (broadcastInDim S4096x200 ![] bcast_S_S4096x200),
    StableHlo.TRef.binary main_call6_call0_call0.v173 main_call6_call0_call0.v174 main_call6_call0_call0.v175 addi]

/-- Piece 5: the words to noise. -/
def n5 : List (HloOp τ sig (Elt F)) :=
  [StableHlo.TRef.binary main_call6_call0_call0.v171 main_call6_call0_call0.v175 main_call6_call0.v19 xori,
    StableHlo.TRef.nullary main_call6_call0.c_2 (constantI S_ 32 9#32),
    StableHlo.TRef.unary main_call6_call0.c_2 main_call6_call0.v20 (broadcastInDim S4096x200 ![] bcast_S_S4096x200),
    StableHlo.TRef.binary main_call6_call0.v19 main_call6_call0.v20 main_call6_call0.v21 Host.shrui,
    StableHlo.TRef.nullary main_call6_call0.c_3 (constantI S_ 32 1065353216#32),
    StableHlo.TRef.unary main_call6_call0.c_3 main_call6_call0.v22 (broadcastInDim S4096x200 ![] bcast_S_S4096x200),
    StableHlo.TRef.binary main_call6_call0.v21 main_call6_call0.v22 main_call6_call0.v23 ori,
    StableHlo.TRef.unary main_call6_call0.v23 main_call6_call0.v24 (bitcastToFloat .f32),
    StableHlo.TRef.nullary main_call6_call0.cst (constant S_ .f32 0x3F800000#32),
    StableHlo.TRef.unary main_call6_call0.cst main_call6_call0.v25 (broadcastInDim S4096x200 ![] bcast_S_S4096x200),
    StableHlo.TRef.binary main_call6_call0.v24 main_call6_call0.v25 main_call6_call0.v26 subf,
    StableHlo.TRef.binary main_call6_call0.v2 main_call6_call0.v1 main_call6_call0.v27 subf,
    StableHlo.TRef.unary main_call6_call0.v27 main_call6_call0.v28 (broadcastInDim S4096x200 ![0, 1] bcast_S1x1_S4096x200_0_1),
    StableHlo.TRef.binary main_call6_call0.v26 main_call6_call0.v28 main_call6_call0.v29 mulf,
    StableHlo.TRef.unary main_call6_call0.v1 main_call6_call0.v30 (broadcastInDim S4096x200 ![0, 1] bcast_S1x1_S4096x200_0_1),
    StableHlo.TRef.binary main_call6_call0.v29 main_call6_call0.v30 main_call6_call0.v31 addf,
    StableHlo.TRef.unary main_call6_call0.v1 main_call6_call0.v32 (broadcastInDim S4096x200 ![0, 1] bcast_S1x1_S4096x200_0_1),
    StableHlo.TRef.binary main_call6_call0.v32 main_call6_call0.v31 main_call6_call0.v33 maximumf,
    StableHlo.TRef.unary main_call6_call0.v33 main_call6.v1 Host.log,
    StableHlo.TRef.unary main_call6.v1 main_call6.v2 Host.negf,
    StableHlo.TRef.unary main_call6.v2 main_call6.v3 Host.log,
    StableHlo.TRef.unary main_call6.v3 main_call6.v4 Host.negf]

/-- The noise's operations are the six pieces in turn. -/
theorem gumbel_ops : Line.ops (fn_gumbel.body (F := F) key main_call6) = n0 ++ (n1 ++ (n2 ++ (n3 ++ (n4 ++ n5)))) := rfl

end Cert.Proof.R

end
-- ==== Proof.Noise.lean ====
/-
  The kernel's noise and the reference's are the same: both programs make it by the same operations from the same key.
-/
module

public import proofs.«01_k».proof.Proof.Sim
public import proofs.«01_k».proof.Proof.KI.NoiseOps
public import proofs.«01_k».proof.Proof.R.NoiseOps

@[expose] public section

set_option maxRecDepth 16384
set_option maxHeartbeats 1000000

noncomputable section

namespace Cert.Proof

open Idealize.ShloMosaic Idealize.SL Idealize.SL.Sem

variable {F : FTy → Type} [FloatOps F]

/-- A buffer of the kernel's and the buffer of the reference's that holds the same. -/
abbrev KR := Pair KernelIdeal.sig ReferenceIdeal.sig

/-- The pairs that piece 0 reads. -/
def ps0 : List KR := [⟨_, KI.key, R.key⟩]
/-- The pairs that piece 1 reads. -/
def ps1 : List KR := [⟨_, KernelIdeal.main_call2_call0.v17, ReferenceIdeal.main_call6_call0.v17⟩, ⟨_, KernelIdeal.main_call2_call0.v16, ReferenceIdeal.main_call6_call0.v16⟩, ⟨_, KernelIdeal.main_call2_call0.v6, ReferenceIdeal.main_call6_call0.v6⟩, ⟨_, KernelIdeal.main_call2_call0.v4, ReferenceIdeal.main_call6_call0.v4⟩, ⟨_, KernelIdeal.main_call2_call0.v2, ReferenceIdeal.main_call6_call0.v2⟩, ⟨_, KernelIdeal.main_call2_call0.v1, ReferenceIdeal.main_call6_call0.v1⟩]
/-- The pairs that piece 2 reads. -/
def ps2 : List KR := [⟨_, KernelIdeal.main_call2_call0_call0.v47, ReferenceIdeal.main_call6_call0_call0.v47⟩, ⟨_, KernelIdeal.main_call2_call0_call0.v46, ReferenceIdeal.main_call6_call0_call0.v46⟩, ⟨_, KernelIdeal.main_call2_call0_call0.v1, ReferenceIdeal.main_call6_call0_call0.v1⟩, ⟨_, KernelIdeal.main_call2_call0.v6, ReferenceIdeal.main_call6_call0.v6⟩, ⟨_, KernelIdeal.main_call2_call0.v4, ReferenceIdeal.main_call6_call0.v4⟩, ⟨_, KernelIdeal.main_call2_call0.v2, ReferenceIdeal.main_call6_call0.v2⟩, ⟨_, KernelIdeal.main_call2_call0.v1, ReferenceIdeal.main_call6_call0.v1⟩]
/-- The pairs that piece 3 reads. -/
def ps3 : List KR := [⟨_, KernelIdeal.main_call2_call0_call0.v94, ReferenceIdeal.main_call6_call0_call0.v94⟩, ⟨_, KernelIdeal.main_call2_call0_call0.v88, ReferenceIdeal.main_call6_call0_call0.v88⟩, ⟨_, KernelIdeal.main_call2_call0_call0.v1, ReferenceIdeal.main_call6_call0_call0.v1⟩, ⟨_, KernelIdeal.main_call2_call0.v6, ReferenceIdeal.main_call6_call0.v6⟩, ⟨_, KernelIdeal.main_call2_call0.v4, ReferenceIdeal.main_call6_call0.v4⟩, ⟨_, KernelIdeal.main_call2_call0.v2, ReferenceIdeal.main_call6_call0.v2⟩, ⟨_, KernelIdeal.main_call2_call0.v1, ReferenceIdeal.main_call6_call0.v1⟩]
/-- The pairs that piece 4 reads. -/
def ps4 : List KR := [⟨_, KernelIdeal.main_call2_call0_call0.v142, ReferenceIdeal.main_call6_call0_call0.v142⟩, ⟨_, KernelIdeal.main_call2_call0_call0.v141, ReferenceIdeal.main_call6_call0_call0.v141⟩, ⟨_, KernelIdeal.main_call2_call0_call0.v1, ReferenceIdeal.main_call6_call0_call0.v1⟩, ⟨_, KernelIdeal.main_call2_call0.v4, ReferenceIdeal.main_call6_call0.v4⟩, ⟨_, KernelIdeal.main_call2_call0.v2, ReferenceIdeal.main_call6_call0.v2⟩, ⟨_, KernelIdeal.main_call2_call0.v1, ReferenceIdeal.main_call6_call0.v1⟩]
/-- The pairs that piece 5 reads. -/
def ps5 : List KR := [⟨_, KernelIdeal.main_call2_call0_call0.v175, ReferenceIdeal.main_call6_call0_call0.v175⟩, ⟨_, KernelIdeal.main_call2_call0_call0.v171, ReferenceIdeal.main_call6_call0_call0.v171⟩, ⟨_, KernelIdeal.main_call2_call0.v2, ReferenceIdeal.main_call6_call0.v2⟩, ⟨_, KernelIdeal.main_call2_call0.v1, ReferenceIdeal.main_call6_call0.v1⟩]
/-- The noise of the one and of the other. -/
def ps6 : List KR := [⟨_, KernelIdeal.main_call2.v4, ReferenceIdeal.main_call6.v4⟩]

/-- Piece 0 in both programs. -/
theorem sim0 : Sim (KI.n0 (F := F)) (R.n0 (F := F)) (num KI.key.ref + 1) (num R.key.ref + 1) ps0 ps1 := by
  unfold KI.n0 R.n0 ps0 ps1
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- Piece 1 in both programs. -/
theorem sim1 : Sim (KI.n1 (F := F)) (R.n1 (F := F)) (num KernelIdeal.main_call2_call0.v17.ref + 1) (num ReferenceIdeal.main_call6_call0.v17.ref + 1) ps1 ps2 := by
  unfold KI.n1 R.n1 ps1 ps2
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- Piece 2 in both programs. -/
theorem sim2 : Sim (KI.n2 (F := F)) (R.n2 (F := F)) (num KernelIdeal.main_call2_call0_call0.v47.ref + 1) (num ReferenceIdeal.main_call6_call0_call0.v47.ref + 1) ps2 ps3 := by
  unfold KI.n2 R.n2 ps2 ps3
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- Piece 3 in both programs. -/
theorem sim3 : Sim (KI.n3 (F := F)) (R.n3 (F := F)) (num KernelIdeal.main_call2_call0_call0.v94.ref + 1) (num ReferenceIdeal.main_call6_call0_call0.v94.ref + 1) ps3 ps4 := by
  unfold KI.n3 R.n3 ps3 ps4
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- Piece 4 in both programs. -/
theorem sim4 : Sim (KI.n4 (F := F)) (R.n4 (F := F)) (num KernelIdeal.main_call2_call0_call0.v142.ref + 1) (num ReferenceIdeal.main_call6_call0_call0.v142.ref + 1) ps4 ps5 := by
  unfold KI.n4 R.n4 ps4 ps5
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- Piece 5 in both programs. -/
theorem sim5 : Sim (KI.n5 (F := F)) (R.n5 (F := F)) (num KernelIdeal.main_call2_call0_call0.v175.ref + 1) (num ReferenceIdeal.main_call6_call0_call0.v175.ref + 1) ps5 ps6 := by
  unfold KI.n5 R.n5 ps5 ps6
  repeat first
    | (with_reducible refine Sim.binary ?_ ?_ ?_ ?_ ?_) <;> [(repeat with_reducible first | exact List.mem_cons_self | refine List.mem_cons_of_mem _ ?_); (repeat with_reducible first | exact List.mem_cons_self | refine List.mem_cons_of_mem _ ?_); decide; decide; skip]
    | (with_reducible refine Sim.unary ?_ ?_ ?_ ?_) <;> [(repeat with_reducible first | exact List.mem_cons_self | refine List.mem_cons_of_mem _ ?_); decide; decide; skip]
    | (with_reducible refine Sim.nullary ?_ ?_ ?_) <;> [decide; decide; skip]
    | (with_reducible refine Sim.reshape ?_ ?_ ?_ ?_) <;> [(repeat with_reducible first | exact List.mem_cons_self | refine List.mem_cons_of_mem _ ?_); decide; decide; skip]
  refine Sim.done ?_
  intro p hp
  fin_cases hp <;> (repeat first | exact List.mem_cons_self | refine List.mem_cons_of_mem _ ?_)

/-- From one key the two programs make the same noise. -/
theorem noise_same (V : Valuation KernelIdeal.τ KernelIdeal.sig (Elt F)) (V' : Valuation ReferenceIdeal.τ ReferenceIdeal.sig (Elt F))
    (h : (V (Proc.devRef .tc KernelIdeal.main_v10) : IVec KernelIdeal.S2 32) = V' (Proc.devRef .tc ReferenceIdeal.main_v71)) :
    (StableHlo.after (Line.ops (KernelIdeal.fn_gumbel.body (F := F) KI.key KernelIdeal.main_call2)) V (Proc.devRef .tc KernelIdeal.main_v11) : FVec F KernelIdeal.S4096x200 .f32)
      = StableHlo.after (Line.ops (ReferenceIdeal.fn_gumbel.body (F := F) R.key ReferenceIdeal.main_call6)) V' (Proc.devRef .tc ReferenceIdeal.main_v72) := by
  rw [KI.gumbel_ops, R.gumbel_ops]
  simp only [after_append]
  have h0 : ∀ p ∈ ps0, p.Same V V' := fun p hp => by
    rw [List.mem_singleton.mp hp]
    exact h
  have h1 := sim0 (F := F) (by unfold ps0; decide) _ _ h0
  have h2 := sim1 (F := F) (by unfold ps1; decide) _ _ h1
  have h3 := sim2 (F := F) (by unfold ps2; decide) _ _ h2
  have h4 := sim3 (F := F) (by unfold ps3; decide) _ _ h3
  have h5 := sim4 (F := F) (by unfold ps4; decide) _ _ h4
  have h6 := sim5 (F := F) (by unfold ps5; decide) _ _ h5
  exact h6 _ (List.mem_singleton_self _)

end Cert.Proof

end
-- ==== Proof.Same.lean ====
/-
  The two programs' noise is one: both make their key of the same constants.
-/
module

public import proofs.«01_k».proof.Proof.Noise
public import proofs.«01_k».proof.Proof.KI.Taken
public import proofs.«01_k».proof.Proof.R.Taken

@[expose] public section

set_option maxRecDepth 16384

noncomputable section

namespace Cert.Proof

open Idealize.ShloMosaic Idealize.SL Idealize.SL.Sem

open Cert.KernelIdeal.Gen in
/-- The key: 42, with the word above it. -/
def keyOf : IVec KernelIdeal.S2 32 :=
  concatenate KernelIdeal.S2 0
    [⟨KernelIdeal.S1, broadcastInDim KernelIdeal.S1 ![] bcast_S_S1 (Host.shrui (constantI KernelIdeal.S_ 32 42#32) (constantI KernelIdeal.S_ 32 32#32))⟩,
      ⟨KernelIdeal.S1, broadcastInDim KernelIdeal.S1 ![] bcast_S_S1 (andi (constantI KernelIdeal.S_ 32 42#32) (constantI KernelIdeal.S_ 32 4294967295#32))⟩]
    concatenates_S1_S1_S2_d0

theorem key_K (V : Valuation KernelIdeal.τ KernelIdeal.sig (Elt Ideal)) : (KI.WD V (Proc.devRef .tc KernelIdeal.main_v10) : IVec KernelIdeal.S2 32) = keyOf := by
  unfold KI.WD
  generalize KI.WC V = W
  after_results
  rfl

theorem key_R (V : Valuation ReferenceIdeal.τ ReferenceIdeal.sig (Elt Ideal)) : (R.U V 14 (Proc.devRef .tc ReferenceIdeal.main_v71) : IVec KernelIdeal.S2 32) = keyOf := by
  show StableHlo.after R.l13 (R.U V 13) _ = _
  generalize R.U V 13 = W
  after_results
  rfl

/-- The reference's noise is the kernel's. -/
theorem noise_eq (V : Valuation KernelIdeal.τ KernelIdeal.sig (Elt Ideal)) (V' : Valuation ReferenceIdeal.τ ReferenceIdeal.sig (Elt Ideal)) :
    R.noise V' = KI.noise V := by
  funext b j
  exact (congrFun (noise_same (KI.WD V) (R.U V' 14) ((key_K V).trans (key_R V').symm)) (ix2 b j)).symm

end Cert.Proof

end
-- ==== Proof.Algebraic.lean ====
/-
  The value claim: over the extended reals the kernel's six results — the loss, the log-probabilities, the action taken, its
  relation, the new hidden state and the new cell state — are the reference's.
-/
module

public import proofs.«01_k».proof.Proof.Frames
public import proofs.«01_k».proof.Proof.KI.NoiseLow
public import proofs.«01_k».proof.Proof.R.Taken
public import proofs.«01_k».proof.Proof.Same

@[expose] public section

noncomputable section

namespace Cert.Proof

open Idealize.ShloMosaic Idealize.SL.Sem

/-- The reference's arguments, where they are the kernel's, hold what the kernel's hold. -/
theorem ins_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : R.M0 m' c (Proc.devRef .tc Cert.ReferenceIdeal.main_arg0) = KI.M0 m c (Proc.devRef .tc Cert.KernelIdeal.main_arg0))
    (e1 : R.M0 m' c (Proc.devRef .tc Cert.ReferenceIdeal.main_arg1) = KI.M0 m c (Proc.devRef .tc Cert.KernelIdeal.main_arg1))
    (e2 : R.M0 m' c (Proc.devRef .tc Cert.ReferenceIdeal.main_arg2) = KI.M0 m c (Proc.devRef .tc Cert.KernelIdeal.main_arg2))
    (e3 : R.M0 m' c (Proc.devRef .tc Cert.ReferenceIdeal.main_arg3) = KI.M0 m c (Proc.devRef .tc Cert.KernelIdeal.main_arg3))
    (e4 : R.M0 m' c (Proc.devRef .tc Cert.ReferenceIdeal.main_arg4) = KI.M0 m c (Proc.devRef .tc Cert.KernelIdeal.main_arg4))
    (e5 : R.M0 m' c (Proc.devRef .tc Cert.ReferenceIdeal.main_arg5) = KI.M0 m c (Proc.devRef .tc Cert.KernelIdeal.main_arg5))
    (e6 : R.M0 m' c (Proc.devRef .tc Cert.ReferenceIdeal.main_arg6) = KI.M0 m c (Proc.devRef .tc Cert.KernelIdeal.main_arg6))
    (e7 : R.M0 m' c (Proc.devRef .tc Cert.ReferenceIdeal.main_arg7) = KI.M0 m c (Proc.devRef .tc Cert.KernelIdeal.main_arg7))
    (e8 : R.M0 m' c (Proc.devRef .tc Cert.ReferenceIdeal.main_arg8) = KI.M0 m c (Proc.devRef .tc Cert.KernelIdeal.main_arg8))
    (e9 : R.M0 m' c (Proc.devRef .tc Cert.ReferenceIdeal.main_arg9) = KI.M0 m c (Proc.devRef .tc Cert.KernelIdeal.main_arg9))
    (e10 : R.M0 m' c (Proc.devRef .tc Cert.ReferenceIdeal.main_arg10) = KI.M0 m c (Proc.devRef .tc Cert.KernelIdeal.main_arg10))
    (e11 : R.M0 m' c (Proc.devRef .tc Cert.ReferenceIdeal.main_arg11) = KI.M0 m c (Proc.devRef .tc Cert.KernelIdeal.main_arg11))
    (e12 : R.M0 m' c (Proc.devRef .tc Cert.ReferenceIdeal.main_arg12) = KI.M0 m c (Proc.devRef .tc Cert.KernelIdeal.main_arg12))
    (e13 : R.M0 m' c (Proc.devRef .tc Cert.ReferenceIdeal.main_arg13) = KI.M0 m c (Proc.devRef .tc Cert.KernelIdeal.main_arg13)) :
    R.ins (R.M0 m' c) = KI.ins (KI.M0 m c) := by
  unfold R.ins KI.ins
  rw [e0, e1, e2, e3, e4, e5, e6, e7, e8, e9, e10, e11, e12, e13]

/-- Where the words name rows and the table and the layers are of size at most 10000, the lane that the kernel's noise picks
    has a greater sum than the padded lanes. -/
theorem lane_above (V : Valuation Cert.KernelIdeal.τ Cert.KernelIdeal.sig (Elt Ideal))
    (t : ∀ i, Spec.Within 10000 (V (Proc.devRef .tc Cert.KernelIdeal.main_arg5) i)) (w1 : ∀ i, Spec.Within 10000 (V (Proc.devRef .tc Cert.KernelIdeal.main_arg10) i))
    (b1 : ∀ i, Spec.Within 10000 (V (Proc.devRef .tc Cert.KernelIdeal.main_arg11) i)) (w2 : ∀ i, Spec.Within 10000 (V (Proc.devRef .tc Cert.KernelIdeal.main_arg12) i))
    (b2 : ∀ i, Spec.Within 10000 (V (Proc.devRef .tc Cert.KernelIdeal.main_arg13) i)) (b : Fin 4096) :
    Spec.absent + Spec.padNoise < (KI.ins V).scores b ((KI.ins V).lane b (KI.noise V)) + KI.noise V b ((KI.ins V).lane b (KI.noise V)) :=
  Spec.pad_lt _ _ (Spec.scores_within (KI.ins V) t (fun p k => w1 (ix2 p k)) (fun p => b1 (ix1 p)) (fun p k => w2 (ix2 p k)) (fun p => b2 (ix1 p)) b _)
    (KI.noise_ge V b _)

/-- The kernel's six results are the reference's. -/
theorem values : Cert.algebraic_KernelIdeal_ReferenceIdeal_pre_table_and_scale (hKernelIdeal := Cert.KernelIdeal.Gen.facts)
    (hReferenceIdeal := Cert.ReferenceIdeal.Gen.facts) (hPre_table_and_scale := Cert.Pre_table_and_scale.Gen.facts) := by
  intro m g m' g' hpre heq
  have hsc := fun c => scale_of_pre _ _ _ _ _ _ _ _ _ _ _ _ _ _ (hpre c)
  have hid := fun c => (hsc c).1
  have hins : ∀ c, R.ins (R.M0 m' c) = KI.ins (KI.M0 m c) := fun c => by
    obtain ⟨e0, e1, e2, e3, e4, e5, e6, e7, e8, e9, e10, e11, e12, e13⟩ := heq c
    exact ins_eq m m' c e0 e1 e2 e3 e4 e5 e6 e7 e8 e9 e10 e11 e12 e13
  have hnoise : ∀ c, R.noise (R.M0 m' c) = KI.noise (KI.M0 m c) := fun c => noise_eq _ _
  have hlane : ∀ c b, Spec.absent + Spec.padNoise < (KI.ins (KI.M0 m c)).scores b ((KI.ins (KI.M0 m c)).lane b (KI.noise (KI.M0 m c)))
      + KI.noise (KI.M0 m c) b ((KI.ins (KI.M0 m c)).lane b (KI.noise (KI.M0 m c))) := fun c => by
    obtain ⟨-, t, w1, b1, w2, b2⟩ := hsc c
    exact lane_above (KI.M0 m c) t w1 b1 w2 b2
  refine ⟨fun c => fun y => (KI.ins (KI.M0 m c)).loss (y 0) (KI.noise (KI.M0 m c)), fun c => fun y => (KI.ins (KI.M0 m c)).logits (y 0) (y 1),
    fun c => fun y => (KI.ins (KI.M0 m c)).action (y 0) (KI.noise (KI.M0 m c)), fun c => fun y => (KI.ins (KI.M0 m c)).chosen (y 0) (KI.noise (KI.M0 m c)),
    fun c => fun y => (KI.ins (KI.M0 m c)).hidden (y 0) (y 1), fun c => fun y => (KI.ins (KI.M0 m c)).cell (y 0) (y 1), ?_, ?_⟩
  · refine (θ_run _ _ _).mono (fun r h c => ?_) (θ_run_and (KI.run m g fun c => (hid c).2.2) (KI.run_frame m g fun c => (hid c).2.2))
    obtain ⟨i2, i3, i4⟩ := hid c
    exact ⟨(h.1.1 c _ (KI.uc Cert.KernelIdeal.main_v30 (by decide))).trans (KI.out_loss (KI.M0 m c) c i2 i3 i4 (hlane c)),
      (h.1.1 c _ (KI.uc Cert.KernelIdeal.main_v29_1 (by decide))).trans (KI.out_logits (KI.M0 m c) c i2 i3 i4),
      (h.1.1 c _ (KI.uc Cert.KernelIdeal.main_v31 (by decide))).trans (KI.out_action (KI.M0 m c) c i2 i3 i4 (hlane c)),
      (h.1.1 c _ (KI.uc Cert.KernelIdeal.main_v32 (by decide))).trans (KI.out_chosen (KI.M0 m c) c i2 i3 i4 (hlane c)),
      (h.1.1 c _ (KI.uc Cert.KernelIdeal.main_v24_0 (by decide))).trans (KI.out_hidden (KI.M0 m c) c i2),
      (h.1.1 c _ (KI.uc Cert.KernelIdeal.main_v24_1 (by decide))).trans (KI.out_cell (KI.M0 m c) c i2), h.2.1 c⟩
  · refine (θ_run _ _ _).mono (fun r h c => ?_) (θ_run_and (R.run m' g') (R.run_frame m' g'))
    obtain ⟨i2, i3, i4⟩ := hid c
    have e2 := (heq c).2.2.1
    have e3 := (heq c).2.2.2.1
    have e4 := (heq c).2.2.2.2.1
    have j2 : ∀ i, ((R.M0 m' c (Proc.devRef .tc Cert.ReferenceIdeal.main_arg2)) i : BitVec 32).toNat < 1000 := fun i =>
      (congrArg BitVec.toNat (congrFun e2 i)).trans_lt (i2 i)
    have j3 : ∀ i, ((R.M0 m' c (Proc.devRef .tc Cert.ReferenceIdeal.main_arg3)) i : BitVec 32).toNat < 1000 := fun i =>
      (congrArg BitVec.toNat (congrFun e3 i)).trans_lt (i3 i)
    have j4 : ∀ i, ((R.M0 m' c (Proc.devRef .tc Cert.ReferenceIdeal.main_arg4)) i : BitVec 32).toNat < 1000 := fun i =>
      (congrArg BitVec.toNat (congrFun e4 i)).trans_lt (i4 i)
    exact ⟨(h.1 c Cert.ReferenceIdeal.main_v82).trans (R.out_loss (R.M0 m' c) j2 j3 j4 c |>.trans (congrArg₂ (fun (X : Spec.Inputs) g (y : Cert.ReferenceIdeal.S4096.Idx) => X.loss (y 0) g) (hins c) (hnoise c))),
      (h.1 c Cert.ReferenceIdeal.main_v78).trans (R.out_logits (R.M0 m' c) j2 j3 j4 c |>.trans (congrArg (fun (X : Spec.Inputs) (y : Cert.ReferenceIdeal.S4096x200.Idx) => X.logits (y 0) (y 1)) (hins c))),
      (h.1 c Cert.ReferenceIdeal.main_v74).trans (R.out_action (R.M0 m' c) j2 j3 j4 c |>.trans (congrArg₂ (fun (X : Spec.Inputs) g (y : Cert.ReferenceIdeal.S4096.Idx) => X.action (y 0) g) (hins c) (hnoise c))),
      (h.1 c Cert.ReferenceIdeal.main_v77).trans (R.out_chosen (R.M0 m' c) j2 j3 j4 c |>.trans (congrArg₂ (fun (X : Spec.Inputs) g (y : Cert.ReferenceIdeal.S4096.Idx) => X.chosen (y 0) g) (hins c) (hnoise c))),
      (h.1 c Cert.ReferenceIdeal.main_v39).trans (R.out_hidden (R.M0 m' c) j2 c |>.trans (congrArg (fun (X : Spec.Inputs) (y : Cert.ReferenceIdeal.S4096x128.Idx) => X.hidden (y 0) (y 1)) (hins c))),
      (h.1 c Cert.ReferenceIdeal.main_v37).trans (R.out_cell (R.M0 m' c) j2 c |>.trans (congrArg (fun (X : Spec.Inputs) (y : Cert.ReferenceIdeal.S4096x128.Idx) => X.cell (y 0) (y 1)) (hins c))), h.2.1 c⟩

end Cert.Proof

end
-- ==== Proof.lean ====
/-
  The proof of `Cert.Claim`: the frames of the kernel, of its idealisation and of the reference, that the idealisation
  rewrites nothing, and that the idealised kernel's results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ids_in_table
public import proofs.«01_k».proof.Proof.Gen.Pre_table_and_scale
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_ids_in_table.Gen.facts, Cert.Pre_table_and_scale.Gen.facts,
  frame_K, frame_KI, frame_KI_scale, frame_RI, frame_RI_scale, trivial, values⟩

end Cert.Proof

end
